-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v75_0)) (v1 : (c : Dev Cert.Kernel3Ideal.nD) → Buf (Elt Ideal) ((c.tc : Thread Cert.Kernel3Ideal.nD Cert.Kernel3Ideal.τ).loc Cert.Kernel3Ideal.main_v75_1)) (v2 : (c : Dev Cert.Kernel3Ideal.nD) → Buf (Elt Ideal) ((c.tc : Thread Cert.Kernel3Ideal.nD Cert.Kernel3Ideal.τ).loc Cert.Kernel3Ideal.main_v75_2)) (v3 : (c : Dev Cert.Kernel3Ideal.nD) → Buf (Elt Ideal) ((c.tc : Thread Cert.Kernel3Ideal.nD Cert.Kernel3Ideal.τ).loc Cert.Kernel3Ideal.main_v78)) (v4 : (c : Dev Cert.Kernel3Ideal.nD) → Buf (Elt Ideal) ((c.tc : Thread Cert.Kernel3Ideal.nD Cert.Kernel3Ideal.τ).loc Cert.Kernel3Ideal.main_v80)) (v5 : (c : Dev Cert.Kernel3Ideal.nD) → Buf (Elt Ideal) ((c.tc : Thread Cert.Kernel3Ideal.nD Cert.Kernel3Ideal.τ).loc Cert.Kernel3Ideal.main_v82)) (v6 : (c : Dev Cert.Kernel3Ideal.nD) → Buf (Elt Ideal) ((c.tc : Thread Cert.Kernel3Ideal.nD Cert.Kernel3Ideal.τ).loc Cert.Kernel3Ideal.main_v84)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v75_0) = v0 c
          ∧ r.2.mem ((c.tc : Thread Cert.Kernel3Ideal.nD Cert.Kernel3Ideal.τ).loc Cert.Kernel3Ideal.main_v75_1) = v1 c
          ∧ r.2.mem ((c.tc : Thread Cert.Kernel3Ideal.nD Cert.Kernel3Ideal.τ).loc Cert.Kernel3Ideal.main_v75_2) = v2 c
          ∧ r.2.mem ((c.tc : Thread Cert.Kernel3Ideal.nD Cert.Kernel3Ideal.τ).loc Cert.Kernel3Ideal.main_v78) = v3 c
          ∧ r.2.mem ((c.tc : Thread Cert.Kernel3Ideal.nD Cert.Kernel3Ideal.τ).loc Cert.Kernel3Ideal.main_v80) = v4 c
          ∧ r.2.mem ((c.tc : Thread Cert.Kernel3Ideal.nD Cert.Kernel3Ideal.τ).loc Cert.Kernel3Ideal.main_v82) = v5 c
          ∧ r.2.mem ((c.tc : Thread Cert.Kernel3Ideal.nD Cert.Kernel3Ideal.τ).loc Cert.Kernel3Ideal.main_v84) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v107) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v113) = v5 c
          ∧ r.2.mem ((c.tc : Thread Cert.Reference3Ideal.nD Cert.Reference3Ideal.τ).loc Cert.Reference3Ideal.main_v115) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  IdealRules.named_const.Statement Cert.Kernel6Ideal.κ "mask6" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v92) = v1 c
          ∧ r.2.mem ((c.tc : Thread Cert.Reference6Ideal.nD Cert.Reference6Ideal.τ).loc Cert.Reference6Ideal.main_v95) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S16384x16x64 : Shape := ⟨3, ![16384, 16, 64]⟩
abbrev S16384x16x32 : Shape := ⟨3, ![16384, 16, 32]⟩
abbrev S16384x32 : Shape := ⟨2, ![16384, 32]⟩
abbrev S_ : Shape := ⟨0, ![]⟩

class Facts : Prop where
  bcast_S_S16384x16x64 : S_.BroadcastsInDim S16384x16x64 (![] : Fin 0 → Fin S16384x16x64.rank)
  reducesTo_S16384x16x64_S_d0_1_2 : S16384x16x64.ReducesTo [0, 1, 2] S_
  h_S_ : 0 < S_.numel
  bcast_S_S16384x16x32 : S_.BroadcastsInDim S16384x16x32 (![] : Fin 0 → Fin S16384x16x32.rank)
  reducesTo_S16384x16x32_S_d0_1_2 : S16384x16x32.ReducesTo [0, 1, 2] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  main_v18

def fn {F : FTy → Type} [FloatOps F] (main_arg0 : FVec F S16384x16x64 .f32) (main_arg1 : FVec F S16384x16x32 .f32) (main_arg2 : FVec F S16384x16x64 .f32) (main_arg3 : FVec F S16384x32 .f32) (main_arg4 : FVec F S16384x16x64 .f32) : IVec S_ 1 :=
  let main_v0 : FVec F S16384x16x64 .f32 := Host.absf main_arg0
  let main_cst : FVec F S_ .f32 := constant S_ .f32 0x7F800000#32
  let main_v1 : FVec F S16384x16x64 .f32 := broadcastInDim S16384x16x64 ![] bcast_S_S16384x16x64 main_cst
  let main_v2 : IVec S16384x16x64 1 := cmpf .olt main_v0 main_v1
  let main_c : IVec S_ 1 := constantI S_ 1 1#1
  let main_v3 : IVec S_ 1 := (fun x v => Host.reduce IntOp.andi x v reducesTo_S16384x16x64_S_d0_1_2 h_S_) main_v2 main_c
  let main_v4 : FVec F S16384x16x32 .f32 := Host.absf main_arg1
  let main_cst_0 : FVec F S_ .f32 := constant S_ .f32 0x7F800000#32
  let main_v5 : FVec F S16384x16x32 .f32 := broadcastInDim S16384x16x32 ![] bcast_S_S16384x16x32 main_cst_0
  let main_v6 : IVec S16384x16x32 1 := cmpf .olt main_v4 main_v5
  let main_c_1 : IVec S_ 1 := constantI S_ 1 1#1
  let main_v7 : IVec S_ 1 := (fun x v => Host.reduce IntOp.andi x v reducesTo_S16384x16x32_S_d0_1_2 h_S_) main_v6 main_c_1
  let main_v8 : IVec S_ 1 := andi main_v3 main_v7
  let main_v9 : FVec F S16384x16x64 .f32 := Host.absf main_arg2
  let main_cst_2 : FVec F S_ .f32 := constant S_ .f32 0x7F800000#32
  let main_v10 : FVec F S16384x16x64 .f32 := broadcastInDim S16384x16x64 ![] bcast_S_S16384x16x64 main_cst_2
  let main_v11 : IVec S16384x16x64 1 := cmpf .olt main_v9 main_v10
  let main_c_3 : IVec S_ 1 := constantI S_ 1 1#1
  let main_v12 : IVec S_ 1 := (fun x v => Host.reduce IntOp.andi x v reducesTo_S16384x16x64_S_d0_1_2 h_S_) main_v11 main_c_3
  let main_v13 : IVec S_ 1 := andi main_v8 main_v12
  let main_v14 : FVec F S16384x32 .f32 := Host.absf main_arg3
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_v13 main_v16
-- ==== Pre_finite5.lean ====
abbrev S16640x16x64 : Shape := ⟨3, ![16640, 16, 64]⟩
abbrev S16640x16x32 : Shape := ⟨3, ![16640, 16, 32]⟩
abbrev S1x16x1024x128 : Shape := ⟨4, ![1, 16, 1024, 128]⟩
abbrev S1x16x1024x32 : Shape := ⟨4, ![1, 16, 1024, 32]⟩
abbrev S16640x128 : Shape := ⟨2, ![16640, 128]⟩
abbrev S16640x32 : Shape := ⟨2, ![16640, 32]⟩
abbrev S1x128x16x64 : Shape := ⟨4, ![1, 128, 16, 64]⟩
abbrev S_ : Shape := ⟨0, ![]⟩

class Facts : Prop where
  bcast_S_S16640x16x64 : S_.BroadcastsInDim S16640x16x64 (![] : Fin 0 → Fin S16640x16x64.rank)
  reducesTo_S16640x16x64_S_d0_1_2 : S16640x16x64.ReducesTo [0, 1, 2] S_
  h_S_ : 0 < S_.numel
  bcast_S_S16640x16x32 : S_.BroadcastsInDim S16640x16x32 (![] : Fin 0 → Fin S16640x16x32.rank)
  reducesTo_S16640x16x32_S_d0_1_2 : S16640x16x32.ReducesTo [0, 1, 2] S_
  bcast_S_S1x16x1024x128 : S_.BroadcastsInDim S1x16x1024x128 (![] : Fin 0 → Fin S1x16x1024x128.rank)
  reducesTo_S1x16x1024x128_S_d0_1_2_3 : S1x16x1024x128.ReducesTo [0, 1, 2, 3] S_
  bcast_S_S1x16x1024x32 : S_.BroadcastsInDim S1x16x1024x32 (![] : Fin 0 → Fin S1x16x1024x32.rank)
  reducesTo_S1x16x1024x32_S_d0_1_2_3 : S1x16x1024x32.ReducesTo [0, 1, 2, 3] S_
  bcast_S_S16640x128 : S_.BroadcastsInDim S16640x128 (![] : Fin 0 → Fin S16640x128.rank)
  reducesTo_S16640x128_S_d0_1 : S16640x128.ReducesTo [0, 1] S_
  bcast_S_S16640x32 : S_.BroadcastsInDim S16640x32 (![] : Fin 0 → Fin S16640x32.rank)
  reducesTo_S16640x32_S_d0_1 : S16640x32.ReducesTo [0, 1] S_
  bcast_S_S1x128x16x64 : S_.BroadcastsInDim S1x128x16x64 (![] : Fin 0 → Fin S1x128x16x64.rank)
  reducesTo_S1x128x16x64_S_d0_1_2_3 : S1x128x16x64.ReducesTo [0, 1, 2, 3] S_

variable [Facts]

def fn_part2 {F : FTy → Type} [FloatOps F] (main_arg7 : FVec F S1x128x16x64 .f32) (main_v33 : IVec S_ 1) : IVec S_ 1 :=
  let main_v34 : FVec F S1x128x16x64 .f32 := Host.absf main_arg7
  let main_cst_12 : FVec F S_ .f32 := constant S_ .f32 0x7F800000#32
  let main_v35 : FVec F S1x128x16x64 .f32 := broadcastInDim S1x128x16x64 ![] bcast_S_S1x128x16x64 main_cst_12
  let main_v36 : IVec S1x128x16x64 1 := cmpf .olt main_v34 main_v35
  let main_c_13 : IVec S_ 1 := constantI S_ 1 1#1
  let main_v37 : IVec S_ 1 := (fun x v => Host.reduce IntOp.andi x v reducesTo_S1x128x16x64_S_d0_1_2_3 h_S_) main_v36 main_c_13
  let main_v38 : IVec S_ 1 := andi main_v33 main_v37
  main_v38

def fn_part1 {F : FTy → Type} [FloatOps F] (main_arg4 : FVec F S16640x128 .f32) (main_arg5 : FVec F S16640x32 .f32) (main_arg6 : FVec F S1x128x16x64 .f32) (main_arg7 : FVec F S1x128x16x64 .f32) (main_v13 : IVec S_ 1) (main_v16 : IVec S1x16x1024x32 1) : IVec S_ 1 :=
  let main_c_5 : IVec S_ 1 := constantI S_ 1 1#1
  let main_v17 : IVec S_ 1 := (fun x v => Host.reduce IntOp.andi x v reducesTo_S1x16x1024x32_S_d0_1_2_3 h_S_) main_v16 main_c_5
  let main_v18 : IVec S_ 1 := andi main_v13 main_v17
  let main_v19 : FVec F S16640x128 .f32 := Host.absf main_arg4
  let main_cst_6 : FVec F S_ .f32 := constant S_ .f32 0x7F800000#32
  let main_v20 : FVec F S16640x128 .f32 := broadcastInDim S16640x128 ![] bcast_S_S16640x128 main_cst_6
  let main_v21 : IVec S16640x128 1 := cmpf .olt main_v19 main_v20
  let main_c_7 : IVec S_ 1 := constantI S_ 1 1#1
  let main_v22 : IVec S_ 1 := (fun x v => Host.reduce IntOp.andi x v reducesTo_S16640x128_S_d0_1 h_S_) main_v21 main_c_7
  let main_v23 : IVec S_ 1 := andi main_v18 main_v22
  let main_v24 : FVec F S16640x32 .f32 := Host.absf main_arg5
  let main_cst_8 : FVec F S_ .f32 := constant S_ .f32 0x7F800000#32
  let main_v25 : FVec F S16640x32 .f32 := broadcastInDim S16640x32 ![] bcast_S_S16640x32 main_cst_8
  let main_v26 : IVec S16640x32 1 := cmpf .olt main_v24 main_v25
  let main_c_9 : IVec S_ 1 := constantI S_ 1 1#1
  let main_v27 : IVec S_ 1 := (fun x v => Host.reduce IntOp.andi x v reducesTo_S16640x32_S_d0_1 h_S_) main_v26 main_c_9
  let main_v28 : IVec S_ 1 := andi main_v23 main_v27
  let main_v29 : FVec F S1x128x16x64 .f32 := Host.absf main_arg6
  let main_cst_10 : FVec F S_ .f32 := constant S_ .f32 0x7F800000#32
  let main_v30 : FVec F S1x128x16x64 .f32 := broadcastInDim S1x128x16x64 ![] bcast_S_S1x128x16x64 main_cst_10
  let main_v31 : IVec S1x128x16x64 1 := cmpf .olt main_v29 main_v30
  let main_c_11 : IVec S_ 1 := constantI S_ 1 1#1
  let main_v32 : IVec S_ 1 := (fun x v => Host.reduce IntOp.andi x v reducesTo_S1x128x16x64_S_d0_1_2_3 h_S_) main_v31 main_c_11
  let main_v33 : IVec S_ 1 := andi main_v28 main_v32
  fn_part2 (F := F) main_arg7 main_v33

def fn {F : FTy → Type} [FloatOps F] (main_arg0 : FVec F S16640x16x64 .f32) (main_arg1 : FVec F S16640x16x32 .f32) (main_arg2 : FVec F S1x16x1024x128 .f32) (main_arg3 : FVec F S1x16x1024x32 .f32) (main_arg4 : FVec F S16640x128 .f32) (main_arg5 : FVec F S16640x32 .f32) (main_arg6 : FVec F S1x128x16x64 .f32) (main_arg7 : FVec F S1x128x16x64 .f32) : IVec S_ 1 :=
  let main_v0 : FVec F S16640x16x64 .f32 := Host.absf main_arg0
  let main_cst : FVec F S_ .f32 := constant S_ .f32 0x7F800000#32
  let main_v1 : FVec F S16640x16x64 .f32 := broadcastInDim S16640x16x64 ![] bcast_S_S16640x16x64 main_cst
  let main_v2 : IVec S16640x16x64 1 := cmpf .olt main_v0 main_v1
  let main_c : IVec S_ 1 := constantI S_ 1 1#1
  let main_v3 : IVec S_ 1 := (fun x v => Host.reduce IntOp.andi x v reducesTo_S16640x16x64_S_d0_1_2 h_S_) main_v2 main_c
  let main_v4 : FVec F S16640x16x32 .f32 := Host.absf main_arg1
  let main_cst_0 : FVec F S_ .f32 := constant S_ .f32 0x7F800000#32
  let main_v5 : FVec F S16640x16x32 .f32 := broadcastInDim S16640x16x32 ![] bcast_S_S16640x16x32 main_cst_0
  let main_v6 : IVec S16640x16x32 1 := cmpf .olt main_v4 main_v5
  let main_c_1 : IVec S_ 1 := constantI S_ 1 1#1
  let main_v7 : IVec S_ 1 := (fun x v => Host.reduce IntOp.andi x v reducesTo_S16640x16x32_S_d0_1_2 h_S_) main_v6 main_c_1
  let main_v8 : IVec S_ 1 := andi main_v3 main_v7
  let main_v9 : FVec F S1x16x1024x128 .f32 := Host.absf main_arg2
  let main_cst_2 : FVec F S_ .f32 := constant S_ .f32 0x7F800000#32
  let main_v10 : FVec F S1x16x1024x128 .f32 := broadcastInDim S1x16x1024x128 ![] bcast_S_S1x16x1024x128 main_cst_2
  let main_v11 : IVec S1x16x1024x128 1 := cmpf .olt main_v9 main_v10
  let main_c_3 : IVec S_ 1 := constantI S_ 1 1#1
  let main_v12 : IVec S_ 1 := (fun x v => Host.reduce IntOp.andi x v reducesTo_S1x16x1024x128_S_d0_1_2_3 h_S_) main_v11 main_c_3
  let main_v13 : IVec S_ 1 := andi main_v8 main_v12
  let main_v14 : FVec F S1x16x1024x32 .f32 := Host.absf main_arg3
  let main_cst_4 : FVec F S_ .f32 := constant S_ .f32 0x7F800000#32
  let main_v15 : FVec F S1x16x1024x32 .f32 := broadcastInDim S1x16x1024x32 ![] bcast_S_S1x16x1024x32 main_cst_4
  let main_v16 : IVec S1x16x1024x32 1 := cmpf .olt main_v14 main_v15
  fn_part1 (F := F) main_arg4 main_arg5 main_arg6 main_arg7 main_v13 main_v16
-- ==== Pre_finite6.lean ====
abbrev S16384x1024 : Shape := ⟨2, ![16384, 1024]⟩
abbrev S256x1024 : Shape := ⟨2, ![256, 1024]⟩
abbrev S1x16384x1024 : Shape := ⟨3, ![1, 16384, 1024]⟩
abbrev S16x16x1024 : Shape := ⟨3, ![16, 16, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S16x16x1024 : S_.BroadcastsInDim S16x16x1024 (![] : Fin 0 → Fin S16x16x1024.rank)
  reducesTo_S16x16x1024_S_d0_1_2 : S16x16x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x4 : S_.BroadcastsInDim S2x1024x4 (![] : Fin 0 → Fin S2x1024x4.rank)
  reducesTo_S2x1024x4_S_d0_1_2 : S2x1024x4.ReducesTo [0, 1, 2] S_
  bcast_S_S2x4 : S_.BroadcastsInDim S2x4 (![] : Fin 0 → Fin S2x4.rank)
  reducesTo_S2x4_S_d0_1 : S2x4.ReducesTo [0, 1] S_
  bcast_S_S2x4x1024x8 : S_.BroadcastsInDim S2x4x1024x8 (![] : Fin 0 → Fin S2x4x1024x8.rank)
  reducesTo_S2x4x1024x8_S_d0_1_2_3 : S2x4x1024x8.ReducesTo [0, 1, 2, 3] S_
  bcast_S_S2x4x8 : S_.BroadcastsInDim S2x4x8 (![] : Fin 0 → Fin S2x4x8.rank)
  reducesTo_S2x4x8_S_d0_1_2 : S2x4x8.ReducesTo [0, 1, 2] S_

variable [Facts]

def fn_part3 {F : FTy → Type} [FloatOps F] (main_v48 : IVec S_ 1) (main_v49 : FVec F S2x4x8 .f32) (main_v50 : FVec F S2x4x8 .f32) : IVec S_ 1 :=
  let main_v51 : IVec S2x4x8 1 := cmpf .olt main_v49 main_v50
  let main_c_19 : IVec S_ 1 := constantI S_ 1 1#1
  let main_v52 : IVec S_ 1 := (fun x v => Host.reduce IntOp.andi x v reducesTo_S2x4x8_S_d0_1_2 h_S_) main_v51 main_c_19
  let main_v53 : IVec S_ 1 := andi main_v48 main_v52
  main_v53

def fn_part2 {F : FTy → Type} [FloatOps F] (main_arg7 : FVec F S2x1024x4 .f32) (main_arg8 : FVec F S2x4 .f32) (main_arg9 : FVec F S2x4x1024x8 .f32) (main_arg10 : FVec F S2x4x8 .f32) (main_v33 : IVec S_ 1) : IVec S_ 1 :=
  let main_v34 : FVec F S2x1024x4 .f32 := Host.absf main_arg7
  let main_cst_12 : FVec F S_ .f32 := constant S_ .f32 0x7F800000#32
  let main_v35 : FVec F S2x1024x4 .f32 := broadcastInDim S2x1024x4 ![] bcast_S_S2x1024x4 main_cst_12
  let main_v36 : IVec S2x1024x4 1 := cmpf .olt main_v34 main_v35
  let main_c_13 : IVec S_ 1 := constantI S_ 1 1#1
  let main_v37 : IVec S_ 1 := (fun x v => Host.reduce IntOp.andi x v reducesTo_S2x1024x4_S_d0_1_2 h_S_) main_v36 main_c_13
  let main_v38 : IVec S_ 1 := andi main_v33 main_v37
  let main_v39 : FVec F S2x4 .f32 := Host.absf main_arg8
  let main_cst_14 : FVec F S_ .f32 := constant S_ .f32 0x7F800000#32
  let main_v40 : FVec F S2x4 .f32 := broadcastInDim S2x4 ![] bcast_S_S2x4 main_cst_14
  let main_v41 : IVec S2x4 1 := cmpf .olt main_v39 main_v40
  let main_c_15 : IVec S_ 1 := constantI S_ 1 1#1
  let main_v42 : IVec S_ 1 := (fun x v => Host.reduce IntOp.andi x v reducesTo_S2x4_S_d0_1 h_S_) main_v41 main_c_15
  let main_v43 : IVec S_ 1 := andi main_v38 main_v42
  let main_v44 : FVec F S2x4x1024x8 .f32 := Host.absf main_arg9
  let main_cst_16 : FVec F S_ .f32 := constant S_ .f32 0x7F800000#32
  let main_v45 : FVec F S2x4x1024x8 .f32 := broadcastInDim S2x4x1024x8 ![] bcast_S_S2x4x1024x8 main_cst_16
  let main_v46 : IVec S2x4x1024x8 1 := cmpf .olt main_v44 main_v45
  let main_c_17 : IVec S_ 1 := constantI S_ 1 1#1
  let main_v47 : IVec S_ 1 := (fun x v => Host.reduce IntOp.andi x v reducesTo_S2x4x1024x8_S_d0_1_2_3 h_S_) main_v46 main_c_17
  let main_v48 : IVec S_ 1 := andi main_v43 main_v47
  let main_v49 : FVec F S2x4x8 .f32 := Host.absf main_arg10
  let main_cst_18 : FVec F S_ .f32 := constant S_ .f32 0x7F800000#32
  let main_v50 : FVec F S2x4x8 .f32 := broadcastInDim S2x4x8 ![] bcast_S_S2x4x8 main_cst_18
  fn_part3 (F := F) main_v48 main_v49 main_v50

def fn_part1 {F : FTy → Type} [FloatOps F] (main_arg4 : FVec F S1x1024x1024 .f32) (main_arg5 : FVec F S2x1024 .f32) (main_arg6 : FVec F S2x1024 .f32) (main_arg7 : FVec F S2x1024x4 .f32) (main_arg8 : FVec F S2x4 .f32) (main_arg9 : FVec F S2x4x1024x8 .f32) (main_arg10 : FVec F S2x4x8 .f32) (main_v13 : IVec S_ 1) (main_v16 : IVec S16x16x1024 1) : IVec S_ 1 :=
  let main_c_5 : IVec S_ 1 := constantI S_ 1 1#1
  let main_v17 : IVec S_ 1 := (fun x v => Host.reduce IntOp.andi x v reducesTo_S16x16x1024_S_d0_1_2 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S256x1024 .f32) (main_arg2 : FVec F S1x16384x1024 .f32) (main_arg3 : FVec F S16x16x1024 .f32) (main_arg4 : FVec F S1x1024x1024 .f32) (main_arg5 : FVec F S2x1024 .f32) (main_arg6 : FVec F S2x1024 .f32) (main_arg7 : FVec F S2x1024x4 .f32) (main_arg8 : FVec F S2x4 .f32) (main_arg9 : FVec F S2x4x1024x8 .f32) (main_arg10 : FVec F S2x4x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x16384x1024 .f32 := Host.absf main_arg2
  let main_cst_2 : FVec F S_ .f32 := constant S_ .f32 0x7F800000#32
  let main_v10 : FVec F S1x16384x1024 .f32 := broadcastInDim S1x16384x1024 ![] bcast_S_S1x16384x1024 main_cst_2
  let main_v11 : IVec S1x16384x1024 1 := cmpf .olt main_v9 main_v10
  let main_c_3 : IVec S_ 1 := constantI S_ 1 1#1
  let main_v12 : IVec S_ 1 := (fun x v => Host.reduce IntOp.andi x v reducesTo_S1x16384x1024_S_d0_1_2 h_S_) main_v11 main_c_3
  let main_v13 : IVec S_ 1 := andi main_v8 main_v12
  let main_v14 : FVec F S16x16x1024 .f32 := Host.absf main_arg3
  let main_cst_4 : FVec F S_ .f32 := constant S_ .f32 0x7F800000#32
  let main_v15 : FVec F S16x16x1024 .f32 := broadcastInDim S16x16x1024 ![] bcast_S_S16x16x1024 main_cst_4
  let main_v16 : IVec S16x16x1024 1 := cmpf .olt main_v14 main_v15
  fn_part1 (F := F) main_arg4 main_arg5 main_arg6 main_arg7 main_arg8 main_arg9 main_arg10 main_v13 main_v16
-- ==== Kernel.lean ====
abbrev S16384x16x64 : Shape := ⟨3, ![16384, 16, 64]⟩
abbrev S16384x16x32 : Shape := ⟨3, ![16384, 16, 32]⟩
abbrev S16384x32 : Shape := ⟨2, ![16384, 32]⟩
abbrev S_ : Shape := ⟨0, ![]⟩
abbrev S16384x16x128 : Shape := ⟨3, ![16384, 16, 128]⟩
abbrev S16384x2048 : Shape := ⟨2, ![16384, 2048]⟩
abbrev S16384x1x32 : Shape := ⟨3, ![16384, 1, 32]⟩
abbrev S16384x16x1 : Shape := ⟨3, ![16384, 16, 1]⟩
abbrev S16384x16x63 : Shape := ⟨3, ![16384, 16, 63]⟩
abbrev S16384x1024 : Shape := ⟨2, ![16384, 1024]⟩
abbrev S1024x256 : Shape := ⟨2, ![1024, 256]⟩
abbrev S16384x256 : Shape := ⟨2, ![16384, 256]⟩
abbrev S1024x128 : Shape := ⟨2, ![1024, 128]⟩
abbrev S1024x1 : Shape := ⟨2, ![1024, 1]⟩
abbrev S2048x128 : Shape := ⟨2, ![2048, 128]⟩
abbrev S1024x2048 : Shape := ⟨2, ![1024, 2048]⟩
abbrev S1024 : Shape := ⟨1, ![1024]⟩
abbrev S1024x1024 : Shape := ⟨2, ![1024, 1024]⟩
abbrev S1024x64 : Shape := ⟨2, ![1024, 64]⟩

abbrev nBuf : Space → Nat
  | .hbm => 32
  | .vmem => 8
  | .smem => 0
  | _ => 0

abbrev bufTy : (tb : Table) → Fin (tcTables nBuf tb) → BufTy
  | .hbm, ⟨0, _⟩ => ⟨S16384x16x64, .f32⟩
  | .hbm, ⟨1, _⟩ => ⟨S16384x16x32, .f32⟩
  | .hbm, ⟨2, _⟩ => ⟨S16384x16x64, .f32⟩
  | .hbm, ⟨3, _⟩ => ⟨S16384x32, .f32⟩
  | .hbm, ⟨4, _⟩ => ⟨S16384x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x16x32, .f32⟩
  | .hbm, ⟨14, _⟩ => ⟨S16384x16x128, .f32⟩
  | .hbm, ⟨15, _⟩ => ⟨S16384x16x128, .f32⟩
  | .hbm, ⟨16, _⟩ => ⟨S16384x16x128, .f32⟩
  | .hbm, ⟨17, _⟩ => ⟨S16384x2048, .f32⟩
  | .hbm, ⟨18, _⟩ => ⟨S16384x2048, .bf16⟩
  | .hbm, ⟨19, _⟩ => ⟨S16384x1x32, .f32⟩
  | .hbm, ⟨20, _⟩ => ⟨S16384x16x32, .f32⟩
  | .hbm, ⟨21, _⟩ => ⟨S16384x16x128, .f32⟩
  | .hbm, ⟨22, _⟩ => ⟨S16384x2048, .f32⟩
  | .hbm, ⟨23, _⟩ => ⟨S16384x2048, .bf16⟩
  | .hbm, ⟨24, _⟩ => ⟨S_, .f32⟩
  | .hbm, ⟨25, _⟩ => ⟨S16384x16x1, .f32⟩
  | .hbm, ⟨26, _⟩ => ⟨S_, .f32⟩
  | .hbm, ⟨27, _⟩ => ⟨S16384x16x63, .f32⟩
  | .hbm, ⟨28, _⟩ => ⟨S16384x16x128, .f32⟩
  | .hbm, ⟨29, _⟩ => ⟨S16384x2048, .f32⟩
  | .hbm, ⟨30, _⟩ => ⟨S16384x2048, .bf16⟩
  | .hbm, ⟨31, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S1024x128, .bf16⟩
  | .local _ .vmem, ⟨7, _⟩ => ⟨S1024x128, .bf16⟩
  | _, _ => ⟨S16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_7 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg1 c2_i32
  let c0_i32_6 : BitVec 32 := 0#32
  let v17 : BitVec 1 := Scalar.cmpi .ne v16 c0_i32_6
  let v18 : BitVec 1 := Scalar.andi v15 v17
  let v4 : BitVec 32 := Scalar.divsi arg1 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_9 : BitVec 32 := 1#32
  ⟨c0_i32_7, v25, c1_i32_9⟩
def k0_mult1 (i : grid0.Coords) (k0_t1 : Fin (k0_t1_loop i).trips) : BitVec 32 :=
  let c0_i32_7 : BitVec 32 := 0#32
  let c1_i32_9 : BitVec 32 := 1#32
  let arg6 : BitVec 32 := Scf.iv c0_i32_7 c1_i32_9 k0_t1
  let c2048_i32 : BitVec 32 := 2048#32
  let v168 : BitVec 32 := Scalar.muli arg6 c2048_i32
  v168
def k0_off1 (i : grid0.Coords) (k0_t1 : Fin (k0_t1_loop i).trips) : Fin 2 → Nat :=
  let c0_i32_7 : BitVec 32 := 0#32
  let c1_i32_9 : BitVec 32 := 1#32
  let arg6 : BitVec 32 := Scf.iv c0_i32_7 c1_i32_9 k0_t1
  let c2048_i32 : BitVec 32 := 2048#32
  let v168 : BitVec 32 := Scalar.muli arg6 c2048_i32
  let v169 : BitVec 32 := v168
  let v172 : Index := Scalar.indexCast v169
  let c0_57 : Index := 0#32
  ![v172.toNat, 0]
def k0_off2 (i : grid0.Coords) (k0_t1 : Fin (k0_t1_loop i).trips) : Fin 2 → Nat :=
  let c0_i32_7 : BitVec 32 := 0#32
  let c1_i32_9 : BitVec 32 := 1#32
  let arg6 : BitVec 32 := Scf.iv c0_i32_7 c1_i32_9 k0_t1
  let c2048_i32 : BitVec 32 := 2048#32
  let v168 : BitVec 32 := Scalar.muli arg6 c2048_i32
  let v169 : BitVec 32 := v168
  let v194 : Index := Scalar.indexCast v169
  let c128_63 : Index := 128#32
  ![v194.toNat, 128]
@[reducible] def k0_t2_loop (i : grid0.Coords) : Scf.Loop 32 :=
  let c0_i32_7 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg1 c2_i32
  let c0_i32_6 : BitVec 32 := 0#32
  let v17 : BitVec 1 := Scalar.cmpi .ne v16 c0_i32_6
  let v18 : BitVec 1 := Scalar.andi v15 v17
  let v4 : BitVec 32 := Scalar.divsi arg1 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let v22 : BitVec 32 := Scalar.addi c0_i32_7 v21
  let c1_i32_10 : BitVec 32 := 1#32
  ⟨v25, v22, c1_i32_10⟩
def k0_mult2 (i : grid0.Coords) (k0_t2 : Fin (k0_t2_loop i).trips) : BitVec 32 :=
  let c0_i32_7 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg1 c2_i32
  let c0_i32_6 : BitVec 32 := 0#32
  let v17 : BitVec 1 := Scalar.cmpi .ne v16 c0_i32_6
  let v18 : BitVec 1 := Scalar.andi v15 v17
  let v4 : BitVec 32 := Scalar.divsi arg1 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg6 : BitVec 32 := Scf.iv v25 c1_i32_10 k0_t2
  let c2048_i32 : BitVec 32 := 2048#32
  let v168 : BitVec 32 := Scalar.muli arg6 c2048_i32
  v168
def k0_off3 (i : grid0.Coords) (k0_t2 : Fin (k0_t2_loop i).trips) : Fin 2 → Nat :=
  let c0_i32_7 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg1 c2_i32
  let c0_i32_6 : BitVec 32 := 0#32
  let v17 : BitVec 1 := Scalar.cmpi .ne v16 c0_i32_6
  let v18 : BitVec 1 := Scalar.andi v15 v17
  let v4 : BitVec 32 := Scalar.divsi arg1 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg6 : BitVec 32 := Scf.iv v25 c1_i32_10 k0_t2
  let c2048_i32 : BitVec 32 := 2048#32
  let v168 : BitVec 32 := Scalar.muli arg6 c2048_i32
  let v169 : BitVec 32 := v168
  let v172 : Index := Scalar.indexCast v169
  let c0_57 : Index := 0#32
  ![v172.toNat, 0]
def k0_off4 (i : grid0.Coords) (k0_t2 : Fin (k0_t2_loop i).trips) : Fin 2 → Nat :=
  let c0_i32_7 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg1 c2_i32
  let c0_i32_6 : BitVec 32 := 0#32
  let v17 : BitVec 1 := Scalar.cmpi .ne v16 c0_i32_6
  let v18 : BitVec 1 := Scalar.andi v15 v17
  let v4 : BitVec 32 := Scalar.divsi arg1 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg6 : BitVec 32 := Scf.iv v25 c1_i32_10 k0_t2
  let c2048_i32 : BitVec 32 := 2048#32
  let v168 : BitVec 32 := Scalar.muli arg6 c2048_i32
  let v169 : BitVec 32 := v168
  let v194 : Index := Scalar.indexCast v169
  let c128_63 : Index := 128#32
  ![v194.toNat, 128]
def k0_cond1 (i : grid0.Coords) : BitVec 1 :=
  let arg1 : BitVec 32 := BitVec.ofNat 32 (i 1).val
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg1 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c0_i32_45 : BitVec 32 := 0#32
  let v142 : BitVec 32 := Scalar.maxsi v37 c0_i32_45
  let c1_i32_46 : BitVec 32 := 1#32
  let v143 : BitVec 32 := Scalar.minsi v142 c1_i32_46
  let c0_i32_47 : BitVec 32 := 0#32
  let v144 : BitVec 1 := Scalar.cmpi .ne v143 c0_i32_47
  v144

def k0_mult3 (i : grid0.Coords) : BitVec 32 :=
  let arg1 : BitVec 32 := BitVec.ofNat 32 (i 1).val
  let c1_i32_55 : BitVec 32 := 1#32
  let v168 : BitVec 32 := Scalar.subi arg1 c1_i32_55
  let c1024_i32 : BitVec 32 := 1024#32
  let v169 : BitVec 32 := Scalar.muli v168 c1024_i32
  v169
def k0_off5 (i : grid0.Coords) : Fin 2 → Nat :=
  let arg1 : BitVec 32 := BitVec.ofNat 32 (i 1).val
  let c1_i32_55 : BitVec 32 := 1#32
  let v168 : BitVec 32 := Scalar.subi arg1 c1_i32_55
  let c1024_i32 : BitVec 32 := 1024#32
  let v169 : BitVec 32 := Scalar.muli v168 c1024_i32
  let v170 : BitVec 32 := v169
  let v174 : Index := Scalar.indexCast v170
  let c0_58 : Index := 0#32
  ![v174.toNat, 0]
def k0_off6 (i : grid0.Coords) : Fin 2 → Nat :=
  let arg1 : BitVec 32 := BitVec.ofNat 32 (i 1).val
  let c1_i32_55 : BitVec 32 := 1#32
  let v168 : BitVec 32 := Scalar.subi arg1 c1_i32_55
  let c1024_i32 : BitVec 32 := 1024#32
  let v169 : BitVec 32 := Scalar.muli v168 c1024_i32
  let v170 : BitVec 32 := v169
  let v198 : Index := Scalar.indexCast v170
  let c128_65 : Index := 128#32
  ![v198.toNat, 128]
def k0_mult4 (i : grid0.Coords) : BitVec 32 :=
  let arg1 : BitVec 32 := BitVec.ofNat 32 (i 1).val
  let c0_i32_55 : BitVec 32 := 0#32
  let v168 : BitVec 32 := Scalar.subi arg1 c0_i32_55
  let c1024_i32 : BitVec 32 := 1024#32
  let v169 : BitVec 32 := Scalar.muli v168 c1024_i32
  v169
def k0_off7 (i : grid0.Coords) : Fin 2 → Nat :=
  let arg1 : BitVec 32 := BitVec.ofNat 32 (i 1).val
  let c0_i32_55 : BitVec 32 := 0#32
  let v168 : BitVec 32 := Scalar.subi arg1 c0_i32_55
  let c1024_i32 : BitVec 32 := 1024#32
  let v169 : BitVec 32 := Scalar.muli v168 c1024_i32
  let v170 : BitVec 32 := v169
  let v174 : Index := Scalar.indexCast v170
  let c0_58 : Index := 0#32
  ![v174.toNat, 0]
def k0_off8 (i : grid0.Coords) : Fin 2 → Nat :=
  let arg1 : BitVec 32 := BitVec.ofNat 32 (i 1).val
  let c0_i32_55 : BitVec 32 := 0#32
  let v168 : BitVec 32 := Scalar.subi arg1 c0_i32_55
  let c1024_i32 : BitVec 32 := 1024#32
  let v169 : BitVec 32 := Scalar.muli v168 c1024_i32
  let v170 : BitVec 32 := v169
  let v198 : Index := Scalar.indexCast v170
  let c128_65 : Index := 128#32
  ![v198.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x16x64 : Shape := ⟨3, ![16384, 16, 64]⟩
abbrev S16384x16x32 : Shape := ⟨3, ![16384, 16, 32]⟩
abbrev S16384x32 : Shape := ⟨2, ![16384, 32]⟩
abbrev S16x16384x16384 : Shape := ⟨3, ![16, 16384, 16384]⟩
abbrev S16384x16384x16 : Shape := ⟨3, ![16384, 16384, 16]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x16384x1 : Shape := ⟨3, ![16, 16384, 1]⟩
abbrev S16x64x16384 : Shape := ⟨3, ![16, 64, 16384]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x16x64, .f32⟩
  | .hbm, ⟨1, _⟩ => ⟨S16384x16x32, .f32⟩
  | .hbm, ⟨2, _⟩ => ⟨S16384x16x64, .f32⟩
  | .hbm, ⟨3, _⟩ => ⟨S16384x32, .f32⟩
  | .hbm, ⟨4, _⟩ => ⟨S16384x16x64, .f32⟩
  | .hbm, ⟨5, _⟩ => ⟨S16x16384x16384, .f32⟩
  | .hbm, ⟨6, _⟩ => ⟨S16384x16384x16, .f32⟩
  | .hbm, ⟨7, _⟩ => ⟨S16x16384x16384, .f32⟩
  | .hbm, ⟨8, _⟩ => ⟨S16x16384x16384, .f32⟩
  | .hbm, ⟨9, _⟩ => ⟨S_, .f32⟩
  | .hbm, ⟨10, _⟩ => ⟨S_, .f32⟩
  | .hbm, ⟨11, _⟩ => ⟨S16x16384x16384, .f32⟩
  | .hbm, ⟨12, _⟩ => ⟨S16x16384x16384, .f32⟩
  | .hbm, ⟨13, _⟩ => ⟨S16384, .i32⟩
  | .hbm, ⟨14, _⟩ => ⟨S_, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S1x16384, .i32⟩
  | .hbm, ⟨33, _⟩ => ⟨S16384x1, .i32⟩
  | .hbm, ⟨34, _⟩ => ⟨S16384x16384, .i32⟩
  | .hbm, ⟨35, _⟩ => ⟨S16384x16384, .i32⟩
  | .hbm, ⟨36, _⟩ => ⟨S16384x16384, .i1⟩
  | .hbm, ⟨37, _⟩ => ⟨S1x16384x16384, .i1⟩
  | .hbm, ⟨38, _⟩ => ⟨S_, .f32⟩
  | .hbm, ⟨39, _⟩ => ⟨S_, .f32⟩
  | .hbm, ⟨40, _⟩ => ⟨S16x16384x16384, .i1⟩
  | .hbm, ⟨41, _⟩ => ⟨S16x16384x16384, .f32⟩
  | .hbm, ⟨42, _⟩ => ⟨S16x16384x16384, .f32⟩
  | .hbm, ⟨43, _⟩ => ⟨S_, .f32⟩
  | .hbm, ⟨44, _⟩ => ⟨S16x16384, .f32⟩
  | .hbm, ⟨45, _⟩ => ⟨S_, .f32⟩
  | .hbm, ⟨46, _⟩ => ⟨S16x16384, .f32⟩
  | .hbm, ⟨47, _⟩ => ⟨S16x16384, .f32⟩
  | .hbm, ⟨48, _⟩ => ⟨S16x16384x1, .f32⟩
  | .hbm, ⟨49, _⟩ => ⟨S16x16384x16384, .f32⟩
  | .hbm, ⟨50, _⟩ => ⟨S16x16384x16384, .f32⟩
  | .hbm, ⟨51, _⟩ => ⟨S16x16384x16384, .f32⟩
  | .hbm, ⟨52, _⟩ => ⟨S_, .f32⟩
  | .hbm, ⟨53, _⟩ => ⟨S16x16384, .f32⟩
  | .hbm, ⟨54, _⟩ => ⟨S16x16384x1, .f32⟩
  | .hbm, ⟨55, _⟩ => ⟨S16x16384x16384, .f32⟩
  | .hbm, ⟨56, _⟩ => ⟨S16x16384x16384, .f32⟩
  | .hbm, ⟨57, _⟩ => ⟨S16x64x16384, .f32⟩
  | .hbm, ⟨58, _⟩ => ⟨S16384x16x64, .f32⟩
  | .hbm, ⟨59, _⟩ => ⟨S16384x1024, .f32⟩
  | .hbm, ⟨60, _⟩ => ⟨S16384x1024, .bf16⟩
  | _, _ => ⟨S16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Kernel2.lean ====
abbrev S16640x1024 : Shape := ⟨2, ![16640, 1024]⟩
abbrev S16640x2 : Shape := ⟨2, ![16640, 2]⟩
abbrev S4x8x1024x256 : Shape := ⟨4, ![4, 8, 1024, 256]⟩
abbrev S4x8x256x1024 : Shape := ⟨4, ![4, 8, 256, 1024]⟩
abbrev S_ : Shape := ⟨0, ![]⟩
abbrev S16640x124 : Shape := ⟨2, ![16640, 124]⟩
abbrev S16640x128 : Shape := ⟨2, ![16640, 128]⟩
abbrev S32x1024x256 : Shape := ⟨3, ![32, 1024, 256]⟩
abbrev S32x256x1024 : Shape := ⟨3, ![32, 256, 1024]⟩
abbrev S832x1024 : Shape := ⟨2, ![832, 1024]⟩
abbrev S832x128 : Shape := ⟨2, ![832, 128]⟩
abbrev S8x1024x256 : Shape := ⟨3, ![8, 1024, 256]⟩
abbrev S8x256x1024 : Shape := ⟨3, ![8, 256, 1024]⟩
abbrev S832 : Shape := ⟨1, ![832]⟩
abbrev S832x1 : Shape := ⟨2, ![832, 1]⟩
abbrev S1x1024x256 : Shape := ⟨3, ![1, 1024, 256]⟩
abbrev S1024x256 : Shape := ⟨2, ![1024, 256]⟩
abbrev S832x256 : Shape := ⟨2, ![832, 256]⟩
abbrev S1x256x1024 : Shape := ⟨3, ![1, 256, 1024]⟩
abbrev S256x1024 : Shape := ⟨2, ![256, 1024]⟩

abbrev nBuf : Space → Nat
  | .hbm => 18
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S16640x2, .i32⟩
  | .hbm, ⟨2, _⟩ => ⟨S16640x2, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S_, .f32⟩
  | .hbm, ⟨7, _⟩ => ⟨S16640x124, .f32⟩
  | .hbm, ⟨8, _⟩ => ⟨S16640x2, .f32⟩
  | .hbm, ⟨9, _⟩ => ⟨S16640x128, .f32⟩
  | .hbm, ⟨10, _⟩ => ⟨S16640x1024, .bf16⟩
  | .hbm, ⟨11, _⟩ => ⟨S32x1024x256, .f32⟩
  | .hbm, ⟨12, _⟩ => ⟨S32x1024x256, .bf16⟩
  | .hbm, ⟨13, _⟩ => ⟨S32x1024x256, .f32⟩
  | .hbm, ⟨14, _⟩ => ⟨S32x1024x256, .bf16⟩
  | .hbm, ⟨15, _⟩ => ⟨S32x256x1024, .f32⟩
  | .hbm, ⟨16, _⟩ => ⟨S32x256x1024, .bf16⟩
  | .hbm, ⟨17, _⟩ => ⟨S16640x1024, .f32⟩
  | .local _ .vmem, ⟨0, _⟩ => ⟨S832x1024, .bf16⟩
  | .local _ .vmem, ⟨1, _⟩ => ⟨S832x1024, .bf16⟩
  | .local _ .vmem, ⟨2, _⟩ => ⟨S832x128, .f32⟩
  | .local _ .vmem, ⟨3, _⟩ => ⟨S832x128, .f32⟩
  | .local _ .vmem, ⟨4, _⟩ => ⟨S8x1024x256, .bf16⟩
  | .local _ .vmem, ⟨5, _⟩ => ⟨S8x1024x256, .bf16⟩
  | .local _ .vmem, ⟨6, _⟩ => ⟨S8x1024x256, .bf16⟩
  | .local _ .vmem, ⟨7, _⟩ => ⟨S8x1024x256, .bf16⟩
  | .local _ .vmem, ⟨8, _⟩ => ⟨S8x256x1024, .bf16⟩
  | .local _ .vmem, ⟨9, _⟩ => ⟨S8x256x1024, .bf16⟩
  | .local _ .vmem, ⟨10, _⟩ => ⟨S832x1024, .f32⟩
  | .local _ .vmem, ⟨11, _⟩ => ⟨S832x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 4], ![false, false]⟩

def k0_cond1 (i : grid0.Coords) : BitVec 1 :=
  let arg1 : BitVec 32 := BitVec.ofNat 32 (i 1).val
  let c0_i32_126 : BitVec 32 := 0#32
  let v255 : BitVec 1 := Scalar.cmpi .eq arg1 c0_i32_126
  let v256 : BitVec 32 := Scalar.extui v255
  let c0_i32_127 : BitVec 32 := 0#32
  let v257 : BitVec 1 := Scalar.cmpi .ne v256 c0_i32_127
  v257

def k0_cond2 (i : grid0.Coords) : BitVec 1 :=
  let arg1 : BitVec 32 := BitVec.ofNat 32 (i 1).val
  let c0_i32_128 : BitVec 32 := 0#32
  let v258 : BitVec 1 := Scalar.cmpi .sgt arg1 c0_i32_128
  let v259 : BitVec 32 := Scalar.extui v258
  let c0_i32_129 : BitVec 32 := 0#32
  let v260 : BitVec 1 := Scalar.cmpi .ne v259 c0_i32_129
  v260

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16640x1024 : Shape := ⟨2, ![16640, 1024]⟩
abbrev S16640x2 : Shape := ⟨2, ![16640, 2]⟩
abbrev S4x8x1024x256 : Shape := ⟨4, ![4, 8, 1024, 256]⟩
abbrev S4x8x256x1024 : Shape := ⟨4, ![4, 8, 256, 1024]⟩
abbrev S16640x2x1 : Shape := ⟨3, ![16640, 2, 1]⟩
abbrev S1x1x32 : Shape := ⟨3, ![1, 1, 32]⟩
abbrev S16640x2x32 : Shape := ⟨3, ![16640, 2, 32]⟩
abbrev S_ : Shape := ⟨0, ![]⟩
abbrev S16640x32 : Shape := ⟨2, ![16640, 32]⟩
abbrev S16640x4x8 : Shape := ⟨3, ![16640, 4, 8]⟩
abbrev S1x8x1024x256 : Shape := ⟨4, ![1, 8, 1024, 256]⟩
abbrev S8x1024x256 : Shape := ⟨3, ![8, 1024, 256]⟩
abbrev S16640x8x256 : Shape := ⟨3, ![16640, 8, 256]⟩
abbrev S16640x1x8 : Shape := ⟨3, ![16640, 1, 8]⟩
abbrev S16640x8 : Shape := ⟨2, ![16640, 8]⟩
abbrev S16640x8x1 : Shape := ⟨3, ![16640, 8, 1]⟩
abbrev S1x8x256x1024 : Shape := ⟨4, ![1, 8, 256, 1024]⟩
abbrev S8x256x1024 : Shape := ⟨3, ![8, 256, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x2, .i32⟩
  | .hbm, ⟨2, _⟩ => ⟨S16640x2, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S16640x2x1, .i32⟩
  | .hbm, ⟨7, _⟩ => ⟨S1x1x32, .i32⟩
  | .hbm, ⟨8, _⟩ => ⟨S16640x2x32, .i32⟩
  | .hbm, ⟨9, _⟩ => ⟨S16640x2x32, .i32⟩
  | .hbm, ⟨10, _⟩ => ⟨S16640x2x32, .i1⟩
  | .hbm, ⟨11, _⟩ => ⟨S16640x2x32, .f32⟩
  | .hbm, ⟨12, _⟩ => ⟨S16640x2x1, .f32⟩
  | .hbm, ⟨13, _⟩ => ⟨S16640x2x32, .f32⟩
  | .hbm, ⟨14, _⟩ => ⟨S16640x2x32, .f32⟩
  | .hbm, ⟨15, _⟩ => ⟨S_, .f32⟩
  | .hbm, ⟨16, _⟩ => ⟨S16640x32, .f32⟩
  | .hbm, ⟨17, _⟩ => ⟨S16640x4x8, .f32⟩
  | .hbm, ⟨18, _⟩ => ⟨S_, .f32⟩
  | .hbm, ⟨19, _⟩ => ⟨S16640x1024, .f32⟩
  | .hbm, ⟨20, _⟩ => ⟨S1x8x1024x256, .f32⟩
  | .hbm, ⟨21, _⟩ => ⟨S8x1024x256, .f32⟩
  | .hbm, ⟨22, _⟩ => ⟨S16640x8x256, .f32⟩
  | .hbm, ⟨23, _⟩ => ⟨S16640x8x256, .f32⟩
  | .hbm, ⟨24, _⟩ => ⟨S16640x8x256, .f32⟩
  | .hbm, ⟨25, _⟩ => ⟨S_, .f32⟩
  | .hbm, ⟨26, _⟩ => ⟨S16640x8x256, .f32⟩
  | .hbm, ⟨27, _⟩ => ⟨S16640x8x256, .f32⟩
  | .hbm, ⟨28, _⟩ => ⟨S_, .f32⟩
  | .hbm, ⟨29, _⟩ => ⟨S16640x8x256, .f32⟩
  | .hbm, ⟨30, _⟩ => ⟨S16640x8x256, .f32⟩
  | .hbm, ⟨31, _⟩ => ⟨S16640x8x256, .f32⟩
  | .hbm, ⟨32, _⟩ => ⟨S1x8x1024x256, .f32⟩
  | .hbm, ⟨33, _⟩ => ⟨S8x1024x256, .f32⟩
  | .hbm, ⟨34, _⟩ => ⟨S16640x8x256, .f32⟩
  | .hbm, ⟨35, _⟩ => ⟨S16640x8x256, .f32⟩
  | .hbm, ⟨36, _⟩ => ⟨S16640x1x8, .f32⟩
  | .hbm, ⟨37, _⟩ => ⟨S16640x8, .f32⟩
  | .hbm, ⟨38, _⟩ => ⟨S16640x8x1, .f32⟩
  | .hbm, ⟨39, _⟩ => ⟨S16640x8x256, .f32⟩
  | .hbm, ⟨40, _⟩ => ⟨S16640x8x256, .f32⟩
  | .hbm, ⟨41, _⟩ => ⟨S1x8x256x1024, .f32⟩
  | .hbm, ⟨42, _⟩ => ⟨S8x256x1024, .f32⟩
  | .hbm, ⟨43, _⟩ => ⟨S16640x1024, .f32⟩
  | .hbm, ⟨44, _⟩ => ⟨S16640x1024, .f32⟩
  | .hbm, ⟨45, _⟩ => ⟨S1x8x1024x256, .f32⟩
  | .hbm, ⟨46, _⟩ => ⟨S8x1024x256, .f32⟩
  | .hbm, ⟨47, _⟩ => ⟨S16640x8x256, .f32⟩
  | .hbm, ⟨48, _⟩ => ⟨S16640x8x256, .f32⟩
  | .hbm, ⟨49, _⟩ => ⟨S16640x8x256, .f32⟩
  | .hbm, ⟨50, _⟩ => ⟨S_, .f32⟩
  | .hbm, ⟨51, _⟩ => ⟨S16640x8x256, .f32⟩
  | .hbm, ⟨52, _⟩ => ⟨S16640x8x256, .f32⟩
  | .hbm, ⟨53, _⟩ => ⟨S_, .f32⟩
  | .hbm, ⟨54, _⟩ => ⟨S16640x8x256, .f32⟩
  | .hbm, ⟨55, _⟩ => ⟨S16640x8x256, .f32⟩
  | .hbm, ⟨56, _⟩ => ⟨S16640x8x256, .f32⟩
  | .hbm, ⟨57, _⟩ => ⟨S1x8x1024x256, .f32⟩
  | .hbm, ⟨58, _⟩ => ⟨S8x1024x256, .f32⟩
  | .hbm, ⟨59, _⟩ => ⟨S16640x8x256, .f32⟩
  | .hbm, ⟨60, _⟩ => ⟨S16640x8x256, .f32⟩
  | .hbm, ⟨61, _⟩ => ⟨S16640x1x8, .f32⟩
  | .hbm, ⟨62, _⟩ => ⟨S16640x8, .f32⟩
  | .hbm, ⟨63, _⟩ => ⟨S16640x8x1, .f32⟩
  | .hbm, ⟨64, _⟩ => ⟨S16640x8x256, .f32⟩
  | .hbm, ⟨65, _⟩ => ⟨S16640x8x256, .f32⟩
  | .hbm, ⟨66, _⟩ => ⟨S1x8x256x1024, .f32⟩
  | .hbm, ⟨67, _⟩ => ⟨S8x256x1024, .f32⟩
  | .hbm, ⟨68, _⟩ => ⟨S16640x1024, .f32⟩
  | .hbm, ⟨69, _⟩ => ⟨S16640x1024, .f32⟩
  | .hbm, ⟨70, _⟩ => ⟨S1x8x1024x256, .f32⟩
  | .hbm, ⟨71, _⟩ => ⟨S8x1024x256, .f32⟩
  | .hbm, ⟨72, _⟩ => ⟨S16640x8x256, .f32⟩
  | .hbm, ⟨73, _⟩ => ⟨S16640x8x256, .f32⟩
  | .hbm, ⟨74, _⟩ => ⟨S16640x8x256, .f32⟩
  | .hbm, ⟨75, _⟩ => ⟨S_, .f32⟩
  | .hbm, ⟨76, _⟩ => ⟨S16640x8x256, .f32⟩
  | .hbm, ⟨77, _⟩ => ⟨S16640x8x256, .f32⟩
  | .hbm, ⟨78, _⟩ => ⟨S_, .f32⟩
  | .hbm, ⟨79, _⟩ => ⟨S16640x8x256, .f32⟩
  | .hbm, ⟨80, _⟩ => ⟨S16640x8x256, .f32⟩
  | .hbm, ⟨81, _⟩ => ⟨S16640x8x256, .f32⟩
  | .hbm, ⟨82, _⟩ => ⟨S1x8x1024x256, .f32⟩
  | .hbm, ⟨83, _⟩ => ⟨S8x1024x256, .f32⟩
  | .hbm, ⟨84, _⟩ => ⟨S16640x8x256, .f32⟩
  | .hbm, ⟨85, _⟩ => ⟨S16640x8x256, .f32⟩
  | .hbm, ⟨86, _⟩ => ⟨S16640x1x8, .f32⟩
  | .hbm, ⟨87, _⟩ => ⟨S16640x8, .f32⟩
  | .hbm, ⟨88, _⟩ => ⟨S16640x8x1, .f32⟩
  | .hbm, ⟨89, _⟩ => ⟨S16640x8x256, .f32⟩
  | .hbm, ⟨90, _⟩ => ⟨S16640x8x256, .f32⟩
  | .hbm, ⟨91, _⟩ => ⟨S1x8x256x1024, .f32⟩
  | .hbm, ⟨92, _⟩ => ⟨S8x256x1024, .f32⟩
  | .hbm, ⟨93, _⟩ => ⟨S16640x1024, .f32⟩
  | .hbm, ⟨94, _⟩ => ⟨S16640x1024, .f32⟩
  | .hbm, ⟨95, _⟩ => ⟨S1x8x1024x256, .f32⟩
  | .hbm, ⟨96, _⟩ => ⟨S8x1024x256, .f32⟩
  | .hbm, ⟨97, _⟩ => ⟨S16640x8x256, .f32⟩
  | .hbm, ⟨98, _⟩ => ⟨S16640x8x256, .f32⟩
  | .hbm, ⟨99, _⟩ => ⟨S16640x8x256, .f32⟩
  | .hbm, ⟨100, _⟩ => ⟨S_, .f32⟩
  | .hbm, ⟨101, _⟩ => ⟨S16640x8x256, .f32⟩
  | .hbm, ⟨102, _⟩ => ⟨S16640x8x256, .f32⟩
  | .hbm, ⟨103, _⟩ => ⟨S_, .f32⟩
  | .hbm, ⟨104, _⟩ => ⟨S16640x8x256, .f32⟩
  | .hbm, ⟨105, _⟩ => ⟨S16640x8x256, .f32⟩
  | .hbm, ⟨106, _⟩ => ⟨S16640x8x256, .f32⟩
  | .hbm, ⟨107, _⟩ => ⟨S1x8x1024x256, .f32⟩
  | .hbm, ⟨108, _⟩ => ⟨S8x1024x256, .f32⟩
  | .hbm, ⟨109, _⟩ => ⟨S16640x8x256, .f32⟩
  | .hbm, ⟨110, _⟩ => ⟨S16640x8x256, .f32⟩
  | .hbm, ⟨111, _⟩ => ⟨S16640x1x8, .f32⟩
  | .hbm, ⟨112, _⟩ => ⟨S16640x8, .f32⟩
  | .hbm, ⟨113, _⟩ => ⟨S16640x8x1, .f32⟩
  | .hbm, ⟨114, _⟩ => ⟨S16640x8x256, .f32⟩
  | .hbm, ⟨115, _⟩ => ⟨S16640x8x256, .f32⟩
  | .hbm, ⟨116, _⟩ => ⟨S1x8x256x1024, .f32⟩
  | .hbm, ⟨117, _⟩ => ⟨S8x256x1024, .f32⟩
  | .hbm, ⟨118, _⟩ => ⟨S16640x1024, .f32⟩
  | .hbm, ⟨119, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]
-- ==== Kernel3.lean ====
abbrev S1x16384x1024 : Shape := ⟨3, ![1, 16384, 1024]⟩
abbrev S16x16x1024 : Shape := ⟨3, ![16, 16, 1024]⟩
abbrev S1x1024x416 : Shape := ⟨3, ![1, 1024, 416]⟩
abbrev S1x256 : Shape := ⟨2, ![1, 256]⟩
abbrev S1x128 : Shape := ⟨2, ![1, 128]⟩
abbrev S1x256x1536 : Shape := ⟨3, ![1, 256, 1536]⟩
abbrev S1x128x16x64 : Shape := ⟨4, ![1, 128, 16, 64]⟩
abbrev S16384x1024 : Shape := ⟨2, ![16384, 1024]⟩
abbrev S256x1024 : Shape := ⟨2, ![256, 1024]⟩
abbrev S1024x416 : Shape := ⟨2, ![1024, 416]⟩
abbrev S256 : Shape := ⟨1, ![256]⟩
abbrev S128 : Shape := ⟨1, ![128]⟩
abbrev S256x1536 : Shape := ⟨2, ![256, 1536]⟩
abbrev S128x16x64 : Shape := ⟨3, ![128, 16, 64]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x384 : Shape := ⟨2, ![1024, 384]⟩
abbrev S1024x640 : Shape := ⟨2, ![1024, 640]⟩
abbrev S256x16x96 : Shape := ⟨3, ![256, 16, 96]⟩
abbrev S256x16x32 : Shape := ⟨3, ![256, 16, 32]⟩
abbrev S256x16x16 : Shape := ⟨3, ![256, 16, 16]⟩
abbrev S256x16x64 : Shape := ⟨3, ![256, 16, 64]⟩
abbrev S16x128 : Shape := ⟨2, ![16, 128]⟩
abbrev S1 : Shape := ⟨1, ![1]⟩
abbrev S16 : Shape := ⟨1, ![16]⟩
abbrev S1x2048 : Shape := ⟨2, ![1, 2048]⟩
abbrev S256x16x128 : Shape := ⟨3, ![256, 16, 128]⟩
abbrev S256x2048 : Shape := ⟨2, ![256, 2048]⟩
abbrev S128x16x128 : Shape := ⟨3, ![128, 16, 128]⟩
abbrev S128x2048 : Shape := ⟨2, ![128, 2048]⟩
abbrev S16384 : Shape := ⟨1, ![16384]⟩
abbrev S1x16 : Shape := ⟨2, ![1, 16]⟩
abbrev S16x16 : Shape := ⟨2, ![16, 16]⟩
abbrev S16640 : Shape := ⟨1, ![16640]⟩
abbrev S2080x8x1 : Shape := ⟨3, ![2080, 8, 1]⟩
abbrev S1x1x16 : Shape := ⟨3, ![1, 1, 16]⟩
abbrev S2080x8x16 : Shape := ⟨3, ![2080, 8, 16]⟩
abbrev S2080x128 : Shape := ⟨2, ![2080, 128]⟩
abbrev S16640x16 : Shape := ⟨2, ![16640, 16]⟩
abbrev S16640x64 : Shape := ⟨2, ![16640, 64]⟩
abbrev S16640x32 : Shape := ⟨2, ![16640, 32]⟩
abbrev S16640x128 : Shape := ⟨2, ![16640, 128]⟩
abbrev S16640x2048 : Shape := ⟨2, ![16640, 2048]⟩
abbrev S256x128 : Shape := ⟨2, ![256, 128]⟩
abbrev S256x640 : Shape := ⟨2, ![256, 640]⟩
abbrev S256x256 : Shape := ⟨2, ![256, 256]⟩
abbrev S256x1 : Shape := ⟨2, ![256, 1]⟩
abbrev S16384x128 : Shape := ⟨2, ![16384, 128]⟩
abbrev S1x1x16384x128 : Shape := ⟨4, ![1, 1, 16384, 128]⟩
abbrev S16384x32 : Shape := ⟨2, ![16384, 32]⟩
abbrev S1x1x16384x32 : Shape := ⟨4, ![1, 1, 16384, 32]⟩
abbrev S1x16x16x128 : Shape := ⟨4, ![1, 16, 16, 128]⟩
abbrev S256x32 : Shape := ⟨2, ![256, 32]⟩
abbrev S1x16x16x32 : Shape := ⟨4, ![1, 16, 16, 32]⟩

abbrev nBuf : Space → Nat
  | .hbm => 117
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S16x16x1024, .f32⟩
  | .hbm, ⟨2, _⟩ => ⟨S1x1024x416, .f32⟩
  | .hbm, ⟨3, _⟩ => ⟨S1x256, .f32⟩
  | .hbm, ⟨4, _⟩ => ⟨S1x128, .f32⟩
  | .hbm, ⟨5, _⟩ => ⟨S1x256x1536, .f32⟩
  | .hbm, ⟨6, _⟩ => ⟨S1x128x16x64, .f32⟩
  | .hbm, ⟨7, _⟩ => ⟨S1x128x16x64, .f32⟩
  | .hbm, ⟨8, _⟩ => ⟨S16384x1024, .f32⟩
  | .hbm, ⟨9, _⟩ => ⟨S256x1024, .f32⟩
  | .hbm, ⟨10, _⟩ => ⟨S1024x416, .f32⟩
  | .hbm, ⟨11, _⟩ => ⟨S256, .f32⟩
  | .hbm, ⟨12, _⟩ => ⟨S128, .f32⟩
  | .hbm, ⟨13, _⟩ => ⟨S256x1536, .f32⟩
  | .hbm, ⟨14, _⟩ => ⟨S128x16x64, .f32⟩
  | .hbm, ⟨15, _⟩ => ⟨S128x16x64, .f32⟩
  | .hbm, ⟨16, _⟩ => ⟨S1024x32, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S_, .f32⟩
  | .hbm, ⟨21, _⟩ => ⟨S1024x64, .f32⟩
  | .hbm, ⟨22, _⟩ => ⟨S_, .f32⟩
  | .hbm, ⟨23, _⟩ => ⟨S1024x32, .f32⟩
  | .hbm, ⟨24, _⟩ => ⟨S1024x384, .f32⟩
  | .hbm, ⟨25, _⟩ => ⟨S1024x640, .f32⟩
  | .hbm, ⟨26, _⟩ => ⟨S256x16x96, .f32⟩
  | .hbm, ⟨27, _⟩ => ⟨S256x16x32, .f32⟩
  | .hbm, ⟨28, _⟩ => ⟨S256x16x16, .f32⟩
  | .hbm, ⟨29, _⟩ => ⟨S256x16x16, .f32⟩
  | .hbm, ⟨30, _⟩ => ⟨S256x16x32, .f32⟩
  | .hbm, ⟨31, _⟩ => ⟨S256x16x64, .f32⟩
  | .hbm, ⟨32, _⟩ => ⟨S_, .f32⟩
  | .hbm, ⟨33, _⟩ => ⟨S256x16x64, .f32⟩
  | .hbm, ⟨34, _⟩ => ⟨S256x16x96, .f32⟩
  | .hbm, ⟨35, _⟩ => ⟨S_, .f32⟩
  | .hbm, ⟨36, _⟩ => ⟨S16x128, .f32⟩
  | .hbm, ⟨37, _⟩ => ⟨S_, .i32⟩
  | .hbm, ⟨38, _⟩ => ⟨S1, .i32⟩
  | .hbm, ⟨39, _⟩ => ⟨S_, .f32⟩
  | .hbm, ⟨40, _⟩ => ⟨S16, .f32⟩
  | .hbm, ⟨41, _⟩ => ⟨S16x128, .f32⟩
  | .hbm, ⟨42, _⟩ => ⟨S1x2048, .f32⟩
  | .hbm, ⟨43, _⟩ => ⟨S1024x640, .bf16⟩
  | .hbm, ⟨44, _⟩ => ⟨S1x256, .f32⟩
  | .hbm, ⟨45, _⟩ => ⟨S1x128, .f32⟩
  | .hbm, ⟨46, _⟩ => ⟨S_, .i32⟩
  | .hbm, ⟨47, _⟩ => ⟨S_, .f32⟩
  | .hbm, ⟨48, _⟩ => ⟨S256x16x128, .f32⟩
  | .hbm, ⟨49, _⟩ => ⟨S256x2048, .f32⟩
  | .hbm, ⟨50, _⟩ => ⟨S256x2048, .bf16⟩
  | .hbm, ⟨51, _⟩ => ⟨S_, .i32⟩
  | .hbm, ⟨52, _⟩ => ⟨S_, .f32⟩
  | .hbm, ⟨53, _⟩ => ⟨S256x16x128, .f32⟩
  | .hbm, ⟨54, _⟩ => ⟨S256x2048, .f32⟩
  | .hbm, ⟨55, _⟩ => ⟨S256x2048, .bf16⟩
  | .hbm, ⟨56, _⟩ => ⟨S_, .i32⟩
  | .hbm, ⟨57, _⟩ => ⟨S_, .f32⟩
  | .hbm, ⟨58, _⟩ => ⟨S128x16x128, .f32⟩
  | .hbm, ⟨59, _⟩ => ⟨S128x2048, .f32⟩
  | .hbm, ⟨60, _⟩ => ⟨S128x2048, .bf16⟩
  | .hbm, ⟨61, _⟩ => ⟨S_, .i32⟩
  | .hbm, ⟨62, _⟩ => ⟨S_, .f32⟩
  | .hbm, ⟨63, _⟩ => ⟨S128x16x128, .f32⟩
  | .hbm, ⟨64, _⟩ => ⟨S128x2048, .f32⟩
  | .hbm, ⟨65, _⟩ => ⟨S128x2048, .bf16⟩
  | .hbm, ⟨66, _⟩ => ⟨S16384, .i32⟩
  | .hbm, ⟨67, _⟩ => ⟨S16, .i32⟩
  | .hbm, ⟨68, _⟩ => ⟨S1x16, .i32⟩
  | .hbm, ⟨69, _⟩ => ⟨S16x16, .i32⟩
  | .hbm, ⟨70, _⟩ => ⟨S256, .i32⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S16640, .i32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16640, .f32⟩
  | .hbm, ⟨84, _⟩ => ⟨S2080x8x1, .f32⟩
  | .hbm, ⟨85, _⟩ => ⟨S1x1x16, .f32⟩
  | .hbm, ⟨86, _⟩ => ⟨S2080x8x16, .f32⟩
  | .hbm, ⟨87, _⟩ => ⟨S2080x8x16, .f32⟩
  | .hbm, ⟨88, _⟩ => ⟨S2080x8x16, .f32⟩
  | .hbm, ⟨89, _⟩ => ⟨S2080x128, .f32⟩
  | .hbm, ⟨90, _⟩ => ⟨S2080x128, .f32⟩
  | .hbm, ⟨91, _⟩ => ⟨S16640x16, .f32⟩
  | .hbm, ⟨92, _⟩ => ⟨S2080x128, .f32⟩
  | .hbm, ⟨93, _⟩ => ⟨S16640x16, .f32⟩
  | .hbm, ⟨94, _⟩ => ⟨S_, .f32⟩
  | .hbm, ⟨95, _⟩ => ⟨S16640x64, .f32⟩
  | .hbm, ⟨96, _⟩ => ⟨S_, .f32⟩
  | .hbm, ⟨97, _⟩ => ⟨S16640x32, .f32⟩
  | .hbm, ⟨98, _⟩ => ⟨S16640x128, .f32⟩
  | .hbm, ⟨99, _⟩ => ⟨S_, .f32⟩
  | .hbm, ⟨100, _⟩ => ⟨S16640x64, .f32⟩
  | .hbm, ⟨101, _⟩ => ⟨S16640x16, .f32⟩
  | .hbm, ⟨102, _⟩ => ⟨S16640x128, .f32⟩
  | .hbm, ⟨103, _⟩ => ⟨S16640x2048, .bf16⟩
  | .hbm, ⟨104, _⟩ => ⟨S16640x2048, .bf16⟩
  | .hbm, ⟨105, _⟩ => ⟨S16640x2048, .bf16⟩
  | .hbm, ⟨106, _⟩ => ⟨S16640x128, .f32⟩
  | .hbm, ⟨107, _⟩ => ⟨S16640x128, .f32⟩
  | .hbm, ⟨108, _⟩ => ⟨S16640x32, .f32⟩
  | .hbm, ⟨109, _⟩ => ⟨S16384x128, .f32⟩
  | .hbm, ⟨110, _⟩ => ⟨S1x1x16384x128, .f32⟩
  | .hbm, ⟨111, _⟩ => ⟨S16384x32, .f32⟩
  | .hbm, ⟨112, _⟩ => ⟨S1x1x16384x32, .f32⟩
  | .hbm, ⟨113, _⟩ => ⟨S256x128, .f32⟩
  | .hbm, ⟨114, _⟩ => ⟨S1x16x16x128, .f32⟩
  | .hbm, ⟨115, _⟩ => ⟨S256x32, .f32⟩
  | .hbm, ⟨116, _⟩ => ⟨S1x16x16x32, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x640, .bf16⟩
  | .local _ .vmem, ⟨9, _⟩ => ⟨S1x256, .f32⟩
  | .local _ .vmem, ⟨10, _⟩ => ⟨S1x128, .f32⟩
  | .local _ .vmem, ⟨11, _⟩ => ⟨S256x2048, .bf16⟩
  | .local _ .vmem, ⟨12, _⟩ => ⟨S256x2048, .bf16⟩
  | .local _ .vmem, ⟨13, _⟩ => ⟨S128x2048, .bf16⟩
  | .local _ .vmem, ⟨14, _⟩ => ⟨S128x2048, .bf16⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_call3_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75_0 : Ref sig .tc := ⟨.hbm, 103, rfl⟩
abbrev main_v75_1 : Ref sig .tc := ⟨.hbm, 104, rfl⟩
abbrev main_v75_2 : Ref sig .tc := ⟨.hbm, 105, rfl⟩
abbrev main_v75_3 : Ref sig .tc := ⟨.hbm, 106, rfl⟩
abbrev main_v75_4 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S1x16384x1024 : Shape := ⟨3, ![1, 16384, 1024]⟩
abbrev S16x16x1024 : Shape := ⟨3, ![16, 16, 1024]⟩
abbrev S1x1024x416 : Shape := ⟨3, ![1, 1024, 416]⟩
abbrev S1x256 : Shape := ⟨2, ![1, 256]⟩
abbrev S1x128 : Shape := ⟨2, ![1, 128]⟩
abbrev S1x256x1536 : Shape := ⟨3, ![1, 256, 1536]⟩
abbrev S1x128x16x64 : Shape := ⟨4, ![1, 128, 16, 64]⟩
abbrev S16384x1024 : Shape := ⟨2, ![16384, 1024]⟩
abbrev S256x1024 : Shape := ⟨2, ![256, 1024]⟩
abbrev S16640x1024 : Shape := ⟨2, ![16640, 1024]⟩
abbrev S16384 : Shape := ⟨1, ![16384]⟩
abbrev S16 : Shape := ⟨1, ![16]⟩
abbrev S1x16 : Shape := ⟨2, ![1, 16]⟩
abbrev S16x16 : Shape := ⟨2, ![16, 16]⟩
abbrev S256 : Shape := ⟨1, ![256]⟩
abbrev S_ : Shape := ⟨0, ![]⟩
abbrev S16640 : Shape := ⟨1, ![16640]⟩
abbrev S16640x1 : Shape := ⟨2, ![16640, 1]⟩
abbrev S16640x16 : Shape := ⟨2, ![16640, 16]⟩
abbrev S1024x416 : Shape := ⟨2, ![1024, 416]⟩
abbrev S16640x416 : Shape := ⟨2, ![16640, 416]⟩
abbrev S16640x256 : Shape := ⟨2, ![16640, 256]⟩
abbrev S16640x128 : Shape := ⟨2, ![16640, 128]⟩
abbrev S128 : Shape := ⟨1, ![128]⟩
abbrev S16640x32 : Shape := ⟨2, ![16640, 32]⟩
abbrev S256x1536 : Shape := ⟨2, ![256, 1536]⟩
abbrev S16640x1536 : Shape := ⟨2, ![16640, 1536]⟩
abbrev S16640x16x96 : Shape := ⟨3, ![16640, 16, 96]⟩
abbrev S16640x16x32 : Shape := ⟨3, ![16640, 16, 32]⟩
abbrev S16640x1x16 : Shape := ⟨3, ![16640, 1, 16]⟩
abbrev S16640x16x16 : Shape := ⟨3, ![16640, 16, 16]⟩
abbrev S128x16x64 : Shape := ⟨3, ![128, 16, 64]⟩
abbrev S16640x16x64 : Shape := ⟨3, ![16640, 16, 64]⟩
abbrev S16640x16x128 : Shape := ⟨3, ![16640, 16, 128]⟩
abbrev S16640x1x32 : Shape := ⟨3, ![16640, 1, 32]⟩
abbrev S16640x16x1 : Shape := ⟨3, ![16640, 16, 1]⟩
abbrev S16640x16x63 : Shape := ⟨3, ![16640, 16, 63]⟩
abbrev S16640x2048 : Shape := ⟨2, ![16640, 2048]⟩
abbrev S16384x128 : Shape := ⟨2, ![16384, 128]⟩
abbrev S1x1x16384x128 : Shape := ⟨4, ![1, 1, 16384, 128]⟩
abbrev S16384x32 : Shape := ⟨2, ![16384, 32]⟩
abbrev S1x1x16384x32 : Shape := ⟨4, ![1, 1, 16384, 32]⟩
abbrev S256x128 : Shape := ⟨2, ![256, 128]⟩
abbrev S1x16x16x128 : Shape := ⟨4, ![1, 16, 16, 128]⟩
abbrev S256x32 : Shape := ⟨2, ![256, 32]⟩
abbrev S1x16x16x32 : Shape := ⟨4, ![1, 16, 16, 32]⟩

abbrev nBuf : Space → Nat
  | .hbm => 137
  | .vmem => 0
  | .smem => 0
  | _ => 0

abbrev hbmTy0_0 (i : Nat) : BufTy := match i % 128 with
  | 0 => ⟨S1x16384x1024, .f32⟩
  | 1 => ⟨S16x16x1024, .f32⟩
  | 2 => ⟨S1x1024x416, .f32⟩
  | 3 => ⟨S1x256, .f32⟩
  | 4 => ⟨S1x128, .f32⟩
  | 5 => ⟨S1x256x1536, .f32⟩
  | 6 => ⟨S1x128x16x64, .f32⟩
  | 7 => ⟨S1x128x16x64, .f32⟩
  | 8 => ⟨S16384x1024, .f32⟩
  | 9 => ⟨S256x1024, .f32⟩
  | 10 => ⟨S16640x1024, .f32⟩
  | 11 => ⟨S16384, .i32⟩
  | 12 => ⟨S16, .i32⟩
  | 13 => ⟨S1x16, .i32⟩
  | 14 => ⟨S16x16, .i32⟩
  | 15 => ⟨S256, .i32⟩
  | 16 => ⟨S_, .i32⟩
  | 17 => ⟨S256, .i32⟩
  | 18 => ⟨S256, .i32⟩
  | 19 => ⟨S16640, .i32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16640, .f32⟩
  | 29 => ⟨S16640x1, .f32⟩
  | 30 => ⟨S1x16, .f32⟩
  | 31 => ⟨S16640x16, .f32⟩
  | 32 => ⟨S16640x16, .f32⟩
  | 33 => ⟨S16640x16, .f32⟩
  | 34 => ⟨S1024x416, .f32⟩
  | 35 => ⟨S16640x416, .f32⟩
  | 36 => ⟨S16640x256, .f32⟩
  | 37 => ⟨S256, .f32⟩
  | 38 => ⟨S16640x256, .f32⟩
  | 39 => ⟨S_, .f32⟩
  | 40 => ⟨S16640, .f32⟩
  | 41 => ⟨S16640x1, .f32⟩
  | 42 => ⟨S_, .f32⟩
  | 43 => ⟨S16640x1, .f32⟩
  | 44 => ⟨S16640x1, .f32⟩
  | 45 => ⟨S_, .f32⟩
  | 46 => ⟨S16640x1, .f32⟩
  | 47 => ⟨S16640x1, .f32⟩
  | 48 => ⟨S16640x1, .f32⟩
  | 49 => ⟨S16640x256, .f32⟩
  | 50 => ⟨S16640x256, .f32⟩
  | 51 => ⟨S1x256, .f32⟩
  | 52 => ⟨S16640x256, .f32⟩
  | 53 => ⟨S16640x256, .f32⟩
  | 54 => ⟨S16640x128, .f32⟩
  | 55 => ⟨S128, .f32⟩
  | 56 => ⟨S16640x128, .f32⟩
  | 57 => ⟨S_, .f32⟩
  | 58 => ⟨S16640, .f32⟩
  | 59 => ⟨S16640x1, .f32⟩
  | 60 => ⟨S_, .f32⟩
  | 61 => ⟨S16640x1, .f32⟩
  | 62 => ⟨S16640x1, .f32⟩
  | 63 => ⟨S_, .f32⟩
  | 64 => ⟨S16640x1, .f32⟩
  | 65 => ⟨S16640x1, .f32⟩
  | 66 => ⟨S16640x1, .f32⟩
  | 67 => ⟨S16640x128, .f32⟩
  | 68 => ⟨S16640x128, .f32⟩
  | 69 => ⟨S1x128, .f32⟩
  | 70 => ⟨S16640x128, .f32⟩
  | 71 => ⟨S16640x128, .f32⟩
  | 72 => ⟨S16640x32, .f32⟩
  | 73 => ⟨S16640x16, .f32⟩
  | 74 => ⟨S16640x16, .f32⟩
  | 75 => ⟨S16640x16, .f32⟩
  | 76 => ⟨S16640x16, .f32⟩
  | 77 => ⟨S16640x16, .f32⟩
  | 78 => ⟨S16640x16, .f32⟩
  | 79 => ⟨S16640x16, .f32⟩
  | 80 => ⟨S16640x16, .f32⟩
  | 81 => ⟨S16640x16, .f32⟩
  | 82 => ⟨S16640x16, .f32⟩
  | 83 => ⟨S16640x32, .f32⟩
  | 84 => ⟨S256x1536, .f32⟩
  | 85 => ⟨S16640x1536, .f32⟩
  | 86 => ⟨S16640x16x96, .f32⟩
  | 87 => ⟨S16640x16x32, .f32⟩
  | 88 => ⟨S16640x1x16, .f32⟩
  | 89 => ⟨S16640x1x16, .f32⟩
  | 90 => ⟨S16640x1x16, .f32⟩
  | 91 => ⟨S16640x16x16, .f32⟩
  | 92 => ⟨S16640x16x16, .f32⟩
  | 93 => ⟨S16640x16x16, .f32⟩
  | 94 => ⟨S16640x16x16, .f32⟩
  | 95 => ⟨S16640x16x16, .f32⟩
  | 96 => ⟨S16640x16x16, .f32⟩
  | 97 => ⟨S16640x16x16, .f32⟩
  | 98 => ⟨S16640x16x16, .f32⟩
  | 99 => ⟨S16640x16x16, .f32⟩
  | 100 => ⟨S16640x16x16, .f32⟩
  | 101 => ⟨S16640x16x16, .f32⟩
  | 102 => ⟨S16640x16x16, .f32⟩
  | 103 => ⟨S16640x16x32, .f32⟩
  | 104 => ⟨S128x16x64, .f32⟩
  | 105 => ⟨S16640x16x64, .f32⟩
  | 106 => ⟨S128x16x64, .f32⟩
  | 107 => ⟨S16640x16x64, .f32⟩
  | 108 => ⟨S_, .f32⟩
  | 109 => ⟨S16640x16x32, .f32⟩
  | 110 => ⟨S16640x16x64, .f32⟩
  | 111 => ⟨S16640x16x128, .f32⟩
  | 112 => ⟨S_, .f32⟩
  | 113 => ⟨S16640x16x128, .f32⟩
  | 114 => ⟨S16640x16x128, .f32⟩
  | 115 => ⟨S16640x1x32, .f32⟩
  | 116 => ⟨S16640x16x32, .f32⟩
  | 117 => ⟨S16640x16x128, .f32⟩
  | 118 => ⟨S_, .f32⟩
  | 119 => ⟨S16640x16x1, .f32⟩
  | 120 => ⟨S_, .f32⟩
  | 121 => ⟨S16640x16x63, .f32⟩
  | 122 => ⟨S16640x16x128, .f32⟩
  | 123 => ⟨S16640x2048, .f32⟩
  | 124 => ⟨S16640x2048, .bf16⟩
  | 125 => ⟨S16640x2048, .f32⟩
  | 126 => ⟨S16640x2048, .bf16⟩
  | 127 => ⟨S16640x2048, .f32⟩
  | _ => ⟨S1x16384x1024, .f32⟩

abbrev hbmTy0_1 (i : Nat) : BufTy := match i % 128 with
  | 0 => ⟨S16640x2048, .bf16⟩
  | 1 => ⟨S16384x128, .f32⟩
  | 2 => ⟨S1x1x16384x128, .f32⟩
  | 3 => ⟨S16384x32, .f32⟩
  | 4 => ⟨S1x1x16384x32, .f32⟩
  | 5 => ⟨S256x128, .f32⟩
  | 6 => ⟨S1x16x16x128, .f32⟩
  | 7 => ⟨S256x32, .f32⟩
  | 8 => ⟨S1x16x16x32, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_7 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_8 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_9 : Ref sig .tc := ⟨.hbm, 118, rfl⟩
abbrev main_v99 : Ref sig .tc := ⟨.hbm, 119, rfl⟩
abbrev main_cst_10 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩

abbrev nD : Nat := 1
abbrev τ : Topo := Topo.v7x

variable {F : FTy → Type} [FloatOps F]
-- ==== Kernel4.lean ====
abbrev S16640x1024 : Shape := ⟨2, ![16640, 1024]⟩
abbrev S2x1x16384x256 : Shape := ⟨4, ![2, 1, 16384, 256]⟩
abbrev S2x16x16x256 : Shape := ⟨4, ![2, 16, 16, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1x1024x1024 : Shape := ⟨3, ![1, 1024, 1024]⟩
abbrev S2x16384x256 : Shape := ⟨3, ![2, 16384, 256]⟩
abbrev S2x256x256 : Shape := ⟨3, ![2, 256, 256]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1024x1024 : Shape := ⟨2, ![1024, 1024]⟩
abbrev S1x16384x256 : Shape := ⟨3, ![1, 16384, 256]⟩
abbrev S16384x256 : Shape := ⟨2, ![16384, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S2x1x16384x256, .f32⟩
  | .hbm, ⟨3, _⟩ => ⟨S2x16x16x256, .f32⟩
  | .hbm, ⟨4, _⟩ => ⟨S2x1024, .f32⟩
  | .hbm, ⟨5, _⟩ => ⟨S2x1024, .f32⟩
  | .hbm, ⟨6, _⟩ => ⟨S2x256x1024, .f32⟩
  | .hbm, ⟨7, _⟩ => ⟨S2x1024x1024, .f32⟩
  | .hbm, ⟨8, _⟩ => ⟨S1x1024x1024, .f32⟩
  | .hbm, ⟨9, _⟩ => ⟨S2x16384x256, .f32⟩
  | .hbm, ⟨10, _⟩ => ⟨S2x256x256, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x256x1024, .f32⟩
  | .hbm, ⟨18, _⟩ => ⟨S256x1024, .f32⟩
  | .hbm, ⟨19, _⟩ => ⟨S256x1024, .bf16⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S1x16384x256, .f32⟩
  | .hbm, ⟨24, _⟩ => ⟨S16384x256, .f32⟩
  | .hbm, ⟨25, _⟩ => ⟨S1x256x256, .f32⟩
  | .hbm, ⟨26, _⟩ => ⟨S256x256, .f32⟩
  | .hbm, ⟨27, _⟩ => ⟨S1024x1024, .f32⟩
  | .hbm, ⟨28, _⟩ => ⟨S1024x1024, .bf16⟩
  | .hbm, ⟨29, _⟩ => ⟨S16640x1024, .f32⟩
  | .hbm, ⟨30, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16640x1024 : Shape := ⟨2, ![16640, 1024]⟩
abbrev S2x1x16384x256 : Shape := ⟨4, ![2, 1, 16384, 256]⟩
abbrev S2x16x16x256 : Shape := ⟨4, ![2, 16, 16, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1x1024x1024 : Shape := ⟨3, ![1, 1024, 1024]⟩
abbrev S1x1x16384x256 : Shape := ⟨4, ![1, 1, 16384, 256]⟩
abbrev S16384x256 : Shape := ⟨2, ![16384, 256]⟩
abbrev S1x16x16x256 : Shape := ⟨4, ![1, 16, 16, 256]⟩
abbrev S16x16x256 : Shape := ⟨3, ![16, 16, 256]⟩
abbrev S256x256 : Shape := ⟨2, ![256, 256]⟩
abbrev S16640x256 : Shape := ⟨2, ![16640, 256]⟩
abbrev S_ : Shape := ⟨0, ![]⟩
abbrev S1x1024 : Shape := ⟨2, ![1, 1024]⟩
abbrev S1024 : Shape := ⟨1, ![1024]⟩
abbrev S16640 : Shape := ⟨1, ![16640]⟩
abbrev S16640x1 : Shape := ⟨2, ![16640, 1]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S2x1x16384x256, .f32⟩
  | .hbm, ⟨3, _⟩ => ⟨S2x16x16x256, .f32⟩
  | .hbm, ⟨4, _⟩ => ⟨S2x1024, .f32⟩
  | .hbm, ⟨5, _⟩ => ⟨S2x1024, .f32⟩
  | .hbm, ⟨6, _⟩ => ⟨S2x256x1024, .f32⟩
  | .hbm, ⟨7, _⟩ => ⟨S2x1024x1024, .f32⟩
  | .hbm, ⟨8, _⟩ => ⟨S1x1024x1024, .f32⟩
  | .hbm, ⟨9, _⟩ => ⟨S1x1x16384x256, .f32⟩
  | .hbm, ⟨10, _⟩ => ⟨S16384x256, .f32⟩
  | .hbm, ⟨11, _⟩ => ⟨S1x16x16x256, .f32⟩
  | .hbm, ⟨12, _⟩ => ⟨S16x16x256, .f32⟩
  | .hbm, ⟨13, _⟩ => ⟨S256x256, .f32⟩
  | .hbm, ⟨14, _⟩ => ⟨S16640x256, .f32⟩
  | .hbm, ⟨15, _⟩ => ⟨S_, .f32⟩
  | .hbm, ⟨16, _⟩ => ⟨S16640x1024, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S16640, .f32⟩
  | .hbm, ⟨25, _⟩ => ⟨S16640x1, .f32⟩
  | .hbm, ⟨26, _⟩ => ⟨S_, .f32⟩
  | .hbm, ⟨27, _⟩ => ⟨S16640x1, .f32⟩
  | .hbm, ⟨28, _⟩ => ⟨S16640x1, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S_, .f32⟩
  | .hbm, ⟨33, _⟩ => ⟨S16640, .f32⟩
  | .hbm, ⟨34, _⟩ => ⟨S16640x1, .f32⟩
  | .hbm, ⟨35, _⟩ => ⟨S_, .f32⟩
  | .hbm, ⟨36, _⟩ => ⟨S16640x1, .f32⟩
  | .hbm, ⟨37, _⟩ => ⟨S16640x1, .f32⟩
  | .hbm, ⟨38, _⟩ => ⟨S16640x1024, .f32⟩
  | .hbm, ⟨39, _⟩ => ⟨S16640x1024, .f32⟩
  | .hbm, ⟨40, _⟩ => ⟨S_, .f32⟩
  | .hbm, ⟨41, _⟩ => ⟨S16640x1, .f32⟩
  | .hbm, ⟨42, _⟩ => ⟨S16640x1, .f32⟩
  | .hbm, ⟨43, _⟩ => ⟨S16640x1, .f32⟩
  | .hbm, ⟨44, _⟩ => ⟨S16640x1024, .f32⟩
  | .hbm, ⟨45, _⟩ => ⟨S16640x1024, .f32⟩
  | .hbm, ⟨46, _⟩ => ⟨S1x1024, .f32⟩
  | .hbm, ⟨47, _⟩ => ⟨S16640x1024, .f32⟩
  | .hbm, ⟨48, _⟩ => ⟨S16640x1024, .f32⟩
  | .hbm, ⟨49, _⟩ => ⟨S1x1024, .f32⟩
  | .hbm, ⟨50, _⟩ => ⟨S16640x1024, .f32⟩
  | .hbm, ⟨51, _⟩ => ⟨S16640x1024, .f32⟩
  | .hbm, ⟨52, _⟩ => ⟨S1x256x1024, .f32⟩
  | .hbm, ⟨53, _⟩ => ⟨S256x1024, .f32⟩
  | .hbm, ⟨54, _⟩ => ⟨S16640x1024, .f32⟩
  | .hbm, ⟨55, _⟩ => ⟨S1x1024x1024, .f32⟩
  | .hbm, ⟨56, _⟩ => ⟨S1024x1024, .f32⟩
  | .hbm, ⟨57, _⟩ => ⟨S16640x1024, .f32⟩
  | .hbm, ⟨58, _⟩ => ⟨S16640x1024, .f32⟩
  | .hbm, ⟨59, _⟩ => ⟨S16640x1024, .f32⟩
  | .hbm, ⟨60, _⟩ => ⟨S_, .f32⟩
  | .hbm, ⟨61, _⟩ => ⟨S16640x1024, .f32⟩
  | .hbm, ⟨62, _⟩ => ⟨S16640x1024, .f32⟩
  | .hbm, ⟨63, _⟩ => ⟨S_, .f32⟩
  | .hbm, ⟨64, _⟩ => ⟨S16640x1024, .f32⟩
  | .hbm, ⟨65, _⟩ => ⟨S16640x1024, .f32⟩
  | .hbm, ⟨66, _⟩ => ⟨S16640x1024, .f32⟩
  | .hbm, ⟨67, _⟩ => ⟨S16640x1024, .f32⟩
  | .hbm, ⟨68, _⟩ => ⟨S1024x1024, .f32⟩
  | .hbm, ⟨69, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel5.lean ====
abbrev S16640x16x64 : Shape := ⟨3, ![16640, 16, 64]⟩
abbrev S16640x16x32 : Shape := ⟨3, ![16640, 16, 32]⟩
abbrev S1x16x1024x128 : Shape := ⟨4, ![1, 16, 1024, 128]⟩
abbrev S1x16x1024x32 : Shape := ⟨4, ![1, 16, 1024, 32]⟩
abbrev S16640x128 : Shape := ⟨2, ![16640, 128]⟩
abbrev S16640x32 : Shape := ⟨2, ![16640, 32]⟩
abbrev S1x128x16x64 : Shape := ⟨4, ![1, 128, 16, 64]⟩
abbrev S_ : Shape := ⟨0, ![]⟩
abbrev S16640x16x128 : Shape := ⟨3, ![16640, 16, 128]⟩
abbrev S16640x2048 : Shape := ⟨2, ![16640, 2048]⟩
abbrev S128x16x64 : Shape := ⟨3, ![128, 16, 64]⟩
abbrev S16x64x128 : Shape := ⟨3, ![16, 64, 128]⟩
abbrev S16x128x128 : Shape := ⟨3, ![16, 128, 128]⟩
abbrev S16x128x64 : Shape := ⟨3, ![16, 128, 64]⟩
abbrev S16x1024x128 : Shape := ⟨3, ![16, 1024, 128]⟩
abbrev S16x1024x32 : Shape := ⟨3, ![16, 1024, 32]⟩
abbrev S256x1024 : Shape := ⟨2, ![256, 1024]⟩
abbrev S16x2048 : Shape := ⟨2, ![16, 2048]⟩
abbrev S1x1024x128 : Shape := ⟨3, ![1, 1024, 128]⟩
abbrev S1x1024x32 : Shape := ⟨3, ![1, 1024, 32]⟩
abbrev S16x128 : Shape := ⟨2, ![16, 128]⟩
abbrev S16x1024 : Shape := ⟨2, ![16, 1024]⟩
abbrev S1x128x128 : Shape := ⟨3, ![1, 128, 128]⟩
abbrev S128x128 : Shape := ⟨2, ![128, 128]⟩
abbrev S16x32 : Shape := ⟨2, ![16, 32]⟩
abbrev S256x128 : Shape := ⟨2, ![256, 128]⟩
abbrev S256x32 : Shape := ⟨2, ![256, 32]⟩
abbrev S1024x128 : Shape := ⟨2, ![1024, 128]⟩
abbrev S1024x32 : Shape := ⟨2, ![1024, 32]⟩
abbrev S256x16 : Shape := ⟨2, ![256, 16]⟩
abbrev S256 : Shape := ⟨1, ![256]⟩
abbrev S256x1 : Shape := ⟨2, ![256, 1]⟩
abbrev S1x128x64 : Shape := ⟨3, ![1, 128, 64]⟩
abbrev S128x64 : Shape := ⟨2, ![128, 64]⟩
abbrev S16x64 : Shape := ⟨2, ![16, 64]⟩

abbrev nBuf : Space → Nat
  | .hbm => 37
  | .vmem => 14
  | .smem => 0
  | _ => 0

abbrev bufTy : (tb : Table) → Fin (tcTables nBuf tb) → BufTy
  | .hbm, ⟨0, _⟩ => ⟨S16640x16x64, .f32⟩
  | .hbm, ⟨1, _⟩ => ⟨S16640x16x32, .f32⟩
  | .hbm, ⟨2, _⟩ => ⟨S1x16x1024x128, .f32⟩
  | .hbm, ⟨3, _⟩ => ⟨S1x16x1024x32, .f32⟩
  | .hbm, ⟨4, _⟩ => ⟨S16640x128, .f32⟩
  | .hbm, ⟨5, _⟩ => ⟨S16640x32, .f32⟩
  | .hbm, ⟨6, _⟩ => ⟨S1x128x16x64, .f32⟩
  | .hbm, ⟨7, _⟩ => ⟨S1x128x16x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16640x16x32, .f32⟩
  | .hbm, ⟨17, _⟩ => ⟨S16640x16x128, .f32⟩
  | .hbm, ⟨18, _⟩ => ⟨S16640x16x128, .f32⟩
  | .hbm, ⟨19, _⟩ => ⟨S16640x16x128, .f32⟩
  | .hbm, ⟨20, _⟩ => ⟨S16640x2048, .f32⟩
  | .hbm, ⟨21, _⟩ => ⟨S16640x2048, .bf16⟩
  | .hbm, ⟨22, _⟩ => ⟨S_, .i32⟩
  | .hbm, ⟨23, _⟩ => ⟨S_, .f32⟩
  | .hbm, ⟨24, _⟩ => ⟨S16640x128, .f32⟩
  | .hbm, ⟨25, _⟩ => ⟨S128x16x64, .f32⟩
  | .hbm, ⟨26, _⟩ => ⟨S16x64x128, .f32⟩
  | .hbm, ⟨27, _⟩ => ⟨S_, .i32⟩
  | .hbm, ⟨28, _⟩ => ⟨S_, .f32⟩
  | .hbm, ⟨29, _⟩ => ⟨S16x128x128, .f32⟩
  | .hbm, ⟨30, _⟩ => ⟨S128x16x64, .f32⟩
  | .hbm, ⟨31, _⟩ => ⟨S16x128x64, .f32⟩
  | .hbm, ⟨32, _⟩ => ⟨S16x1024x128, .f32⟩
  | .hbm, ⟨33, _⟩ => ⟨S16x1024x32, .f32⟩
  | .hbm, ⟨34, _⟩ => ⟨S16x128x128, .bf16⟩
  | .hbm, ⟨35, _⟩ => ⟨S16x128x64, .bf16⟩
  | .hbm, ⟨36, _⟩ => ⟨S256x1024, .bf16⟩
  | .local _ .vmem, ⟨0, _⟩ => ⟨S16x2048, .bf16⟩
  | .local _ .vmem, ⟨1, _⟩ => ⟨S16x2048, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x32, .f32⟩
  | .local _ .vmem, ⟨5, _⟩ => ⟨S1x1024x32, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128x128, .bf16⟩
  | .local _ .vmem, ⟨11, _⟩ => ⟨S16x128x64, .bf16⟩
  | .local _ .vmem, ⟨12, _⟩ => ⟨S16x1024, .bf16⟩
  | .local _ .vmem, ⟨13, _⟩ => ⟨S16x1024, .bf16⟩
  | _, _ => ⟨S16640x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16640x16x64 : Shape := ⟨3, ![16640, 16, 64]⟩
abbrev S16640x16x32 : Shape := ⟨3, ![16640, 16, 32]⟩
abbrev S1x16x1024x128 : Shape := ⟨4, ![1, 16, 1024, 128]⟩
abbrev S1x16x1024x32 : Shape := ⟨4, ![1, 16, 1024, 32]⟩
abbrev S16640x128 : Shape := ⟨2, ![16640, 128]⟩
abbrev S16640x32 : Shape := ⟨2, ![16640, 32]⟩
abbrev S1x128x16x64 : Shape := ⟨4, ![1, 128, 16, 64]⟩
abbrev S256x16x64 : Shape := ⟨3, ![256, 16, 64]⟩
abbrev S16x16x16x64 : Shape := ⟨4, ![16, 16, 16, 64]⟩
abbrev S256x16x32 : Shape := ⟨3, ![256, 16, 32]⟩
abbrev S16x16x16x32 : Shape := ⟨4, ![16, 16, 16, 32]⟩
abbrev S16x1024x128 : Shape := ⟨3, ![16, 1024, 128]⟩
abbrev S256x128 : Shape := ⟨2, ![256, 128]⟩
abbrev S16x16x128 : Shape := ⟨3, ![16, 16, 128]⟩
abbrev S16x1040x128 : Shape := ⟨3, ![16, 1040, 128]⟩
abbrev S16x1024x32 : Shape := ⟨3, ![16, 1024, 32]⟩
abbrev S256x32 : Shape := ⟨2, ![256, 32]⟩
abbrev S16x16x32 : Shape := ⟨3, ![16, 16, 32]⟩
abbrev S16x1040x32 : Shape := ⟨3, ![16, 1040, 32]⟩
abbrev S128x16x64 : Shape := ⟨3, ![128, 16, 64]⟩
abbrev S16x1040x16x64 : Shape := ⟨4, ![16, 1040, 16, 64]⟩
abbrev S16x16x16x1040 : Shape := ⟨4, ![16, 16, 16, 1040]⟩
abbrev S16x1040x16x16 : Shape := ⟨4, ![16, 1040, 16, 16]⟩
abbrev S_ : Shape := ⟨0, ![]⟩
abbrev S1040 : Shape := ⟨1, ![1040]⟩
abbrev S1x1040 : Shape := ⟨2, ![1, 1040]⟩
abbrev S16 : Shape := ⟨1, ![16]⟩
abbrev S16x1 : Shape := ⟨2, ![16, 1]⟩
abbrev S16x1040 : Shape := ⟨2, ![16, 1040]⟩
abbrev S1x1x16x1040 : Shape := ⟨4, ![1, 1, 16, 1040]⟩
abbrev S16x16x16 : Shape := ⟨3, ![16, 16, 16]⟩
abbrev S16x16x16x1 : Shape := ⟨4, ![16, 16, 16, 1]⟩
abbrev S16x16x64x16 : Shape := ⟨4, ![16, 16, 64, 16]⟩
abbrev S256x1024 : Shape := ⟨2, ![256, 1024]⟩

abbrev nBuf : Space → Nat
  | .hbm => 102
  | .vmem => 0
  | .smem => 0
  | _ => 0

abbrev bufTy : (tb : Table) → Fin (tcTables nBuf tb) → BufTy
  | .hbm, ⟨0, _⟩ => ⟨S16640x16x64, .f32⟩
  | .hbm, ⟨1, _⟩ => ⟨S16640x16x32, .f32⟩
  | .hbm, ⟨2, _⟩ => ⟨S1x16x1024x128, .f32⟩
  | .hbm, ⟨3, _⟩ => ⟨S1x16x1024x32, .f32⟩
  | .hbm, ⟨4, _⟩ => ⟨S16640x128, .f32⟩
  | .hbm, ⟨5, _⟩ => ⟨S16640x32, .f32⟩
  | .hbm, ⟨6, _⟩ => ⟨S1x128x16x64, .f32⟩
  | .hbm, ⟨7, _⟩ => ⟨S1x128x16x64, .f32⟩
  | .hbm, ⟨8, _⟩ => ⟨S256x16x64, .f32⟩
  | .hbm, ⟨9, _⟩ => ⟨S16x16x16x64, .f32⟩
  | .hbm, ⟨10, _⟩ => ⟨S256x16x32, .f32⟩
  | .hbm, ⟨11, _⟩ => ⟨S16x16x16x32, .f32⟩
  | .hbm, ⟨12, _⟩ => ⟨S16x1024x128, .f32⟩
  | .hbm, ⟨13, _⟩ => ⟨S256x128, .f32⟩
  | .hbm, ⟨14, _⟩ => ⟨S16x16x128, .f32⟩
  | .hbm, ⟨15, _⟩ => ⟨S16x1040x128, .f32⟩
  | .hbm, ⟨16, _⟩ => ⟨S16x1024x32, .f32⟩
  | .hbm, ⟨17, _⟩ => ⟨S256x32, .f32⟩
  | .hbm, ⟨18, _⟩ => ⟨S16x16x32, .f32⟩
  | .hbm, ⟨19, _⟩ => ⟨S16x1040x32, .f32⟩
  | .hbm, ⟨20, _⟩ => ⟨S128x16x64, .f32⟩
  | .hbm, ⟨21, _⟩ => ⟨S16x1040x16x64, .f32⟩
  | .hbm, ⟨22, _⟩ => ⟨S128x16x64, .f32⟩
  | .hbm, ⟨23, _⟩ => ⟨S16x1040x16x64, .f32⟩
  | .hbm, ⟨24, _⟩ => ⟨S16x16x16x1040, .f32⟩
  | .hbm, ⟨25, _⟩ => ⟨S16x1040x16x16, .f32⟩
  | .hbm, ⟨26, _⟩ => ⟨S16x16x16x1040, .f32⟩
  | .hbm, ⟨27, _⟩ => ⟨S16x16x16x1040, .f32⟩
  | .hbm, ⟨28, _⟩ => ⟨S_, .f32⟩
  | .hbm, ⟨29, _⟩ => ⟨S_, .f32⟩
  | .hbm, ⟨30, _⟩ => ⟨S16x16x16x1040, .f32⟩
  | .hbm, ⟨31, _⟩ => ⟨S16x16x16x1040, .f32⟩
  | .hbm, ⟨32, _⟩ => ⟨S1040, .i32⟩
  | .hbm, ⟨33, _⟩ => ⟨S_, .i32⟩
  | .hbm, ⟨34, _⟩ => ⟨S_, .i32⟩
  | .hbm, ⟨35, _⟩ => ⟨S1040, .i32⟩
  | .hbm, ⟨36, _⟩ => ⟨S1040, .i32⟩
  | .hbm, ⟨37, _⟩ => ⟨S1040, .i32⟩
  | .hbm, ⟨38, _⟩ => ⟨S_, .i32⟩
  | .hbm, ⟨39, _⟩ => ⟨S1040, .i32⟩
  | .hbm, ⟨40, _⟩ => ⟨S1040, .i1⟩
  | .hbm, ⟨41, _⟩ => ⟨S1040, .i32⟩
  | .hbm, ⟨42, _⟩ => ⟨S1040, .i32⟩
  | .hbm, ⟨43, _⟩ => ⟨S_, .i32⟩
  | .hbm, ⟨44, _⟩ => ⟨S1040, .i32⟩
  | .hbm, ⟨45, _⟩ => ⟨S1040, .i1⟩
  | .hbm, ⟨46, _⟩ => ⟨S1040, .i1⟩
  | .hbm, ⟨47, _⟩ => ⟨S_, .i32⟩
  | .hbm, ⟨48, _⟩ => ⟨S1040, .i32⟩
  | .hbm, ⟨49, _⟩ => ⟨S1040, .i32⟩
  | .hbm, ⟨50, _⟩ => ⟨S1040, .i32⟩
  | .hbm, ⟨51, _⟩ => ⟨S1x1040, .i32⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S16, .i32⟩
  | .hbm, ⟨65, _⟩ => ⟨S16, .i32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S16, .i1⟩
  | .hbm, ⟨70, _⟩ => ⟨S_, .i32⟩
  | .hbm, ⟨71, _⟩ => ⟨S16, .i32⟩
  | .hbm, ⟨72, _⟩ => ⟨S16, .i32⟩
  | .hbm, ⟨73, _⟩ => ⟨S16, .i32⟩
  | .hbm, ⟨74, _⟩ => ⟨S16x1, .i32⟩
  | .hbm, ⟨75, _⟩ => ⟨S16x1040, .i32⟩
  | .hbm, ⟨76, _⟩ => ⟨S16x1040, .i32⟩
  | .hbm, ⟨77, _⟩ => ⟨S16x1040, .i1⟩
  | .hbm, ⟨78, _⟩ => ⟨S1x1x16x1040, .i1⟩
  | .hbm, ⟨79, _⟩ => ⟨S_, .f32⟩
  | .hbm, ⟨80, _⟩ => ⟨S_, .f32⟩
  | .hbm, ⟨81, _⟩ => ⟨S16x16x16x1040, .i1⟩
  | .hbm, ⟨82, _⟩ => ⟨S16x16x16x1040, .f32⟩
  | .hbm, ⟨83, _⟩ => ⟨S16x16x16x1040, .f32⟩
  | .hbm, ⟨84, _⟩ => ⟨S_, .f32⟩
  | .hbm, ⟨85, _⟩ => ⟨S16x16x16, .f32⟩
  | .hbm, ⟨86, _⟩ => ⟨S_, .f32⟩
  | .hbm, ⟨87, _⟩ => ⟨S16x16x16, .f32⟩
  | .hbm, ⟨88, _⟩ => ⟨S16x16x16, .f32⟩
  | .hbm, ⟨89, _⟩ => ⟨S16x16x16x1, .f32⟩
  | .hbm, ⟨90, _⟩ => ⟨S16x16x16x1040, .f32⟩
  | .hbm, ⟨91, _⟩ => ⟨S16x16x16x1040, .f32⟩
  | .hbm, ⟨92, _⟩ => ⟨S16x16x16x1040, .f32⟩
  | .hbm, ⟨93, _⟩ => ⟨S_, .f32⟩
  | .hbm, ⟨94, _⟩ => ⟨S16x16x16, .f32⟩
  | .hbm, ⟨95, _⟩ => ⟨S16x16x16x1, .f32⟩
  | .hbm, ⟨96, _⟩ => ⟨S16x16x16x1040, .f32⟩
  | .hbm, ⟨97, _⟩ => ⟨S16x16x16x1040, .f32⟩
  | .hbm, ⟨98, _⟩ => ⟨S16x16x64x16, .f32⟩
  | .hbm, ⟨99, _⟩ => ⟨S16x16x16x64, .f32⟩
  | .hbm, ⟨100, _⟩ => ⟨S256x1024, .f32⟩
  | .hbm, ⟨101, _⟩ => ⟨S256x1024, .bf16⟩
  | _, _ => ⟨S16640x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_0 : Ref sig .tc := ⟨.hbm, 53, rfl⟩
abbrev main_v27 : Ref sig .tc := ⟨.hbm, 54, rfl⟩
abbrev main_v28 : Ref sig .tc := ⟨.hbm, 55, rfl⟩
abbrev main_c_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_2 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v35 : Ref sig .tc := ⟨.hbm, 83, rfl⟩
abbrev main_cst_3 : Ref sig .tc := ⟨.hbm, 84, rfl⟩
abbrev main_v36 : Ref sig .tc := ⟨.hbm, 85, rfl⟩
abbrev main_cst_4 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_5 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩

abbrev nD : Nat := 1
abbrev τ : Topo := Topo.v7x

variable {F : FTy → Type} [FloatOps F]
-- ==== Kernel6.lean ====
abbrev S16384x1024 : Shape := ⟨2, ![16384, 1024]⟩
abbrev S256x1024 : Shape := ⟨2, ![256, 1024]⟩
abbrev S1x16384x1024 : Shape := ⟨3, ![1, 16384, 1024]⟩
abbrev S16x16x1024 : Shape := ⟨3, ![16, 16, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S1x1024x4 : Shape := ⟨3, ![1, 1024, 4]⟩
abbrev S1024x4 : Shape := ⟨2, ![1024, 4]⟩
abbrev S1x4x1024x8 : Shape := ⟨4, ![1, 4, 1024, 8]⟩
abbrev S4x1024x8 : Shape := ⟨3, ![4, 1024, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1x4 : Shape := ⟨2, ![1, 4]⟩
abbrev S4 : Shape := ⟨1, ![4]⟩
abbrev S1x4x8 : Shape := ⟨3, ![1, 4, 8]⟩
abbrev S4x8 : Shape := ⟨2, ![4, 8]⟩
abbrev S32 : Shape := ⟨1, ![32]⟩
abbrev S36 : Shape := ⟨1, ![36]⟩
abbrev S128 : Shape := ⟨1, ![128]⟩
abbrev S1x1024 : Shape := ⟨2, ![1, 1024]⟩
abbrev S1024 : Shape := ⟨1, ![1024]⟩
abbrev S1x128 : Shape := ⟨2, ![1, 128]⟩
abbrev S1024x1024 : Shape := ⟨2, ![1024, 1024]⟩
abbrev S16640x1024 : Shape := ⟨2, ![16640, 1024]⟩
abbrev S16640x128 : Shape := ⟨2, ![16640, 128]⟩
abbrev S256x128 : Shape := ⟨2, ![256, 128]⟩
abbrev S256 : Shape := ⟨1, ![256]⟩
abbrev S256x1 : Shape := ⟨2, ![256, 1]⟩

abbrev nBuf : Space → Nat
  | .hbm => 50
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1x16384x1024, .f32⟩
  | .hbm, ⟨3, _⟩ => ⟨S16x16x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4, .f32⟩
  | .hbm, ⟨8, _⟩ => ⟨S2x4, .f32⟩
  | .hbm, ⟨9, _⟩ => ⟨S2x4x1024x8, .f32⟩
  | .hbm, ⟨10, _⟩ => ⟨S2x4x8, .f32⟩
  | .hbm, ⟨11, _⟩ => ⟨S1x1024x4, .f32⟩
  | .hbm, ⟨12, _⟩ => ⟨S1024x4, .f32⟩
  | .hbm, ⟨13, _⟩ => ⟨S1x4x1024x8, .f32⟩
  | .hbm, ⟨14, _⟩ => ⟨S4x1024x8, .f32⟩
  | .hbm, ⟨15, _⟩ => ⟨S1024x4x8, .f32⟩
  | .hbm, ⟨16, _⟩ => ⟨S1024x32, .f32⟩
  | .hbm, ⟨17, _⟩ => ⟨S1024x36, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S1x4, .f32⟩
  | .hbm, ⟨26, _⟩ => ⟨S4, .f32⟩
  | .hbm, ⟨27, _⟩ => ⟨S1x4x8, .f32⟩
  | .hbm, ⟨28, _⟩ => ⟨S4x8, .f32⟩
  | .hbm, ⟨29, _⟩ => ⟨S32, .f32⟩
  | .hbm, ⟨30, _⟩ => ⟨S36, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x128, .f32⟩
  | .hbm, ⟨41, _⟩ => ⟨S16384x1024, .bf16⟩
  | .hbm, ⟨42, _⟩ => ⟨S256x1024, .bf16⟩
  | .hbm, ⟨43, _⟩ => ⟨S16384x1024, .f32⟩
  | .hbm, ⟨44, _⟩ => ⟨S256x1024, .f32⟩
  | .hbm, ⟨45, _⟩ => ⟨S1024x1024, .f32⟩
  | .hbm, ⟨46, _⟩ => ⟨S1024x1024, .bf16⟩
  | .hbm, ⟨47, _⟩ => ⟨S16640x1024, .f32⟩
  | .hbm, ⟨48, _⟩ => ⟨S16640x1024, .bf16⟩
  | .hbm, ⟨49, _⟩ => ⟨S16640x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S1024x128, .bf16⟩
  | .local _ .vmem, ⟨13, _⟩ => ⟨S1x128, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x128, .f32⟩
  | .local _ .vmem, ⟨19, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel6Ideal.lean ====
variable {F : FTy → Type} [FloatOps F] [Named F]
def κ : String → Option EReal := fun
  | "mask6" => some ⊥
  | _ => none
-- ==== Reference6Ideal.lean ====
abbrev S16384x1024 : Shape := ⟨2, ![16384, 1024]⟩
abbrev S256x1024 : Shape := ⟨2, ![256, 1024]⟩
abbrev S1x16384x1024 : Shape := ⟨3, ![1, 16384, 1024]⟩
abbrev S16x16x1024 : Shape := ⟨3, ![16, 16, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S16640x1024 : Shape := ⟨2, ![16640, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S16640 : Shape := ⟨1, ![16640]⟩
abbrev S16640x1 : Shape := ⟨2, ![16640, 1]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x4x1024x8 : Shape := ⟨4, ![1, 4, 1024, 8]⟩
abbrev S4x1024x8 : Shape := ⟨3, ![4, 1024, 8]⟩
abbrev S1x4x8 : Shape := ⟨3, ![1, 4, 8]⟩
abbrev S4x8 : Shape := ⟨2, ![4, 8]⟩
abbrev S16640x4 : Shape := ⟨2, ![16640, 4]⟩
abbrev S16640x4x8 : Shape := ⟨3, ![16640, 4, 8]⟩
abbrev S16640x1x1 : Shape := ⟨3, ![16640, 1, 1]⟩
abbrev S1 : Shape := ⟨1, ![1]⟩
abbrev S1x1x1 : Shape := ⟨3, ![1, 1, 1]⟩
abbrev S16640x1x8 : Shape := ⟨3, ![16640, 1, 8]⟩
abbrev S16640x8 : Shape := ⟨2, ![16640, 8]⟩
abbrev S16640x2 : Shape := ⟨2, ![16640, 2]⟩
abbrev S16640x124 : Shape := ⟨2, ![16640, 124]⟩
abbrev S16640x128 : Shape := ⟨2, ![16640, 128]⟩

abbrev nBuf : Space → Nat
  | .hbm => 148
  | .vmem => 0
  | .smem => 0
  | _ => 0

abbrev hbmTy0_0 (i : Nat) : BufTy := match i % 128 with
  | 0 => ⟨S16384x1024, .f32⟩
  | 1 => ⟨S256x1024, .f32⟩
  | 2 => ⟨S1x16384x1024, .f32⟩
  | 3 => ⟨S16x16x1024, .f32⟩
  | 4 => ⟨S1x1024x1024, .f32⟩
  | 5 => ⟨S2x1024, .f32⟩
  | 6 => ⟨S2x1024, .f32⟩
  | 7 => ⟨S2x1024x4, .f32⟩
  | 8 => ⟨S2x4, .f32⟩
  | 9 => ⟨S2x4x1024x8, .f32⟩
  | 10 => ⟨S2x4x8, .f32⟩
  | 11 => ⟨S16640x1024, .f32⟩
  | 12 => ⟨S16384x1024, .f32⟩
  | 13 => ⟨S256x1024, .f32⟩
  | 14 => ⟨S16640x1024, .f32⟩
  | 15 => ⟨S_, .f32⟩
  | 16 => ⟨S16640x1024, .f32⟩
  | 17 => ⟨S16640x1024, .f32⟩
  | 18 => ⟨S1024x1024, .f32⟩
  | 19 => ⟨S16640x1024, .f32⟩
  | 20 => ⟨S16640x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S16640, .f32⟩
  | 27 => ⟨S16640x1, .f32⟩
  | 28 => ⟨S_, .f32⟩
  | 29 => ⟨S16640x1, .f32⟩
  | 30 => ⟨S16640x1, .f32⟩
  | 31 => ⟨S16640x1024, .f32⟩
  | 32 => ⟨S16640x1024, .f32⟩
  | 33 => ⟨S16640x1024, .f32⟩
  | 34 => ⟨S_, .f32⟩
  | 35 => ⟨S16640, .f32⟩
  | 36 => ⟨S16640x1, .f32⟩
  | 37 => ⟨S_, .f32⟩
  | 38 => ⟨S16640x1, .f32⟩
  | 39 => ⟨S16640x1, .f32⟩
  | 40 => ⟨S16640x1024, .f32⟩
  | 41 => ⟨S16640x1024, .f32⟩
  | 42 => ⟨S_, .f32⟩
  | 43 => ⟨S16640x1, .f32⟩
  | 44 => ⟨S16640x1, .f32⟩
  | 45 => ⟨S16640x1, .f32⟩
  | 46 => ⟨S16640x1024, .f32⟩
  | 47 => ⟨S16640x1024, .f32⟩
  | 48 => ⟨S1x1024, .f32⟩
  | 49 => ⟨S16640x1024, .f32⟩
  | 50 => ⟨S16640x1024, .f32⟩
  | 51 => ⟨S1x1024, .f32⟩
  | 52 => ⟨S16640x1024, .f32⟩
  | 53 => ⟨S16640x1024, .f32⟩
  | 54 => ⟨S1x1024x4, .f32⟩
  | 55 => ⟨S1024x4, .f32⟩
  | 56 => ⟨S1x4, .f32⟩
  | 57 => ⟨S4, .f32⟩
  | 58 => ⟨S1x4x1024x8, .f32⟩
  | 59 => ⟨S4x1024x8, .f32⟩
  | 60 => ⟨S1x4x8, .f32⟩
  | 61 => ⟨S4x8, .f32⟩
  | 62 => ⟨S16640x4, .f32⟩
  | 63 => ⟨S1x4, .f32⟩
  | 64 => ⟨S16640x4, .f32⟩
  | 65 => ⟨S16640x4, .f32⟩
  | 66 => ⟨S16640x1, .f32⟩
  | 67 => ⟨S16640x1, .i32⟩
  | 68 => ⟨S16640, .i32⟩
  | 69 => ⟨S_, .f32⟩
  | 70 => ⟨S16640, .f32⟩
  | 71 => ⟨S_, .f32⟩
  | 72 => ⟨S16640, .f32⟩
  | 73 => ⟨S16640, .f32⟩
  | 74 => ⟨S16640x1, .f32⟩
  | 75 => ⟨S16640x4, .f32⟩
  | 76 => ⟨S16640x4, .f32⟩
  | 77 => ⟨S16640x4, .f32⟩
  | 78 => ⟨S_, .f32⟩
  | 79 => ⟨S16640, .f32⟩
  | 80 => ⟨S16640x1, .f32⟩
  | 81 => ⟨S16640x4, .f32⟩
  | 82 => ⟨S16640x4, .f32⟩
  | 83 => ⟨S_, .f32⟩
  | 84 => ⟨S16640, .f32⟩
  | 85 => ⟨S16640x4x8, .f32⟩
  | 86 => ⟨S1x4x8, .f32⟩
  | 87 => ⟨S16640x4x8, .f32⟩
  | 88 => ⟨S16640x4x8, .f32⟩
  | 89 => ⟨S16640x1x1, .i32⟩
  | 90 => ⟨S_, .i32⟩
  | 91 => ⟨S16640x1x1, .i32⟩
  | 92 => ⟨S16640x1x1, .i1⟩
  | 93 => ⟨S_, .i32⟩
  | 94 => ⟨S16640x1x1, .i32⟩
  | 95 => ⟨S16640x1x1, .i32⟩
  | 96 => ⟨S16640x1x1, .i32⟩
  | 97 => ⟨S1, .i32⟩
  | 98 => ⟨S_, .i32⟩
  | 99 => ⟨S16640x1x1, .i32⟩
  | 100 => ⟨S16640x1x1, .i1⟩
  | 101 => ⟨S1x1x1, .i32⟩
  | 102 => ⟨S16640x1x1, .i32⟩
  | 103 => ⟨S16640x1x1, .i1⟩
  | 104 => ⟨S16640x1x1, .i1⟩
  | 105 => ⟨S_, .i1⟩
  | 106 => ⟨S16640x1, .i1⟩
  | 107 => ⟨S16640x1x8, .f32⟩
  | 108 => ⟨S16640x1x8, .i1⟩
  | 109 => ⟨S_, .f32⟩
  | 110 => ⟨S16640x1x8, .f32⟩
  | 111 => ⟨S16640x1x8, .f32⟩
  | 112 => ⟨S16640x8, .f32⟩
  | 113 => ⟨S_, .f32⟩
  | 114 => ⟨S16640, .f32⟩
  | 115 => ⟨S_, .f32⟩
  | 116 => ⟨S16640, .f32⟩
  | 117 => ⟨S16640, .f32⟩
  | 118 => ⟨S16640x1, .f32⟩
  | 119 => ⟨S16640x8, .f32⟩
  | 120 => ⟨S16640x8, .f32⟩
  | 121 => ⟨S16640x8, .f32⟩
  | 122 => ⟨S_, .f32⟩
  | 123 => ⟨S16640, .f32⟩
  | 124 => ⟨S16640x1, .f32⟩
  | 125 => ⟨S16640x8, .f32⟩
  | 126 => ⟨S16640x8, .f32⟩
  | 127 => ⟨S16640x2, .f32⟩
  | _ => ⟨S16384x1024, .f32⟩

abbrev hbmTy0_1 (i : Nat) : BufTy := match i % 128 with
  | 0 => ⟨S16640x2, .i32⟩
  | 1 => ⟨S_, .f32⟩
  | 2 => ⟨S16640, .f32⟩
  | 3 => ⟨S16640x1, .f32⟩
  | 4 => ⟨S16640x2, .f32⟩
  | 5 => ⟨S16640x2, .f32⟩
  | 6 => ⟨S16640x1, .i32⟩
  | 7 => ⟨S_, .i32⟩
  | 8 => ⟨S16640x1, .i32⟩
  | 9 => ⟨S16640x1, .i32⟩
  | 10 => ⟨S16640x2, .i32⟩
  | 11 => ⟨S16640x2, .i32⟩
  | 12 => ⟨S16640x1, .f32⟩
  | 13 => ⟨S16640x2, .f32⟩
  | 14 => ⟨S16640x2, .f32⟩
  | 15 => ⟨S16640x1024, .bf16⟩
  | 16 => ⟨S_, .f32⟩
  | 17 => ⟨S16640x124, .f32⟩
  | 18 => ⟨S16640x2, .f32⟩
  | 19 => ⟨S16640x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_values : Ref sig .tc := ⟨.hbm, 66, rfl⟩
abbrev main_indices : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call0_c : Ref sig .tc := ⟨.hbm, 90, rfl⟩
abbrev main_call0_v0 : Ref sig .tc := ⟨.hbm, 91, rfl⟩
abbrev main_call0_v1 : Ref sig .tc := ⟨.hbm, 92, rfl⟩
abbrev main_call0_c_0 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_1 : Ref sig .tc := ⟨.hbm, 97, rfl⟩
abbrev main_call0_c_2 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_call0_c_3 : Ref sig .tc := ⟨.hbm, 105, rfl⟩
abbrev main_call0_v11 : Ref sig .tc := ⟨.hbm, 106, rfl⟩
abbrev main_call0_v12 : Ref sig .tc := ⟨.hbm, 107, rfl⟩
abbrev main_call0_v13 : Ref sig .tc := ⟨.hbm, 108, rfl⟩
abbrev main_call0_cst : Ref sig .tc := ⟨.hbm, 109, rfl⟩
abbrev main_call0_v14 : Ref sig .tc := ⟨.hbm, 110, rfl⟩
abbrev main_v67 : Ref sig .tc := ⟨.hbm, 111, rfl⟩
abbrev main_v68 : Ref sig .tc := ⟨.hbm, 112, rfl⟩
abbrev main_cst_9 : Ref sig .tc := ⟨.hbm, 113, rfl⟩
abbrev main_v69 : Ref sig .tc := ⟨.hbm, 114, rfl⟩
abbrev main_cst_10 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_11 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_values_12 : Ref sig .tc := ⟨.hbm, 127, rfl⟩
abbrev main_indices_13 : Ref sig .tc := ⟨.hbm, 128, rfl⟩
abbrev main_cst_14 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_c : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_15 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.BodyIdeal.lean ====
/-
  The prompt attention's body, run once at a symbolic grid point: what one trip of the loop over the unmasked key blocks
  does to the two heads' running maxima and accumulators, the state after the trips, the diagonal part's update in either
  branch of the switch, and what the body leaves in the output block as a function of the three input blocks.
-/
module

public import proofs.«01_k».proof.Proof.Gen.KernelIdeal
public import proofs.«01_k».proof.Proof.Gen.KernelIdeal.Loops
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The carried state: head 0's running maximum and accumulator, then head 1's. -/
abbrev State (F : FTy → Type) : Type := FVec F S1024x1 .f32 × FVec F S1024x128 .f32 × FVec F S1024x1 .f32 × FVec F S1024x128 .f32

/-- Head 0's and head 1's slots of the query block. -/
abbrev rq0 : Rect S1024x256 := Rect.unit (s := S1024x256) ![0, 0] S1024x128.size inb_S1024x256_S1024x128_0_0
abbrev rq1 : Rect S1024x256 := Rect.unit (s := S1024x256) ![0, 128] S1024x128.size inb_S1024x256_S1024x128_0_128

/-- Trip `k`'s rows of the key (and value) block, head 0's slot and head 1's. -/
abbrev rk0 (i : grid0.Coords) (k : Fin (k0_t1_loop i).trips) : Rect S16384x256 :=
  Rect.unit (s := S16384x256) (k0_off1 i k) S2048x128.size (k0_off1_inb i k)
abbrev rk1 (i : grid0.Coords) (k : Fin (k0_t1_loop i).trips) : Rect S16384x256 :=
  Rect.unit (s := S16384x256) (k0_off2 i k) S2048x128.size (k0_off2_inb i k)

/-- One trip over an unmasked key block: both heads' maxima and accumulators updated. -/
def step (i : grid0.Coords) (x0 : Vec F S1024x256 .bf16) (x1 x2 : Vec F S16384x256 .bf16) (k : Fin (k0_t1_loop i).trips)
    (s : State F) : State F :=
  (k0_pay6 s.1 (View.ld x0 rq0) (View.ld x1 (rk0 i k)),
   k0_pay7 s.1 s.2.1 (View.ld x0 rq0) (View.ld x1 (rk0 i k)) (View.ld x2 (rk0 i k)),
   k0_pay9 s.2.2.1 (View.ld x0 rq1) (View.ld x1 (rk1 i k)),
   k0_pay33 s.2.2.2 (k0_pay10 s.2.2.1 (View.ld x0 rq1) (View.ld x1 (rk1 i k)) (View.ld x2 (rk1 i k)))
     (k0_pay11 s.2.2.1 (View.ld x0 rq1) (View.ld x1 (rk1 i k))))

theorem tripR_eq (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (X2 : BufTy.Contents (Elt F) arg2.view.ty) (X3 : BufTy.Contents (Elt F) arg3.view.ty) (X4 : BufTy.Contents (Elt F) arg4.view.ty) (k : Fin (k0_t1_loop i).trips) (s : State F) :
    tripR_k0_t1 (F := F) 𝒱 c bd i arg2 harg2 arg3 harg3 arg4 harg4 arg5 harg5 X2 X3 X4 k s
      = step i (arg2.view.read (Elt F) X2) (arg3.view.read (Elt F) X3) (arg4.view.read (Elt F) X4) k s := by
  unfold tripR_k0_t1 trip_k0_t1
  rfl

/-- The state the loop starts from. -/
def st0 : State F := (k0_pay29 (F := F), k0_pay30 (F := F), k0_pay31 (F := F), k0_pay32 (F := F))

/-- The state before trip `k`. -/
def accAt (i : grid0.Coords) (x0 : Vec F S1024x256 .bf16) (x1 x2 : Vec F S16384x256 .bf16) : ℕ → State F
  | 0 => st0
  | k + 1 => if h : k < (k0_t1_loop i).trips then step i x0 x1 x2 ⟨k, h⟩ (accAt i x0 x1 x2 k) else accAt i x0 x1 x2 k

theorem st_eq (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (X2 : BufTy.Contents (Elt F) arg2.view.ty) (X3 : BufTy.Contents (Elt F) arg3.view.ty) (X4 : BufTy.Contents (Elt F) arg4.view.ty) (k : ℕ) (hk : k ≤ (k0_t1_loop i).trips) :
    st_k0_t1 (F := F) 𝒱 c bd i arg2 harg2 arg3 harg3 arg4 harg4 arg5 harg5 X2 X3 X4 st0 k
      = accAt i (arg2.view.read (Elt F) X2) (arg3.view.read (Elt F) X3) (arg4.view.read (Elt F) X4) k := by
  induction k with
  | zero => rfl
  | succ k ih =>
    have h : k < (k0_t1_loop i).trips := hk
    refine (st_k0_t1_succ (F := F) 𝒱 c bd i arg2 harg2 arg3 harg3 arg4 harg4 arg5 harg5 X2 X3 X4 st0 ⟨k, h⟩).trans ?_
    rw [tripR_eq, ih (Nat.le_of_lt h), accAt, dif_pos h]

/-- The second loop, over what a step leaves beyond the first, makes no trip. -/
theorem trips2 (i : grid0.Coords) : (k0_t2_loop i).trips = 0 := Nat.le_zero.1 (k0_t2_abs i).2.1

theorem st2_last (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (v : BitVec 32) (X2 : BufTy.Contents (Elt F) arg2.view.ty) (X3 : BufTy.Contents (Elt F) arg3.view.ty) (X4 : BufTy.Contents (Elt F) arg4.view.ty) (init : State F) :
    st_k0_t2 (F := F) 𝒱 c bd i arg2 harg2 arg3 harg3 arg4 harg4 arg5 harg5 v X2 X3 X4 init (Scf.trips (k0_t2_loop i).lb (k0_t2_loop i).ub (k0_t2_loop i).st) = init := by
  rw [show Scf.trips (k0_t2_loop i).lb (k0_t2_loop i).ub (k0_t2_loop i).st = 0 from trips2 i]
  exact st_k0_t2_zero ..

theorem st1_last (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (X2 : BufTy.Contents (Elt F) arg2.view.ty) (X3 : BufTy.Contents (Elt F) arg3.view.ty) (X4 : BufTy.Contents (Elt F) arg4.view.ty) :
    st_k0_t1 (F := F) 𝒱 c bd i arg2 harg2 arg3 harg3 arg4 harg4 arg5 harg5 X2 X3 X4 (k0_pay29 (F := F), k0_pay30 (F := F), k0_pay31 (F := F), k0_pay32 (F := F))
        (Scf.trips (k0_t1_loop i).lb (k0_t1_loop i).ub (k0_t1_loop i).st)
      = accAt i (arg2.view.read (Elt F) X2) (arg3.view.read (Elt F) X3) (arg4.view.read (Elt F) X4) (k0_t1_loop i).trips :=
  st_eq 𝒱 c bd i arg2 harg2 arg3 harg3 arg4 harg4 arg5 harg5 X2 X3 X4 (k0_t1_loop i).trips le_rfl

/-- The mask's row and column chunk numbers in the branch that takes two query blocks' keys. -/
abbrev rowChunk2 : IVec S1024x2048 32 := k0_pay40
abbrev colChunk2 : IVec S1024x2048 32 :=
  k0_pay1 (iota .tc S1024x2048 32 [1] iota_S1024x2048_d1_w32) 64#32 k0_pay41 k0_pay42
    (Scalar.subi (Scalar.extui (Scalar.cmpi .sgt 64#32 0#32)) (Scalar.extui (Scalar.cmpi .slt 64#32 0#32)))

/-- The same in the branch that takes one. -/
abbrev rowChunk1 : IVec S1024x1024 32 := k0_pay35
abbrev colChunk1 : IVec S1024x1024 32 := k0_pay39 k0_pay36 k0_pay37 k0_pay38

abbrev r2h0 (i : grid0.Coords) (h : k0_cond1 i = 1#1) : Rect S16384x256 :=
  Rect.unit (s := S16384x256) (k0_off5 i) S2048x128.size (k0_off5_inb i h)
abbrev r2h1 (i : grid0.Coords) (h : k0_cond1 i = 1#1) : Rect S16384x256 :=
  Rect.unit (s := S16384x256) (k0_off6 i) S2048x128.size (k0_off6_inb i h)
abbrev r1h0 (i : grid0.Coords) (h : ¬ k0_cond1 i = 1#1) : Rect S16384x256 :=
  Rect.unit (s := S16384x256) (k0_off7 i) S1024x128.size (k0_off7_inb i h)
abbrev r1h1 (i : grid0.Coords) (h : ¬ k0_cond1 i = 1#1) : Rect S16384x256 :=
  Rect.unit (s := S16384x256) (k0_off8 i) S1024x128.size (k0_off8_inb i h)

/-- The switch's branch for an odd query block: the accumulators after the 2048 keys that end at its own. -/
def tail2 (i : grid0.Coords) (h : k0_cond1 i = 1#1) (x0 : Vec F S1024x256 .bf16) (x1 x2 : Vec F S16384x256 .bf16) (s : State F) :
    FVec F S1024x128 .f32 × FVec F S1024x128 .f32 :=
  (k0_pay20 s.1 s.2.1 rowChunk2 colChunk2 (View.ld x0 rq0) (View.ld x1 (r2h0 i h)) (View.ld x2 (r2h0 i h)),
   k0_pay2 s.2.2.1 s.2.2.2 (k0_pay22 s.2.2.1 rowChunk2 colChunk2 (View.ld x0 rq1) (View.ld x1 (r2h1 i h)))
     (k0_pay23 s.2.2.1 rowChunk2 colChunk2 (View.ld x0 rq1) (View.ld x1 (r2h1 i h))) (View.ld x2 (r2h1 i h)))

/-- The branch for an even query block: the accumulators after its own 1024 keys. -/
def tail1 (i : grid0.Coords) (h : ¬ k0_cond1 i = 1#1) (x0 : Vec F S1024x256 .bf16) (x1 x2 : Vec F S16384x256 .bf16) (s : State F) :
    FVec F S1024x128 .f32 × FVec F S1024x128 .f32 :=
  (k0_pay25 s.1 s.2.1 rowChunk1 colChunk1 (View.ld x0 rq0) (View.ld x1 (r1h0 i h)) (View.ld x2 (r1h0 i h)),
   k0_pay3 s.2.2.1 s.2.2.2 (k0_pay27 s.2.2.1 rowChunk1 colChunk1 (View.ld x0 rq1) (View.ld x1 (r1h1 i h)))
     (k0_pay28 s.2.2.1 rowChunk1 colChunk1 (View.ld x0 rq1) (View.ld x1 (r1h1 i h))) (View.ld x2 (r1h1 i h)))

/-- Both heads' final accumulators. -/
def tail (i : grid0.Coords) (x0 : Vec F S1024x256 .bf16) (x1 x2 : Vec F S16384x256 .bf16) (s : State F) :
    FVec F S1024x128 .f32 × FVec F S1024x128 .f32 :=
  if h : k0_cond1 i = 1#1 then tail2 i h x0 x1 x2 s else tail1 i h x0 x1 x2 s

/-- The block the body stores. -/
def blockVal (i : grid0.Coords) (x0 : Vec F S1024x256 .bf16) (x1 x2 : Vec F S16384x256 .bf16) : FVec F S1024x128 .bf16 :=
  k0_pay4 (tail i x0 x1 x2 (accAt i x0 x1 x2 (k0_t1_loop i).trips)).1 (tail i x0 x1 x2 (accAt i x0 x1 x2 (k0_t1_loop i).trips)).2

abbrev rOut : Rect S1024x128 := Rect.unit (s := S1024x128) ![0, 0] S1024x128.size inb_S1024x128_S1024x128_0_0

/-- What the output window holds after the body. -/
def out0_3 (i : grid0.Coords) (x0 : Vec F S1024x256 .bf16) (x1 x2 : Vec F S16384x256 .bf16) : Vec F S1024x128 .bf16 :=
  View.canon [⟨rOut, blockVal i x0 x1 x2⟩]

/-- The one store writes the whole block. -/
theorem cover0_3 (p : FVec F S1024x128 .bf16) (y : S1024x128.Idx) :
    ∃ pc ∈ ([⟨rOut, p⟩] : List (View.Piece (Elt F) S1024x128 .bf16)), y ∈ pc.1.set :=
  View.cover_of_tiled _ S1024x128.size (by rfl) y

set_option maxHeartbeats 1000000 in
/-- The body on the three input blocks: it leaves them as they are and the output block holding `out0_3`. -/
theorem sound_kernel (c : Dev nD) (E : Set ℕ) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole)
    (x0 : Vec F S1024x256 .bf16) (x1 x2 : Vec F S16384x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0_prompt_attention i arg2 harg2 arg3 harg3 arg4 harg4 arg5 harg5) K := by
  simp only [cc0_prompt_attention_eq_skeleton]
  unfold cc0_prompt_attention_skel
  simp only [k0_part5_eq_skeleton, k0_part6_eq_skeleton, k0_part7_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  by_cases hc : k0_cond1 i = 1#1
  · simp only [dif_pos hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr; swap
    · iexact H3
    ipureintro
    refine (View.read_writes_eq_canon _ _ _ (cover0_3 _)).trans ?_
    unfold out0_3 blockVal tail tail2
    simp only [dif_pos hc]
    delta sound_kernel.sl.r_4 sound_kernel.sl.r_5 sound_kernel.sl.r_6
    delta sound_kernel.sl.r sound_kernel.sl.r_1 sound_kernel.sl.r_2 sound_kernel.sl.r_3
    rw [st2_last, st1_last]
    rfl
  · simp only [dif_neg hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr; swap
    · iexact H3
    ipureintro
    refine (View.read_writes_eq_canon _ _ _ (cover0_3 _)).trans ?_
    unfold out0_3 blockVal tail tail1
    simp only [dif_neg hc]
    delta sound_kernel.sl.r_11 sound_kernel.sl.r_12 sound_kernel.sl.r_13
    delta sound_kernel.sl.r_7 sound_kernel.sl.r_8 sound_kernel.sl.r_9 sound_kernel.sl.r_10
    rw [st2_last, st1_last]
    rfl

end Cert.KernelIdeal.Att

end
-- ==== Proof.RunIdeal.lean ====
/-
  The whole run: the proof data of the pipeline (each input block left in place, the output block at what the body leaves),
  the body's obligation at a grid point, and the run of `main` with the arrays it ends on.
-/
module

public import proofs.«01_k».proof.Proof.BodyIdeal
public import Idealize.ShloMosaic.Lib.Pipeline.FrameBody
public import Idealize.ShloMosaic.Lib.Pipeline.Kit
public import Idealize.ShloMosaic.Lib.Tactic
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data on device `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]
  · iexact H0
  isplitl [H1]
  · iexact H1
  isplitl [H2]
  · iexact H2
  isplitl [H3]
  · iexists _
    iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution of `main` ends, with the pipeline's arrays at what the blocks leave, every other buffer as
    the host left it, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)
    (hQ' := fun _ h => h)

/-- The arguments end as they started and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Att

end
-- ==== Proof.Math.lean ====
/-
  The running softmax over the extended reals, apart from any program.

  A row keeps the largest score seen so far and, per output lane, the sum of the seen keys' values
  weighted by two to the power of score minus that largest one. `Seen` says which keys a pair of such
  numbers stands for; a block of further keys extends it; and the quotient of two lanes forgets the
  largest score.
-/
module

public import Idealize.ShloMosaic.Lib.Pointwise

@[expose] public section

noncomputable section

namespace Cert.Softmax

open Idealize.ShloMosaic

/-- A finite real times a sum: the factor goes inside, on the right, when it is not negative. -/
theorem sum_mul_coe {ι : Type*} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, ← ih,
      EReal.right_distrib_of_nonneg_of_ne_top (by exact_mod_cast hc) (EReal.coe_ne_top c)]

theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, ← ih, EReal.coe_add]

/-- The largest of finitely many values, none `⊤` and one of them real, is real. -/
theorem fold_max_real {ι : Type*} [Fintype ι] (m : EReal) (s : ι → EReal) (hm : m ≠ ⊤) (hs : ∀ t, s t ≠ ⊤)
    (hr : ∃ t, s t ≠ ⊥) : ∃ μ : ℝ, max m (Finset.univ.fold max ⊥ s) = (μ : EReal) := by
  have hfold : Finset.univ.fold max ⊥ s = Finset.univ.sup s := rfl
  have h1 : Finset.univ.sup s < ⊤ := (Finset.sup_lt_iff (by simp)).2 fun t _ => lt_top_iff_ne_top.2 (hs t)
  obtain ⟨t, ht⟩ := hr
  have h2 : ⊥ < Finset.univ.sup s := lt_of_lt_of_le (bot_lt_iff_ne_bot.2 ht) (Finset.le_sup (Finset.mem_univ t))
  refine ⟨(max m (Finset.univ.fold max ⊥ s)).toReal, (EReal.coe_toReal ?_ ?_).symm⟩
  · rw [hfold]; exact (max_lt (lt_top_iff_ne_top.2 hm) h1).ne
  · rw [hfold]; exact (lt_of_lt_of_le h2 (le_max_right _ _)).ne'

/-- `m` and `a` stand for the keys in `S`, with scores `σ` in base two and values `V`. -/
def Seen (σ : ℕ → ℝ) (V : ℕ → EReal) (S : Finset ℕ) (m a : EReal) : Prop :=
  (S = ∅ ∧ m = ⊥ ∧ a = 0) ∨
    ∃ μ : ℝ, m = (μ : EReal) ∧ a = ∑ j ∈ S, V j * (((2 : ℝ) ^ (σ j - μ) : ℝ) : EReal)

theorem Seen.start (σ : ℕ → ℝ) (V : ℕ → EReal) : Seen σ V ∅ ⊥ 0 := Or.inl ⟨rfl, rfl, rfl⟩

/-- A sum over a block of `n` keys from `base` of which only those in `T` count. -/
theorem sum_block {n : ℕ} (T : Finset ℕ) (base : ℕ) (f : Fin n → EReal) (g : ℕ → EReal)
    (hin : ∀ t : Fin n, base + t.val ∈ T → f t = g (base + t.val)) (hout : ∀ t : Fin n, base + t.val ∉ T → f t = 0)
    (hT : ∀ j ∈ T, base ≤ j ∧ j < base + n) : ∑ t, f t = ∑ j ∈ T, g j := by
  classical
  rw [← Finset.sum_filter_add_sum_filter_not Finset.univ (fun t : Fin n => base + t.val ∈ T),
    Finset.sum_eq_zero (s := Finset.univ.filter fun t : Fin n => ¬ base + t.val ∈ T)
      (fun t ht => hout t (Finset.mem_filter.1 ht).2), add_zero]
  refine Finset.sum_bij (fun t _ => base + t.val) (fun t ht => (Finset.mem_filter.1 ht).2) ?_ ?_ ?_
  · intro a _ b _ h; exact Fin.ext (by omega)
  · intro j hj
    obtain ⟨h1, h2⟩ := hT j hj
    have hb : base + (j - base) = j := by omega
    exact ⟨⟨j - base, by omega⟩, Finset.mem_filter.2 ⟨Finset.mem_univ _, by simpa [hb] using hj⟩, hb⟩
  · intro t ht; exact hin t (Finset.mem_filter.1 ht).2

theorem exp2_real (x : ℝ) : Ideal.exp2 (x : EReal) = (((2 : ℝ) ^ x : ℝ) : EReal) := rfl

/-- One block of keys folded in. -/
theorem Seen.step {n : ℕ} {σ : ℕ → ℝ} {V : ℕ → EReal} {S : Finset ℕ} {m a : EReal} (T : Finset ℕ) (base : ℕ)
    (s W : Fin n → EReal) (hW : ∀ t, W t = V (base + t.val))
    (hin : ∀ t, base + t.val ∈ T → s t = (σ (base + t.val) : EReal)) (hout : ∀ t, base + t.val ∉ T → s t = ⊥)
    (hT : ∀ j ∈ T, base ≤ j ∧ j < base + n) (hne : T.Nonempty) (hd : Disjoint S T) (h : Seen σ V S m a) :
    Seen σ V (S ∪ T) (max m (Finset.univ.fold max ⊥ s))
      (a * Ideal.exp2 (m - max m (Finset.univ.fold max ⊥ s))
        + ∑ t, Ideal.exp2 (s t - max m (Finset.univ.fold max ⊥ s)) * W t) := by
  classical
  have hm : m ≠ ⊤ := by
    rcases h with ⟨_, h, _⟩ | ⟨μ, h, _⟩
    · rw [h]; exact bot_ne_top
    · rw [h]; exact EReal.coe_ne_top μ
  have hs : ∀ t, s t ≠ ⊤ := fun t => by
    by_cases ht : base + t.val ∈ T
    · rw [hin t ht]; exact EReal.coe_ne_top _
    · rw [hout t ht]; exact bot_ne_top
  have hr : ∃ t, s t ≠ ⊥ := by
    obtain ⟨j, hj⟩ := hne
    obtain ⟨h1, h2⟩ := hT j hj
    have hb : base + (j - base) = j := by omega
    refine ⟨⟨j - base, by omega⟩, ?_⟩
    rw [hin _ (by simpa [hb] using hj)]; exact EReal.coe_ne_bot _
  obtain ⟨μ', hμ'⟩ := fold_max_real m s hm hs hr
  rw [hμ']
  have hblk : ∑ t, Ideal.exp2 (s t - (μ' : EReal)) * W t
      = ∑ j ∈ T, V j * (((2 : ℝ) ^ (σ j - μ') : ℝ) : EReal) := by
    refine sum_block T base _ _ (fun t ht => ?_) (fun t ht => ?_) hT
    · rw [hin t ht, hW, ← EReal.coe_sub, exp2_real, mul_comm]
    · rw [hout t ht, EReal.bot_sub, Ideal.exp2_bot, zero_mul]
  refine Or.inr ⟨μ', rfl, ?_⟩
  rw [hblk, Finset.sum_union hd]
  congr 1
  rcases h with ⟨hS, _, ha⟩ | ⟨μ, hmu, ha⟩
  · rw [hS, ha, zero_mul, Finset.sum_empty]
  · rw [ha, hmu, ← EReal.coe_sub, exp2_real, sum_mul_coe _ _ (by positivity)]
    refine Finset.sum_congr rfl fun j _ => ?_
    rw [mul_assoc, ← EReal.coe_mul, ← Real.rpow_add (by norm_num)]
    congr 3; ring

/-- The share of key `j` among the keys `S`, with scores `τ`. -/
def share (τ : ℕ → ℝ) (S : Finset ℕ) (j : ℕ) : ℝ := Real.exp (τ j) / ∑ i ∈ S, Real.exp (τ i)

theorem two_rpow (x μ : ℝ) : (2 : ℝ) ^ (x / Real.log 2 - μ) = Real.exp x * (2 : ℝ) ^ (-μ) := by
  rw [sub_eq_add_neg, Real.rpow_add (by norm_num)]
  congr 1
  have h2 : Real.log 2 ≠ 0 := (Real.log_pos (by norm_num)).ne'
  rw [Real.rpow_def_of_pos (by norm_num)]
  congr 1; field_simp

/-- A lane over the lane that counts the weights is the softmax-weighted sum. -/
theorem Seen.quotient {τ : ℕ → ℝ} {V U : ℕ → EReal} {S : Finset ℕ} {m a l : EReal} (hS : S.Nonempty)
    (hU : ∀ j ∈ S, U j = 1) (ha : Seen (fun j => τ j / Real.log 2) V S m a)
    (hl : Seen (fun j => τ j / Real.log 2) U S m l) :
    Ideal.div a l = ∑ j ∈ S, V j * (share τ S j : EReal) := by
  rcases ha with ⟨h, _⟩ | ⟨μ, hm, ha⟩
  · exact absurd h hS.ne_empty
  rcases hl with ⟨h, _⟩ | ⟨μ', hm', hl⟩
  · exact absurd h hS.ne_empty
  have hμ : μ = μ' := by exact_mod_cast hm.symm.trans hm'
  subst hμ
  have hL : l = ((∑ j ∈ S, Real.exp (τ j) * (2 : ℝ) ^ (-μ) : ℝ) : EReal) := by
    rw [hl, coe_sum]
    refine Finset.sum_congr rfl fun j hj => ?_
    rw [hU j hj, one_mul, two_rpow]
  have hE : 0 < ∑ j ∈ S, Real.exp (τ j) := Finset.sum_pos (fun _ _ => Real.exp_pos _) hS
  have h2 : (0 : ℝ) < (2 : ℝ) ^ (-μ) := by positivity
  have hpos : 0 < ∑ j ∈ S, Real.exp (τ j) * (2 : ℝ) ^ (-μ) := by
    rw [← Finset.sum_mul]; exact mul_pos hE h2
  rw [hL, Ideal.div_coe hpos.ne', ha, sum_mul_coe _ _ (by positivity)]
  refine Finset.sum_congr rfl fun j _ => ?_
  rw [mul_assoc, ← EReal.coe_mul, two_rpow, share, ← Finset.sum_mul]
  congr 2
  field_simp

/-- The softmax written with the maximum taken off, masked keys scoring `⊥`. -/
theorem softmax_sum {n : ℕ} {τ : ℕ → ℝ} {S : Finset ℕ} (s : Fin n → EReal) (W : Fin n → EReal) (V : ℕ → EReal)
    (hW : ∀ t, W t = V t.val) (hin : ∀ t : Fin n, t.val ∈ S → s t = (τ t.val : EReal))
    (hout : ∀ t : Fin n, t.val ∉ S → s t = ⊥) (hT : ∀ j ∈ S, j < n) (hne : S.Nonempty) :
    ∑ t, W t * Ideal.div (Ideal.exp (s t - max ⊥ (Finset.univ.fold max ⊥ s)))
        (∑ u, Ideal.exp (s u - max ⊥ (Finset.univ.fold max ⊥ s)))
      = ∑ j ∈ S, V j * (share τ S j : EReal) := by
  have hs : ∀ t, s t ≠ ⊤ := fun t => by
    by_cases ht : t.val ∈ S
    · rw [hin t ht]; exact EReal.coe_ne_top _
    · rw [hout t ht]; exact bot_ne_top
  have hr : ∃ t, s t ≠ ⊥ := by
    obtain ⟨j, hj⟩ := hne
    exact ⟨⟨j, hT j hj⟩, by rw [hin _ hj]; exact EReal.coe_ne_bot _⟩
  obtain ⟨M, hM⟩ := fold_max_real ⊥ s bot_ne_top hs hr
  rw [hM]
  have hexp : ∀ x : ℝ, Ideal.exp (x : EReal) = (Real.exp x : EReal) := fun _ => rfl
  have hL : ∑ u, Ideal.exp (s u - (M : EReal)) = ((∑ j ∈ S, Real.exp (τ j - M) : ℝ) : EReal) := by
    rw [coe_sum]
    refine sum_block S 0 _ (fun j => (Real.exp (τ j - M) : EReal)) (fun t ht => ?_) (fun t ht => ?_)
      (fun j hj => ⟨by omega, by have := hT j hj; omega⟩)
    · rw [Nat.zero_add] at ht ⊢
      rw [hin t ht, ← EReal.coe_sub, hexp]
    · rw [Nat.zero_add] at ht
      rw [hout t ht, EReal.bot_sub]; rfl
  have hE : 0 < ∑ j ∈ S, Real.exp (τ j) := Finset.sum_pos (fun _ _ => Real.exp_pos _) hne
  have hpos : 0 < ∑ j ∈ S, Real.exp (τ j - M) := Finset.sum_pos (fun _ _ => Real.exp_pos _) hne
  rw [hL]
  refine sum_block S 0 _ _ (fun t ht => ?_) (fun t ht => ?_)
    (fun j hj => ⟨by omega, by have := hT j hj; omega⟩)
  · rw [Nat.zero_add] at ht ⊢
    rw [hin t ht, hW, ← EReal.coe_sub, hexp, Ideal.div_coe hpos.ne', ← EReal.coe_mul]
    congr 2
    simp only [Real.exp_sub, share, ← Finset.sum_div]
    field_simp
  · rw [Nat.zero_add] at ht
    rw [hout t ht, EReal.bot_sub, Ideal.div_coe hpos.ne']
    show W t * ((0 : EReal) * _) = 0
    rw [zero_mul, mul_zero]

end Cert.Softmax

end
-- ==== Proof.Spec.lean ====
/-
  What both programs compute, at an entry: for query `R` and lane `d` of head `H`, the values of that lane summed over the keys
  whose chunk of 64 is not past the query's, weighted by the softmax of the scores.
-/
module

public import proofs.«01_k».proof.Proof.Math
public import Idealize.ShloMosaic.Lib.Pointwise

@[expose] public section

set_option maxRecDepth 16384

noncomputable section

namespace Cert.Softmax

open Idealize.ShloMosaic

/-- An array over tokens and heads, and one over tokens. -/
abbrev Heads (n : ℕ) : Type := FVec Ideal ⟨3, ![16384, 16, n]⟩ .f32
abbrev Toks (n : ℕ) : Type := FVec Ideal ⟨2, ![16384, n]⟩ .f32

/-- The keys query `R` attends to. -/
def keys (R : ℕ) : Finset ℕ := (Finset.range 16384).filter fun j => j / 64 ≤ R / 64

theorem keys_nonempty (R : ℕ) (hR : R < 16384) : (keys R).Nonempty :=
  ⟨R, Finset.mem_filter.2 ⟨Finset.mem_range.2 hR, le_rfl⟩⟩

theorem keys_lt {R j : ℕ} (h : j ∈ keys R) : j < 16384 := Finset.mem_range.1 (Finset.mem_filter.1 h).1

/-- The score of query `R` and key `j` in head `H`. -/
def score (q0 : Heads 64) (q1 : Heads 32) (k0 : Heads 64) (k1 : Toks 32) (R : Fin 16384) (H : Fin 16) (j : ℕ) : ℝ :=
  if h : j < 16384 then
    ((∑ e : Fin 64, (q0 (ix3 R H e)).toReal * (k0 (ix3 ⟨j, h⟩ H e)).toReal)
      + ∑ e : Fin 32, (q1 (ix3 R H e)).toReal * (k1 (ix2 ⟨j, h⟩ e)).toReal) / Real.sqrt 96
  else 0

/-- Key `j`'s value in lane `d` of head `H`. -/
def val (v : Heads 64) (H : Fin 16) (d : Fin 64) (j : ℕ) : EReal := if h : j < 16384 then v (ix3 ⟨j, h⟩ H d) else 0

/-- The attention's output for query `R`, lane `d` of head `H`. -/
def attend (q0 : Heads 64) (q1 : Heads 32) (k0 : Heads 64) (k1 : Toks 32) (v : Heads 64) (R : Fin 16384) (H : Fin 16) (d : Fin 64) : EReal :=
  ∑ j ∈ keys R.val, val v H d j * (share (score q0 q1 k0 k1 R H) (keys R.val) j : EReal)

/-- The whole output, heads side by side along the lanes. -/
def output (q0 : Heads 64) (q1 : Heads 32) (k0 : Heads 64) (k1 : Toks 32) (v : Heads 64) : FVec Ideal ⟨2, ![16384, 1024]⟩ .bf16 :=
  fun i => attend q0 q1 k0 k1 v (i 0) ⟨(i 1).val / 64, by have : (i 1).val < 1024 := (i 1).isLt; omega⟩
    ⟨(i 1).val % 64, by omega⟩

/-- Every element of an array is a real number. -/
def Real' {s : Shape} {φ : FTy} (x : FVec Ideal s φ) : Prop := ∀ i, x i = (((x i).toReal : ℝ) : EReal)

/-- The literals the two programs scale by. -/
theorem lit96 : Ideal.ofBits .f32 1119879168#32 = ((96 : ℝ) : EReal) := by
  simp [Ideal.ofBits, Ideal.ieee, -EReal.coe_mul]; norm_num
theorem lit2 : Ideal.ofBits .f32 1073741824#32 = ((2 : ℝ) : EReal) := by
  simp [Ideal.ofBits, Ideal.ieee, -EReal.coe_mul]; norm_num
theorem litNinf : Ideal.ofBits .f32 4286578688#32 = (⊥ : EReal) := by simp [Ideal.ofBits, Ideal.ieee]

theorem sqrt96 : Ideal.sqrt (Ideal.ofBits .f32 1119879168#32) = ((Real.sqrt 96 : ℝ) : EReal) := by
  rw [lit96, Ideal.sqrt_coe, if_neg (by norm_num)]
theorem log2 : Ideal.log (Ideal.ofBits .f32 1073741824#32) = ((Real.log 2 : ℝ) : EReal) := by
  rw [lit2, Ideal.log_coe, if_neg (by norm_num)]

theorem sqrt96_ne : Real.sqrt 96 ≠ 0 := (Real.sqrt_pos.2 (by norm_num)).ne'
theorem log2_ne : Real.log 2 ≠ 0 := (Real.log_pos (by norm_num)).ne'

/-- A sum over the 128 lanes of a slot: 64, then 32, then 32. -/
theorem sum_slot {M : Type*} [AddCommMonoid M] (f : Fin 128 → M) :
    ∑ l, f l = ∑ e : Fin 64, f ⟨e.val, by omega⟩
      + (∑ e : Fin 32, f ⟨64 + e.val, by omega⟩ + ∑ e : Fin 32, f ⟨96 + e.val, by omega⟩) := by
  refine (Fin.sum_univ_add (a := 64) (b := 64) f).trans (congrArg _ ?_)
  exact Fin.sum_univ_add (a := 32) (b := 32) fun e : Fin 64 => f ⟨64 + e.val, by omega⟩

end Cert.Softmax

end
-- ==== Proof.PayIdeal.lean ====
/-
  The body's vector values read at an index, and each update of a head's maximum and accumulator as a block of keys folded
  into the running softmax.
-/
module

public import proofs.«01_k».proof.Proof.Gen.KernelIdeal.Skeleton
public import proofs.«01_k».proof.Proof.Spec
public import proofs.«01_k».proof.Proof.BodyIdeal
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal Cert.KernelIdeal.Gen Cert.Softmax

theorem mask_val : (Named.named κ "mask" 4048155338#32 : Ideal .f32) = (⊥ : EReal) :=
  IdealRules.named_const.ideal_named_scalar _ _ _ _ rfl

/-- A row's scores against a block of keys. -/
def sc {n : ℕ} (q : FVec Ideal S1024x128 .bf16) (k : FVec Ideal ⟨2, ![n, 128]⟩ .bf16) (r : Fin 1024) (t : Fin n) : EReal :=
  ∑ x : Fin 128, q (ix2 r x) * k (ix2 t x)

/-- The same with the keys the mask forbids at `⊥`. -/
def msc {n : ℕ} (rc cc : IVec ⟨2, ![1024, n]⟩ 32) (q : FVec Ideal S1024x128 .bf16) (k : FVec Ideal ⟨2, ![n, 128]⟩ .bf16)
    (r : Fin 1024) (t : Fin n) : EReal :=
  Scalar.select (IntOp.cmpi .sle (cc (ix2 r t)) (rc (ix2 r t))) (sc q k r t) ⊥

/-- The new maximum, and the new accumulator, from the scores and the values' lane. -/
def mx {n : ℕ} (m : EReal) (s : Fin n → EReal) : EReal := max m (Finset.univ.fold max ⊥ s)
def ac {n : ℕ} (m a : EReal) (s w : Fin n → EReal) : EReal :=
  a * Ideal.exp2 (m - mx m s) + ∑ t, Ideal.exp2 (s t - mx m s) * w t

section
variable (m : FVec Ideal S1024x1 .f32) (a : FVec Ideal S1024x128 .f32) (q : FVec Ideal S1024x128 .bf16)
  (k v : FVec Ideal S2048x128 .bf16) (k' v' : FVec Ideal S1024x128 .bf16) (r : Fin 1024) (d : Fin 128)
  (rc cc : IVec S1024x2048 32) (rc' cc' : IVec S1024x1024 32)

theorem pay6_at : k0_pay6 (F := Ideal) m q k (ix2 r 0) = mx (m (ix2 r 0)) (sc q k r) := by
  pointwise [k0_pay6, k0_pay5]; rw [litNinf]; rfl

theorem pay7_at : k0_pay7 (F := Ideal) m a q k v (ix2 r d)
    = ac (m (ix2 r 0)) (a (ix2 r d)) (sc q k r) (fun t => v (ix2 t d)) := by
  pointwise [k0_pay7, k0_pay6, k0_pay5]; rw [litNinf]; rfl

theorem pay9_at : k0_pay9 (F := Ideal) m q k (ix2 r 0) = mx (m (ix2 r 0)) (sc q k r) := by
  pointwise [k0_pay9, k0_pay8]; rw [litNinf]; rfl

theorem pay33_at : k0_pay33 (F := Ideal) a (k0_pay10 m q k v) (k0_pay11 m q k) (ix2 r d)
    = ac (m (ix2 r 0)) (a (ix2 r d)) (sc q k r) (fun t => v (ix2 t d)) := by
  pointwise [k0_pay33, k0_pay10, k0_pay11, k0_pay9, k0_pay8]; rw [litNinf]; rfl

theorem pay20_at : k0_pay20 (F := Ideal) m a rc cc q k v (ix2 r d)
    = ac (m (ix2 r 0)) (a (ix2 r d)) (msc rc cc q k r) (fun t => v (ix2 t d)) := by
  pointwise [k0_pay20, k0_pay19]; rw [litNinf, mask_val]; rfl

theorem pay2_at : k0_pay2 (F := Ideal) m a (k0_pay22 m rc cc q k) (k0_pay23 m rc cc q k) v (ix2 r d)
    = ac (m (ix2 r 0)) (a (ix2 r d)) (msc rc cc q k r) (fun t => v (ix2 t d)) := by
  pointwise [k0_pay2, k0_pay22, k0_pay23, k0_pay21, k0_pay19]; rw [litNinf, mask_val]; rfl

theorem pay25_at : k0_pay25 (F := Ideal) m a rc' cc' q k' v' (ix2 r d)
    = ac (m (ix2 r 0)) (a (ix2 r d)) (msc rc' cc' q k' r) (fun t => v' (ix2 t d)) := by
  pointwise [k0_pay25, k0_pay24]; rw [litNinf, mask_val]; rfl

theorem pay3_at : k0_pay3 (F := Ideal) m a (k0_pay27 m rc' cc' q k') (k0_pay28 m rc' cc' q k') v' (ix2 r d)
    = ac (m (ix2 r 0)) (a (ix2 r d)) (msc rc' cc' q k' r) (fun t => v' (ix2 t d)) := by
  pointwise [k0_pay3, k0_pay27, k0_pay28, k0_pay26, k0_pay24]; rw [litNinf, mask_val]; rfl

theorem pay29_at : k0_pay29 (F := Ideal) (ix2 r 0) = (⊥ : EReal) := by
  pointwise [k0_pay29]; exact mask_val
theorem pay31_at : k0_pay31 (F := Ideal) (ix2 r 0) = (⊥ : EReal) := by
  pointwise [k0_pay31]; exact mask_val
theorem pay30_at : k0_pay30 (F := Ideal) (ix2 r d) = (0 : EReal) := by
  pointwise [k0_pay30]
theorem pay32_at : k0_pay32 (F := Ideal) (ix2 r d) = (0 : EReal) := by
  pointwise [k0_pay32]
end

/-- Lane 64, picked out by a sum over the lanes. -/
theorem pick (f : Fin 128 → EReal) :
    (∑ x : Fin 128, Scalar.select (IntOp.cmpi .eq (BitVec.ofNat 32 x.val) 64#32) (f x) 0) = f 64 := by
  rw [Finset.sum_eq_single (64 : Fin 128)]
  · rfl
  · intro b _ hb
    have : ∀ b : Fin 128, b ≠ 64 → IntOp.cmpi .eq (BitVec.ofNat 32 b.val) 64#32 = 0#1 := by decide +kernel
    rw [this b hb]; rfl
  · intro h; exact absurd (Finset.mem_univ _) h

/-- What is stored: each head's 64 lanes over its 65th. -/
theorem pay4_at (a b : FVec Ideal S1024x128 .f32) (r : Fin 1024) (d : Fin 128) :
    k0_pay4 (F := Ideal) a b (ix2 r d)
      = if h : d.val < 64 then Ideal.div (a (ix2 r d)) (a (ix2 r 64))
        else Ideal.div (b (ix2 r ⟨d.val - 64, by omega⟩)) (b (ix2 r 64)) := by
  pointwise [k0_pay4]
  rw [pick (fun x => a (ix2 r x)), pick (fun x => b (ix2 r x))]

/-- The floor division by 64 with its sign correction, on a row or column number. -/
theorem chunk : ∀ r : Fin 2048, Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by decide +kernel

theorem row2_at (r : Fin 1024) (t : Fin 2048) : rowChunk2 (ix2 r t) = BitVec.ofNat 32 (r.val / 64) := by
  pointwise [rowChunk2, k0_pay40]
  exact chunk ⟨r.val, by omega⟩

theorem row1_at (r t : Fin 1024) : rowChunk1 (ix2 r t) = BitVec.ofNat 32 (r.val / 64) := by
  pointwise [rowChunk1, k0_pay35]
  exact chunk ⟨r.val, by omega⟩

theorem col2_at (r : Fin 1024) (t : Fin 2048) : colChunk2 (ix2 r t) = IntOp.subi (BitVec.ofNat 32 (t.val / 64)) 16#32 := by
  pointwise [colChunk2, k0_pay1, k0_pay41, k0_pay42]
  rw [chunk t]

theorem col1_at (r t : Fin 1024) : colChunk1 (ix2 r t) = IntOp.subi (BitVec.ofNat 32 (t.val / 64)) 0#32 := by
  pointwise [colChunk1, k0_pay39, k0_pay36, k0_pay37, k0_pay38]
  rw [chunk ⟨t.val, by omega⟩]

theorem le2 : ∀ (a : Fin 32) (b : Fin 16),
    IntOp.cmpi .sle (IntOp.subi (BitVec.ofNat 32 a.val) 16#32) (BitVec.ofNat 32 b.val)
      = if a.val ≤ b.val + 16 then 1#1 else 0#1 := by decide +kernel
theorem le1 : ∀ (a b : Fin 16),
    IntOp.cmpi .sle (IntOp.subi (BitVec.ofNat 32 a.val) 0#32) (BitVec.ofNat 32 b.val)
      = if a.val ≤ b.val then 1#1 else 0#1 := by decide +kernel

/-- The mask over two query blocks' keys: those of the first block, and of the second those up to the query's chunk. -/
theorem msc2_at (q : FVec Ideal S1024x128 .bf16) (k : FVec Ideal S2048x128 .bf16) (r : Fin 1024) (t : Fin 2048) :
    msc rowChunk2 colChunk2 q k r t = if t.val / 64 ≤ r.val / 64 + 16 then sc q k r t else ⊥ := by
  unfold msc
  rw [row2_at, col2_at, le2 ⟨t.val / 64, by omega⟩ ⟨r.val / 64, by omega⟩]
  by_cases h : t.val / 64 ≤ r.val / 64 + 16
  · rw [if_pos h, if_pos h]; rfl
  · rw [if_neg h, if_neg h]; rfl

theorem msc1_at (q : FVec Ideal S1024x128 .bf16) (k : FVec Ideal S1024x128 .bf16) (r t : Fin 1024) :
    msc rowChunk1 colChunk1 q k r t = if t.val / 64 ≤ r.val / 64 then sc q k r t else ⊥ := by
  unfold msc
  rw [row1_at, col1_at, le1 ⟨t.val / 64, by omega⟩ ⟨r.val / 64, by omega⟩]
  by_cases h : t.val / 64 ≤ r.val / 64
  · rw [if_pos h, if_pos h]; rfl
  · rw [if_neg h, if_neg h]; rfl

end Cert.KernelIdeal.Att

end
-- ==== Proof.PointIdeal.lean ====
/-
  The numbers a grid point gives the body: how many unmasked blocks the loop takes, and where each load of keys and values
  starts.
-/
module

public import proofs.«01_k».proof.Proof.BodyIdeal
public import Idealize.ShloMosaic.Lib.Pipeline.ValueKit
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal Cert.KernelIdeal.Gen

/-- The query block of point `t`. -/
abbrev qb (t : Fin grid0.N) : ℕ := (grid0.coords t 1).val

theorem qb_lt (t : Fin grid0.N) : qb t < 16 := (grid0.coords t 1).isLt

theorem trips_eq : ∀ t : Fin grid0.N, (k0_t1_loop (grid0.coords t)).trips = qb t / 2 := by decide +kernel

theorem off1_eq : ∀ (t : Fin grid0.N) (k : Fin (k0_t1_loop (grid0.coords t)).trips),
    k0_off1 (grid0.coords t) k = ![2048 * k.val, 0] := by decide +kernel
theorem off2_eq : ∀ (t : Fin grid0.N) (k : Fin (k0_t1_loop (grid0.coords t)).trips),
    k0_off2 (grid0.coords t) k = ![2048 * k.val, 128] := by decide +kernel

theorem cond_eq : ∀ t : Fin grid0.N, (k0_cond1 (grid0.coords t) = 1#1 ↔ qb t % 2 = 1) := by decide +kernel

theorem off5_eq : ∀ t : Fin grid0.N, qb t % 2 = 1 → k0_off5 (grid0.coords t) = ![1024 * (qb t - 1), 0] := by decide +kernel
theorem off6_eq : ∀ t : Fin grid0.N, qb t % 2 = 1 → k0_off6 (grid0.coords t) = ![1024 * (qb t - 1), 128] := by decide +kernel
theorem off7_eq : ∀ t : Fin grid0.N, k0_off7 (grid0.coords t) = ![1024 * qb t, 0] := by decide +kernel
theorem off8_eq : ∀ t : Fin grid0.N, k0_off8 (grid0.coords t) = ![1024 * qb t, 128] := by decide +kernel

/-- A block's entry by numbers, zero outside. -/
def at2 {a b : ℕ} (X : Vec Ideal ⟨2, ![a, b]⟩ .bf16) (j l : ℕ) : EReal :=
  if h : j < a ∧ l < b then X (ix2 ⟨j, h.1⟩ ⟨l, h.2⟩) else 0

theorem at2_fin {a b : ℕ} (X : Vec Ideal ⟨2, ![a, b]⟩ .bf16) (j : Fin a) (l : Fin b) : at2 X j l = X (ix2 j l) := by
  unfold at2; rw [dif_pos ⟨j.isLt, l.isLt⟩]

theorem ld_at {a b p q : ℕ} (X : Vec Ideal ⟨2, ![a, b]⟩ .bf16) (o : Fin 2 → ℕ)
    (h : ∀ x, o x + (⟨2, ![p, q]⟩ : Shape).size x ≤ (⟨2, ![a, b]⟩ : Shape).size x) (r : Fin p) (l : Fin q) :
    View.ld X (Rect.unit (s := ⟨2, ![a, b]⟩) o (⟨2, ![p, q]⟩ : Shape).size h) (ix2 r l) = at2 X (o 0 + r.val) (o 1 + l.val) := by
  have h0 : o 0 + p ≤ a := h 0
  have h1 : o 1 + q ≤ b := h 1
  unfold at2; rw [dif_pos ⟨by omega, by omega⟩]
  refine congrArg X (funext fun x => Fin.ext ?_)
  fin_cases x <;> simp [Rect.unit, ix2]

end Cert.KernelIdeal.Att

end
-- ==== Proof.BlockIdeal.lean ====
/-
  The value of the block the body stores, at an entry: the softmax-weighted sum of the values over the keys whose chunk is
  not past the query's.
-/
module

public import proofs.«01_k».proof.Proof.Spec
public import proofs.«01_k».proof.Proof.PayIdeal
public import proofs.«01_k».proof.Proof.PointIdeal

@[expose] public section

set_option maxRecDepth 16384

noncomputable section

namespace Cert.KernelIdeal.Att

open Idealize.ShloMosaic Idealize.ShloMosaic.TcCoe Idealize.SL.Sem
open Cert.KernelIdeal Cert.KernelIdeal.Gen Cert.Softmax

/-- A row's scores, read off the blocks: two slots of 128 lanes from lane `c`. -/
def Scores (x0 : Vec Ideal S1024x256 .bf16) (x1 : Vec Ideal S16384x256 .bf16) (r : Fin 1024) (c : ℕ) (τ : ℕ → ℝ) : Prop :=
  ∀ j < 16384, ∑ l : Fin 128, at2 x0 r.val (c + l.val) * at2 x1 j (c + l.val) = ((τ j / Real.log 2 : ℝ) : EReal)

theorem sc_ld {n : ℕ} {x0 : Vec Ideal S1024x256 .bf16} {x1 : Vec Ideal S16384x256 .bf16} {r : Fin 1024} {c : ℕ} {τ : ℕ → ℝ}
    (H : Scores x0 x1 r c τ) (o p : Fin 2 → ℕ) (base : ℕ)
    (ho : ∀ x, o x + S1024x128.size x ≤ S1024x256.size x)
    (hp : ∀ x, p x + (⟨2, ![n, 128]⟩ : Shape).size x ≤ S16384x256.size x)
    (ho' : o = ![0, c]) (hp' : p = ![base, c]) (t : Fin n) :
    sc (View.ld x0 (Rect.unit (s := S1024x256) o S1024x128.size ho))
        (View.ld x1 (Rect.unit (s := S16384x256) p (⟨2, ![n, 128]⟩ : Shape).size hp)) r t
      = ((τ (base + t.val) / Real.log 2 : ℝ) : EReal) := by
  subst ho' hp'
  have hb : base + n ≤ 16384 := hp 0
  refine Eq.trans ?_ (H (base + t.val) (by omega))
  refine Finset.sum_congr rfl fun l _ => ?_
  refine congr (congrArg _ ((ld_at (p := 1024) (q := 128) x0 _ ho r l).trans ?_)) (ld_at (p := n) (q := 128) x1 _ hp t l)
  simp

theorem w_ld {n : ℕ} (x2 : Vec Ideal S16384x256 .bf16) (p : Fin 2 → ℕ) (base c : ℕ)
    (hp : ∀ x, p x + (⟨2, ![n, 128]⟩ : Shape).size x ≤ S16384x256.size x) (hp' : p = ![base, c]) (t : Fin n) (d : Fin 128) :
    View.ld x2 (Rect.unit (s := S16384x256) p (⟨2, ![n, 128]⟩ : Shape).size hp) (ix2 t d)
      = at2 x2 (base + t.val) (c + d.val) := by
  subst hp'
  exact ld_at (p := n) (q := 128) x2 _ hp t d

section
variable {t : Fin grid0.N} {x0 : Vec Ideal S1024x256 .bf16} {x1 : Vec Ideal S16384x256 .bf16} (x2 : Vec Ideal S16384x256 .bf16)
  {r : Fin 1024} {τ : ℕ → ℝ} (d : Fin 128)

/-- A block with no key masked. -/
theorem seen_full {n : ℕ} {σ : ℕ → ℝ} {V : ℕ → EReal} {m a : EReal} (base : ℕ) (hn : 0 < n) (s w : Fin n → EReal)
    (hs : ∀ t, s t = (σ (base + t.val) : EReal)) (hw : ∀ t, w t = V (base + t.val))
    (h : Seen σ V (Finset.range base) m a) : Seen σ V (Finset.range (base + n)) (mx m s) (ac m a s w) := by
  have hu : Finset.range (base + n) = Finset.range base ∪ Finset.Ico base (base + n) := by
    ext j; simp only [Finset.mem_range, Finset.mem_union, Finset.mem_Ico]; omega
  rw [hu]
  refine Seen.step (Finset.Ico base (base + n)) base s w hw (fun t _ => hs t) (fun t ht => ?_) (fun j hj => ?_) ?_ ?_ h
  · exact absurd (Finset.mem_Ico.2 ⟨by omega, by omega⟩) ht
  · exact Finset.mem_Ico.1 hj
  · exact ⟨base, Finset.mem_Ico.2 ⟨le_rfl, by omega⟩⟩
  · rw [Finset.disjoint_left]; intro j hj hj'
    have := Finset.mem_range.1 hj; have := Finset.mem_Ico.1 hj'; omega

/-- The diagonal block: the keys seen are then the query's keys. -/
theorem seen_diag {n : ℕ} {σ : ℕ → ℝ} {V : ℕ → EReal} {m a : EReal} (base R : ℕ) (s w : Fin n → EReal)
    (hs : ∀ t, s t = if (base + t.val) / 64 ≤ R / 64 then (σ (base + t.val) : EReal) else ⊥) (hw : ∀ t, w t = V (base + t.val))
    (hb : base ≤ R) (hR : R < base + n) (hn : base % 64 = 0) (hn' : (base + n) % 64 = 0) (hn'' : base + n ≤ 16384)
    (h : Seen σ V (Finset.range base) m a) : Seen σ V (keys R) (mx m s) (ac m a s w) := by
  have hu : keys R = Finset.range base ∪ (Finset.Ico base (base + n)).filter (fun j => j / 64 ≤ R / 64) := by
    ext j; simp only [keys, Finset.mem_range, Finset.mem_union, Finset.mem_Ico, Finset.mem_filter]; omega
  rw [hu]
  refine Seen.step _ base s w hw (fun t ht => ?_) (fun t ht => ?_) (fun j hj => ?_) ?_ ?_ h
  · rw [hs, if_pos (Finset.mem_filter.1 ht).2]
  · rw [hs, if_neg fun hle => ht (Finset.mem_filter.2 ⟨Finset.mem_Ico.2 ⟨by omega, by omega⟩, hle⟩)]
  · exact Finset.mem_Ico.1 (Finset.mem_filter.1 hj).1
  · exact ⟨R, Finset.mem_filter.2 ⟨Finset.mem_Ico.2 ⟨hb, hR⟩, le_rfl⟩⟩
  · rw [Finset.disjoint_left]; intro j hj hj'
    have := Finset.mem_range.1 hj; have := Finset.mem_Ico.1 (Finset.mem_filter.1 hj').1; omega

/-- After `k` trips the first head has seen the first `2048 k` keys. -/
theorem seen_trips0 (H : Scores x0 x1 r 0 τ) (k : ℕ) (hk : k ≤ (k0_t1_loop (grid0.coords t)).trips) :
    Seen (fun j => τ j / Real.log 2) (fun j => at2 x2 j (0 + d.val)) (Finset.range (2048 * k))
      ((accAt (F := Ideal) (grid0.coords t) x0 x1 x2 k).1 (ix2 r 0)) ((accAt (F := Ideal) (grid0.coords t) x0 x1 x2 k).2.1 (ix2 r d)) := by
  induction k with
  | zero =>
    rw [accAt, st0]; dsimp only; rw [pay29_at, pay30_at]; exact Seen.start _ _
  | succ k ih =>
    have h : k < (k0_t1_loop (grid0.coords t)).trips := hk
    rw [accAt, dif_pos h, step]; dsimp only; rw [pay6_at, pay7_at]
    exact seen_full (2048 * k) (by norm_num) _ _ (fun s => sc_ld H _ _ _ _ _ rfl (off1_eq t ⟨k, h⟩) s)
      (fun s => w_ld x2 _ _ _ _ (off1_eq t ⟨k, h⟩) s d) (ih h.le)

theorem seen_trips1 (H : Scores x0 x1 r 128 τ) (k : ℕ) (hk : k ≤ (k0_t1_loop (grid0.coords t)).trips) :
    Seen (fun j => τ j / Real.log 2) (fun j => at2 x2 j (128 + d.val)) (Finset.range (2048 * k))
      ((accAt (F := Ideal) (grid0.coords t) x0 x1 x2 k).2.2.1 (ix2 r 0)) ((accAt (F := Ideal) (grid0.coords t) x0 x1 x2 k).2.2.2 (ix2 r d)) := by
  induction k with
  | zero =>
    rw [accAt, st0]; dsimp only; rw [pay31_at, pay32_at]; exact Seen.start _ _
  | succ k ih =>
    have h : k < (k0_t1_loop (grid0.coords t)).trips := hk
    rw [accAt, dif_pos h, step]; dsimp only; rw [pay9_at, pay33_at]
    exact seen_full (2048 * k) (by norm_num) _ _ (fun s => sc_ld H _ _ _ _ _ rfl (off2_eq t ⟨k, h⟩) s)
      (fun s => w_ld x2 _ _ _ _ (off2_eq t ⟨k, h⟩) s d) (ih h.le)

/-- After the switch each head has seen exactly the query's keys. -/
theorem seen_tail0 (H : Scores x0 x1 r 0 τ) : ∃ μ : EReal, ∀ d : Fin 128,
    Seen (fun j => τ j / Real.log 2) (fun j => at2 x2 j (0 + d.val)) (keys (1024 * qb t + r.val)) μ
      ((tail (F := Ideal) (grid0.coords t) x0 x1 x2 (accAt (grid0.coords t) x0 x1 x2 (k0_t1_loop (grid0.coords t)).trips)).1 (ix2 r d)) := by
  have hq := qb_lt t
  have hT := trips_eq t
  by_cases hc : k0_cond1 (grid0.coords t) = 1#1
  · have ho : qb t % 2 = 1 := (cond_eq t).1 hc
    rw [tail, dif_pos hc, tail2]
    refine ⟨mx ((accAt (F := Ideal) (grid0.coords t) x0 x1 x2 (k0_t1_loop (grid0.coords t)).trips).1 (ix2 r 0))
      (msc rowChunk2 colChunk2 (View.ld x0 rq0) (View.ld x1 (r2h0 _ hc)) r), fun d => ?_⟩
    dsimp only
    rw [pay20_at]
    have h0 := seen_trips0 (t := t) x2 d H _ le_rfl
    rw [show 2048 * (k0_t1_loop (grid0.coords t)).trips = 1024 * (qb t - 1) by omega] at h0
    refine seen_diag (1024 * (qb t - 1)) (1024 * qb t + r.val) _ _ (fun s => ?_)
      (fun s => w_ld x2 _ _ _ _ (off5_eq t ho) s d) (by omega) (by omega) (by omega) (by omega) (by omega) h0
    rw [msc2_at, sc_ld H _ _ _ _ _ rfl (off5_eq t ho) s]
    exact if_congr (by omega) rfl rfl
  · have ho : ¬ qb t % 2 = 1 := fun h => hc ((cond_eq t).2 h)
    rw [tail, dif_neg hc, tail1]
    refine ⟨mx ((accAt (F := Ideal) (grid0.coords t) x0 x1 x2 (k0_t1_loop (grid0.coords t)).trips).1 (ix2 r 0))
      (msc rowChunk1 colChunk1 (View.ld x0 rq0) (View.ld x1 (r1h0 _ hc)) r), fun d => ?_⟩
    dsimp only
    rw [pay25_at]
    have h0 := seen_trips0 (t := t) x2 d H _ le_rfl
    rw [show 2048 * (k0_t1_loop (grid0.coords t)).trips = 1024 * qb t by omega] at h0
    refine seen_diag (1024 * qb t) (1024 * qb t + r.val) _ _ (fun s => ?_)
      (fun s => w_ld x2 _ _ _ _ (off7_eq t) s d) (by omega) (by omega) (by omega) (by omega) (by omega) h0
    rw [msc1_at, sc_ld H _ _ _ _ _ rfl (off7_eq t) s]
    exact if_congr (by omega) rfl rfl

theorem seen_tail1 (H : Scores x0 x1 r 128 τ) : ∃ μ : EReal, ∀ d : Fin 128,
    Seen (fun j => τ j / Real.log 2) (fun j => at2 x2 j (128 + d.val)) (keys (1024 * qb t + r.val)) μ
      ((tail (F := Ideal) (grid0.coords t) x0 x1 x2 (accAt (grid0.coords t) x0 x1 x2 (k0_t1_loop (grid0.coords t)).trips)).2 (ix2 r d)) := by
  have hq := qb_lt t
  have hT := trips_eq t
  by_cases hc : k0_cond1 (grid0.coords t) = 1#1
  · have ho : qb t % 2 = 1 := (cond_eq t).1 hc
    rw [tail, dif_pos hc, tail2]
    refine ⟨mx ((accAt (F := Ideal) (grid0.coords t) x0 x1 x2 (k0_t1_loop (grid0.coords t)).trips).2.2.1 (ix2 r 0))
      (msc rowChunk2 colChunk2 (View.ld x0 rq1) (View.ld x1 (r2h1 _ hc)) r), fun d => ?_⟩
    dsimp only
    rw [pay2_at]
    have h0 := seen_trips1 (t := t) x2 d H _ le_rfl
    rw [show 2048 * (k0_t1_loop (grid0.coords t)).trips = 1024 * (qb t - 1) by omega] at h0
    refine seen_diag (1024 * (qb t - 1)) (1024 * qb t + r.val) _ _ (fun s => ?_)
      (fun s => w_ld x2 _ _ _ _ (off6_eq t ho) s d) (by omega) (by omega) (by omega) (by omega) (by omega) h0
    rw [msc2_at, sc_ld H _ _ _ _ _ rfl (off6_eq t ho) s]
    exact if_congr (by omega) rfl rfl
  · have ho : ¬ qb t % 2 = 1 := fun h => hc ((cond_eq t).2 h)
    rw [tail, dif_neg hc, tail1]
    refine ⟨mx ((accAt (F := Ideal) (grid0.coords t) x0 x1 x2 (k0_t1_loop (grid0.coords t)).trips).2.2.1 (ix2 r 0))
      (msc rowChunk1 colChunk1 (View.ld x0 rq1) (View.ld x1 (r1h1 _ hc)) r), fun d => ?_⟩
    dsimp only
    rw [pay3_at]
    have h0 := seen_trips1 (t := t) x2 d H _ le_rfl
    rw [show 2048 * (k0_t1_loop (grid0.coords t)).trips = 1024 * qb t by omega] at h0
    refine seen_diag (1024 * qb t) (1024 * qb t + r.val) _ _ (fun s => ?_)
      (fun s => w_ld x2 _ _ _ _ (off8_eq t) s d) (by omega) (by omega) (by omega) (by omega) (by omega) h0
    rw [msc1_at, sc_ld H _ _ _ _ _ rfl (off8_eq t) s]
    exact if_congr (by omega) rfl rfl

/-- The stored block's entry, when the two heads' scores are real and lane 64 of each value slot is one. -/
theorem block_at {τ0 τ1 : ℕ → ℝ} (H0 : Scores x0 x1 r 0 τ0) (H1 : Scores x0 x1 r 128 τ1)
    (o0 : ∀ j < 16384, at2 x2 j 64 = 1) (o1 : ∀ j < 16384, at2 x2 j 192 = 1) :
    blockVal (F := Ideal) (grid0.coords t) x0 x1 x2 (ix2 r d)
      = if d.val < 64 then ∑ j ∈ keys (1024 * qb t + r.val), at2 x2 j d.val * (share τ0 (keys (1024 * qb t + r.val)) j : EReal)
        else ∑ j ∈ keys (1024 * qb t + r.val), at2 x2 j (d.val + 64) * (share τ1 (keys (1024 * qb t + r.val)) j : EReal) := by
  have hR : 1024 * qb t + r.val < 16384 := by have := qb_lt t; omega
  obtain ⟨μ0, S0⟩ := seen_tail0 (t := t) x2 H0
  obtain ⟨μ1, S1⟩ := seen_tail1 (t := t) x2 H1
  rw [blockVal, pay4_at]
  by_cases hd : d.val < 64
  · rw [dif_pos hd, if_pos hd]
    refine (Seen.quotient (keys_nonempty _ hR) (fun j hj => ?_) (S0 d) (S0 64)).trans ?_
    · exact o0 j (keys_lt hj)
    · simp only [Nat.zero_add]
  · rw [dif_neg hd, if_neg hd]
    refine (Seen.quotient (keys_nonempty _ hR) (fun j hj => ?_) (S1 _) (S1 64)).trans ?_
    · exact o1 j (keys_lt hj)
    · refine Finset.sum_congr rfl fun j _ => ?_
      rw [show 128 + (d.val - 64) = d.val + 64 by omega]
end

end Cert.KernelIdeal.Att

end
-- ==== Proof.HostIdeal.lean ====
/-
  What the region finds: the arrays the host prepared, at an entry; a block's entry as one of an argument; and from these the
  array the region leaves.
-/
module

public import proofs.«01_k».proof.Proof.BlockIdeal
public import proofs.«01_k».proof.Proof.RunIdeal
public import Idealize.ShloMosaic.Lib.Pipeline.ValueKit

@[expose] public section

set_option maxRecDepth 16384

noncomputable section

namespace Cert.KernelIdeal.Att

open Idealize.ShloMosaic Idealize.ShloMosaic.TcCoe Idealize.SL.Sem
open Cert.KernelIdeal Cert.KernelIdeal.Gen Cert.Softmax
open Idealize.ShloMosaic.Pipeline (Dat Cfg Window BodyObligation cellOf)

variable (m : (ℓ : Loc nD τ sig) → Buf (Elt Ideal) ℓ) (c : Dev nD)

/-- A scalar literal. -/
abbrev lit (b : BitVec 32) : FVec Ideal S_ .f32 := constant S_ .f32 b

/-- The scale on the queries: one over the root of the head width and over the logarithm of two. -/
def qScale : FVec Ideal S_ .f32 := Host.divf (lit 0x3F800000#32) (mulf (Host.sqrt (lit 0x42C00000#32)) (Host.log (lit 0x40000000#32)))

/-- The queries, keys and values in slots of 128 lanes per head, before the reshape. -/
def qSlots (a0 : FVec Ideal S16384x16x64 .f32) (a1 : FVec Ideal S16384x16x32 .f32) : FVec Ideal S16384x16x128 .f32 :=
  mulf (concatenate S16384x16x128 2 [⟨S16384x16x64, a0⟩, ⟨S16384x16x32, a1⟩,
      ⟨S16384x16x32, broadcastInDim S16384x16x32 ![] bcast_S_S16384x16x32 (lit 0x00000000#32)⟩]
      concatenates_S16384x16x64_S16384x16x32_S16384x16x32_S16384x16x128_d2)
    (broadcastInDim S16384x16x128 ![] bcast_S_S16384x16x128 qScale)
def kSlots (a2 : FVec Ideal S16384x16x64 .f32) (a3 : FVec Ideal S16384x32 .f32) : FVec Ideal S16384x16x128 .f32 :=
  concatenate S16384x16x128 2 [⟨S16384x16x64, a2⟩,
      ⟨S16384x16x32, broadcastInDim S16384x16x32 ![0, 1, 2] bcast_S16384x1x32_S16384x16x32_0_1_2
        (broadcastInDim S16384x1x32 ![0, 2] bcast_S16384x32_S16384x1x32_0_2 a3)⟩,
      ⟨S16384x16x32, broadcastInDim S16384x16x32 ![] bcast_S_S16384x16x32 (lit 0x00000000#32)⟩]
      concatenates_S16384x16x64_S16384x16x32_S16384x16x32_S16384x16x128_d2
def vSlots (a4 : FVec Ideal S16384x16x64 .f32) : FVec Ideal S16384x16x128 .f32 :=
  concatenate S16384x16x128 2 [⟨S16384x16x64, a4⟩,
      ⟨S16384x16x1, broadcastInDim S16384x16x1 ![] bcast_S_S16384x16x1 (lit 0x3F800000#32)⟩,
      ⟨S16384x16x63, broadcastInDim S16384x16x63 ![] bcast_S_S16384x16x63 (lit 0x00000000#32)⟩]
      concatenates_S16384x16x64_S16384x16x1_S16384x16x63_S16384x16x128_d2

/-- Slots laid side by side along the lanes. -/
def rows (x : FVec Ideal S16384x16x128 .f32) : FVec Ideal S16384x2048 .bf16 :=
  truncf .bf16 (shapeCast S16384x2048 x shapeCasts_S16384x16x128_S16384x2048) bitsLt_bf16_f32

set_option maxHeartbeats 1000000 in
theorem V_q : V m c main_v9 = rows (qSlots (m ((c : Thread nD τ).loc main_arg0)) (m ((c : Thread nD τ).loc main_arg1))) := by
  unfold V hostOps0
  after_results
  rfl

set_option maxHeartbeats 1000000 in
theorem V_k : V m c main_v14 = rows (kSlots (m ((c : Thread nD τ).loc main_arg2)) (m ((c : Thread nD τ).loc main_arg3))) := by
  unfold V hostOps0
  after_results
  rfl

set_option maxHeartbeats 1000000 in
theorem V_v : V m c main_v19 = rows (vSlots (m ((c : Thread nD τ).loc main_arg4))) := by
  unfold V hostOps0
  after_results
  rfl

theorem rows_at (x : FVec Ideal S16384x16x128 .f32) (R : Fin 16384) (L : Fin 2048) :
    rows x (ix2 R L) = x (ix3 R ⟨L.val / 128, by omega⟩ ⟨L.val % 128, by omega⟩) := by
  pointwise [rows]

theorem qScale_at (i : S_.Idx) : qScale i = (((1 / (Real.sqrt 96 * Real.log 2) : ℝ)) : EReal) := by
  pointwise [qScale]
  rw [sqrt96, log2, ← EReal.coe_mul, Ideal.div_coe (mul_ne_zero sqrt96_ne log2_ne), one_mul]

section
variable (a0 a2 a4 : FVec Ideal S16384x16x64 .f32) (a1 : FVec Ideal S16384x16x32 .f32) (a3 : FVec Ideal S16384x32 .f32)
  (R : Fin 16384) (H : Fin 16) (l : Fin 128)

theorem qSlots_at : qSlots a0 a1 (ix3 R H l)
    = (if h : l.val < 64 then a0 (ix3 R H ⟨l.val, h⟩)
        else if h : l.val - 64 < 32 then a1 (ix3 R H ⟨l.val - 64, h⟩) else 0)
      * (((1 / (Real.sqrt 96 * Real.log 2) : ℝ)) : EReal) := by
  pointwise [qSlots]
  rw [qScale_at]
theorem kSlots_at : kSlots a2 a3 (ix3 R H l)
    = if h : l.val < 64 then a2 (ix3 R H ⟨l.val, h⟩)
        else if h : l.val - 64 < 32 then a3 (ix2 R ⟨l.val - 64, h⟩) else 0 := by
  pointwise [kSlots]
theorem vSlots_at : vSlots a4 (ix3 R H l)
    = if h : l.val < 64 then a4 (ix3 R H ⟨l.val, h⟩) else if h : l.val - 64 < 1 then 1 else 0 := by
  pointwise [vSlots]

theorem mul3 {x y : EReal} (s : ℝ) (hx : x = ((x.toReal : ℝ) : EReal)) (hy : y = ((y.toReal : ℝ) : EReal)) :
    x * (s : EReal) * y = ((x.toReal * y.toReal * s : ℝ) : EReal) := by
  conv_lhs => rw [hx, hy]
  rw [← EReal.coe_mul, ← EReal.coe_mul, mul_right_comm]

/-- A query's slot against a key's: the score over the logarithm of two. -/
theorem slots_sum (h0 : Real' a0) (h1 : Real' a1) (h2 : Real' a2) (h3 : Real' a3) (J : Fin 16384) :
    ∑ l : Fin 128, qSlots a0 a1 (ix3 R H l) * kSlots a2 a3 (ix3 J H l)
      = ((score a0 a1 a2 a3 R H J.val / Real.log 2 : ℝ) : EReal) := by
  rw [sum_slot]
  have e1 : ∀ e : Fin 64, qSlots a0 a1 (ix3 R H ⟨e.val, by omega⟩) * kSlots a2 a3 (ix3 J H ⟨e.val, by omega⟩)
      = (((a0 (ix3 R H e)).toReal * (a2 (ix3 J H e)).toReal * (1 / (Real.sqrt 96 * Real.log 2)) : ℝ) : EReal) := fun e => by
    rw [qSlots_at, kSlots_at, dif_pos e.isLt, dif_pos e.isLt]
    exact mul3 _ (h0 _) (h2 _)
  have e2 : ∀ e : Fin 32, qSlots a0 a1 (ix3 R H ⟨64 + e.val, by omega⟩) * kSlots a2 a3 (ix3 J H ⟨64 + e.val, by omega⟩)
      = (((a1 (ix3 R H e)).toReal * (a3 (ix2 J e)).toReal * (1 / (Real.sqrt 96 * Real.log 2)) : ℝ) : EReal) := fun e => by
    have he : (⟨64 + e.val - 64, by omega⟩ : Fin 32) = e := Fin.ext (by simp)
    rw [qSlots_at, kSlots_at, dif_neg (show ¬ 64 + e.val < 64 by omega), dif_neg (show ¬ 64 + e.val < 64 by omega),
      dif_pos (show 64 + e.val - 64 < 32 by omega), dif_pos (show 64 + e.val - 64 < 32 by omega)]
    simp only [he]
    exact mul3 _ (h1 _) (h3 _)
  have e3 : ∀ e : Fin 32, qSlots a0 a1 (ix3 R H ⟨96 + e.val, by omega⟩) * kSlots a2 a3 (ix3 J H ⟨96 + e.val, by omega⟩) = 0 := fun e => by
    rw [kSlots_at, dif_neg (show ¬ 96 + e.val < 64 by omega), dif_neg (show ¬ 96 + e.val - 64 < 32 by omega), mul_zero]
  rw [Finset.sum_congr rfl fun e _ => e1 e, Finset.sum_congr rfl fun e _ => e2 e, Finset.sum_congr rfl fun e _ => e3 e,
    Finset.sum_const_zero, add_zero, ← coe_sum, ← coe_sum, ← EReal.coe_add, ← Finset.sum_mul, ← Finset.sum_mul, ← add_mul]
  rw [score, dif_pos J.isLt, div_div, mul_one_div]
end

theorem idx : ∀ t : Fin cfg0.N, win0_0.index t = ![qb t, (grid0.coords t 0).val] ∧ win0_1.index t = ![0, (grid0.coords t 0).val]
    ∧ win0_2.index t = ![0, (grid0.coords t 0).val] ∧ win0_3.index t = ![qb t, (grid0.coords t 0).val] :=
  (by decide +kernel : ∀ t : Fin grid0.N, _)

/-- The head pair of point `t`. -/
abbrev hp (t : Fin grid0.N) : ℕ := (grid0.coords t 0).val
theorem hp_lt (t : Fin grid0.N) : hp t < 8 := (grid0.coords t 0).isLt

theorem iblk0 (t : Fin cfg0.N) (r : Fin 1024) (l : Fin 256) :
    iblk m c 0 t (ix2 r l) = V m c main_v9 (ix2 ⟨1024 * qb t + r.val, by have := qb_lt t; omega⟩
      ⟨256 * hp t + l.val, by have := hp_lt t; omega⟩) := by
  blk_ext [iblk, idx t]
  exact congrArg (· + l.val) (Nat.mul_comm _ _)
theorem iblk1 (t : Fin cfg0.N) (r : Fin 16384) (l : Fin 256) :
    iblk m c 1 t (ix2 r l) = V m c main_v14 (ix2 r ⟨256 * hp t + l.val, by have := hp_lt t; omega⟩) := by
  blk_ext [iblk, idx t]
  exact congrArg (· + l.val) (Nat.mul_comm _ _)
theorem iblk2 (t : Fin cfg0.N) (r : Fin 16384) (l : Fin 256) :
    iblk m c 2 t (ix2 r l) = V m c main_v19 (ix2 r ⟨256 * hp t + l.val, by have := hp_lt t; omega⟩) := by
  blk_ext [iblk, idx t]
  exact congrArg (· + l.val) (Nat.mul_comm _ _)

/-- The five arguments as launched. -/
abbrev A0 : FVec Ideal S16384x16x64 .f32 := m ((c : Thread nD τ).loc main_arg0)
abbrev A1 : FVec Ideal S16384x16x32 .f32 := m ((c : Thread nD τ).loc main_arg1)
abbrev A2 : FVec Ideal S16384x16x64 .f32 := m ((c : Thread nD τ).loc main_arg2)
abbrev A3 : FVec Ideal S16384x32 .f32 := m ((c : Thread nD τ).loc main_arg3)
abbrev A4 : FVec Ideal S16384x16x64 .f32 := m ((c : Thread nD τ).loc main_arg4)

section
variable (t : Fin cfg0.N) (g : ℕ) (hg : g < 2) (l : Fin 128)
include hg

/-- Entry `l` of the block's slot `g` in a row of slots. -/
theorem rows_slot (x : FVec Ideal S16384x16x128 .f32) (R : Fin 16384) (L : Fin 2048) (hL : L.val = 256 * hp t + (128 * g + l.val)) :
    rows x (ix2 R L) = x (ix3 R ⟨2 * hp t + g, by have := hp_lt t; omega⟩ l) := by
  rw [rows_at]
  have h1 : (⟨L.val / 128, by omega⟩ : Fin 16) = ⟨2 * hp t + g, by have := hp_lt t; omega⟩ := Fin.ext (by show L.val / 128 = 2 * hp t + g; omega)
  have h2 : (⟨L.val % 128, by omega⟩ : Fin 128) = l := Fin.ext (by show L.val % 128 = l.val; omega)
  rw [h1, h2]

theorem q_read (r : Fin 1024) : at2 (iblk m c 0 t) r.val (128 * g + l.val)
    = qSlots (A0 m c) (A1 m c) (ix3 ⟨1024 * qb t + r.val, by have := qb_lt t; omega⟩ ⟨2 * hp t + g, by have := hp_lt t; omega⟩ l) := by
  refine (at2_fin (a := 1024) (b := 256) (iblk m c 0 t) r ⟨128 * g + l.val, by omega⟩).trans ?_
  rw [iblk0, V_q]
  exact rows_slot t g hg l _ _ _ rfl

theorem k_read (j : Fin 16384) : at2 (iblk m c 1 t) j.val (128 * g + l.val)
    = kSlots (A2 m c) (A3 m c) (ix3 j ⟨2 * hp t + g, by have := hp_lt t; omega⟩ l) := by
  refine (at2_fin (a := 16384) (b := 256) (iblk m c 1 t) j ⟨128 * g + l.val, by omega⟩).trans ?_
  rw [iblk1, V_k]
  exact rows_slot t g hg l _ _ _ rfl

theorem v_read (j : Fin 16384) : at2 (iblk m c 2 t) j.val (128 * g + l.val)
    = vSlots (A4 m c) (ix3 j ⟨2 * hp t + g, by have := hp_lt t; omega⟩ l) := by
  refine (at2_fin (a := 16384) (b := 256) (iblk m c 2 t) j ⟨128 * g + l.val, by omega⟩).trans ?_
  rw [iblk2, V_v]
  exact rows_slot t g hg l _ _ _ rfl

/-- The block's scores are the arguments'. -/
theorem scores_read (h0 : Real' (A0 m c)) (h1 : Real' (A1 m c)) (h2 : Real' (A2 m c)) (h3 : Real' (A3 m c)) (r : Fin 1024) :
    Scores (iblk m c 0 t) (iblk m c 1 t) r (128 * g)
      (score (A0 m c) (A1 m c) (A2 m c) (A3 m c) ⟨1024 * qb t + r.val, by have := qb_lt t; omega⟩ ⟨2 * hp t + g, by have := hp_lt t; omega⟩) :=
  fun j hj => by
    refine Eq.trans (Finset.sum_congr rfl fun l _ => ?_) (slots_sum (A0 m c) (A2 m c) (A1 m c) (A3 m c) _ _ h0 h1 h2 h3 ⟨j, hj⟩)
    exact congr (congrArg _ (q_read m c t g hg l r)) (k_read m c t g hg l ⟨j, hj⟩)

theorem ones_read (j : ℕ) (hj : j < 16384) : at2 (iblk m c 2 t) j (128 * g + 64) = 1 := by
  refine (v_read m c t g hg 64 ⟨j, hj⟩).trans ?_
  rw [vSlots_at]; rfl

theorem vals_read (j : ℕ) (hj : j < 16384) (d : Fin 64) : at2 (iblk m c 2 t) j (128 * g + d.val)
    = val (A4 m c) ⟨2 * hp t + g, by have := hp_lt t; omega⟩ d j := by
  refine (v_read m c t g hg ⟨d.val, by omega⟩ ⟨j, hj⟩).trans ?_
  rw [vSlots_at, val, dif_pos d.isLt, dif_pos hj]
end

theorem canon_out (p : FVec Ideal S1024x128 .bf16) (y : S1024x128.Idx) :
    (View.canon [(⟨rOut, p⟩ : View.Piece (Elt Ideal) S1024x128 .bf16)]) y = p y := by
  canon_tiles y h
  exact congrArg p (funext fun a => Fin.ext (by fin_cases a; exacts [h0.symm, h1.symm]))

/-- The body's block at point `t` is the attention's block there. -/
theorem point (h0 : Real' (A0 m c)) (h1 : Real' (A1 m c)) (h2 : Real' (A2 m c)) (h3 : Real' (A3 m c)) (t : Fin cfg0.N)
    (r : Fin 1024) (d : Fin 128) :
    blockVal (F := Ideal) (grid0.coords t) (iblk m c 0 t) (iblk m c 1 t) (iblk m c 2 t) (ix2 r d)
      = output (A0 m c) (A1 m c) (A2 m c) (A3 m c) (A4 m c) (ix2 ⟨1024 * qb t + r.val, by have := qb_lt t; omega⟩
          ⟨128 * hp t + d.val, by have := hp_lt t; omega⟩) := by
  refine (block_at (t := t) (iblk m c 2 t) d (scores_read m c t 0 (by omega) h0 h1 h2 h3 r) (scores_read m c t 1 (by omega) h0 h1 h2 h3 r)
    (ones_read m c t 0 (by omega)) (ones_read m c t 1 (by omega))).trans ?_
  have hH := hp_lt t
  unfold output attend
  by_cases hd : d.val < 64
  · rw [if_pos hd]
    have e1 : (⟨(128 * hp t + d.val) / 64, by omega⟩ : Fin 16) = ⟨2 * hp t + 0, by omega⟩ := Fin.ext (by show (128 * hp t + d.val) / 64 = 2 * hp t + 0; omega)
    have e2 : (⟨(128 * hp t + d.val) % 64, by omega⟩ : Fin 64) = ⟨d.val, hd⟩ := Fin.ext (by show _ % 64 = d.val; omega)
    refine Finset.sum_congr rfl fun j hj => ?_
    have hv := vals_read m c t 0 (by omega) j (keys_lt hj) ⟨d.val, hd⟩
    rw [show 128 * 0 + (⟨d.val, hd⟩ : Fin 64).val = d.val by simp] at hv
    rw [hv, ← e1, ← e2]
    rfl
  · rw [if_neg hd]
    have e1 : (⟨(128 * hp t + d.val) / 64, by omega⟩ : Fin 16) = ⟨2 * hp t + 1, by omega⟩ := Fin.ext (by show (128 * hp t + d.val) / 64 = 2 * hp t + 1; omega)
    have e2 : (⟨(128 * hp t + d.val) % 64, by omega⟩ : Fin 64) = ⟨d.val - 64, by omega⟩ := Fin.ext (by show _ % 64 = d.val - 64; omega)
    refine Finset.sum_congr rfl fun j hj => ?_
    have hv := vals_read m c t 1 (by omega) j (keys_lt hj) ⟨d.val - 64, by omega⟩
    rw [show 128 * 1 + (⟨d.val - 64, by omega⟩ : Fin 64).val = d.val + 64 by show 128 * 1 + (d.val - 64) = _; omega] at hv
    rw [hv, ← e1, ← e2]
    rfl

/-- The array the run leaves. -/
theorem final (h0 : Real' (A0 m c)) (h1 : Real' (A1 m c)) (h2 : Real' (A2 m c)) (h3 : Real' (A3 m c)) :
    (dats m 0 c).arrAt 3 (cfgs 0).N = output (A0 m c) (A1 m c) (A2 m c) (A3 m c) (A4 m c) := by
  refine (dats m 0 c).arrAt_eq_of_covers 3 _ (by decide +kernel) fun t _ y => ?_
  blk_simp
  rw [after0_3]
  obtain ⟨r, d, rfl⟩ : ∃ (r : Fin 1024) (d : Fin 128), y = (ix2 r d : S1024x128.Idx) := ⟨y 0, y 1, eq_ix2 y⟩
  refine (canon_out _ (ix2 r d)).trans ((point m c h0 h1 h2 h3 t r d).trans ?_)
  generalize output (A0 m c) (A1 m c) (A2 m c) (A3 m c) (A4 m c) = G
  refine congrArg G ?_
  blk_ext [idx t]
  exact congrArg (· + d.val) (Nat.mul_comm _ _)

end Cert.KernelIdeal.Att

end
-- ==== Proof.RefIdeal.lean ====
/-
  The reference's result at an entry: the same softmax-weighted sum.
-/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.Softmax

/-- The chunk of each position. -/
def chunks : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- Which key each query may attend to. -/
def allowed (ch : IVec S16384 32) : IVec S16384x16384 1 :=
  cmpi .sle (broadcastInDim S16384x16384 ![0, 1] bcast_S1x16384_S16384x16384_0_1 (broadcastInDim S1x16384 ![1] bcast_S16384_S1x16384_1 ch))
    (broadcastInDim S16384x16384 ![0, 1] bcast_S16384x1_S16384x16384_0_1 (broadcastInDim S16384x1 ![0] bcast_S16384_S16384x1_0 ch))

/-- The scores, masked. -/
def raw (a0 : FVec Ideal S16384x16x64 .f32) (a1 : FVec Ideal S16384x16x32 .f32) (a2 : FVec Ideal S16384x16x64 .f32)
    (a3 : FVec Ideal S16384x32 .f32) : FVec Ideal S16x16384x16384 .f32 :=
  Host.divf (addf (Host.dotGeneral dot_S16384x16x64_S16384x16x64_S16x16384x16384_2_2_0_0_1_1 none a0 a2)
      (transpose S16x16384x16384 [2, 1, 0] (Host.dotGeneral dot_S16384x32_S16384x16x32_S16384x16384x16_1_2_0_01_n_n none a3 a1)
        transposes_S16384x16384x16_S16x16384x16384_2_1_0))
    (broadcastInDim S16x16384x16384 ![] bcast_S_S16x16384x16384 (Host.sqrt (constant S_ .f32 0x42C00000#32)))
def masked (al : IVec S16384x16384 1) (s : FVec Ideal S16x16384x16384 .f32) : FVec Ideal S16x16384x16384 .f32 :=
  select (broadcastInDim S16x16384x16384 ![0, 1, 2] bcast_S1x16384x16384_S16x16384x16384_0_1_2
      (broadcastInDim S1x16384x16384 ![1, 2] bcast_S16384x16384_S1x16384x16384_1_2 al)) s
    (broadcastInDim S16x16384x16384 ![] bcast_S_S16x16384x16384 (id (constant S_ .f32 0xFF800000#32)))

/-- Each row's maximum. -/
def tops (s : FVec Ideal S16x16384x16384 .f32) : FVec Ideal S16x16384 .f32 :=
  Host.reduce FloatOps.maximumf s (constant S_ .f32 0xFF800000#32) reducesTo_S16x16384x16384_S16x16384_d2 h_S_

/-- The exponentials of the scores less the given maxima. -/
def expo (s : FVec Ideal S16x16384x16384 .f32) (t : FVec Ideal S16x16384 .f32) : FVec Ideal S16x16384x16384 .f32 :=
  Host.exp (subf s (broadcastInDim S16x16384x16384 ![0, 1, 2] bcast_S16x16384x1_S16x16384x16384_0_1_2
    (broadcastInDim S16x16384x1 ![0, 1] bcast_S16x16384_S16x16384x1_0_1
      (maximumf (broadcastInDim S16x16384 ![] bcast_S_S16x16384 (constant S_ .f32 0xFF800000#32)) t))))

/-- Each row over its sum. -/
def shares (p : FVec Ideal S16x16384x16384 .f32) : FVec Ideal S16x16384x16384 .f32 :=
  Host.divf p (broadcastInDim S16x16384x16384 ![0, 1, 2] bcast_S16x16384x1_S16x16384x16384_0_1_2
    (broadcastInDim S16x16384x1 ![0, 1] bcast_S16x16384_S16x16384x1_0_1
      (Host.reduceAdd p (constant S_ .f32 0x00000000#32) reducesTo_S16x16384x16384_S16x16384_d2 h_S_)))

/-- The values under the shares, heads side by side. -/
def mix (a4 : FVec Ideal S16384x16x64 .f32) (w : FVec Ideal S16x16384x16384 .f32) : FVec Ideal S16384x1024 .bf16 :=
  truncf .bf16 (shapeCast S16384x1024 (transpose S16384x16x64 [2, 0, 1]
    (Host.dotGeneral dot_S16384x16x64_S16x16384x16384_S16x64x16384_0_2_2_1_1_0 none a4 w)
    transposes_S16x64x16384_S16384x16x64_2_0_1) shapeCasts_S16384x16x64_S16384x1024) bitsLt_bf16_f32

theorem chunk_word : ∀ (a : Fin 256) (b : Fin 64),
    Scalar.select
      (IntOp.andi
        (IntOp.cmpi CmpIPredicate.ne
          (if BitVec.ofNat 32 (64 * a.val + b.val) = 0 then (0#32) else if (BitVec.ofNat 32 (64 * a.val + b.val)).msb = true then -1 else 1)
          (if 64#32 = 0 then (0#32) else if (64#32).msb = true then -1 else 1))
        (IntOp.cmpi CmpIPredicate.ne (IntOp.remsi ArithUnit.host (BitVec.ofNat 32 (64 * a.val + b.val)) 64#32) 0#32))
      (IntOp.subi (IntOp.divsi ArithUnit.host (BitVec.ofNat 32 (64 * a.val + b.val)) 64#32) 1#32)
      (IntOp.divsi ArithUnit.host (BitVec.ofNat 32 (64 * a.val + b.val)) 64#32)
      = BitVec.ofNat 32 a.val := by decide +kernel

theorem chunks_at (j : Fin 16384) : chunks (ix1 j) = BitVec.ofNat 32 (j.val / 64) := by
  pointwise [chunks]
  have h := chunk_word ⟨j.val / 64, by omega⟩ ⟨j.val % 64, by omega⟩
  dsimp only at h
  rw [Nat.div_add_mod] at h
  exact h

theorem le_word : ∀ (a b : Fin 256), IntOp.cmpi .sle (BitVec.ofNat 32 a.val) (BitVec.ofNat 32 b.val)
    = if a.val ≤ b.val then 1#1 else 0#1 := by decide +kernel

theorem allowed_at (R j : Fin 16384) : allowed chunks (ix2 R j) = if j.val / 64 ≤ R.val / 64 then 1#1 else 0#1 := by
  have h : ∀ ch, allowed ch (ix2 R j) = IntOp.cmpi .sle (ch (ix1 j)) (ch (ix1 R)) := by
    intro ch
    pointwise [allowed]
  rw [h, chunks_at, chunks_at]
  exact le_word ⟨j.val / 64, by omega⟩ ⟨R.val / 64, by omega⟩

theorem raw_at (a0 : FVec Ideal S16384x16x64 .f32) (a1 : FVec Ideal S16384x16x32 .f32) (a2 : FVec Ideal S16384x16x64 .f32)
    (a3 : FVec Ideal S16384x32 .f32) (H : Fin 16) (R j : Fin 16384) : raw a0 a1 a2 a3 (ix3 H R j)
    = Ideal.div (∑ x, a0 (ix3 R H x) * a2 (ix3 j H x) + ∑ x, a3 (ix2 j x) * a1 (ix3 R H x)) ((Real.sqrt 96 : ℝ) : EReal) := by
  pointwise [raw]
  rw [sqrt96]

theorem raw_real (a0 : FVec Ideal S16384x16x64 .f32) (a1 : FVec Ideal S16384x16x32 .f32) (a2 : FVec Ideal S16384x16x64 .f32)
    (a3 : FVec Ideal S16384x32 .f32) (h0 : Real' a0) (h1 : Real' a1) (h2 : Real' a2) (h3 : Real' a3)
    (H : Fin 16) (R j : Fin 16384) : raw a0 a1 a2 a3 (ix3 H R j) = (score a0 a1 a2 a3 R H j.val : EReal) := by
  rw [raw_at, Ideal.div_coe sqrt96_ne]
  have e0 : ∑ x, a0 (ix3 R H x) * a2 (ix3 j H x)
      = ((∑ e : Fin 64, (a0 (ix3 R H e)).toReal * (a2 (ix3 j H e)).toReal : ℝ) : EReal) := by
    rw [coe_sum]
    exact Finset.sum_congr rfl fun e _ => by rw [EReal.coe_mul, ← h0, ← h2]
  have e1 : ∑ x, a3 (ix2 j x) * a1 (ix3 R H x)
      = ((∑ e : Fin 32, (a1 (ix3 R H e)).toReal * (a3 (ix2 j e)).toReal : ℝ) : EReal) := by
    rw [coe_sum]
    exact Finset.sum_congr rfl fun e _ => by rw [EReal.coe_mul, ← h1, ← h3, mul_comm]
  rw [e0, e1, ← EReal.coe_add, ← EReal.coe_mul, score, dif_pos j.isLt, mul_one_div]

theorem masked_at (al : IVec S16384x16384 1) (s : FVec Ideal S16x16384x16384 .f32) (H : Fin 16) (R j : Fin 16384) :
    masked al s (ix3 H R j) = Scalar.select (al (ix2 R j)) (s (ix3 H R j)) ⊥ := by
  have h : masked al s (ix3 H R j) = Scalar.select (al (ix2 R j)) (s (ix3 H R j)) (Ideal.ofBits .f32 4286578688#32) := by
    pointwise [masked]
    rfl
  rw [h, litNinf]

theorem tops_at (s : FVec Ideal S16x16384x16384 .f32) (H : Fin 16) (R : Fin 16384) :
    tops s (ix2 H R) = Finset.univ.fold max ⊥ (fun x : Fin 16384 => s (ix3 H R x)) := by
  have hr : S16x16384x16384.Reduces [2] S16x16384 := by decide
  have hl : ∀ x : Fin 16384, hr.lift (ix2 H R) x = ix3 H R x := by
    intro x
    refine funext fun d => ?_
    fin_cases d <;> rfl
  unfold tops
  rw [Host.reduce_eq_fold_single _ _ _ _ hr]
  rw [show (s ∘ hr.lift (ix2 H R)) = (fun x : Fin 16384 => s (ix3 H R x)) from funext fun x => congrArg s (hl x)]
  exact congrArg (fun b => Finset.univ.fold max b fun x : Fin 16384 => s (ix3 H R x)) litNinf

theorem expo_at (s : FVec Ideal S16x16384x16384 .f32) (t : FVec Ideal S16x16384 .f32) (H : Fin 16) (R j : Fin 16384) :
    expo s t (ix3 H R j) = Ideal.exp (s (ix3 H R j) - max ⊥ (t (ix2 H R))) := by
  pointwise [expo]
  rw [litNinf]

theorem shares_at (s : FVec Ideal S16x16384x16384 .f32) (H : Fin 16) (R j : Fin 16384) :
    shares s (ix3 H R j) = Ideal.div (s (ix3 H R j)) (∑ x, s (ix3 H R x)) := by
  pointwise [shares]

theorem mix_at (a4 : FVec Ideal S16384x16x64 .f32) (s : FVec Ideal S16x16384x16384 .f32) (R : Fin 16384) (C : Fin 1024) :
    mix a4 s (ix2 R C) = ∑ x, a4 (ix3 x ⟨C.val / 64, by omega⟩ ⟨C.val % 64, by omega⟩) * s (ix3 ⟨C.val / 64, by omega⟩ R x) := by
  pointwise [mix]

/-- The reference's whole result. -/
def result (a0 : FVec Ideal S16384x16x64 .f32) (a1 : FVec Ideal S16384x16x32 .f32) (a2 : FVec Ideal S16384x16x64 .f32)
    (a3 : FVec Ideal S16384x32 .f32) (a4 : FVec Ideal S16384x16x64 .f32) : FVec Ideal S16384x1024 .bf16 :=
  let S := masked (allowed chunks) (raw a0 a1 a2 a3)
  mix a4 (shares (expo S (tops S)))

theorem result_eq (a0 : FVec Ideal S16384x16x64 .f32) (a1 : FVec Ideal S16384x16x32 .f32) (a2 : FVec Ideal S16384x16x64 .f32)
    (a3 : FVec Ideal S16384x32 .f32) (a4 : FVec Ideal S16384x16x64 .f32) (h0 : Real' a0) (h1 : Real' a1) (h2 : Real' a2)
    (h3 : Real' a3) : result a0 a1 a2 a3 a4 = output a0 a1 a2 a3 a4 := by
  refine funext fun i => ?_
  obtain ⟨R, C, rfl⟩ : ∃ (R : Fin 16384) (C : Fin 1024), i = ix2 R C := ⟨i 0, i 1, eq_ix2 i⟩
  have hC : C.val < 1024 := C.isLt
  change result a0 a1 a2 a3 a4 (ix2 R C) = attend a0 a1 a2 a3 a4 R ⟨C.val / 64, by omega⟩ ⟨C.val % 64, by omega⟩
  unfold result
  rw [mix_at]
  generalize hH : (⟨C.val / 64, by omega⟩ : Fin 16) = H
  generalize (⟨C.val % 64, by omega⟩ : Fin 64) = d
  generalize hS : masked (allowed chunks) (raw a0 a1 a2 a3) = S
  have hin : ∀ t : Fin 16384, S (ix3 H R t) = if t.val / 64 ≤ R.val / 64 then (score a0 a1 a2 a3 R H t.val : EReal) else ⊥ := by
    intro t
    rw [← hS, masked_at, allowed_at, raw_real _ _ _ _ h0 h1 h2 h3]
    by_cases h : t.val / 64 ≤ R.val / 64
    · rw [if_pos h, if_pos h]; rfl
    · rw [if_neg h, if_neg h]; rfl
  have hk : ∀ t : Fin 16384, t.val ∈ keys R.val ↔ t.val / 64 ≤ R.val / 64 := fun t =>
    ⟨fun h => (Finset.mem_filter.1 h).2, fun h => Finset.mem_filter.2 ⟨Finset.mem_range.2 t.isLt, h⟩⟩
  have hsum := softmax_sum (n := 16384) (τ := score a0 a1 a2 a3 R H) (S := keys R.val) (fun t => S (ix3 H R t))
    (fun t => a4 (ix3 t H d)) (val a4 H d) (fun t => by rw [val, dif_pos t.isLt])
    (fun t h => by rw [hin, if_pos ((hk t).1 h)]) (fun t h => by rw [hin, if_neg (fun g => h ((hk t).2 g))])
    (fun j h => keys_lt h) (keys_nonempty R.val R.isLt)
  refine Eq.trans (Finset.sum_congr rfl fun x _ => ?_) hsum
  rw [shares_at]
  simp only [expo_at, tops_at]

theorem res_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Att

end
-- ==== Proof.Finite.lean ====
/-
  What the precondition says: every query and key is a real number.
-/
module

public import proofs.«01_k».proof.Defs
public import proofs.«01_k».proof.Proof.Spec
public import Idealize.ShloMosaic.Lib.ReduceAll

@[expose] public section

noncomputable section

namespace Cert.Softmax

open Idealize.ShloMosaic Cert.Pre_finite

/-- A magnitude below infinity is a real number's. -/
theorem real_of_lt (x : EReal) (h : Ideal.cmp .olt (max x (-x)) (Ideal.ofBits .f32 0x7F800000#32) = 1#1) :
    x = ((x.toReal : ℝ) : EReal) := by
  have ht : Ideal.ofBits .f32 0x7F800000#32 = (⊤ : EReal) := by simp [Ideal.ofBits, Ideal.ieee]
  rw [ht] at h
  have hx : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) (fun e => ?_)).symm
  · rw [e] at hx
    exact absurd hx (by simp)
  · rw [e] at hx
    exact absurd hx (by simp)

instance : Subsingleton S_.Idx := ⟨fun a b => funext fun k => k.elim0⟩

variable [Cert.Pre_finite.Facts]

theorem real_of_finite (a0 : FVec Ideal S16384x16x64 .f32) (a1 : FVec Ideal S16384x16x32 .f32) (a2 : FVec Ideal S16384x16x64 .f32)
    (a3 : FVec Ideal S16384x32 .f32) (a4 : FVec Ideal S16384x16x64 .f32)
    (h : Cert.Pre_finite.fn a0 a1 a2 a3 a4 (Shape.Idx.first Facts.h_S_) = 1#1) : Real' a0 ∧ Real' a1 ∧ Real' a2 ∧ Real' a3 := by
  have h' := IntOp.andi_eq_one.1 h
  obtain ⟨h012, h3⟩ := h'
  obtain ⟨h01, h2⟩ := IntOp.andi_eq_one.1 h012
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Softmax

end
-- ==== Proof.MoeIdeal.lean ====
/-
  The mixture of experts at a grid point: the block the eight experts of the point add.
-/
module

public import proofs.«01_k».proof.Proof.Gen.Kernel2Ideal
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Moe

open Idealize.ShloMosaic Idealize.ShloMosaic.TcCoe Idealize.SL.Sem
open Cert.Kernel2Ideal Cert.Kernel2Ideal.Gen

section
variable (X0 : FVec Ideal S832x1024 .bf16) (X1 : FVec Ideal S832x128 .f32) (X2 X3 : FVec Ideal S8x1024x256 .bf16)
  (X4 : FVec Ideal S8x256x1024 .bf16) (p : BitVec 32)

/-- What one expert adds, from its own weights; `k` is its place among the eight of the point. -/
def expert (k : BitVec 32) (wg wu : FVec Ideal S1x1024x256 .bf16) (wd : FVec Ideal S1x256x1024 .bf16) : FVec Ideal S832x1024 .f32 :=
  k0_pay11 (k0_pay3 X0) (k0_pay5 X1) (k0_pay6 X1) (k0_pay7 X1) (k0_pay8 X1)
    (Scalar.sitofp .f32 (Scalar.addi (Scalar.muli p 8#32) k)) (k0_pay10 wg) wu wd

/-- One expert's matrices among the block's eight. -/
def up (X : FVec Ideal S8x1024x256 .bf16) (k : ℕ) (h : ∀ a, (![k, 0, 0] : Fin 3 → Nat) a + S1x1024x256.size a ≤ S8x1024x256.size a) : FVec Ideal S1x1024x256 .bf16 :=
  View.ld (Val := Elt Ideal) (e' := .bf16) X (Rect.unit (s := S8x1024x256) ![k, 0, 0] S1x1024x256.size h)
def down (X : FVec Ideal S8x256x1024 .bf16) (k : ℕ) (h : ∀ a, (![k, 0, 0] : Fin 3 → Nat) a + S1x256x1024.size a ≤ S8x256x1024.size a) : FVec Ideal S1x256x1024 .bf16 :=
  View.ld (Val := Elt Ideal) (e' := .bf16) X (Rect.unit (s := S8x256x1024) ![k, 0, 0] S1x256x1024.size h)

/-- The eight experts of a point, one after the other. -/
def eight : FVec Ideal S832x1024 .f32 :=
  addf (addf (addf (addf (addf (addf (addf
    (expert X0 X1 p 0#32 (up X2 0 inb_S8x1024x256_S1x1024x256_0_0_0) (up X3 0 inb_S8x1024x256_S1x1024x256_0_0_0) (down X4 0 inb_S8x256x1024_S1x256x1024_0_0_0))
    (expert X0 X1 p 1#32 (up X2 1 inb_S8x1024x256_S1x1024x256_1_0_0) (up X3 1 inb_S8x1024x256_S1x1024x256_1_0_0) (down X4 1 inb_S8x256x1024_S1x256x1024_1_0_0)))
    (expert X0 X1 p 2#32 (up X2 2 inb_S8x1024x256_S1x1024x256_2_0_0) (up X3 2 inb_S8x1024x256_S1x1024x256_2_0_0) (down X4 2 inb_S8x256x1024_S1x256x1024_2_0_0)))
    (expert X0 X1 p 3#32 (up X2 3 inb_S8x1024x256_S1x1024x256_3_0_0) (up X3 3 inb_S8x1024x256_S1x1024x256_3_0_0) (down X4 3 inb_S8x256x1024_S1x256x1024_3_0_0)))
    (expert X0 X1 p 4#32 (up X2 4 inb_S8x1024x256_S1x1024x256_4_0_0) (up X3 4 inb_S8x1024x256_S1x1024x256_4_0_0) (down X4 4 inb_S8x256x1024_S1x256x1024_4_0_0)))
    (expert X0 X1 p 5#32 (up X2 5 inb_S8x1024x256_S1x1024x256_5_0_0) (up X3 5 inb_S8x1024x256_S1x1024x256_5_0_0) (down X4 5 inb_S8x256x1024_S1x256x1024_5_0_0)))
    (expert X0 X1 p 6#32 (up X2 6 inb_S8x1024x256_S1x1024x256_6_0_0) (up X3 6 inb_S8x1024x256_S1x1024x256_6_0_0) (down X4 6 inb_S8x256x1024_S1x256x1024_6_0_0)))
    (expert X0 X1 p 7#32 (up X2 7 inb_S8x1024x256_S1x1024x256_7_0_0) (up X3 7 inb_S8x1024x256_S1x1024x256_7_0_0) (down X4 7 inb_S8x256x1024_S1x256x1024_7_0_0))
end

variable (m : (ℓ : Loc nD τ sig) → Buf (Elt Ideal) ℓ) (c : Dev nD)

/-- At the first point of a row block, the block holds that point's eight experts. -/
theorem outA (t : Fin cfg0.N) (h0 : t.val % 4 = 0) (h1 : ¬1 ≤ t.val % 4) :
    outsAt0 m c t.val t.isLt = eight (iblk m c 0 t) (iblk m c 1 t) (iblk m c 2 t) (iblk m c 3 t) (iblk m c 4 t)
      (BitVec.ofNat 32 (grid0.coords t 1).val) := by
  rw [outsAt0_A m c t h0 h1]
  generalize iblk m c 0 t = X0
  generalize iblk m c 1 t = X1
  generalize iblk m c 2 t = X2
  generalize iblk m c 3 t = X3
  generalize iblk m c 4 t = X4
  frame_out
  rfl

/-- At a later point, the eight experts are added to what the point before left. -/
theorem outB (t : Fin cfg0.N) (h0 : ¬t.val % 4 = 0) (h1 : 1 ≤ t.val % 4) :
    outsAt0 m c t.val t.isLt = addf (outsAt0 m c (t.val - 1) (Nat.lt_of_le_of_lt (Nat.sub_le _ _) t.isLt))
      (eight (iblk m c 0 t) (iblk m c 1 t) (iblk m c 2 t) (iblk m c 3 t) (iblk m c 4 t)
      (BitVec.ofNat 32 (grid0.coords t 1).val)) := by
  rw [outsAt0_B m c t h0 h1]
  generalize iblk m c 0 t = X0
  generalize iblk m c 1 t = X1
  generalize iblk m c 2 t = X2
  generalize iblk m c 3 t = X3
  generalize iblk m c 4 t = X4
  generalize outsAt0 m c (t.val - 1) (Nat.lt_of_le_of_lt (Nat.sub_le _ _) t.isLt) = P
  frame_out
  rw [k0_pay2, shapeCast_self]
  rfl

section
variable (X0 : FVec Ideal S832x1024 .bf16) (X1 : FVec Ideal S832x128 .f32) (X2 X3 : FVec Ideal S8x1024x256 .bf16)
  (X4 : FVec Ideal S8x256x1024 .bf16) (p : BitVec 32) (r : Fin 832) (d : Fin 1024)

theorem pick (u : Fin 128 → EReal) (n : Fin 128) :
    ∑ x : Fin 128, Scalar.select (IntOp.cmpi CmpIPredicate.eq (BitVec.ofNat 32 x.val) (BitVec.ofNat 32 n.val)) (u x) 0 = u n := by
  rw [Finset.sum_eq_single n]
  · simp [Scalar.select, IntOp.cmpi]
  · intro x _ hx
    have : ¬ BitVec.ofNat 32 x.val = BitVec.ofNat 32 n.val := fun h => hx (Fin.ext (by
      have := congrArg BitVec.toNat h
      simp only [BitVec.toNat_ofNat] at this
      omega))
    have h2 : (BitVec.ofNat 32 x.val == BitVec.ofNat 32 n.val) = false := beq_eq_false_iff_ne.mpr this
    show (if BitVec.ofBool (BitVec.ofNat 32 x.val == BitVec.ofNat 32 n.val) = 1#1 then u x else 0) = 0
    rw [h2]; rfl
  · intro h; exact absurd (Finset.mem_univ _) h

theorem lane0 (z : Fin 1) : k0_pay5 X1 (ix2 r z) = X1 (ix2 r 0) := by
  pointwise [k0_pay5, k0_pay4]
  exact pick (fun x => X1 (ix2 r x)) 0
theorem lane1 (z : Fin 1) : k0_pay6 X1 (ix2 r z) = X1 (ix2 r 1) := by
  pointwise [k0_pay6, k0_pay4]
  exact pick (fun x => X1 (ix2 r x)) 1
theorem lane2 (z : Fin 1) : k0_pay7 X1 (ix2 r z) = X1 (ix2 r 2) := by
  pointwise [k0_pay7, k0_pay4]
  exact pick (fun x => X1 (ix2 r x)) 2
theorem lane3 (z : Fin 1) : k0_pay8 X1 (ix2 r z) = X1 (ix2 r 3) := by
  pointwise [k0_pay8, k0_pay4]
  exact pick (fun x => X1 (ix2 r x)) 3

/-- Entry `d` of row `r` of what one expert of the block adds: from the rows, the routing lanes and the expert's own matrices. -/
def one (n : BitVec 32) (k : Fin 8) : EReal :=
  ∑ f : Fin 256, (∑ x : Fin 1024, X0 (ix2 r x) * X2 (ix3 k x f)) * Ideal.logistic (∑ x : Fin 1024, X0 (ix2 r x) * X2 (ix3 k x f))
      * (∑ x : Fin 1024, X0 (ix2 r x) * X3 (ix3 k x f))
      * ((if X1 (ix2 r 0) = ((n.toInt : ℝ) : EReal) then X1 (ix2 r 2) else 0) + (if X1 (ix2 r 1) = ((n.toInt : ℝ) : EReal) then X1 (ix2 r 3) else 0))
    * X4 (ix3 k f d)

theorem up_at (k : ℕ) (hk : k < 8) (h) (x : Fin 1024) (f : Fin 256) : up X2 k h (ix3 0 x f) = X2 (ix3 ⟨k, hk⟩ x f) := by
  unfold up View.ld
  refine congrArg X2 ?_
  funext a
  fin_cases a <;> exact Fin.ext (by simp [Rect.unit])
theorem down_at (k : ℕ) (hk : k < 8) (h) (f : Fin 256) : down X4 k h (ix3 0 f d) = X4 (ix3 ⟨k, hk⟩ f d) := by
  unfold down View.ld
  refine congrArg X4 ?_
  funext a
  fin_cases a <;> exact Fin.ext (by simp [Rect.unit])

theorem expert_at (n : BitVec 32) (k : ℕ) (hk : k < 8) (h2 h3 h4) :
    expert X0 X1 p n (up X2 k h2) (up X3 k h3) (down X4 k h4) (ix2 r d) = one X0 X1 X2 X3 X4 r d (p * 8#32 + n) ⟨k, hk⟩ := by
  pointwise [expert, k0_pay11, k0_pay10, k0_pay3]
  simp only [lane0, lane1, lane2, lane3, up_at _ k hk, down_at _ _ k hk]
  rfl

theorem eight_at : eight X0 X1 X2 X3 X4 p (ix2 r d) = ∑ k : Fin 8, one X0 X1 X2 X3 X4 r d (p * 8#32 + BitVec.ofNat 32 k.val) k := by
  rw [Fin.sum_univ_eight]
  have e := fun (n : BitVec 32) (k : ℕ) (hk : k < 8) (h2) (h3) (h4) => expert_at X0 X1 X2 X3 X4 p r d n k hk h2 h3 h4
  unfold eight
  simp only [addf_apply]
  rw [e _ 0 (by omega), e _ 1 (by omega), e _ 2 (by omega), e _ 3 (by omega), e _ 4 (by omega), e _ 5 (by omega), e _ 6 (by omega), e _ 7 (by omega)]
  rfl
end

end Cert.Kernel2Ideal.Moe

end
-- ==== Proof.MoeSpec.lean ====
/-
  The mixture of experts as a formula: 32 experts in four groups of eight, each row's two chosen experts and their weights.
-/
module

public import Idealize.ShloMosaic.Lib.Pointwise

@[expose] public section

noncomputable section

namespace Cert.Moe

open Idealize.ShloMosaic

/-- The rows, and an expert array by group, place in the group, row and column. -/
abbrev Rows (n : ℕ) : Shape := ⟨2, ![16640, n]⟩
abbrev Up : Shape := ⟨4, ![4, 8, 1024, 256]⟩
abbrev Down : Shape := ⟨4, ![4, 8, 256, 1024]⟩

variable (h : FVec Ideal (Rows 1024) .f32) (e : IVec (Rows 2) 32) (w : FVec Ideal (Rows 2) .f32)
  (wg wu : FVec Ideal Up .f32) (wd : FVec Ideal Down .f32)

/-- The weight of expert `n` in row `R`: its routing weight if it is the first choice, plus its weight if it is the second. -/
def gate (R : Fin 16640) (n : ℕ) : EReal :=
  (if e (ix2 R 0) = BitVec.ofNat 32 n then w (ix2 R 0) else 0) + (if e (ix2 R 1) = BitVec.ofNat 32 n then w (ix2 R 1) else 0)

/-- A row against column `f` of an expert's matrix. -/
def proj (v : FVec Ideal Up .f32) (R : Fin 16640) (g : Fin 4) (k : Fin 8) (f : Fin 256) : EReal :=
  ∑ x : Fin 1024, h (ix2 R x) * v (ix4 g k x f)

/-- What expert `k` of group `g` adds to entry `D` of row `R`. -/
def term (R : Fin 16640) (D : Fin 1024) (g : Fin 4) (k : Fin 8) : EReal :=
  ∑ f : Fin 256, proj h wg R g k f * Ideal.logistic (proj h wg R g k f) * proj h wu R g k f * gate e w R (8 * g.val + k.val)
    * wd (ix4 g k f D)

/-- The mixture. -/
def output : FVec Ideal (Rows 1024) .f32 := fun i => ∑ g : Fin 4, ∑ k : Fin 8, term h e w wg wu wd (i 0) (i 1) g k

theorem output_at (R : Fin 16640) (D : Fin 1024) :
    output h e w wg wu wd (ix2 R D) = ∑ g : Fin 4, ∑ k : Fin 8, term h e w wg wu wd R D g k := rfl

end Cert.Moe

end
-- ==== Proof.MoeHost.lean ====
/-
  What the region of the mixture of experts finds, its blocks as entries of the arguments, and the array it leaves.
-/
module

public import proofs.«01_k».proof.Proof.MoeIdeal
public import proofs.«01_k».proof.Proof.MoeSpec
public import Idealize.ShloMosaic.Lib.Pipeline.ValueKit

@[expose] public section

set_option maxRecDepth 16384

noncomputable section

namespace Cert.Kernel2Ideal.Moe

open Idealize.ShloMosaic Idealize.ShloMosaic.TcCoe Idealize.SL.Sem
open Cert.Kernel2Ideal Cert.Kernel2Ideal.Gen
open Idealize.ShloMosaic.Pipeline (Dat Cfg Window BodyObligation cellOf)

variable (m : (ℓ : Loc nD τ sig) → Buf (Elt Ideal) ℓ) (c : Dev nD)

/-- The six arguments as launched. -/
abbrev A0 : FVec Ideal S16640x1024 .f32 := m ((c : Thread nD τ).loc main_arg0)
abbrev A1 : IVec S16640x2 32 := m ((c : Thread nD τ).loc main_arg1)
abbrev A2 : FVec Ideal S16640x2 .f32 := m ((c : Thread nD τ).loc main_arg2)
abbrev A3 : FVec Ideal S4x8x1024x256 .f32 := m ((c : Thread nD τ).loc main_arg3)
abbrev A4 : FVec Ideal S4x8x1024x256 .f32 := m ((c : Thread nD τ).loc main_arg4)
abbrev A5 : FVec Ideal S4x8x256x1024 .f32 := m ((c : Thread nD τ).loc main_arg5)

/-- The routing lanes: the two experts, the two weights, zeros. -/
def lanes (e : IVec S16640x2 32) (w : FVec Ideal S16640x2 .f32) : FVec Ideal S16640x128 .f32 :=
  concatenate S16640x128 1 [⟨S16640x2, (sitofp .f32 e : FVec Ideal S16640x2 .f32)⟩, ⟨S16640x2, w⟩,
    ⟨S16640x124, broadcastInDim S16640x124 ![] bcast_S_S16640x124 (constant S_ .f32 0x00000000#32 : FVec Ideal S_ .f32)⟩]
    concatenates_S16640x2_S16640x2_S16640x124_S16640x128_d1

/-- The experts' matrices in one row of 32. -/
def ups (v : FVec Ideal S4x8x1024x256 .f32) : FVec Ideal S32x1024x256 .bf16 :=
  truncf .bf16 (shapeCast S32x1024x256 v shapeCasts_S4x8x1024x256_S32x1024x256) bitsLt_bf16_f32
def downs (v : FVec Ideal S4x8x256x1024 .f32) : FVec Ideal S32x256x1024 .bf16 :=
  truncf .bf16 (shapeCast S32x256x1024 v shapeCasts_S4x8x256x1024_S32x256x1024) bitsLt_bf16_f32

theorem V_h : V m c main_v3 = (truncf .bf16 (A0 m c) bitsLt_bf16_f32 : FVec Ideal S16640x1024 .bf16) := by
  unfold V hostOps0
  after_results
theorem V_r : V m c main_v2 = lanes (A1 m c) (A2 m c) := by
  unfold V hostOps0
  after_results
  rfl
theorem V_g : V m c main_v5 = ups (A3 m c) := by
  unfold V hostOps0
  after_results
  rfl
theorem V_u : V m c main_v7 = ups (A4 m c) := by
  unfold V hostOps0
  after_results
  rfl
theorem V_d : V m c main_v9 = downs (A5 m c) := by
  unfold V hostOps0
  after_results
  rfl

section
variable (e : IVec S16640x2 32) (w : FVec Ideal S16640x2 .f32) (R : Fin 16640)
theorem lanes0 : lanes e w (ix2 R 0) = (((e (ix2 R 0)).toInt : ℝ) : EReal) := by
  pointwise [lanes]
  rfl
theorem lanes1 : lanes e w (ix2 R 1) = (((e (ix2 R 1)).toInt : ℝ) : EReal) := by
  pointwise [lanes]
  rfl
theorem lanes2 : lanes e w (ix2 R 2) = w (ix2 R 0) := by pointwise [lanes]
theorem lanes3 : lanes e w (ix2 R 3) = w (ix2 R 1) := by pointwise [lanes]
end

theorem ups_at (v : FVec Ideal S4x8x1024x256 .f32) (n : Fin 32) (x : Fin 1024) (f : Fin 256) :
    ups v (ix3 n x f) = v (ix4 ⟨n.val / 8, by omega⟩ ⟨n.val % 8, by omega⟩ x f) := by
  pointwise [ups]
theorem downs_at (v : FVec Ideal S4x8x256x1024 .f32) (n : Fin 32) (f : Fin 256) (d : Fin 1024) :
    downs v (ix3 n f d) = v (ix4 ⟨n.val / 8, by omega⟩ ⟨n.val % 8, by omega⟩ f d) := by
  pointwise [downs]

theorem idx : ∀ t : Fin cfg0.N, win0_0.index t = ![t.val / 4, 0] ∧ win0_1.index t = ![t.val / 4, 0]
    ∧ win0_2.index t = ![t.val % 4, 0, 0] ∧ win0_3.index t = ![t.val % 4, 0, 0] ∧ win0_4.index t = ![t.val % 4, 0, 0]
    ∧ win0_5.index t = ![t.val / 4, 0] ∧ (grid0.coords t 1).val = t.val % 4 :=
  (by decide +kernel : ∀ t : Fin grid0.N, _)

theorem lt80 (t : Fin cfg0.N) : t.val < 80 := t.isLt

theorem iblk0 (t : Fin cfg0.N) (r : Fin 832) (l : Fin 1024) :
    iblk m c 0 t (ix2 r l) = V m c main_v3 (ix2 ⟨832 * (t.val / 4) + r.val, by have := lt80 t; omega⟩ l) := by
  blk_ext [iblk, idx t]
theorem iblk1 (t : Fin cfg0.N) (r : Fin 832) (l : Fin 128) :
    iblk m c 1 t (ix2 r l) = V m c main_v2 (ix2 ⟨832 * (t.val / 4) + r.val, by have := lt80 t; omega⟩ l) := by
  blk_ext [iblk, idx t]
theorem iblk2 (t : Fin cfg0.N) (k : Fin 8) (x : Fin 1024) (f : Fin 256) :
    iblk m c 2 t (ix3 k x f) = V m c main_v5 (ix3 ⟨8 * (t.val % 4) + k.val, by omega⟩ x f) := by
  blk_ext [iblk, idx t]
theorem iblk3 (t : Fin cfg0.N) (k : Fin 8) (x : Fin 1024) (f : Fin 256) :
    iblk m c 3 t (ix3 k x f) = V m c main_v7 (ix3 ⟨8 * (t.val % 4) + k.val, by omega⟩ x f) := by
  blk_ext [iblk, idx t]
theorem iblk4 (t : Fin cfg0.N) (k : Fin 8) (f : Fin 256) (d : Fin 1024) :
    iblk m c 4 t (ix3 k f d) = V m c main_v9 (ix3 ⟨8 * (t.val % 4) + k.val, by omega⟩ f d) := by
  blk_ext [iblk, idx t]

/-- The row of point `t`'s block, and its group of experts. -/
abbrev row (t : Fin cfg0.N) (r : Fin 832) : Fin 16640 := ⟨832 * (t.val / 4) + r.val, by have := lt80 t; omega⟩
abbrev grp (t : Fin cfg0.N) : Fin 4 := ⟨t.val % 4, by omega⟩

theorem rows_read (t : Fin cfg0.N) (r : Fin 832) (x : Fin 1024) : iblk m c 0 t (ix2 r x) = A0 m c (ix2 (row t r) x) := by
  rw [iblk0, V_h]; rfl
theorem lane_read (t : Fin cfg0.N) (r : Fin 832) (l : Fin 128) : iblk m c 1 t (ix2 r l) = lanes (A1 m c) (A2 m c) (ix2 (row t r) l) := by
  rw [iblk1, V_r]

theorem place_div (t : Fin cfg0.N) (k : Fin 8) : (⟨(8 * (t.val % 4) + k.val) / 8, by omega⟩ : Fin 4) = grp t :=
  Fin.ext (by show (8 * (t.val % 4) + k.val) / 8 = t.val % 4; omega)
theorem place_mod (t : Fin cfg0.N) (k : Fin 8) : (⟨(8 * (t.val % 4) + k.val) % 8, by omega⟩ : Fin 8) = k :=
  Fin.ext (by show (8 * (t.val % 4) + k.val) % 8 = k.val; omega)

theorem gate_read (t : Fin cfg0.N) (k : Fin 8) (x : Fin 1024) (f : Fin 256) : iblk m c 2 t (ix3 k x f) = A3 m c (ix4 (grp t) k x f) := by
  rw [iblk2, V_g, ups_at, place_div, place_mod]
theorem up_read (t : Fin cfg0.N) (k : Fin 8) (x : Fin 1024) (f : Fin 256) : iblk m c 3 t (ix3 k x f) = A4 m c (ix4 (grp t) k x f) := by
  rw [iblk3, V_u, ups_at, place_div, place_mod]
theorem down_read (t : Fin cfg0.N) (k : Fin 8) (f : Fin 256) (d : Fin 1024) : iblk m c 4 t (ix3 k f d) = A5 m c (ix4 (grp t) k f d) := by
  rw [iblk4, V_d, downs_at, place_div, place_mod]

/-- A choice held as a float equals an expert's number exactly when the words do. -/
theorem same_word (a b : BitVec 32) : (((a.toInt : ℝ) : EReal) = ((b.toInt : ℝ) : EReal)) ↔ a = b := by
  rw [EReal.coe_eq_coe_iff, Int.cast_inj, BitVec.toInt_inj]

theorem number (t : Fin cfg0.N) (k : Fin 8) :
    BitVec.ofNat 32 (grid0.coords t 1).val * 8#32 + BitVec.ofNat 32 k.val = BitVec.ofNat 32 (8 * (grp t).val + k.val) := by
  rw [(idx t).2.2.2.2.2.2]
  apply BitVec.eq_of_toNat_eq
  simp only [BitVec.toNat_add, BitVec.toNat_mul, BitVec.toNat_ofNat]
  have := k.isLt
  show _ = (8 * (t.val % 4) + k.val) % 2 ^ 32
  omega

theorem one_point (t : Fin cfg0.N) (r : Fin 832) (d : Fin 1024) (k : Fin 8) :
    one (iblk m c 0 t) (iblk m c 1 t) (iblk m c 2 t) (iblk m c 3 t) (iblk m c 4 t) r d
        (BitVec.ofNat 32 (grid0.coords t 1).val * 8#32 + BitVec.ofNat 32 k.val) k
      = Cert.Moe.term (A0 m c) (A1 m c) (A2 m c) (A3 m c) (A4 m c) (A5 m c) (row t r) d (grp t) k := by
  rw [number]
  unfold one Cert.Moe.term Cert.Moe.gate Cert.Moe.proj
  simp only [rows_read, lane_read, gate_read, up_read, down_read, lanes0, lanes1, lanes2, lanes3, same_word]

/-- What point `t` adds to its block. -/
def adds (t : Fin cfg0.N) : FVec Ideal S832x1024 .f32 :=
  eight (iblk m c 0 t) (iblk m c 1 t) (iblk m c 2 t) (iblk m c 3 t) (iblk m c 4 t) (BitVec.ofNat 32 (grid0.coords t 1).val)

theorem adds_at (t : Fin cfg0.N) (r : Fin 832) (d : Fin 1024) :
    adds m c t (ix2 r d) = ∑ k : Fin 8, Cert.Moe.term (A0 m c) (A1 m c) (A2 m c) (A3 m c) (A4 m c) (A5 m c) (row t r) d (grp t) k := by
  refine (eight_at _ _ _ _ _ _ r d).trans (Finset.sum_congr rfl fun k _ => one_point m c t r d k)

/-- The block at its last point: its four points' additions. -/
theorem last (t : Fin cfg0.N) (hr : t.val % 4 = 4 - 1) (r : Fin 832) (d : Fin 1024) :
    outsAt0 m c t.val t.isLt (ix2 r d)
      = Cert.Moe.output (A0 m c) (A1 m c) (A2 m c) (A3 m c) (A4 m c) (A5 m c) (ix2 (row t r) d) := by
  rw [Pipeline.eq_sum_fin_of_reset_step_apply_of_flush (fun n h => outsAt0 m c n h) 4 (fun _ => (0 : EReal)) (adds m c)
    (fun s h0 i => by rw [outA m c s h0 (by omega), zero_add]; rfl)
    (fun s h0 i => by rw [outB m c s h0 (by omega)]; rfl) t hr (ix2 r d), zero_add]
  rw [Cert.Moe.output_at]
  refine Finset.sum_congr rfl fun s _ => ?_
  rw [adds_at]
  have hs := s.isLt
  have e1 : row ⟨4 * (t.val / 4) + s.val, Pipeline.run_point_lt_of_flush t hr s⟩ r = row t r :=
    Fin.ext (by show 832 * ((4 * (t.val / 4) + s.val) / 4) + r.val = 832 * (t.val / 4) + r.val; omega)
  have e2 : grp ⟨4 * (t.val / 4) + s.val, Pipeline.run_point_lt_of_flush t hr s⟩ = s :=
    Fin.ext (by show (4 * (t.val / 4) + s.val) % 4 = s.val; omega)
  rw [e1, e2]

/-- The array the run leaves. -/
theorem final : (dats m 0 c).arrAt 5 cfg0.N = Cert.Moe.output (A0 m c) (A1 m c) (A2 m c) (A3 m c) (A4 m c) (A5 m c) := by
  refine (dats m 0 c).arrAt_eq_of_covers 5 _ (by decide +kernel) fun t hf y => ?_
  have hr := (flush0_5 t).mp hf
  blk_simp
  rw [after0_5]
  obtain ⟨r, d, rfl⟩ : ∃ (r : Fin 832) (d : Fin 1024), y = (ix2 r d : S832x1024.Idx) := ⟨y 0, y 1, eq_ix2 y⟩
  refine (last m c t hr r d).trans ?_
  generalize Cert.Moe.output (A0 m c) (A1 m c) (A2 m c) (A3 m c) (A4 m c) (A5 m c) = G
  refine congrArg G ?_
  blk_ext [idx t]

end Cert.Kernel2Ideal.Moe

end
-- ==== Proof.MoeRef.lean ====
/-
  The reference's result of the mixture of experts, at an entry.
-/
module

public import proofs.«01_k».proof.Proof.MoeSpec
public import proofs.«01_k».proof.Proof.Gen.Reference2Ideal
public import proofs.«01_k».proof.Proof.Gen.Reference2Ideal.Run
public import Idealize.ShloMosaic.Lib.Pointwise

@[expose] public section

set_option maxRecDepth 16384

noncomputable section

namespace Cert.Reference2Ideal.Moe

open Idealize.ShloMosaic Idealize.ShloMosaic.TcCoe Idealize.SL.Sem
open Cert.Reference2Ideal Cert.Reference2Ideal.Gen

/-- Every expert's weight in every row, from the one-hot rows of the two choices. -/
def gates (a1 : IVec S16640x2 32) (a2 : FVec Ideal S16640x2 .f32) : FVec Ideal S16640x32 .f32 :=
  Host.reduceAdd (mulf (uitofp .f32 (cmpi .eq
      (broadcastInDim S16640x2x32 ![0, 1, 2] bcast_S16640x2x1_S16640x2x32_0_1_2 (broadcastInDim S16640x2x1 ![0, 1] bcast_S16640x2_S16640x2x1_0_1 a1))
      (broadcastInDim S16640x2x32 ![0, 1, 2] bcast_S1x1x32_S16640x2x32_0_1_2 (iotaInDim S1x1x32 32 2))))
    (broadcastInDim S16640x2x32 ![0, 1, 2] bcast_S16640x2x1_S16640x2x32_0_1_2 (broadcastInDim S16640x2x1 ![0, 1] bcast_S16640x2_S16640x2x1_0_1 a2)))
    (constant S_ .f32 0x00000000#32) reducesTo_S16640x2x32_S16640x32_d1 h_S_

/-- A row against the eight matrices of a group. -/
def dots (a0 : FVec Ideal S16640x1024 .f32) (v : FVec Ideal S1x8x1024x256 .f32) : FVec Ideal S16640x8x256 .f32 :=
  Host.dotGeneral dot_S16640x1024_S8x1024x256_S16640x8x256_1_1_0_02_n_n none a0 (shapeCast S8x1024x256 v shapeCasts_S1x8x1024x256_S8x1024x256)

/-- What a group adds, from the two projections, the group's weights and its matrices. -/
def group (g u : FVec Ideal S16640x8x256 .f32) (s : FVec Ideal S16640x1x8 .f32) (v : FVec Ideal S1x8x256x1024 .f32) : FVec Ideal S16640x1024 .f32 :=
  Host.dotGeneral dot_S16640x8x256_S8x256x1024_S16640x1024_12_01_0_2_n_n none
    (mulf (mulf (mulf g (Host.divf (broadcastInDim S16640x8x256 ![] bcast_S_S16640x8x256 (constant S_ .f32 0x3F800000#32))
        (addf (broadcastInDim S16640x8x256 ![] bcast_S_S16640x8x256 (constant S_ .f32 0x3F800000#32)) (Host.exp (Host.negf g))))) u)
      (broadcastInDim S16640x8x256 ![0, 1, 2] bcast_S16640x8x1_S16640x8x256_0_1_2
        (broadcastInDim S16640x8x1 ![0, 1] bcast_S16640x8_S16640x8x1_0_1 (shapeCast S16640x8 s shapeCasts_S16640x1x8_S16640x8))))
    (shapeCast S8x256x1024 v shapeCasts_S1x8x256x1024_S8x256x1024)

section
variable (R : Fin 16640) (D : Fin 1024)

/-- A one-hot entry times a weight. -/
theorem hot (a b : BitVec 32) (x : EReal) : FloatOps.uitofp (F := Ideal) FTy.f32 (IntOp.cmpi CmpIPredicate.eq a b) * x = if a = b then x else 0 := by
  by_cases h : a = b
  · subst h
    rw [if_pos rfl, show IntOp.cmpi CmpIPredicate.eq a a = 1#1 by simp [IntOp.cmpi]]
    show (((1#1 : BitVec 1).toNat : ℝ) : EReal) * x = x
    simp
  · have h2 : (a == b) = false := beq_eq_false_iff_ne.mpr h
    rw [if_neg h, show IntOp.cmpi CmpIPredicate.eq a b = 0#1 by show BitVec.ofBool (a == b) = 0#1; rw [h2]; rfl]
    show (((0#1 : BitVec 1).toNat : ℝ) : EReal) * x = 0
    simp

theorem gates_at (a1 : IVec S16640x2 32) (a2 : FVec Ideal S16640x2 .f32) (n : Fin 32) : gates a1 a2 (ix2 R n) = Cert.Moe.gate a1 a2 R n.val := by
  pointwise [gates]
  rw [Fin.sum_univ_two, hot, hot]
  rfl
theorem dots_at (a0 : FVec Ideal S16640x1024 .f32) (v : FVec Ideal S1x8x1024x256 .f32) (k : Fin 8) (f : Fin 256) :
    dots a0 v (ix3 R k f) = ∑ x : Fin 1024, a0 (ix2 R x) * v (ix4 0 k x f) := by
  pointwise [dots]
theorem group_at (g u : FVec Ideal S16640x8x256 .f32) (s : FVec Ideal S16640x1x8 .f32) (v : FVec Ideal S1x8x256x1024 .f32) :
    group g u s v (ix2 R D) = ∑ k : Fin 8, ∑ f : Fin 256,
      g (ix3 R k f) * Ideal.logistic (g (ix3 R k f)) * u (ix3 R k f) * s (ix3 R 0 k) * v (ix4 0 k f D) := by
  pointwise [group]
  rfl
end

section
variable (a0 : FVec Ideal S16640x1024 .f32) (a1 : IVec S16640x2 32) (a2 : FVec Ideal S16640x2 .f32)
  (a3 a4 : FVec Ideal S4x8x1024x256 .f32) (a5 : FVec Ideal S4x8x256x1024 .f32)

/-- A group from the rows. -/
def groupOf (wg wu : FVec Ideal S1x8x1024x256 .f32) (s : FVec Ideal S16640x1x8 .f32) (v : FVec Ideal S1x8x256x1024 .f32) : FVec Ideal S16640x1024 .f32 :=
  group (dots a0 wg) (dots a0 wu) s v

/-- The reference's result: the four groups, added to zeros. -/
def result : FVec Ideal S16640x1024 .f32 :=
  addf (addf (addf (addf (broadcastInDim S16640x1024 ![] bcast_S_S16640x1024 (constant S_ .f32 0x00000000#32))
    (groupOf a0 (extractStridedSlice S1x8x1024x256 ![0, 0, 0, 0] a3 slices_S4x8x1024x256_S1x8x1024x256_0_0_0_0) (extractStridedSlice S1x8x1024x256 ![0, 0, 0, 0] a4 slices_S4x8x1024x256_S1x8x1024x256_0_0_0_0) (extractStridedSlice S16640x1x8 ![0, 0, 0] (shapeCast S16640x4x8 (gates a1 a2) shapeCasts_S16640x32_S16640x4x8) slices_S16640x4x8_S16640x1x8_0_0_0) (extractStridedSlice S1x8x256x1024 ![0, 0, 0, 0] a5 slices_S4x8x256x1024_S1x8x256x1024_0_0_0_0)))
    (groupOf a0 (extractStridedSlice S1x8x1024x256 ![1, 0, 0, 0] a3 slices_S4x8x1024x256_S1x8x1024x256_1_0_0_0) (extractStridedSlice S1x8x1024x256 ![1, 0, 0, 0] a4 slices_S4x8x1024x256_S1x8x1024x256_1_0_0_0) (extractStridedSlice S16640x1x8 ![0, 1, 0] (shapeCast S16640x4x8 (gates a1 a2) shapeCasts_S16640x32_S16640x4x8) slices_S16640x4x8_S16640x1x8_0_1_0) (extractStridedSlice S1x8x256x1024 ![1, 0, 0, 0] a5 slices_S4x8x256x1024_S1x8x256x1024_1_0_0_0)))
    (groupOf a0 (extractStridedSlice S1x8x1024x256 ![2, 0, 0, 0] a3 slices_S4x8x1024x256_S1x8x1024x256_2_0_0_0) (extractStridedSlice S1x8x1024x256 ![2, 0, 0, 0] a4 slices_S4x8x1024x256_S1x8x1024x256_2_0_0_0) (extractStridedSlice S16640x1x8 ![0, 2, 0] (shapeCast S16640x4x8 (gates a1 a2) shapeCasts_S16640x32_S16640x4x8) slices_S16640x4x8_S16640x1x8_0_2_0) (extractStridedSlice S1x8x256x1024 ![2, 0, 0, 0] a5 slices_S4x8x256x1024_S1x8x256x1024_2_0_0_0)))
    (groupOf a0 (extractStridedSlice S1x8x1024x256 ![3, 0, 0, 0] a3 slices_S4x8x1024x256_S1x8x1024x256_3_0_0_0) (extractStridedSlice S1x8x1024x256 ![3, 0, 0, 0] a4 slices_S4x8x1024x256_S1x8x1024x256_3_0_0_0) (extractStridedSlice S16640x1x8 ![0, 3, 0] (shapeCast S16640x4x8 (gates a1 a2) shapeCasts_S16640x32_S16640x4x8) slices_S16640x4x8_S16640x1x8_0_3_0) (extractStridedSlice S1x8x256x1024 ![3, 0, 0, 0] a5 slices_S4x8x256x1024_S1x8x256x1024_3_0_0_0))

theorem groupOf_at (g : Fin 4) (wg wu : FVec Ideal S1x8x1024x256 .f32) (s : FVec Ideal S16640x1x8 .f32) (v : FVec Ideal S1x8x256x1024 .f32)
    (hg : ∀ k x f, wg (ix4 0 k x f) = a3 (ix4 g k x f)) (hu : ∀ k x f, wu (ix4 0 k x f) = a4 (ix4 g k x f))
    (hv : ∀ k f d, v (ix4 0 k f d) = a5 (ix4 g k f d)) (R : Fin 16640) (D : Fin 1024)
    (hs : ∀ k : Fin 8, s (ix3 R 0 k) = Cert.Moe.gate a1 a2 R (8 * g.val + k.val)) :
    groupOf a0 wg wu s v (ix2 R D) = ∑ k : Fin 8, Cert.Moe.term a0 a1 a2 a3 a4 a5 R D g k := by
  unfold groupOf
  rw [group_at]
  refine Finset.sum_congr rfl fun k _ => ?_
  unfold Cert.Moe.term Cert.Moe.proj
  simp only [dots_at, hg, hu, hv, hs]

theorem result_at (R : Fin 16640) (D : Fin 1024) : result a0 a1 a2 a3 a4 a5 (ix2 R D) = Cert.Moe.output a0 a1 a2 a3 a4 a5 (ix2 R D) := by
  rw [Cert.Moe.output_at, Fin.sum_univ_four]
  unfold result
  simp only [addf_apply]
  rw [groupOf_at a0 a1 a2 a3 a4 a5 0 _ _ _ _ (fun k x f => by pointwise []) (fun k x f => by pointwise []) (fun k f d => by pointwise []) R D
    (fun k => by pointwise []; exact (gates_at R a1 a2 _).trans rfl)]
  rw [groupOf_at a0 a1 a2 a3 a4 a5 1 _ _ _ _ (fun k x f => by pointwise []) (fun k x f => by pointwise []) (fun k f d => by pointwise []) R D
    (fun k => by pointwise []; exact (gates_at R a1 a2 _).trans rfl)]
  rw [groupOf_at a0 a1 a2 a3 a4 a5 2 _ _ _ _ (fun k x f => by pointwise []) (fun k x f => by pointwise []) (fun k f d => by pointwise []) R D
    (fun k => by pointwise []; exact (gates_at R a1 a2 _).trans rfl)]
  rw [groupOf_at a0 a1 a2 a3 a4 a5 3 _ _ _ _ (fun k x f => by pointwise []) (fun k x f => by pointwise []) (fun k f d => by pointwise []) R D
    (fun k => by pointwise []; exact (gates_at R a1 a2 _).trans rfl)]
  pointwise []
end

variable (m : (ℓ : Loc nD τ sig) → Buf (Elt Ideal) ℓ) (c : Dev nD)

theorem res_eq : Cert.Reference2Ideal.Value.res_out0 m c = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rfl

theorem final : Cert.Reference2Ideal.Value.res_out0 m c = Cert.Moe.output (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rw [res_eq]
  funext i
  obtain ⟨R, D, rfl⟩ : ∃ (R : Fin 16640) (D : Fin 1024), i = (ix2 R D : S16640x1024.Idx) := ⟨i 0, i 1, eq_ix2 i⟩
  exact result_at _ _ _ _ _ _ R D

end Cert.Reference2Ideal.Moe

end
-- ==== Proof.ProjSpec.lean ====
/-
  The latent attention's projections as formulas: two normalised latents of a row, rotary positions, heads in slots of 128 lanes.
-/
module

public import Idealize.ShloMosaic.Lib.Pointwise

@[expose] public section

noncomputable section

namespace Cert.Proj

open Idealize.ShloMosaic

abbrev Prompt : Shape := ⟨3, ![1, 16384, 1024]⟩
abbrev Sample : Shape := ⟨3, ![16, 16, 1024]⟩
abbrev WIn : Shape := ⟨3, ![1, 1024, 416]⟩
abbrev WQ : Shape := ⟨3, ![1, 256, 1536]⟩
abbrev WKV : Shape := ⟨4, ![1, 128, 16, 64]⟩
abbrev Vect (n : ℕ) : Shape := ⟨1, ![n]⟩
abbrev Row (n : ℕ) : Shape := ⟨2, ![1, n]⟩
abbrev Wide (n : ℕ) : Shape := ⟨2, ![16640, n]⟩

/-- The root-mean-square normalisation of `n` entries (`cnt` their number as a constant), with its gains. -/
def rms {n : ℕ} (cnt : EReal) (v g : Fin n → EReal) (j : Fin n) : EReal :=
  v j * FloatOps.rsqrt (F := Ideal) (φ := .f32) (FloatOps.divf (F := Ideal) (φ := .f32) (∑ i : Fin n, v i * v i) cnt
    + FloatOps.ofBits (F := Ideal) .f32 0x358637BD#32) * g j

/-- The rotation of 32 entries by sixteen angles: entry `j` pairs with entry `j ± 16`. -/
def rot (t : Fin 32 → EReal) (a : Fin 16 → EReal) (j : Fin 32) : EReal :=
  if h : j.val < 16 then
    t j * FloatOps.cos (F := Ideal) (φ := .f32) (a ⟨j.val, h⟩) - t ⟨16 + j.val, by omega⟩ * FloatOps.sin (F := Ideal) (φ := .f32) (a ⟨j.val, h⟩)
  else t ⟨j.val - 16, by omega⟩ * FloatOps.sin (F := Ideal) (φ := .f32) (a ⟨j.val - 16, by omega⟩)
    + t j * FloatOps.cos (F := Ideal) (φ := .f32) (a ⟨j.val - 16, by omega⟩)

variable (xp : FVec Ideal Prompt .f32) (xs : FVec Ideal Sample .f32) (wi : FVec Ideal WIn .f32) (gq : FVec Ideal (Row 256) .f32)
  (gk : FVec Ideal (Row 128) .f32) (wq : FVec Ideal WQ .f32) (wk wv : FVec Ideal WKV .f32)
  (pos : IVec (Vect 16640) 32) (inv : FVec Ideal (Vect 16) .f32)

/-- The rows: the prompt's, then the samples' row by row. -/
def row (R : Fin 16640) (x : Fin 1024) : EReal :=
  if h : R.val < 16384 then xp (ix3 0 ⟨R.val, h⟩ x) else xs (ix3 ⟨(R.val - 16384) / 16, by omega⟩ ⟨(R.val - 16384) % 16, by omega⟩ x)

/-- A row against column `j` of the first matrix. -/
def zed (R : Fin 16640) (j : Fin 416) : EReal := ∑ x : Fin 1024, row xp xs R x * wi (ix3 0 x j)

/-- The two normalised latents. -/
def lq (R : Fin 16640) : Fin 256 → EReal :=
  rms (FloatOps.ofBits (F := Ideal) .f32 0x43800000#32) (fun j => zed xp xs wi R ⟨j.val, by omega⟩) fun j => gq (ix2 0 j)
def lkv (R : Fin 16640) : Fin 128 → EReal :=
  rms (FloatOps.ofBits (F := Ideal) .f32 0x43000000#32) (fun j => zed xp xs wi R ⟨256 + j.val, by omega⟩) fun j => gk (ix2 0 j)

/-- A row's sixteen angles: its position times the inverse frequencies. -/
def angle (R : Fin 16640) (j : Fin 16) : EReal := FloatOps.sitofp (F := Ideal) .f32 (pos (ix1 R)) * inv (ix1 j)

/-- The rotated key part, shared by the heads. -/
def kpe (R : Fin 16640) : Fin 32 → EReal := rot (fun j => zed xp xs wi R ⟨384 + j.val, by omega⟩) (angle pos inv R)

/-- Head `h` of the queries before the rotation. -/
def query (R : Fin 16640) (h : Fin 16) (j : Fin 96) : EReal :=
  ∑ k : Fin 256, lq xp xs wi gq R k * wq (ix3 0 k ⟨h.val * 96 + j.val, by omega⟩)

/-- A latent row against head `h`'s column `l`. -/
def head (w : FVec Ideal WKV .f32) (R : Fin 16640) (h : Fin 16) (l : Fin 64) : EReal := ∑ k : Fin 128, lkv xp xs wi gk R k * w (ix4 0 k h l)

/-- The slots of a head: 64 plain lanes, 32 rotated ones, zeros; the queries scaled. -/
def slotQ (R : Fin 16640) (h : Fin 16) (l : Fin 128) : EReal :=
  (if a : l.val < 64 then query xp xs wi gq wq R h ⟨l.val, by omega⟩
    else if b : l.val - 64 < 32 then rot (fun j => query xp xs wi gq wq R h ⟨64 + j.val, by omega⟩) (angle pos inv R) ⟨l.val - 64, by omega⟩ else 0)
    * FloatOps.ofBits (F := Ideal) .f32 0x3E16C740#32
def slotK (R : Fin 16640) (h : Fin 16) (l : Fin 128) : EReal :=
  if a : l.val < 64 then head xp xs wi gk wk R h ⟨l.val, a⟩ else if b : l.val - 64 < 32 then kpe xp xs wi pos inv R ⟨l.val - 64, by omega⟩ else 0
/-- The values' slots: 64 lanes, a one, zeros. -/
def slotV (R : Fin 16640) (h : Fin 16) (l : Fin 128) : EReal :=
  if a : l.val < 64 then head xp xs wi gk wv R h ⟨l.val, a⟩ else if l.val - 64 < 1 then 1 else 0

/-- The heads side by side. -/
def wide (s : Fin 16640 → Fin 16 → Fin 128 → EReal) : (Wide 2048).Idx → EReal := fun i =>
  s (i 0) ⟨(i 1).val / 128, by have : (i 1).val < 2048 := (i 1).isLt; omega⟩ ⟨(i 1).val % 128, by omega⟩
/-- Rows of latents, and of rotated keys. -/
def flat {n : ℕ} (s : Fin 16640 → Fin n → EReal) : (Wide n).Idx → EReal := fun i => s (i 0) (i 1)

end Cert.Proj

end
-- ==== Proof.ProjIdeal.lean ====
/-
  The projections at a grid point: its rows through the two latents, and the heads' slots its stores leave.
-/
module

public import proofs.«01_k».proof.Proof.ProjSpec
public import proofs.«01_k».proof.Proof.Gen.Kernel3Ideal
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen

/-- A row `u` against column `j` of the widened first matrix. -/
def entF (u : Fin 1024 → EReal) (w : FVec Ideal S1024x640 .bf16) (j : Fin 640) : EReal := ∑ x : Fin 1024, u x * w (ix2 x j)
/-- The row's two latents. -/
def lqF (u : Fin 1024 → EReal) (w : FVec Ideal S1024x640 .bf16) (g : FVec Ideal S1x256 .f32) : Fin 256 → EReal :=
  Cert.Proj.rms (FloatOps.ofBits (F := Ideal) .f32 0x43800000#32) (fun j => entF u w ⟨j.val, by omega⟩) fun j => g (ix2 0 j)
def lkvF (u : Fin 1024 → EReal) (w : FVec Ideal S1024x640 .bf16) (g : FVec Ideal S1x128 .f32) : Fin 128 → EReal :=
  Cert.Proj.rms (FloatOps.ofBits (F := Ideal) .f32 0x43000000#32) (fun j => entF u w ⟨256 + j.val, by omega⟩) fun j => g (ix2 0 j)
/-- The row's rotated key slot, from the tables' lanes for the row. -/
def kpeF (u : Fin 1024 → EReal) (w : FVec Ideal S1024x640 .bf16) (ct st : Fin 128 → EReal) (l : Fin 128) : EReal :=
  entF u w ⟨384 + l.val, by omega⟩ * ct l + entF u w ⟨512 + l.val, by omega⟩ * st l
/-- The lane of column `d` in its slot. -/
def lane (d : Fin 2048) : Fin 128 := ⟨d.val % 128, by omega⟩
/-- The row's queries, keys and values. -/
def qF (u : Fin 1024 → EReal) (w : FVec Ideal S1024x640 .bf16) (g : FVec Ideal S1x256 .f32) (ct st : Fin 128 → EReal) (wa wb : FVec Ideal S256x2048 .bf16)
    (d : Fin 2048) : EReal :=
  ((∑ k : Fin 256, lqF u w g k * wa (ix2 k d)) * ct (lane d) + (∑ k : Fin 256, lqF u w g k * wb (ix2 k d)) * st (lane d))
    * FloatOps.ofBits (F := Ideal) .f32 0x3E16C740#32
def kF (u : Fin 1024 → EReal) (w : FVec Ideal S1024x640 .bf16) (g : FVec Ideal S1x128 .f32) (ct st : Fin 128 → EReal) (wk : FVec Ideal S128x2048 .bf16)
    (d : Fin 2048) : EReal := (∑ k : Fin 128, lkvF u w g k * wk (ix2 k d)) + kpeF u w ct st (lane d)
def vF (u : Fin 1024 → EReal) (w : FVec Ideal S1024x640 .bf16) (g : FVec Ideal S1x128 .f32) (wv : FVec Ideal S128x2048 .bf16) (one : FVec Ideal S1x2048 .f32)
    (d : Fin 2048) : EReal := (∑ k : Fin 128, lkvF u w g k * wv (ix2 k d)) + one (ix2 0 d)

/-- The point's rows: the prompt's block before point 64, the samples' there. -/
def sel (i : grid0.Coords) (X0 X1 : FVec Ideal S256x1024 .f32) (r : Fin 256) (x : Fin 1024) : EReal :=
  if (i 0).val < 64 then X0 (ix2 r x) else X1 (ix2 r x)

section
variable (i : grid0.Coords) (X0 X1 : FVec Ideal S256x1024 .f32) (X2 X3 : FVec Ideal S256x128 .f32) (X4 : FVec Ideal S1024x640 .bf16)
  (X5 : FVec Ideal S1x256 .f32) (X6 : FVec Ideal S1x128 .f32) (X7 X8 : FVec Ideal S256x2048 .bf16) (X9 X10 : FVec Ideal S128x2048 .bf16)
  (X11 : FVec Ideal S1x2048 .f32) (r : Fin 256)

theorem pay4_at (j : Fin 640) : k0_pay4 (F := Ideal) i X0 X1 X4 (ix2 r j) = entF (sel i X0 X1 r) X4 j := by
  have hi : (i 0).val < 65 := (i 0).isLt
  unfold entF sel
  by_cases h : (i 0).val < 64
  · have e : Scalar.cmpi .slt (BitVec.ofNat 32 (i 0).val) 64#32 = 1#1 := by
      generalize (i 0).val = n at h
      interval_cases n <;> decide
    simp only [if_pos h]
    unfold k0_pay4
    simp only [e]
    pointwise [Scalar.select]
    rw [if_pos (by decide)]
  · have e : Scalar.cmpi .slt (BitVec.ofNat 32 (i 0).val) 64#32 = 0#1 := by
      have : (i 0).val = 64 := by omega
      rw [this]
      decide
    simp only [if_neg h]
    unfold k0_pay4
    simp only [e]
    pointwise [Scalar.select]
    rw [if_neg (by decide)]
theorem pay5_at (j : Fin 256) : k0_pay5 (F := Ideal) i X0 X1 X4 X5 (ix2 r j) = lqF (sel i X0 X1 r) X4 X5 j := by
  pointwise [k0_pay5]
  simp only [pay4_at]
  rfl
theorem pay6_at (j : Fin 128) : k0_pay6 (F := Ideal) i X0 X1 X4 X6 (ix2 r j) = lkvF (sel i X0 X1 r) X4 X6 j := by
  pointwise [k0_pay6]
  simp only [pay4_at]
  rfl

theorem pay52_at (j : Fin 640) : k0_pay52 (F := Ideal) i X0 X1 X2 X3 X4 X5 X6 X7 X8 X9 X10 X11 (ix2 r j) = entF (sel i X0 X1 r) X4 j := by
  unfold k0_pay52
  frame_out
  exact pay4_at i X0 X1 X4 r j
theorem pay53_at (j : Fin 256) : k0_pay53 (F := Ideal) i X0 X1 X2 X3 X4 X5 X6 X7 X8 X9 X10 X11 (ix2 r j) = lqF (sel i X0 X1 r) X4 X5 j := by
  unfold k0_pay53
  frame_out
  exact pay5_at i X0 X1 X4 X5 r j
theorem pay54_at (j : Fin 128) : k0_pay54 (F := Ideal) i X0 X1 X2 X3 X4 X5 X6 X7 X8 X9 X10 X11 (ix2 r j) = lkvF (sel i X0 X1 r) X4 X6 j := by
  unfold k0_pay54
  frame_out
  exact pay6_at i X0 X1 X4 X6 r j
theorem pay55_eq : k0_pay55 (F := Ideal) i X0 X1 X2 X3 X4 X5 X6 X7 X8 X9 X10 X11 = X2 := by
  unfold k0_pay55 k0_pay7
  frame_out
  exact shapeCast_self _ _
theorem pay56_eq : k0_pay56 (F := Ideal) i X0 X1 X2 X3 X4 X5 X6 X7 X8 X9 X10 X11 = X3 := by
  unfold k0_pay56 k0_pay8
  frame_out
  exact shapeCast_self _ _
theorem pay57_at (l : Fin 128) : k0_pay57 (F := Ideal) i X0 X1 X2 X3 X4 X5 X6 X7 X8 X9 X10 X11 (ix2 r l)
    = kpeF (sel i X0 X1 r) X4 (fun l => X2 (ix2 r l)) (fun l => X3 (ix2 r l)) l := by
  unfold k0_pay57
  frame_out
  pointwise [k0_pay9, k0_pay7, k0_pay8]
  simp only [pay52_at]
  rfl
theorem pay58_at (d : Fin 2048) : k0_pay58 (F := Ideal) i X0 X1 X2 X3 X4 X5 X6 X7 X8 X9 X10 X11 (ix2 r d) = ∑ k : Fin 256, lqF (sel i X0 X1 r) X4 X5 k * X7 (ix2 k d) := by
  unfold k0_pay58
  frame_out
  pointwise [k0_pay12, k0_pay10]
  simp only [pay53_at]
theorem pay59_at (d : Fin 2048) : k0_pay59 (F := Ideal) i X0 X1 X2 X3 X4 X5 X6 X7 X8 X9 X10 X11 (ix2 r d) = ∑ k : Fin 256, lqF (sel i X0 X1 r) X4 X5 k * X8 (ix2 k d) := by
  unfold k0_pay59
  frame_out
  pointwise [k0_pay13, k0_pay10]
  simp only [pay53_at]
theorem pay60_at (d : Fin 2048) : k0_pay60 (F := Ideal) i X0 X1 X2 X3 X4 X5 X6 X7 X8 X9 X10 X11 (ix2 r d) = ∑ k : Fin 128, lkvF (sel i X0 X1 r) X4 X6 k * X9 (ix2 k d) := by
  unfold k0_pay60
  frame_out
  pointwise [k0_pay14, k0_pay11]
  simp only [pay54_at]

/-- A payload stored at columns `128 h …` reads as `G` there when its entries are `G`'s. -/
theorem piece (G : S256x2048.Idx → EReal) (h : ℕ) (hb : ∀ a, (![0, 128 * h] : Fin 2 → Nat) a + S256x128.size a ≤ S256x2048.size a)
    (hh : h < 16) (P : FVec Ideal S256x128 .bf16) (hP : ∀ (r : Fin 256) (l : Fin 128), P (ix2 r l) = G (ix2 r ⟨128 * h + l.val, by omega⟩)) :
    ∀ x : S256x128.Idx, P x = G ((Rect.unit (s := S256x2048) ![0, 128 * h] S256x128.size hb).emb x) := by
  intro x
  obtain ⟨r, l, rfl⟩ : ∃ r l, x = (ix2 r l : S256x128.Idx) := ⟨_, _, eq_ix2 x⟩
  rw [hP]
  refine congrArg G ?_
  funext a
  fin_cases a <;> exact Fin.ext (by simp [Rect.unit, Rect.emb])

/-- The sixteen queries' slots of a block from their entries before the rotation, and the keys'. -/
def gQ (qa qb : FVec Ideal S256x2048 .f32) (ct st : FVec Ideal S256x128 .f32) (y : S256x2048.Idx) : EReal :=
  (qa y * ct (ix2 (y 0) (lane (y 1))) + qb y * st (ix2 (y 0) (lane (y 1)))) * FloatOps.ofBits (F := Ideal) .f32 0x3E16C740#32
def gK (kn : FVec Ideal S256x2048 .f32) (pe : FVec Ideal S256x128 .f32) (y : S256x2048.Idx) : EReal := kn y + pe (ix2 (y 0) (lane (y 1)))

theorem lane_slot (h : ℕ) (l : Fin 128) (b) : lane (⟨128 * h + l.val, b⟩ : Fin 2048) = l := Fin.ext (by show (128 * h + l.val) % 128 = l.val; omega)

theorem gQ_at (qa qb : FVec Ideal S256x2048 .f32) (ct st : FVec Ideal S256x128 .f32) (h : ℕ) (l : Fin 128) (b) :
    gQ qa qb ct st (ix2 r ⟨128 * h + l.val, b⟩) = (qa (ix2 r ⟨128 * h + l.val, b⟩) * ct (ix2 r l) + qb (ix2 r ⟨128 * h + l.val, b⟩) * st (ix2 r l))
      * FloatOps.ofBits (F := Ideal) .f32 0x3E16C740#32 := by
  show (_ * ct (ix2 r (lane ⟨128 * h + l.val, b⟩)) + _ * st (ix2 r (lane ⟨128 * h + l.val, b⟩))) * _ = _
  rw [lane_slot]
theorem gK_at (kn : FVec Ideal S256x2048 .f32) (pe : FVec Ideal S256x128 .f32) (h : ℕ) (l : Fin 128) (b) :
    gK kn pe (ix2 r ⟨128 * h + l.val, b⟩) = kn (ix2 r ⟨128 * h + l.val, b⟩) + pe (ix2 r l) := by
  show _ + pe (ix2 r (lane ⟨128 * h + l.val, b⟩)) = _
  rw [lane_slot]

theorem q1_at (qa qb : FVec Ideal S256x2048 .f32) (ct st : FVec Ideal S256x128 .f32) (r : Fin 256) (l : Fin 128) :
    (k0_pay19 ct st qa qb) (ix2 r l) = gQ qa qb ct st (ix2 r ⟨128 * 1 + l.val, by omega⟩) := by
  rw [gQ_at]
  pointwise [k0_pay19]
theorem q2_at (qa qb : FVec Ideal S256x2048 .f32) (ct st : FVec Ideal S256x128 .f32) (r : Fin 256) (l : Fin 128) :
    (k0_pay21 ct st qa qb) (ix2 r l) = gQ qa qb ct st (ix2 r ⟨128 * 2 + l.val, by omega⟩) := by
  rw [gQ_at]
  pointwise [k0_pay21]
theorem q3_at (qa qb : FVec Ideal S256x2048 .f32) (ct st : FVec Ideal S256x128 .f32) (r : Fin 256) (l : Fin 128) :
    (k0_pay24 (k0_pay23 ct st qa qb)) (ix2 r l) = gQ qa qb ct st (ix2 r ⟨128 * 3 + l.val, by omega⟩) := by
  rw [gQ_at]
  pointwise [k0_pay24, k0_pay23]
theorem q4_at (qa qb : FVec Ideal S256x2048 .f32) (ct st : FVec Ideal S256x128 .f32) (r : Fin 256) (l : Fin 128) :
    (k0_pay26 ct st qa qb) (ix2 r l) = gQ qa qb ct st (ix2 r ⟨128 * 4 + l.val, by omega⟩) := by
  rw [gQ_at]
  pointwise [k0_pay26]
theorem q5_at (qa qb : FVec Ideal S256x2048 .f32) (ct st : FVec Ideal S256x128 .f32) (r : Fin 256) (l : Fin 128) :
    (k0_pay28 ct st qa qb) (ix2 r l) = gQ qa qb ct st (ix2 r ⟨128 * 5 + l.val, by omega⟩) := by
  rw [gQ_at]
  pointwise [k0_pay28]
theorem q6_at (qa qb : FVec Ideal S256x2048 .f32) (ct st : FVec Ideal S256x128 .f32) (r : Fin 256) (l : Fin 128) :
    (k0_pay31 (k0_pay30 ct st qa qb)) (ix2 r l) = gQ qa qb ct st (ix2 r ⟨128 * 6 + l.val, by omega⟩) := by
  rw [gQ_at]
  pointwise [k0_pay31, k0_pay30]
theorem q7_at (qa qb : FVec Ideal S256x2048 .f32) (ct st : FVec Ideal S256x128 .f32) (r : Fin 256) (l : Fin 128) :
    (k0_pay33 ct st qa qb) (ix2 r l) = gQ qa qb ct st (ix2 r ⟨128 * 7 + l.val, by omega⟩) := by
  rw [gQ_at]
  pointwise [k0_pay33]
theorem q8_at (qa qb : FVec Ideal S256x2048 .f32) (ct st : FVec Ideal S256x128 .f32) (r : Fin 256) (l : Fin 128) :
    (k0_pay35 ct st qa qb) (ix2 r l) = gQ qa qb ct st (ix2 r ⟨128 * 8 + l.val, by omega⟩) := by
  rw [gQ_at]
  pointwise [k0_pay35]
theorem q9_at (qa qb : FVec Ideal S256x2048 .f32) (ct st : FVec Ideal S256x128 .f32) (r : Fin 256) (l : Fin 128) :
    (k0_pay38 (k0_pay37 ct st qa qb)) (ix2 r l) = gQ qa qb ct st (ix2 r ⟨128 * 9 + l.val, by omega⟩) := by
  rw [gQ_at]
  pointwise [k0_pay38, k0_pay37]
theorem q10_at (qa qb : FVec Ideal S256x2048 .f32) (ct st : FVec Ideal S256x128 .f32) (r : Fin 256) (l : Fin 128) :
    (k0_pay40 ct st qa qb) (ix2 r l) = gQ qa qb ct st (ix2 r ⟨128 * 10 + l.val, by omega⟩) := by
  rw [gQ_at]
  pointwise [k0_pay40]
theorem q11_at (qa qb : FVec Ideal S256x2048 .f32) (ct st : FVec Ideal S256x128 .f32) (r : Fin 256) (l : Fin 128) :
    (k0_pay42 ct st qa qb) (ix2 r l) = gQ qa qb ct st (ix2 r ⟨128 * 11 + l.val, by omega⟩) := by
  rw [gQ_at]
  pointwise [k0_pay42]
theorem q12_at (qa qb : FVec Ideal S256x2048 .f32) (ct st : FVec Ideal S256x128 .f32) (r : Fin 256) (l : Fin 128) :
    (k0_pay45 (k0_pay44 ct st qa qb)) (ix2 r l) = gQ qa qb ct st (ix2 r ⟨128 * 12 + l.val, by omega⟩) := by
  rw [gQ_at]
  pointwise [k0_pay45, k0_pay44]
theorem q13_at (qa qb : FVec Ideal S256x2048 .f32) (ct st : FVec Ideal S256x128 .f32) (r : Fin 256) (l : Fin 128) :
    (k0_pay47 ct st qa qb) (ix2 r l) = gQ qa qb ct st (ix2 r ⟨128 * 13 + l.val, by omega⟩) := by
  rw [gQ_at]
  pointwise [k0_pay47]
theorem q14_at (qa qb : FVec Ideal S256x2048 .f32) (ct st : FVec Ideal S256x128 .f32) (r : Fin 256) (l : Fin 128) :
    (k0_pay49 ct st qa qb) (ix2 r l) = gQ qa qb ct st (ix2 r ⟨128 * 14 + l.val, by omega⟩) := by
  rw [gQ_at]
  pointwise [k0_pay49]
theorem q15_at (qa qb : FVec Ideal S256x2048 .f32) (ct st : FVec Ideal S256x128 .f32) (r : Fin 256) (l : Fin 128) :
    (k0_pay1 (k0_pay51 ct st qa qb)) (ix2 r l) = gQ qa qb ct st (ix2 r ⟨128 * 15 + l.val, by omega⟩) := by
  rw [gQ_at]
  pointwise [k0_pay1, k0_pay51]
theorem q0_at (v : FVec Ideal S256x256 .f32) (wa wb : FVec Ideal S256x2048 .bf16) (ct st : FVec Ideal S256x128 .f32) (r : Fin 256) (l : Fin 128) :
    (k0_pay17 (k0_pay16 v ct st wa wb)) (ix2 r l) = gQ (k0_pay12 v wa) (k0_pay13 v wb) ct st (ix2 r ⟨128 * 0 + l.val, by omega⟩) := by
  rw [gQ_at]
  pointwise [k0_pay17, k0_pay16, k0_pay7, k0_pay8, k0_pay12, k0_pay13]
theorem k0_at (kn : FVec Ideal S256x2048 .f32) (pe : FVec Ideal S256x128 .f32) (r : Fin 256) (l : Fin 128) :
    (k0_pay18 pe kn) (ix2 r l) = gK kn pe (ix2 r ⟨128 * 0 + l.val, by omega⟩) := by
  rw [gK_at]
  pointwise [k0_pay18]
theorem k1_at (kn : FVec Ideal S256x2048 .f32) (pe : FVec Ideal S256x128 .f32) (r : Fin 256) (l : Fin 128) :
    (k0_pay20 pe kn) (ix2 r l) = gK kn pe (ix2 r ⟨128 * 1 + l.val, by omega⟩) := by
  rw [gK_at]
  pointwise [k0_pay20]
theorem k2_at (kn : FVec Ideal S256x2048 .f32) (pe : FVec Ideal S256x128 .f32) (r : Fin 256) (l : Fin 128) :
    (k0_pay22 pe kn) (ix2 r l) = gK kn pe (ix2 r ⟨128 * 2 + l.val, by omega⟩) := by
  rw [gK_at]
  pointwise [k0_pay22]
theorem k3_at (kn : FVec Ideal S256x2048 .f32) (pe : FVec Ideal S256x128 .f32) (r : Fin 256) (l : Fin 128) :
    (k0_pay25 pe kn) (ix2 r l) = gK kn pe (ix2 r ⟨128 * 3 + l.val, by omega⟩) := by
  rw [gK_at]
  pointwise [k0_pay25]
theorem k4_at (kn : FVec Ideal S256x2048 .f32) (pe : FVec Ideal S256x128 .f32) (r : Fin 256) (l : Fin 128) :
    (k0_pay27 pe kn) (ix2 r l) = gK kn pe (ix2 r ⟨128 * 4 + l.val, by omega⟩) := by
  rw [gK_at]
  pointwise [k0_pay27]
theorem k5_at (kn : FVec Ideal S256x2048 .f32) (pe : FVec Ideal S256x128 .f32) (r : Fin 256) (l : Fin 128) :
    (k0_pay29 pe kn) (ix2 r l) = gK kn pe (ix2 r ⟨128 * 5 + l.val, by omega⟩) := by
  rw [gK_at]
  pointwise [k0_pay29]
theorem k6_at (kn : FVec Ideal S256x2048 .f32) (pe : FVec Ideal S256x128 .f32) (r : Fin 256) (l : Fin 128) :
    (k0_pay32 pe kn) (ix2 r l) = gK kn pe (ix2 r ⟨128 * 6 + l.val, by omega⟩) := by
  rw [gK_at]
  pointwise [k0_pay32]
theorem k7_at (kn : FVec Ideal S256x2048 .f32) (pe : FVec Ideal S256x128 .f32) (r : Fin 256) (l : Fin 128) :
    (k0_pay34 pe kn) (ix2 r l) = gK kn pe (ix2 r ⟨128 * 7 + l.val, by omega⟩) := by
  rw [gK_at]
  pointwise [k0_pay34]
theorem k8_at (kn : FVec Ideal S256x2048 .f32) (pe : FVec Ideal S256x128 .f32) (r : Fin 256) (l : Fin 128) :
    (k0_pay36 pe kn) (ix2 r l) = gK kn pe (ix2 r ⟨128 * 8 + l.val, by omega⟩) := by
  rw [gK_at]
  pointwise [k0_pay36]
theorem k9_at (kn : FVec Ideal S256x2048 .f32) (pe : FVec Ideal S256x128 .f32) (r : Fin 256) (l : Fin 128) :
    (k0_pay39 pe kn) (ix2 r l) = gK kn pe (ix2 r ⟨128 * 9 + l.val, by omega⟩) := by
  rw [gK_at]
  pointwise [k0_pay39]
theorem k10_at (kn : FVec Ideal S256x2048 .f32) (pe : FVec Ideal S256x128 .f32) (r : Fin 256) (l : Fin 128) :
    (k0_pay41 pe kn) (ix2 r l) = gK kn pe (ix2 r ⟨128 * 10 + l.val, by omega⟩) := by
  rw [gK_at]
  pointwise [k0_pay41]
theorem k11_at (kn : FVec Ideal S256x2048 .f32) (pe : FVec Ideal S256x128 .f32) (r : Fin 256) (l : Fin 128) :
    (k0_pay43 pe kn) (ix2 r l) = gK kn pe (ix2 r ⟨128 * 11 + l.val, by omega⟩) := by
  rw [gK_at]
  pointwise [k0_pay43]
theorem k12_at (kn : FVec Ideal S256x2048 .f32) (pe : FVec Ideal S256x128 .f32) (r : Fin 256) (l : Fin 128) :
    (k0_pay46 pe kn) (ix2 r l) = gK kn pe (ix2 r ⟨128 * 12 + l.val, by omega⟩) := by
  rw [gK_at]
  pointwise [k0_pay46]
theorem k13_at (kn : FVec Ideal S256x2048 .f32) (pe : FVec Ideal S256x128 .f32) (r : Fin 256) (l : Fin 128) :
    (k0_pay48 pe kn) (ix2 r l) = gK kn pe (ix2 r ⟨128 * 13 + l.val, by omega⟩) := by
  rw [gK_at]
  pointwise [k0_pay48]
theorem k14_at (kn : FVec Ideal S256x2048 .f32) (pe : FVec Ideal S256x128 .f32) (r : Fin 256) (l : Fin 128) :
    (k0_pay50 pe kn) (ix2 r l) = gK kn pe (ix2 r ⟨128 * 14 + l.val, by omega⟩) := by
  rw [gK_at]
  pointwise [k0_pay50]
theorem k15_at (kn : FVec Ideal S256x2048 .f32) (pe : FVec Ideal S256x128 .f32) (r : Fin 256) (l : Fin 128) :
    (k0_pay2 pe kn) (ix2 r l) = gK kn pe (ix2 r ⟨128 * 15 + l.val, by omega⟩) := by
  rw [gK_at]
  pointwise [k0_pay2]

/-- The five blocks a point leaves, at an entry. -/
theorem outQ (d : Fin 2048) : out0_12 (F := Ideal) i X0 X1 X2 X3 X4 X5 X6 X7 X8 X9 X10 X11 (ix2 r d)
    = qF (sel i X0 X1 r) X4 X5 (fun l => X2 (ix2 r l)) (fun l => X3 (ix2 r l)) X7 X8 d := by
  refine (View.canon_apply_of_pieces (gQ (k0_pay58 (F := Ideal) i X0 X1 X2 X3 X4 X5 X6 X7 X8 X9 X10 X11) (k0_pay59 (F := Ideal) i X0 X1 X2 X3 X4 X5 X6 X7 X8 X9 X10 X11) X2 X3) _ ?_ (ix2 r d)
    (cover0_12 _ _ _ _ _ _ _ _ _ _ _ _ _ _ _ _ _)).trans ?_
  · simp only [pay55_eq, pay56_eq]
    refine List.forall_mem_cons.mpr ⟨piece _ 15 inb_S256x2048_S256x128_0_1920 (by omega) _ (q15_at _ _ X2 X3), ?_⟩
    refine List.forall_mem_cons.mpr ⟨piece _ 14 inb_S256x2048_S256x128_0_1792 (by omega) _ (q14_at _ _ X2 X3), ?_⟩
    refine List.forall_mem_cons.mpr ⟨piece _ 13 inb_S256x2048_S256x128_0_1664 (by omega) _ (q13_at _ _ X2 X3), ?_⟩
    refine List.forall_mem_cons.mpr ⟨piece _ 12 inb_S256x2048_S256x128_0_1536 (by omega) _ (q12_at _ _ X2 X3), ?_⟩
    refine List.forall_mem_cons.mpr ⟨piece _ 11 inb_S256x2048_S256x128_0_1408 (by omega) _ (q11_at _ _ X2 X3), ?_⟩
    refine List.forall_mem_cons.mpr ⟨piece _ 10 inb_S256x2048_S256x128_0_1280 (by omega) _ (q10_at _ _ X2 X3), ?_⟩
    refine List.forall_mem_cons.mpr ⟨piece _ 9 inb_S256x2048_S256x128_0_1152 (by omega) _ (q9_at _ _ X2 X3), ?_⟩
    refine List.forall_mem_cons.mpr ⟨piece _ 8 inb_S256x2048_S256x128_0_1024 (by omega) _ (q8_at _ _ X2 X3), ?_⟩
    refine List.forall_mem_cons.mpr ⟨piece _ 7 inb_S256x2048_S256x128_0_896 (by omega) _ (q7_at _ _ X2 X3), ?_⟩
    refine List.forall_mem_cons.mpr ⟨piece _ 6 inb_S256x2048_S256x128_0_768 (by omega) _ (q6_at _ _ X2 X3), ?_⟩
    refine List.forall_mem_cons.mpr ⟨piece _ 5 inb_S256x2048_S256x128_0_640 (by omega) _ (q5_at _ _ X2 X3), ?_⟩
    refine List.forall_mem_cons.mpr ⟨piece _ 4 inb_S256x2048_S256x128_0_512 (by omega) _ (q4_at _ _ X2 X3), ?_⟩
    refine List.forall_mem_cons.mpr ⟨piece _ 3 inb_S256x2048_S256x128_0_384 (by omega) _ (q3_at _ _ X2 X3), ?_⟩
    refine List.forall_mem_cons.mpr ⟨piece _ 2 inb_S256x2048_S256x128_0_256 (by omega) _ (q2_at _ _ X2 X3), ?_⟩
    refine List.forall_mem_cons.mpr ⟨piece _ 1 inb_S256x2048_S256x128_0_128 (by omega) _ (q1_at _ _ X2 X3), ?_⟩
    refine List.forall_mem_cons.mpr ⟨piece _ 0 inb_S256x2048_S256x128_0_0 (by omega) _ ?_, fun p hp => absurd hp List.not_mem_nil⟩
    unfold k0_pay58 k0_pay59
    frame_out
    exact q0_at _ X7 X8 X2 X3
  · unfold gQ qF
    rw [pay58_at, pay59_at]
    rfl
theorem outK (d : Fin 2048) : out0_13 (F := Ideal) i X0 X1 X2 X3 X4 X5 X6 X7 X8 X9 X10 X11 (ix2 r d)
    = kF (sel i X0 X1 r) X4 X6 (fun l => X2 (ix2 r l)) (fun l => X3 (ix2 r l)) X9 d := by
  refine (View.canon_apply_of_pieces (gK (k0_pay60 (F := Ideal) i X0 X1 X2 X3 X4 X5 X6 X7 X8 X9 X10 X11) (k0_pay57 (F := Ideal) i X0 X1 X2 X3 X4 X5 X6 X7 X8 X9 X10 X11)) _ ?_ (ix2 r d)
    (cover0_13 _ _ _ _ _ _ _ _ _ _ _ _ _ _ _ _ _)).trans ?_
  · refine List.forall_mem_cons.mpr ⟨piece _ 15 inb_S256x2048_S256x128_0_1920 (by omega) _ (k15_at _ _), ?_⟩
    refine List.forall_mem_cons.mpr ⟨piece _ 14 inb_S256x2048_S256x128_0_1792 (by omega) _ (k14_at _ _), ?_⟩
    refine List.forall_mem_cons.mpr ⟨piece _ 13 inb_S256x2048_S256x128_0_1664 (by omega) _ (k13_at _ _), ?_⟩
    refine List.forall_mem_cons.mpr ⟨piece _ 12 inb_S256x2048_S256x128_0_1536 (by omega) _ (k12_at _ _), ?_⟩
    refine List.forall_mem_cons.mpr ⟨piece _ 11 inb_S256x2048_S256x128_0_1408 (by omega) _ (k11_at _ _), ?_⟩
    refine List.forall_mem_cons.mpr ⟨piece _ 10 inb_S256x2048_S256x128_0_1280 (by omega) _ (k10_at _ _), ?_⟩
    refine List.forall_mem_cons.mpr ⟨piece _ 9 inb_S256x2048_S256x128_0_1152 (by omega) _ (k9_at _ _), ?_⟩
    refine List.forall_mem_cons.mpr ⟨piece _ 8 inb_S256x2048_S256x128_0_1024 (by omega) _ (k8_at _ _), ?_⟩
    refine List.forall_mem_cons.mpr ⟨piece _ 7 inb_S256x2048_S256x128_0_896 (by omega) _ (k7_at _ _), ?_⟩
    refine List.forall_mem_cons.mpr ⟨piece _ 6 inb_S256x2048_S256x128_0_768 (by omega) _ (k6_at _ _), ?_⟩
    refine List.forall_mem_cons.mpr ⟨piece _ 5 inb_S256x2048_S256x128_0_640 (by omega) _ (k5_at _ _), ?_⟩
    refine List.forall_mem_cons.mpr ⟨piece _ 4 inb_S256x2048_S256x128_0_512 (by omega) _ (k4_at _ _), ?_⟩
    refine List.forall_mem_cons.mpr ⟨piece _ 3 inb_S256x2048_S256x128_0_384 (by omega) _ (k3_at _ _), ?_⟩
    refine List.forall_mem_cons.mpr ⟨piece _ 2 inb_S256x2048_S256x128_0_256 (by omega) _ (k2_at _ _), ?_⟩
    refine List.forall_mem_cons.mpr ⟨piece _ 1 inb_S256x2048_S256x128_0_128 (by omega) _ (k1_at _ _), ?_⟩
    refine List.forall_mem_cons.mpr ⟨piece _ 0 inb_S256x2048_S256x128_0_0 (by omega) _ (k0_at _ _), fun p hp => absurd hp List.not_mem_nil⟩
  · unfold gK kF
    rw [pay60_at]
    exact congrArg (_ + ·) (pay57_at i X0 X1 X2 X3 X4 X5 X6 X7 X8 X9 X10 X11 r (lane d))
theorem outV (d : Fin 2048) : out0_14 (F := Ideal) i X0 X1 X2 X3 X4 X5 X6 X7 X8 X9 X10 X11 (ix2 r d) = vF (sel i X0 X1 r) X4 X6 X10 X11 d := by
  unfold out0_14
  frame_out
  pointwise [k0_pay3, k0_pay15, k0_pay11]
  simp only [pay54_at]
  rfl
theorem outL (j : Fin 128) : out0_15 (F := Ideal) i X0 X1 X2 X3 X4 X5 X6 X7 X8 X9 X10 X11 (ix2 r j) = lkvF (sel i X0 X1 r) X4 X6 j := by
  unfold out0_15
  frame_out
  exact pay54_at i X0 X1 X2 X3 X4 X5 X6 X7 X8 X9 X10 X11 r j
theorem outP (l : Fin 128) : out0_16 (F := Ideal) i X0 X1 X2 X3 X4 X5 X6 X7 X8 X9 X10 X11 (ix2 r l)
    = kpeF (sel i X0 X1 r) X4 (fun l => X2 (ix2 r l)) (fun l => X3 (ix2 r l)) l := by
  unfold out0_16
  frame_out
  pointwise [k0_pay9, k0_pay7, k0_pay8]
  simp only [pay52_at]
  rfl
end

end Cert.Kernel3Ideal.Proj

end
-- ==== Proof.ProjHost.lean ====
/-
  The arrays the host prepares for the projections, and their entries.
-/
module

public import proofs.«01_k».proof.Proof.ProjIdeal
public import proofs.«01_k».proof.Proof.ProjSpec
public import Idealize.ShloMosaic.Lib.Pipeline.ValueKit
public import Idealize.ShloMosaic.Lib.Routing.OpsSet
public import Idealize.ShloMosaic.Lib.Routing.OpsPair
public import Idealize.ShloMosaic.Lib.Routing.OpsOne

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Idealize.ShloMosaic.Pipeline (Dat Cfg Window BodyObligation cellOf)

/-- The first matrix widened: the two latents' columns, the rotated key's in a slot of 128, and in a second slot with its halves exchanged. -/
def plain (v : FVec Ideal S1x1024x416 .f32) : FVec Ideal S1024x416 .f32 := shapeCast S1024x416 v shapeCasts_S1x1024x416_S1024x416
def keyCols (v : FVec Ideal S1x1024x416 .f32) : FVec Ideal S1024x32 .f32 := extractStridedSlice S1024x32 ![0, 384] (plain v) slices_S1024x416_S1024x32_0_384
def keySwap (v : FVec Ideal S1x1024x416 .f32) : FVec Ideal S1024x32 .f32 :=
  concatenate S1024x32 1 [⟨S1024x16, extractStridedSlice S1024x16 ![0, 16] (keyCols v) slices_S1024x32_S1024x16_0_16⟩,
    ⟨S1024x16, extractStridedSlice S1024x16 ![0, 0] (keyCols v) slices_S1024x32_S1024x16_0_0⟩] concatenates_S1024x16_S1024x16_S1024x32_d1
def nil64 : FVec Ideal S1024x64 .f32 := broadcastInDim S1024x64 ![] bcast_S_S1024x64 (constant S_ .f32 0x00000000#32)
def nil32 : FVec Ideal S1024x32 .f32 := broadcastInDim S1024x32 ![] bcast_S_S1024x32 (constant S_ .f32 0x00000000#32)
def wIn (v : FVec Ideal S1x1024x416 .f32) : FVec Ideal S1024x640 .bf16 :=
  truncf .bf16 (concatenate S1024x640 1 [⟨S1024x384, extractStridedSlice S1024x384 ![0, 0] (plain v) slices_S1024x416_S1024x384_0_0⟩, ⟨S1024x64, nil64⟩,
    ⟨S1024x32, keyCols v⟩, ⟨S1024x32, nil32⟩, ⟨S1024x64, nil64⟩, ⟨S1024x32, keySwap v⟩, ⟨S1024x32, nil32⟩]
    concatenates_S1024x384_S1024x64_S1024x32_S1024x32_S1024x64_S1024x32_S1024x32_S1024x640_d1 : FVec Ideal S1024x640 .f32) bitsLt_bf16_f32

/-- The queries' matrix in slots, and with the rotated columns' halves exchanged. -/
def slots (v : FVec Ideal S256x16x96 .f32) : FVec Ideal S256x2048 .bf16 :=
  truncf .bf16 (shapeCast S256x2048 (pad S256x16x128 ![0, 0, 0] ![0, 0, 32] ![0, 0, 0] v (sitofp .f32 (constantI S_ 32 0#32) : FVec Ideal S_ .f32) pads_S256x16x96_S256x16x128_000_000_0320 h_S_)
    shapeCasts_S256x16x128_S256x2048) bitsLt_bf16_f32
def perHead (v : FVec Ideal S1x256x1536 .f32) : FVec Ideal S256x16x96 .f32 :=
  shapeCast S256x16x96 (shapeCast S256x1536 v shapeCasts_S1x256x1536_S256x1536) shapeCasts_S256x1536_S256x16x96
def rotCols (v : FVec Ideal S1x256x1536 .f32) : FVec Ideal S256x16x32 .f32 := extractStridedSlice S256x16x32 ![0, 0, 64] (perHead v) slices_S256x16x96_S256x16x32_0_0_64
def swapped (v : FVec Ideal S1x256x1536 .f32) : FVec Ideal S256x16x96 .f32 :=
  concatenate S256x16x96 2 [⟨S256x16x64, broadcastInDim S256x16x64 ![] bcast_S_S256x16x64 (constant S_ .f32 0x00000000#32)⟩,
    ⟨S256x16x32, concatenate S256x16x32 2 [⟨S256x16x16, extractStridedSlice S256x16x16 ![0, 0, 16] (rotCols v) slices_S256x16x32_S256x16x16_0_0_16⟩,
      ⟨S256x16x16, extractStridedSlice S256x16x16 ![0, 0, 0] (rotCols v) slices_S256x16x32_S256x16x16_0_0_0⟩] concatenates_S256x16x16_S256x16x16_S256x16x32_d2⟩]
    concatenates_S256x16x64_S256x16x32_S256x16x96_d2

/-- The keys' or values' matrix in slots. -/
def wide (v : FVec Ideal S1x128x16x64 .f32) : FVec Ideal S128x2048 .bf16 :=
  truncf .bf16 (shapeCast S128x2048 (pad S128x16x128 ![0, 0, 0] ![0, 0, 64] ![0, 0, 0] (shapeCast S128x16x64 v shapeCasts_S1x128x16x64_S128x16x64)
    (sitofp .f32 (constantI S_ 32 0#32) : FVec Ideal S_ .f32) pads_S128x16x64_S128x16x128_000_000_0640 h_S_) shapeCasts_S128x16x128_S128x2048) bitsLt_bf16_f32

/-- Ones at lane 64 of every slot. -/
def marks : FVec Ideal S16x128 .f32 :=
  Host.scatter scatter_S16x128_S1_S16_0_1_1_0 (fun _ b => b) (broadcastInDim S16x128 ![] bcast_S_S16x128 (constant S_ .f32 0x00000000#32) : FVec Ideal S16x128 .f32)
    (broadcastInDim S1 ![] bcast_S_S1 (constantI S_ 32 64#32)) (broadcastInDim S16 ![] bcast_S_S16 (constant S_ .f32 0x3F800000#32) : FVec Ideal S16 .f32)
def markRow : FVec Ideal S1x2048 .f32 := shapeCast S1x2048 marks shapeCasts_S16x128_S1x2048

/-- The rows' positions, the inverse frequencies, and the angles in rows of 128. -/
def positions : IVec S16640 32 :=
  concatenate S16640 0 [⟨S16384, iotaInDim S16384 32 0⟩, ⟨S256, addi (broadcastInDim S256 ![] bcast_S_S256 (constantI S_ 32 1024#32))
    (shapeCast S256 (broadcastInDim S16x16 ![0, 1] bcast_S1x16_S16x16_0_1 (shapeCast S1x16 (iotaInDim S16 32 0) shapeCasts_S16_S1x16)) shapeCasts_S16x16_S256)⟩]
    concatenates_S16384_S256_S16640_d0
def inverse : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))
def packed (p : IVec S16640 32) (v : FVec Ideal S16 .f32) : FVec Ideal S2080x128 .f32 :=
  shapeCast S2080x128 (mulf (broadcastInDim S2080x8x16 ![0, 1, 2] bcast_S2080x8x1_S2080x8x16_0_1_2 (shapeCast S2080x8x1 (sitofp .f32 p : FVec Ideal S16640 .f32) shapeCasts_S16640_S2080x8x1))
    (broadcastInDim S2080x8x16 ![0, 1, 2] bcast_S1x1x16_S2080x8x16_0_1_2 (shapeCast S1x1x16 v shapeCasts_S16_S1x1x16))) shapeCasts_S2080x8x16_S2080x128
def cosines (p : IVec S16640 32) (v : FVec Ideal S16 .f32) : FVec Ideal S16640x16 .f32 := shapeCast S16640x16 (Host.cos (packed p v)) shapeCasts_S2080x128_S16640x16
def sines (p : IVec S16640 32) (v : FVec Ideal S16 .f32) : FVec Ideal S16640x16 .f32 := shapeCast S16640x16 (Host.sin (packed p v)) shapeCasts_S2080x128_S16640x16
/-- The two tables: ones, cosines twice, zeros; and zeros, sines negated, sines, zeros. -/
def tableC (p : IVec S16640 32) (v : FVec Ideal S16 .f32) : FVec Ideal S16640x128 .f32 :=
  concatenate S16640x128 1 [⟨S16640x64, broadcastInDim S16640x64 ![] bcast_S_S16640x64 (constant S_ .f32 0x3F800000#32)⟩, ⟨S16640x16, cosines p v⟩, ⟨S16640x16, cosines p v⟩,
    ⟨S16640x32, broadcastInDim S16640x32 ![] bcast_S_S16640x32 (constant S_ .f32 0x00000000#32)⟩] concatenates_S16640x64_S16640x16_S16640x16_S16640x32_S16640x128_d1
def tableS (p : IVec S16640 32) (v : FVec Ideal S16 .f32) : FVec Ideal S16640x128 .f32 :=
  concatenate S16640x128 1 [⟨S16640x64, broadcastInDim S16640x64 ![] bcast_S_S16640x64 (constant S_ .f32 0x00000000#32)⟩, ⟨S16640x16, Host.negf (sines p v)⟩, ⟨S16640x16, sines p v⟩,
    ⟨S16640x32, broadcastInDim S16640x32 ![] bcast_S_S16640x32 (constant S_ .f32 0x00000000#32)⟩] concatenates_S16640x64_S16640x16_S16640x16_S16640x32_S16640x128_d1

section
variable (m : (ℓ : Loc nD τ sig) → Buf (Elt Ideal) ℓ) (c : Dev nD)

/-- The eight arguments as launched. -/
abbrev A0 : FVec Ideal S1x16384x1024 .f32 := m ((c : Thread nD τ).loc main_arg0)
abbrev A1 : FVec Ideal S16x16x1024 .f32 := m ((c : Thread nD τ).loc main_arg1)
abbrev A2 : FVec Ideal S1x1024x416 .f32 := m ((c : Thread nD τ).loc main_arg2)
abbrev A3 : FVec Ideal S1x256 .f32 := m ((c : Thread nD τ).loc main_arg3)
abbrev A4 : FVec Ideal S1x128 .f32 := m ((c : Thread nD τ).loc main_arg4)
abbrev A5 : FVec Ideal S1x256x1536 .f32 := m ((c : Thread nD τ).loc main_arg5)
abbrev A6 : FVec Ideal S1x128x16x64 .f32 := m ((c : Thread nD τ).loc main_arg6)
abbrev A7 : FVec Ideal S1x128x16x64 .f32 := m ((c : Thread nD τ).loc main_arg7)

theorem V_v0 : V m c main_v0 = (shapeCast S16384x1024 (A0 m c) shapeCasts_S1x16384x1024_S16384x1024 : FVec Ideal S16384x1024 .f32) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  try rfl
theorem V_v34 : V m c main_v34 = slots (perHead (A5 m c)) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v71 : V m c main_v71 = tableC positions inverse := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v1 : V m c main_v1 = (shapeCast S256x1024 (A1 m c) shapeCasts_S16x16x1024_S256x1024 : FVec Ideal S256x1024 .f32) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  try rfl
theorem V_v29 : V m c main_v29 = wIn (A2 m c) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v30 : V m c main_v30 = (shapeCast S1x256 (shapeCast S256 (A3 m c) shapeCasts_S1x256_S256 : FVec Ideal S256 .f32) shapeCasts_S256_S1x256 : FVec Ideal S1x256 .f32) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  try rfl
theorem V_v31 : V m c main_v31 = (shapeCast S1x128 (shapeCast S128 (A4 m c) shapeCasts_S1x128_S128 : FVec Ideal S128 .f32) shapeCasts_S128_S1x128 : FVec Ideal S1x128 .f32) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  try rfl
theorem V_v28 : V m c main_v28 = markRow := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v37 : V m c main_v37 = slots (swapped (A5 m c)) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v40 : V m c main_v40 = wide (A6 m c) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v43 : V m c main_v43 = wide (A7 m c) := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_v74 : V m c main_v74 = tableS positions inverse := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
end

section
variable (R : Fin 16640) (l : Fin 128)

theorem sitofp_zero : FloatOps.sitofp (F := Ideal) .f32 0#32 = 0 := by simp [FloatOps.sitofp]

theorem wIn_latent (v : FVec Ideal S1x1024x416 .f32) (x : Fin 1024) (j : Fin 640) (h : j.val < 384) : wIn v (ix2 x j) = v (ix3 0 x ⟨j.val, by omega⟩) := by
  pointwise [wIn, plain, keyCols, keySwap, nil64, nil32]
  rw [dif_pos h]
theorem wIn_key (v : FVec Ideal S1x1024x416 .f32) (x : Fin 1024) : wIn v (ix2 x ⟨384 + l.val, by omega⟩)
    = if a : l.val < 64 then 0 else if b : l.val - 64 < 32 then v (ix3 0 x ⟨384 + (l.val - 64), by omega⟩) else 0 := by
  pointwise [wIn, plain, keyCols, keySwap, nil64, nil32]
  split_ifs <;> first | (exfalso; omega) | rfl | (refine congrArg (fun t => v (ix3 0 x t)) (Fin.ext ?_); simp only []; omega)
theorem same_col (v : FVec Ideal S1x1024x416 .f32) (x : Fin 1024) (p q : ℕ) (hp hq) (e : p = q) : v (ix3 0 x ⟨p, hp⟩) = v (ix3 0 x ⟨q, hq⟩) := by
  subst e
  rfl
theorem wIn_tail (v : FVec Ideal S1x1024x416 .f32) (x : Fin 1024) (j : Fin 640) (h : 512 ≤ j.val) : wIn v (ix2 x j)
    = if a : j.val < 576 then 0 else if b : j.val < 592 then v (ix3 0 x ⟨384 + (16 + (j.val - 576)), by omega⟩)
      else if b : j.val < 608 then v (ix3 0 x ⟨384 + (j.val - 592), by omega⟩) else 0 := by
  pointwise [wIn, plain, keyCols, keySwap, nil64, nil32]
  rcases (by omega : j.val < 576 ∨ 576 ≤ j.val ∧ j.val < 592 ∨ 592 ≤ j.val ∧ j.val < 608 ∨ 608 ≤ j.val) with a | a | a | a
  · rw [dif_neg (by omega : ¬ j.val < 384), dif_neg (by omega : ¬ j.val - 384 < 64), dif_neg (by omega : ¬ j.val - 384 - 64 < 32),
      dif_neg (by omega : ¬ j.val - 384 - 64 - 32 < 32), dif_pos (by omega : j.val - 384 - 64 - 32 - 32 < 64), dif_pos a]
  · rw [dif_neg (by omega : ¬ j.val < 384), dif_neg (by omega : ¬ j.val - 384 < 64), dif_neg (by omega : ¬ j.val - 384 - 64 < 32),
      dif_neg (by omega : ¬ j.val - 384 - 64 - 32 < 32), dif_neg (by omega : ¬ j.val - 384 - 64 - 32 - 32 < 64), dif_pos (by omega : j.val - 384 - 64 - 32 - 32 - 64 < 32),
      dif_pos (by omega : j.val - 384 - 64 - 32 - 32 - 64 < 16), dif_neg (by omega : ¬ j.val < 576), dif_pos a.2]
    exact same_col v x _ _ _ _ (by omega)
  · rw [dif_neg (by omega : ¬ j.val < 384), dif_neg (by omega : ¬ j.val - 384 < 64), dif_neg (by omega : ¬ j.val - 384 - 64 < 32),
      dif_neg (by omega : ¬ j.val - 384 - 64 - 32 < 32), dif_neg (by omega : ¬ j.val - 384 - 64 - 32 - 32 < 64), dif_pos (by omega : j.val - 384 - 64 - 32 - 32 - 64 < 32),
      dif_neg (by omega : ¬ j.val - 384 - 64 - 32 - 32 - 64 < 16), dif_neg (by omega : ¬ j.val < 576), dif_neg (by omega : ¬ j.val < 592), dif_pos a.2]
    exact same_col v x _ _ _ _ (by omega)
  · rw [dif_neg (by omega : ¬ j.val < 384), dif_neg (by omega : ¬ j.val - 384 < 64), dif_neg (by omega : ¬ j.val - 384 - 64 < 32),
      dif_neg (by omega : ¬ j.val - 384 - 64 - 32 < 32), dif_neg (by omega : ¬ j.val - 384 - 64 - 32 - 32 < 64), dif_neg (by omega : ¬ j.val - 384 - 64 - 32 - 32 - 64 < 32),
      dif_neg (by omega : ¬ j.val < 576), dif_neg (by omega : ¬ j.val < 592), dif_neg (by omega : ¬ j.val < 608)]
theorem wIn_swap (v : FVec Ideal S1x1024x416 .f32) (x : Fin 1024) (l : Fin 128) : wIn v (ix2 x ⟨512 + l.val, by omega⟩)
    = if a : l.val < 64 then 0 else if b : l.val - 64 < 16 then v (ix3 0 x ⟨384 + (16 + (l.val - 64)), by omega⟩)
      else if b : l.val - 64 < 32 then v (ix3 0 x ⟨384 + (l.val - 64 - 16), by omega⟩) else 0 := by
  refine (wIn_tail v x ⟨512 + l.val, by omega⟩ (Nat.le_add_right _ _)).trans ?_
  rcases (by omega : l.val < 64 ∨ 64 ≤ l.val ∧ l.val < 80 ∨ 80 ≤ l.val ∧ l.val < 96 ∨ 96 ≤ l.val) with a | a | a | a
  · rw [dif_pos (by simp only []; omega), dif_pos a]
  · rw [dif_neg (by simp only []; omega), dif_pos (by simp only []; omega), dif_neg (by omega : ¬ l.val < 64), dif_pos (by omega : l.val - 64 < 16)]
    exact same_col v x _ _ _ _ (by simp only []; omega)
  · rw [dif_neg (by simp only []; omega), dif_neg (by simp only []; omega), dif_pos (by simp only []; omega), dif_neg (by omega : ¬ l.val < 64), dif_neg (by omega : ¬ l.val - 64 < 16),
      dif_pos (by omega : l.val - 64 < 32)]
    exact same_col v x _ _ _ _ (by simp only []; omega)
  · rw [dif_neg (by simp only []; omega), dif_neg (by simp only []; omega), dif_neg (by simp only []; omega), dif_neg (by omega : ¬ l.val < 64), dif_neg (by omega : ¬ l.val - 64 < 16),
      dif_neg (by omega : ¬ l.val - 64 < 32)]
theorem slots_at (v : FVec Ideal S256x16x96 .f32) (k : Fin 256) (d : Fin 2048) :
    slots v (ix2 k d) = if a : d.val % 128 < 96 then v (ix3 k ⟨d.val / 128, by omega⟩ ⟨d.val % 128, a⟩) else 0 := by
  pointwise [slots]
  have hd : d.val / 128 < 16 := by omega
  by_cases a : d.val % 128 < 96
  · rw [dif_pos ⟨hd, a⟩, dif_pos a]
  · rw [dif_neg fun h => a h.2, dif_neg a]
    exact sitofp_zero
theorem wide_at (v : FVec Ideal S1x128x16x64 .f32) (k : Fin 128) (d : Fin 2048) :
    wide v (ix2 k d) = if a : d.val % 128 < 64 then v (ix4 0 k ⟨d.val / 128, by omega⟩ ⟨d.val % 128, a⟩) else 0 := by
  pointwise [wide]
  have hd : d.val / 128 < 16 := by omega
  by_cases a : d.val % 128 < 64
  · rw [dif_pos ⟨hd, a⟩, dif_pos a]
  · rw [dif_neg fun h => a h.2, dif_neg a]
    exact sitofp_zero
theorem perHead_at (v : FVec Ideal S1x256x1536 .f32) (k : Fin 256) (h : Fin 16) (j : Fin 96) : perHead v (ix3 k h j) = v (ix3 0 k ⟨h.val * 96 + j.val, by omega⟩) := by
  pointwise [perHead]
theorem swapped_at (v : FVec Ideal S1x256x1536 .f32) (k : Fin 256) (h : Fin 16) (j : Fin 96) : swapped v (ix3 k h j)
    = if a : j.val < 64 then 0 else if b : j.val - 64 < 16 then v (ix3 0 k ⟨h.val * 96 + (64 + (16 + (j.val - 64))), by omega⟩)
      else v (ix3 0 k ⟨h.val * 96 + (64 + (j.val - 64 - 16)), by omega⟩) := by
  pointwise [swapped, rotCols, perHead]
theorem packed_lane (j : ℕ) (hj : j < 16) (p : IVec S16640 32) (v : FVec Ideal S16 .f32) (a b) :
    FloatOps.sitofp (F := Ideal) .f32 (p (ix1 ⟨R.val / 8 * 8 + (R.val % 8 * 16 + j) / 16, a⟩)) * v (ix1 ⟨(R.val % 8 * 16 + j) % 16, b⟩) = Cert.Proj.angle p v R ⟨j, hj⟩ := by
  unfold Cert.Proj.angle
  have e : (⟨R.val / 8 * 8 + (R.val % 8 * 16 + j) / 16, a⟩ : Fin 16640) = R := Fin.ext (by simp only []; omega)
  have e' : (⟨(R.val % 8 * 16 + j) % 16, b⟩ : Fin 16) = ⟨j, hj⟩ := Fin.ext (by simp only []; omega)
  rw [e, e']
theorem tableC_at (p : IVec S16640 32) (v : FVec Ideal S16 .f32) : tableC p v (ix2 R l)
    = if a : l.val < 64 then 1 else if b : l.val - 64 < 16 then FloatOps.cos (F := Ideal) (φ := .f32) (Cert.Proj.angle p v R ⟨l.val - 64, b⟩)
      else if b : l.val - 64 - 16 < 16 then FloatOps.cos (F := Ideal) (φ := .f32) (Cert.Proj.angle p v R ⟨l.val - 64 - 16, b⟩) else 0 := by
  pointwise [tableC, cosines, packed]
  split_ifs <;> first | rfl | rw [packed_lane] | (rw [packed_lane]; rfl)
theorem tableS_at (p : IVec S16640 32) (v : FVec Ideal S16 .f32) : tableS p v (ix2 R l)
    = if a : l.val < 64 then 0 else if b : l.val - 64 < 16 then -FloatOps.sin (F := Ideal) (φ := .f32) (Cert.Proj.angle p v R ⟨l.val - 64, b⟩)
      else if b : l.val - 64 - 16 < 16 then FloatOps.sin (F := Ideal) (φ := .f32) (Cert.Proj.angle p v R ⟨l.val - 64 - 16, b⟩) else 0 := by
  pointwise [tableS, sines, packed]
  split_ifs <;> first | rfl | rw [packed_lane] | (rw [packed_lane]; rfl)
theorem marks_at (h : Fin 16) : marks (ix2 h l) = if l = 64 then 1 else 0 := by
  have lands := fun w' : Fin 16 => Routing.lands_col scatter_S16x128_S1_S16_0_1_1_0 rfl rfl (broadcastInDim S1 ![] bcast_S_S1 (constantI S_ 32 64#32)) (64 : Fin 128) rfl w' h l
  unfold marks
  by_cases e : l = 64
  · rw [if_pos e]
    refine Routing.scatter_set_hit _ _ _ _ _ _ (fun k _ => ?_) (ix1 h) ((lands h).2 ⟨rfl, e⟩)
    obtain ⟨w', rfl⟩ : ∃ w' : Fin 16, k = (ix1 w' : S16.Idx) := ⟨k 0, eq_ix1 k⟩
    pointwise
  · rw [if_neg e]
    refine (Routing.scatter_set_miss _ _ _ _ _ fun k hk => ?_).trans ?_
    · obtain ⟨w', rfl⟩ : ∃ w' : Fin 16, k = (ix1 w' : S16.Idx) := ⟨k 0, eq_ix1 k⟩
      exact e ((lands w').1 hk).2
    · pointwise
theorem markRow_at (d : Fin 2048) : markRow (ix2 0 d) = if d.val % 128 = 64 then 1 else 0 := by
  have e : markRow (ix2 0 d) = marks (ix2 ⟨d.val / 128, by omega⟩ ⟨d.val % 128, by omega⟩) := by pointwise [markRow]
  rw [e, marks_at]
  refine if_congr ?_ rfl rfl
  rw [Fin.ext_iff]
  rfl
theorem gains256 (v : FVec Ideal S1x256 .f32) : (shapeCast S1x256 (shapeCast S256 v shapeCasts_S1x256_S256 : FVec Ideal S256 .f32) shapeCasts_S256_S1x256 : FVec Ideal S1x256 .f32) = v := by
  funext y
  obtain ⟨a, b, rfl⟩ : ∃ (a : Fin 1) (b : Fin 256), y = (ix2 a b : S1x256.Idx) := ⟨y 0, y 1, eq_ix2 y⟩
  obtain rfl : a = 0 := Subsingleton.elim _ _
  pointwise
theorem gains128 (v : FVec Ideal S1x128 .f32) : (shapeCast S1x128 (shapeCast S128 v shapeCasts_S1x128_S128 : FVec Ideal S128 .f32) shapeCasts_S128_S1x128 : FVec Ideal S1x128 .f32) = v := by
  funext y
  obtain ⟨a, b, rfl⟩ : ∃ (a : Fin 1) (b : Fin 128), y = (ix2 a b : S1x128.Idx) := ⟨y 0, y 1, eq_ix2 y⟩
  obtain rfl : a = 0 := Subsingleton.elim _ _
  pointwise
end

section
variable (xp : FVec Ideal S1x16384x1024 .f32) (xs : FVec Ideal S16x16x1024 .f32) (wi : FVec Ideal S1x1024x416 .f32) (gq : FVec Ideal S1x256 .f32)
  (gk : FVec Ideal S1x128 .f32) (wq : FVec Ideal S1x256x1536 .f32) (wk wv : FVec Ideal S1x128x16x64 .f32)
  (pos : IVec S16640 32) (inv : FVec Ideal S16 .f32) (R : Fin 16640)

open Cert.Proj (row zed lq lkv angle kpe query head slotQ slotK slotV rot rms)

theorem ent_latent (j : Fin 640) (h : j.val < 384) : entF (row xp xs R) (wIn wi) j = zed xp xs wi R ⟨j.val, by omega⟩ :=
  Finset.sum_congr rfl fun x _ => by rw [wIn_latent wi x j h]
theorem lqF_eq : lqF (row xp xs R) (wIn wi) gq = lq xp xs wi gq R := by
  unfold lqF lq
  refine congrArg (fun t => rms _ t _) (funext fun j => ?_)
  exact ent_latent xp xs wi R _ (by simp only []; omega)
theorem lkvF_eq : lkvF (row xp xs R) (wIn wi) gk = lkv xp xs wi gk R := by
  unfold lkvF lkv
  refine congrArg (fun t => rms _ t _) (funext fun j => ?_)
  exact ent_latent xp xs wi R _ (by simp only []; omega)

theorem sum_zero_right {n : ℕ} (f : Fin n → EReal) : ∑ x : Fin n, f x * 0 = 0 := by simp only [mul_zero, Finset.sum_const_zero]

/-- Two lanes turned by the tables are the rotation. -/
theorem turn (t : Fin 32 → EReal) (a : Fin 16 → EReal) (j : Fin 32) (s : EReal) (hs : s = if h : j.val < 16 then t ⟨16 + j.val, by omega⟩ else t ⟨j.val - 16, by omega⟩) :
    t j * (if h : j.val < 16 then FloatOps.cos (F := Ideal) (φ := .f32) (a ⟨j.val, h⟩) else FloatOps.cos (F := Ideal) (φ := .f32) (a ⟨j.val - 16, by omega⟩))
      + s * (if h : j.val < 16 then -FloatOps.sin (F := Ideal) (φ := .f32) (a ⟨j.val, h⟩) else FloatOps.sin (F := Ideal) (φ := .f32) (a ⟨j.val - 16, by omega⟩)) = rot t a j := by
  subst hs
  unfold rot
  by_cases h : j.val < 16
  · simp only [dif_pos h]
    rw [mul_neg, ← sub_eq_add_neg]
  · simp only [dif_neg h]
    exact add_comm _ _

variable (l : Fin 128)
theorem tableC_rot (h : ¬ l.val < 64) (b : l.val - 64 < 32) : tableC pos inv (ix2 R l)
    = if h : l.val - 64 < 16 then FloatOps.cos (F := Ideal) (φ := .f32) (angle pos inv R ⟨l.val - 64, h⟩)
      else FloatOps.cos (F := Ideal) (φ := .f32) (angle pos inv R ⟨l.val - 64 - 16, by omega⟩) := by
  rw [tableC_at, dif_neg h]
  split_ifs <;> first | rfl | (exfalso; omega)
theorem tableS_rot (h : ¬ l.val < 64) (b : l.val - 64 < 32) : tableS pos inv (ix2 R l)
    = if h : l.val - 64 < 16 then -FloatOps.sin (F := Ideal) (φ := .f32) (angle pos inv R ⟨l.val - 64, h⟩)
      else FloatOps.sin (F := Ideal) (φ := .f32) (angle pos inv R ⟨l.val - 64 - 16, by omega⟩) := by
  rw [tableS_at, dif_neg h]
  split_ifs <;> first | rfl | (exfalso; omega)
theorem table_far (h : ¬ l.val - 64 < 32) : tableC pos inv (ix2 R l) = 0 ∧ tableS pos inv (ix2 R l) = 0 := by
  rw [tableC_at, tableS_at]
  constructor <;> (split_ifs <;> first | rfl | (exfalso; omega))

/-- The rotated key's slot. -/
theorem kpeF_eq : kpeF (row xp xs R) (wIn wi) (fun l => tableC pos inv (ix2 R l)) (fun l => tableS pos inv (ix2 R l)) l
    = if a : l.val < 64 then 0 else if b : l.val - 64 < 32 then kpe xp xs wi pos inv R ⟨l.val - 64, b⟩ else 0 := by
  unfold kpeF entF
  simp only [wIn_key, wIn_swap]
  by_cases a : l.val < 64
  · simp only [dif_pos a, sum_zero_right, zero_mul, add_zero]
  by_cases b : l.val - 64 < 32
  · simp only [dif_neg a, dif_pos b, tableC_rot pos inv R l a b, tableS_rot pos inv R l a b]
    refine turn (fun j => zed xp xs wi R ⟨384 + j.val, by omega⟩) (angle pos inv R) ⟨l.val - 64, b⟩ _ ?_
    by_cases e : l.val - 64 < 16
    · simp only [dif_pos e]
      rfl
    · simp only [dif_neg e]
      rfl
  · simp only [dif_neg a, dif_neg b, (table_far pos inv R l b).1, (table_far pos inv R l b).2, mul_zero, add_zero]

variable (d : Fin 2048)
theorem kF_eq : kF (row xp xs R) (wIn wi) gk (fun l => tableC pos inv (ix2 R l)) (fun l => tableS pos inv (ix2 R l)) (wide wk) d
    = slotK xp xs wi gk wk pos inv R ⟨d.val / 128, by omega⟩ (lane d) := by
  unfold kF slotK
  rw [kpeF_eq, lkvF_eq]
  simp only [wide_at]
  unfold lane
  by_cases a : d.val % 128 < 64
  · simp only [dif_pos a, add_zero]
    rfl
  · simp only [dif_neg a, sum_zero_right, zero_add]
theorem vF_eq : vF (row xp xs R) (wIn wi) gk (wide wv) markRow d = slotV xp xs wi gk wv R ⟨d.val / 128, by omega⟩ (lane d) := by
  unfold vF slotV
  rw [lkvF_eq, markRow_at]
  simp only [wide_at]
  unfold lane
  by_cases a : d.val % 128 < 64
  · simp only [dif_pos a]
    rw [if_neg (by omega), add_zero]
    rfl
  · simp only [dif_neg a, sum_zero_right, zero_add]
    refine if_congr ?_ rfl rfl
    omega
theorem qF_eq : qF (row xp xs R) (wIn wi) gq (fun l => tableC pos inv (ix2 R l)) (fun l => tableS pos inv (ix2 R l)) (slots (perHead wq)) (slots (swapped wq)) d
    = slotQ xp xs wi gq wq pos inv R ⟨d.val / 128, by omega⟩ (lane d) := by
  unfold qF slotQ
  refine congrArg (· * _) ?_
  rw [lqF_eq]
  simp only [slots_at, perHead_at, swapped_at]
  by_cases a : (lane d).val < 64
  · have a' : d.val % 128 < 96 := by have : d.val % 128 < 64 := a; omega
    have a'' : d.val % 128 < 64 := a
    simp only [dif_pos a, dif_pos a', dif_pos a'', sum_zero_right, zero_mul, add_zero, tableC_at, mul_one]
    rfl
  by_cases b : (lane d).val - 64 < 32
  · have a' : d.val % 128 < 96 := by have : d.val % 128 - 64 < 32 := b; omega
    have a'' : ¬ d.val % 128 < 64 := a
    simp only [dif_neg a, dif_pos b, dif_pos a', dif_neg a'', tableC_rot pos inv R _ a b, tableS_rot pos inv R _ a b]
    refine Eq.trans ?_ (turn (fun j => query xp xs wi gq wq R ⟨d.val / 128, by omega⟩ ⟨64 + j.val, by omega⟩) (angle pos inv R) ⟨(lane d).val - 64, b⟩ _ rfl)
    refine congrArg₂ (· + ·) (congrArg (· * _) ?_) (congrArg (· * _) ?_)
    · unfold query
      refine Finset.sum_congr rfl fun k _ => congrArg (fun t => _ * wq (ix3 0 k t)) (Fin.ext ?_)
      show d.val / 128 * 96 + d.val % 128 = d.val / 128 * 96 + (64 + (d.val % 128 - 64))
      omega
    · by_cases e : d.val % 128 - 64 < 16
      · have e' : (lane d).val - 64 < 16 := e
        simp only [dif_pos e, dif_pos e']
        rfl
      · have e' : ¬ (lane d).val - 64 < 16 := e
        simp only [dif_neg e, dif_neg e']
        rfl
  · simp only [dif_neg a, dif_neg b, (table_far pos inv R _ b).1, (table_far pos inv R _ b).2, mul_zero, add_zero]
end

end Cert.Kernel3Ideal.Proj

end
-- ==== Proof.ProjArrays.lean ====
/-
  The projections' blocks put together: the five arrays the grid leaves, and the host's results after it.
-/
module

public import proofs.«01_k».proof.Proof.ProjHost

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Idealize.ShloMosaic.Pipeline (Dat Cfg Window BodyObligation cellOf)
open Cert.Proj (row zed lq lkv angle kpe query head slotQ slotK slotV flat)

variable (m : (ℓ : Loc nD τ sig) → Buf (Elt Ideal) ℓ) (c : Dev nD)

/-- Where each window's block lies at point `t`. -/
theorem idxIn : ∀ t : Fin cfg0.N, win0_0.index t = ![min t.val 63, 0] ∧ win0_1.index t = ![t.val - 64, 0]
    ∧ win0_2.index t = ![t.val, 0] ∧ win0_3.index t = ![t.val, 0] ∧ (grid0.coords t 0).val = t.val :=
  (by decide +kernel : ∀ t : Fin grid0.N, _)
theorem idxW : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)
theorem idxOut : ∀ t : Fin cfg0.N, win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

theorem lt65 (t : Fin cfg0.N) : t.val < 65 := t.isLt

abbrev at_ (t : Fin cfg0.N) (r : Fin 256) : Fin 16640 := ⟨256 * t.val + r.val, by have := lt65 t; omega⟩

theorem iblk0 (t : Fin cfg0.N) (r : Fin 256) (x : Fin 1024) :
    iblk m c 0 t (ix2 r x) = V m c main_v0 (ix2 ⟨256 * min t.val 63 + r.val, by omega⟩ x) := by
  blk_ext [iblk, idxIn t]
theorem iblk1 (t : Fin cfg0.N) (r : Fin 256) (x : Fin 1024) : iblk m c 1 t (ix2 r x) = V m c main_v1 (ix2 r x) := by
  have := lt65 t
  blk_ext [iblk, idxIn t]
theorem iblk2 (t : Fin cfg0.N) (r : Fin 256) (l : Fin 128) : iblk m c 2 t (ix2 r l) = V m c main_v71 (ix2 (at_ t r) l) := by
  blk_ext [iblk, idxIn t]
theorem iblk3 (t : Fin cfg0.N) (r : Fin 256) (l : Fin 128) : iblk m c 3 t (ix2 r l) = V m c main_v74 (ix2 (at_ t r) l) := by
  blk_ext [iblk, idxIn t]
theorem iblk4 (t : Fin cfg0.N) (r : Fin 1024) (l : Fin 640) : iblk m c 4 t (ix2 r l) = V m c main_v29 (ix2 r l) := by
  blk_ext [iblk, idxW t]
theorem iblk5 (t : Fin cfg0.N) (r : Fin 1) (l : Fin 256) : iblk m c 5 t (ix2 r l) = V m c main_v30 (ix2 r l) := by
  blk_ext [iblk, idxW t]
theorem iblk6 (t : Fin cfg0.N) (r : Fin 1) (l : Fin 128) : iblk m c 6 t (ix2 r l) = V m c main_v31 (ix2 r l) := by
  blk_ext [iblk, idxW t]
theorem iblk7 (t : Fin cfg0.N) (r : Fin 256) (l : Fin 2048) : iblk m c 7 t (ix2 r l) = V m c main_v34 (ix2 r l) := by
  blk_ext [iblk, idxW t]
theorem iblk8 (t : Fin cfg0.N) (r : Fin 256) (l : Fin 2048) : iblk m c 8 t (ix2 r l) = V m c main_v37 (ix2 r l) := by
  blk_ext [iblk, idxW t]
theorem iblk9 (t : Fin cfg0.N) (r : Fin 128) (l : Fin 2048) : iblk m c 9 t (ix2 r l) = V m c main_v40 (ix2 r l) := by
  blk_ext [iblk, idxW t]
theorem iblk10 (t : Fin cfg0.N) (r : Fin 128) (l : Fin 2048) : iblk m c 10 t (ix2 r l) = V m c main_v43 (ix2 r l) := by
  blk_ext [iblk, idxW t]
theorem iblk11 (t : Fin cfg0.N) (r : Fin 1) (l : Fin 2048) : iblk m c 11 t (ix2 r l) = V m c main_v28 (ix2 r l) := by
  blk_ext [iblk, idxW t]

/-- The weights' blocks are whole arrays. -/
theorem blk4 (t : Fin cfg0.N) : iblk m c 4 t = wIn (A2 m c) := by
  funext y
  obtain ⟨a, b, rfl⟩ : ∃ (a : Fin 1024) (b : Fin 640), y = (ix2 a b : S1024x640.Idx) := ⟨y 0, y 1, eq_ix2 y⟩
  rw [iblk4, V_v29]
theorem blk5 (t : Fin cfg0.N) : iblk m c 5 t = A3 m c := by
  funext y
  obtain ⟨a, b, rfl⟩ : ∃ (a : Fin 1) (b : Fin 256), y = (ix2 a b : S1x256.Idx) := ⟨y 0, y 1, eq_ix2 y⟩
  rw [iblk5, V_v30, gains256]
theorem blk6 (t : Fin cfg0.N) : iblk m c 6 t = A4 m c := by
  funext y
  obtain ⟨a, b, rfl⟩ : ∃ (a : Fin 1) (b : Fin 128), y = (ix2 a b : S1x128.Idx) := ⟨y 0, y 1, eq_ix2 y⟩
  rw [iblk6, V_v31, gains128]
theorem blk7 (t : Fin cfg0.N) : iblk m c 7 t = slots (perHead (A5 m c)) := by
  funext y
  obtain ⟨a, b, rfl⟩ : ∃ (a : Fin 256) (b : Fin 2048), y = (ix2 a b : S256x2048.Idx) := ⟨y 0, y 1, eq_ix2 y⟩
  rw [iblk7, V_v34]
theorem blk8 (t : Fin cfg0.N) : iblk m c 8 t = slots (swapped (A5 m c)) := by
  funext y
  obtain ⟨a, b, rfl⟩ : ∃ (a : Fin 256) (b : Fin 2048), y = (ix2 a b : S256x2048.Idx) := ⟨y 0, y 1, eq_ix2 y⟩
  rw [iblk8, V_v37]
theorem blk9 (t : Fin cfg0.N) : iblk m c 9 t = wide (A6 m c) := by
  funext y
  obtain ⟨a, b, rfl⟩ : ∃ (a : Fin 128) (b : Fin 2048), y = (ix2 a b : S128x2048.Idx) := ⟨y 0, y 1, eq_ix2 y⟩
  rw [iblk9, V_v40]
theorem blk10 (t : Fin cfg0.N) : iblk m c 10 t = wide (A7 m c) := by
  funext y
  obtain ⟨a, b, rfl⟩ : ∃ (a : Fin 128) (b : Fin 2048), y = (ix2 a b : S128x2048.Idx) := ⟨y 0, y 1, eq_ix2 y⟩
  rw [iblk10, V_v43]
theorem blk11 (t : Fin cfg0.N) : iblk m c 11 t = markRow := by
  funext y
  obtain ⟨a, b, rfl⟩ : ∃ (a : Fin 1) (b : Fin 2048), y = (ix2 a b : S1x2048.Idx) := ⟨y 0, y 1, eq_ix2 y⟩
  rw [iblk11, V_v28]
theorem tabC (t : Fin cfg0.N) (r : Fin 256) : (fun l => iblk m c 2 t (ix2 r l)) = fun l => tableC positions inverse (ix2 (at_ t r) l) :=
  funext fun l => by rw [iblk2, V_v71]
theorem tabS (t : Fin cfg0.N) (r : Fin 256) : (fun l => iblk m c 3 t (ix2 r l)) = fun l => tableS positions inverse (ix2 (at_ t r) l) :=
  funext fun l => by rw [iblk3, V_v74]

theorem prompt_at (v : FVec Ideal S1x16384x1024 .f32) (R : Fin 16384) (x : Fin 1024) :
    (shapeCast S16384x1024 v shapeCasts_S1x16384x1024_S16384x1024 : FVec Ideal S16384x1024 .f32) (ix2 R x) = v (ix3 0 R x) := by pointwise
theorem sample_at (v : FVec Ideal S16x16x1024 .f32) (R : Fin 256) (x : Fin 1024) :
    (shapeCast S256x1024 v shapeCasts_S16x16x1024_S256x1024 : FVec Ideal S256x1024 .f32) (ix2 R x)
      = v (ix3 ⟨R.val / 16, by omega⟩ ⟨R.val % 16, by omega⟩ x) := by pointwise

/-- The rows a point works on. -/
theorem sel_eq (t : Fin cfg0.N) (r : Fin 256) : sel (grid0.coords t) (iblk m c 0 t) (iblk m c 1 t) r = row (A0 m c) (A1 m c) (at_ t r) := by
  funext x
  unfold sel row
  rw [(idxIn t).2.2.2.2]
  have h65 := lt65 t
  by_cases h : t.val < 64
  · rw [if_pos h, dif_pos (by show 256 * t.val + r.val < 16384; omega), iblk0, V_v0, prompt_at]
    refine congrArg (fun q => A0 m c (ix3 0 q x)) (Fin.ext ?_)
    show 256 * min t.val 63 + r.val = 256 * t.val + r.val
    omega
  · rw [if_neg h, dif_neg (by show ¬ 256 * t.val + r.val < 16384; omega), iblk1, V_v1, sample_at]
    have e : (⟨r.val / 16, by omega⟩ : Fin 16) = ⟨((at_ t r).val - 16384) / 16, by have := (at_ t r).isLt; omega⟩ :=
      Fin.ext (by show r.val / 16 = (256 * t.val + r.val - 16384) / 16; omega)
    have e' : (⟨r.val % 16, by omega⟩ : Fin 16) = ⟨((at_ t r).val - 16384) % 16, by omega⟩ :=
      Fin.ext (by show r.val % 16 = (256 * t.val + r.val - 16384) % 16; omega)
    rw [e, e']

/-- The five arrays. -/
theorem finalQ : (dats m 0 c).arrAt 12 cfg0.N = Cert.Proj.wide (slotQ (A0 m c) (A1 m c) (A2 m c) (A3 m c) (A5 m c) positions inverse) := by
  refine (dats m 0 c).arrAt_eq_of_covers 12 _ (by decide +kernel) fun t hf y => ?_
  blk_simp
  rw [after0_12]
  obtain ⟨r, d, rfl⟩ : ∃ (r : Fin 256) (d : Fin 2048), y = (ix2 r d : S256x2048.Idx) := ⟨y 0, y 1, eq_ix2 y⟩
  refine (outQ _ _ _ _ _ _ _ _ _ _ _ _ _ r d).trans ?_
  rw [sel_eq, blk4, blk5, blk7, blk8, tabC, tabS, qF_eq]
  refine Eq.trans (b := Cert.Proj.wide (slotQ (A0 m c) (A1 m c) (A2 m c) (A3 m c) (A5 m c) positions inverse) (ix2 (at_ t r) d)) rfl ?_
  generalize Cert.Proj.wide (slotQ (A0 m c) (A1 m c) (A2 m c) (A3 m c) (A5 m c) positions inverse) = G
  refine congrArg G ?_
  blk_ext [idxOut t]
theorem finalK : (dats m 0 c).arrAt 13 cfg0.N = Cert.Proj.wide (slotK (A0 m c) (A1 m c) (A2 m c) (A4 m c) (A6 m c) positions inverse) := by
  refine (dats m 0 c).arrAt_eq_of_covers 13 _ (by decide +kernel) fun t hf y => ?_
  blk_simp
  rw [after0_13]
  obtain ⟨r, d, rfl⟩ : ∃ (r : Fin 256) (d : Fin 2048), y = (ix2 r d : S256x2048.Idx) := ⟨y 0, y 1, eq_ix2 y⟩
  refine (outK _ _ _ _ _ _ _ _ _ _ _ _ _ r d).trans ?_
  rw [sel_eq, blk4, blk6, blk9, tabC, tabS, kF_eq]
  refine Eq.trans (b := Cert.Proj.wide (slotK (A0 m c) (A1 m c) (A2 m c) (A4 m c) (A6 m c) positions inverse) (ix2 (at_ t r) d)) rfl ?_
  generalize Cert.Proj.wide (slotK (A0 m c) (A1 m c) (A2 m c) (A4 m c) (A6 m c) positions inverse) = G
  refine congrArg G ?_
  blk_ext [idxOut t]
theorem finalV : (dats m 0 c).arrAt 14 cfg0.N = Cert.Proj.wide (slotV (A0 m c) (A1 m c) (A2 m c) (A4 m c) (A7 m c)) := by
  refine (dats m 0 c).arrAt_eq_of_covers 14 _ (by decide +kernel) fun t hf y => ?_
  blk_simp
  rw [after0_14]
  obtain ⟨r, d, rfl⟩ : ∃ (r : Fin 256) (d : Fin 2048), y = (ix2 r d : S256x2048.Idx) := ⟨y 0, y 1, eq_ix2 y⟩
  refine (outV _ _ _ _ _ _ _ _ _ _ _ _ _ r d).trans ?_
  rw [sel_eq, blk4, blk6, blk10, blk11, vF_eq]
  refine Eq.trans (b := Cert.Proj.wide (slotV (A0 m c) (A1 m c) (A2 m c) (A4 m c) (A7 m c)) (ix2 (at_ t r) d)) rfl ?_
  generalize Cert.Proj.wide (slotV (A0 m c) (A1 m c) (A2 m c) (A4 m c) (A7 m c)) = G
  refine congrArg G ?_
  blk_ext [idxOut t]
theorem finalL : (dats m 0 c).arrAt 15 cfg0.N = flat (lkv (A0 m c) (A1 m c) (A2 m c) (A4 m c)) := by
  refine (dats m 0 c).arrAt_eq_of_covers 15 _ (by decide +kernel) fun t hf y => ?_
  blk_simp
  rw [after0_15]
  obtain ⟨r, d, rfl⟩ : ∃ (r : Fin 256) (d : Fin 128), y = (ix2 r d : S256x128.Idx) := ⟨y 0, y 1, eq_ix2 y⟩
  refine (outL _ _ _ _ _ _ _ _ _ _ _ _ _ r d).trans ?_
  rw [sel_eq, blk4, blk6, lkvF_eq]
  refine Eq.trans (b := flat (lkv (A0 m c) (A1 m c) (A2 m c) (A4 m c)) (ix2 (at_ t r) d)) rfl ?_
  generalize flat (lkv (A0 m c) (A1 m c) (A2 m c) (A4 m c)) = G
  refine congrArg G ?_
  blk_ext [idxOut t]

/-- The rotated keys in their slots. -/
def keySlot (R : Fin 16640) (l : Fin 128) : EReal :=
  if a : l.val < 64 then 0 else if b : l.val - 64 < 32 then kpe (A0 m c) (A1 m c) (A2 m c) positions inverse R ⟨l.val - 64, b⟩ else 0
theorem finalP : (dats m 0 c).arrAt 16 cfg0.N = flat (keySlot m c) := by
  refine (dats m 0 c).arrAt_eq_of_covers 16 _ (by decide +kernel) fun t hf y => ?_
  blk_simp
  rw [after0_16]
  obtain ⟨r, d, rfl⟩ : ∃ (r : Fin 256) (d : Fin 128), y = (ix2 r d : S256x128.Idx) := ⟨y 0, y 1, eq_ix2 y⟩
  refine (outP _ _ _ _ _ _ _ _ _ _ _ _ _ r d).trans ?_
  rw [sel_eq, blk4, tabC, tabS, kpeF_eq]
  refine Eq.trans (b := flat (keySlot m c) (ix2 (at_ t r) d)) rfl ?_
  generalize flat (keySlot m c) = G
  refine congrArg G ?_
  blk_ext [idxOut t]
theorem slot_slice : (extractStridedSlice S16640x32 ![0, 64] (flat (keySlot m c) : FVec Ideal S16640x128 .f32) slices_S16640x128_S16640x32_0_64 : FVec Ideal S16640x32 .f32)
    = flat (kpe (A0 m c) (A1 m c) (A2 m c) positions inverse) := by
  funext y
  obtain ⟨r, d, rfl⟩ : ∃ (r : Fin 16640) (d : Fin 32), y = (ix2 r d : S16640x32.Idx) := ⟨y 0, y 1, eq_ix2 y⟩
  pointwise
  unfold flat keySlot
  show (if a : 64 + d.val < 64 then _ else if b : 64 + d.val - 64 < 32 then _ else _) = _
  rw [dif_neg (by omega), dif_pos (by omega)]
  exact congrArg _ (Fin.ext (Nat.add_sub_cancel_left ..))

theorem arrays_distinct : Function.Injective (Pipeline.arrRef spec0) := by decide

/-- The host's results after the grid. -/
theorem tail78 : Pipeline.afterTail₀ cfgs (dats m) 0 (V0 m) [hostOps1] c main_v78
    = (shapeCast S1x1x16384x128 (extractStridedSlice S16384x128 ![0, 0] (flat (lkv (A0 m c) (A1 m c) (A2 m c) (A4 m c)) : FVec Ideal S16640x128 .f32)
      slices_S16640x128_S16384x128_0_0 : FVec Ideal S16384x128 .f32) shapeCasts_S16384x128_S1x1x16384x128 : FVec Ideal S1x1x16384x128 .f32) := by
  unfold Pipeline.afterTail₀ hostOps1
  simp only [List.flatten_cons, List.flatten_nil, List.append_nil, List.cons_append, List.nil_append]
  after_results
  rw [← finalL m c, ← Pipeline.withArrays_arr spec0 arrays_distinct c (V0 m c) (fun w => (dats m 0 c).arrAt w cfg0.N) 15]
  rfl
theorem tail80 : Pipeline.afterTail₀ cfgs (dats m) 0 (V0 m) [hostOps1] c main_v80
    = (shapeCast S1x1x16384x32 (extractStridedSlice S16384x32 ![0, 0] (flat (kpe (A0 m c) (A1 m c) (A2 m c) positions inverse) : FVec Ideal S16640x32 .f32) slices_S16640x32_S16384x32_0_0 : FVec Ideal S16384x32 .f32) shapeCasts_S16384x32_S1x1x16384x32 : FVec Ideal S1x1x16384x32 .f32) := by
  unfold Pipeline.afterTail₀ hostOps1
  simp only [List.flatten_cons, List.flatten_nil, List.append_nil, List.cons_append, List.nil_append]
  after_results
  rw [← slot_slice m c, ← finalP m c, ← Pipeline.withArrays_arr spec0 arrays_distinct c (V0 m c) (fun w => (dats m 0 c).arrAt w cfg0.N) 16]
  rfl
theorem tail82 : Pipeline.afterTail₀ cfgs (dats m) 0 (V0 m) [hostOps1] c main_v82
    = (shapeCast S1x16x16x128 (extractStridedSlice S256x128 ![16384, 0] (flat (lkv (A0 m c) (A1 m c) (A2 m c) (A4 m c)) : FVec Ideal S16640x128 .f32) slices_S16640x128_S256x128_16384_0 : FVec Ideal S256x128 .f32) shapeCasts_S256x128_S1x16x16x128 : FVec Ideal S1x16x16x128 .f32) := by
  unfold Pipeline.afterTail₀ hostOps1
  simp only [List.flatten_cons, List.flatten_nil, List.append_nil, List.cons_append, List.nil_append]
  after_results
  rw [← finalL m c, ← Pipeline.withArrays_arr spec0 arrays_distinct c (V0 m c) (fun w => (dats m 0 c).arrAt w cfg0.N) 15]
  rfl
theorem tail84 : Pipeline.afterTail₀ cfgs (dats m) 0 (V0 m) [hostOps1] c main_v84
    = (shapeCast S1x16x16x32 (extractStridedSlice S256x32 ![16384, 0] (flat (kpe (A0 m c) (A1 m c) (A2 m c) positions inverse) : FVec Ideal S16640x32 .f32) slices_S16640x32_S256x32_16384_0 : FVec Ideal S256x32 .f32) shapeCasts_S256x32_S1x16x16x32 : FVec Ideal S1x16x16x32 .f32) := by
  unfold Pipeline.afterTail₀ hostOps1
  simp only [List.flatten_cons, List.flatten_nil, List.append_nil, List.cons_append, List.nil_append]
  after_results
  rw [← slot_slice m c, ← finalP m c, ← Pipeline.withArrays_arr spec0 arrays_distinct c (V0 m c) (fun w => (dats m 0 c).arrAt w cfg0.N) 16]
  rfl

/-- The cached latents and rotated keys, for the prompt and for the samples. -/
def cacheL (a0 : FVec Ideal S1x16384x1024 .f32) (a1 : FVec Ideal S16x16x1024 .f32) (a2 : FVec Ideal S1x1024x416 .f32) (a4 : FVec Ideal S1x128 .f32) : FVec Ideal S1x1x16384x128 .f32 :=
  shapeCast S1x1x16384x128 (extractStridedSlice S16384x128 ![0, 0] (flat (lkv a0 a1 a2 a4) : FVec Ideal S16640x128 .f32) slices_S16640x128_S16384x128_0_0 : FVec Ideal S16384x128 .f32) shapeCasts_S16384x128_S1x1x16384x128
def cacheP (a0 : FVec Ideal S1x16384x1024 .f32) (a1 : FVec Ideal S16x16x1024 .f32) (a2 : FVec Ideal S1x1024x416 .f32) : FVec Ideal S1x1x16384x32 .f32 :=
  shapeCast S1x1x16384x32 (extractStridedSlice S16384x32 ![0, 0] (flat (kpe a0 a1 a2 positions inverse) : FVec Ideal S16640x32 .f32) slices_S16640x32_S16384x32_0_0 : FVec Ideal S16384x32 .f32) shapeCasts_S16384x32_S1x1x16384x32
def sampleL (a0 : FVec Ideal S1x16384x1024 .f32) (a1 : FVec Ideal S16x16x1024 .f32) (a2 : FVec Ideal S1x1024x416 .f32) (a4 : FVec Ideal S1x128 .f32) : FVec Ideal S1x16x16x128 .f32 :=
  shapeCast S1x16x16x128 (extractStridedSlice S256x128 ![16384, 0] (flat (lkv a0 a1 a2 a4) : FVec Ideal S16640x128 .f32) slices_S16640x128_S256x128_16384_0 : FVec Ideal S256x128 .f32) shapeCasts_S256x128_S1x16x16x128
def sampleP (a0 : FVec Ideal S1x16384x1024 .f32) (a1 : FVec Ideal S16x16x1024 .f32) (a2 : FVec Ideal S1x1024x416 .f32) : FVec Ideal S1x16x16x32 .f32 :=
  shapeCast S1x16x16x32 (extractStridedSlice S256x32 ![16384, 0] (flat (kpe a0 a1 a2 positions inverse) : FVec Ideal S16640x32 .f32) slices_S16640x32_S256x32_16384_0 : FVec Ideal S256x32 .f32) shapeCasts_S256x32_S1x16x16x32

variable (ρ : Dev nD → PrngReg)
/-- What the program ends with. -/
theorem run_results : θ_run defs (onTc (τ := τ) (main (F := Ideal))) ⟨m, fun _ => 0, ρ⟩ fun r => ∀ c : Dev nD,
    r.2.mem ((c.tc : Thread nD τ).loc main_v75_0) = Cert.Proj.wide (slotQ (A0 m c) (A1 m c) (A2 m c) (A3 m c) (A5 m c) positions inverse)
    ∧ r.2.mem ((c.tc : Thread nD τ).loc main_v75_1) = Cert.Proj.wide (slotK (A0 m c) (A1 m c) (A2 m c) (A4 m c) (A6 m c) positions inverse)
    ∧ r.2.mem ((c.tc : Thread nD τ).loc main_v75_2) = Cert.Proj.wide (slotV (A0 m c) (A1 m c) (A2 m c) (A4 m c) (A7 m c))
    ∧ r.2.mem ((c.tc : Thread nD τ).loc main_v78) = cacheL (A0 m c) (A1 m c) (A2 m c) (A4 m c)
    ∧ r.2.mem ((c.tc : Thread nD τ).loc main_v80) = cacheP (A0 m c) (A1 m c) (A2 m c)
    ∧ r.2.mem ((c.tc : Thread nD τ).loc main_v82) = sampleL (A0 m c) (A1 m c) (A2 m c) (A4 m c)
    ∧ r.2.mem ((c.tc : Thread nD τ).loc main_v84) = sampleP (A0 m c) (A1 m c) (A2 m c) :=
  (θ_run defs _ _).mono (fun _ h c => ⟨((h c).1 12).trans (finalQ m c), ((h c).1 13).trans (finalK m c), ((h c).1 14).trans (finalV m c),
    ((h c).2 main_v78 (Pipeline.mem_restRefs_of main_v78 (by decide) (by decide))).trans (tail78 m c),
    ((h c).2 main_v80 (Pipeline.mem_restRefs_of main_v80 (by decide) (by decide))).trans (tail80 m c),
    ((h c).2 main_v82 (Pipeline.mem_restRefs_of main_v82 (by decide) (by decide))).trans (tail82 m c),
    ((h c).2 main_v84 (Pipeline.mem_restRefs_of main_v84 (by decide) (by decide))).trans (tail84 m c)⟩) (run_main m ρ)

end Cert.Kernel3Ideal.Proj

end
-- ==== Proof.ProjRef.lean ====
/-
  The reference's projections, at an entry.
-/
module

public import proofs.«01_k».proof.Proof.ProjSpec
public import proofs.«01_k».proof.Proof.Gen.Reference3Ideal
public import proofs.«01_k».proof.Proof.Gen.Reference3Ideal.Run
public import Idealize.ShloMosaic.Lib.Pointwise

@[expose] public section

set_option maxRecDepth 16384

noncomputable section

namespace Cert.Reference3Ideal.Proj

open Idealize.ShloMosaic Idealize.ShloMosaic.TcCoe Idealize.SL.Sem
open Cert.Reference3Ideal Cert.Reference3Ideal.Gen

/-- The rows of both inputs. -/
def rows (a0 : FVec Ideal S1x16384x1024 .f32) (a1 : FVec Ideal S16x16x1024 .f32) : FVec Ideal S16640x1024 .f32 :=
  concatenate S16640x1024 0 [⟨S16384x1024, shapeCast S16384x1024 a0 shapeCasts_S1x16384x1024_S16384x1024⟩,
    ⟨S256x1024, shapeCast S256x1024 a1 shapeCasts_S16x16x1024_S256x1024⟩] concatenates_S16384x1024_S256x1024_S16640x1024_d0

/-- The rows' positions, and the sixteen inverse frequencies. -/
def positions : IVec S16640 32 :=
  concatenate S16640 0 [⟨S16384, iotaInDim S16384 32 0⟩, ⟨S256, addi (broadcastInDim S256 ![] bcast_S_S256 (constantI S_ 32 1024#32))
    (shapeCast S256 (broadcastInDim S16x16 ![0, 1] bcast_S1x16_S16x16_0_1 (shapeCast S1x16 (iotaInDim S16 32 0) shapeCasts_S16_S1x16)) shapeCasts_S16x16_S256)⟩]
    concatenates_S16384_S256_S16640_d0
def inverse : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

def angles (p : IVec S16640 32) (v : FVec Ideal S16 .f32) : FVec Ideal S16640x16 .f32 :=
  mulf (broadcastInDim S16640x16 ![0, 1] bcast_S16640x1_S16640x16_0_1 (broadcastInDim S16640x1 ![0] bcast_S16640_S16640x1_0 (sitofp .f32 p)))
    (broadcastInDim S16640x16 ![0, 1] bcast_S1x16_S16640x16_0_1 (broadcastInDim S1x16 ![1] bcast_S16_S1x16_1 v))

def entry (x : FVec Ideal S16640x1024 .f32) (a2 : FVec Ideal S1x1024x416 .f32) : FVec Ideal S16640x416 .f32 :=
  Host.dotGeneral dot_S16640x1024_S1024x416_S16640x416_1_0_0_1_n_n none x (shapeCast S1024x416 a2 shapeCasts_S1x1024x416_S1024x416)

def latentQ (v : FVec Ideal S16640x256 .f32) (g : FVec Ideal S1x256 .f32) : FVec Ideal S16640x256 .f32 :=
  mulf (mulf v (broadcastInDim S16640x256 ![0, 1] bcast_S16640x1_S16640x256_0_1 (Host.rsqrt (addf (Host.divf
      (broadcastInDim S16640x1 ![0] bcast_S16640_S16640x1_0 (Host.reduceAdd (mulf v v) (constant S_ .f32 0x00000000#32) reducesTo_S16640x256_S16640_d1 h_S_))
      (broadcastInDim S16640x1 ![] bcast_S_S16640x1 (constant S_ .f32 0x43800000#32)))
      (broadcastInDim S16640x1 ![] bcast_S_S16640x1 (constant S_ .f32 0x358637BD#32))))))
    (broadcastInDim S16640x256 ![0, 1] bcast_S1x256_S16640x256_0_1 (broadcastInDim S1x256 ![1] bcast_S256_S1x256_1 (shapeCast S256 g shapeCasts_S1x256_S256)))
def latentKV (v : FVec Ideal S16640x128 .f32) (g : FVec Ideal S1x128 .f32) : FVec Ideal S16640x128 .f32 :=
  mulf (mulf v (broadcastInDim S16640x128 ![0, 1] bcast_S16640x1_S16640x128_0_1 (Host.rsqrt (addf (Host.divf
      (broadcastInDim S16640x1 ![0] bcast_S16640_S16640x1_0 (Host.reduceAdd (mulf v v) (constant S_ .f32 0x00000000#32) reducesTo_S16640x128_S16640_d1 h_S_))
      (broadcastInDim S16640x1 ![] bcast_S_S16640x1 (constant S_ .f32 0x43000000#32)))
      (broadcastInDim S16640x1 ![] bcast_S_S16640x1 (constant S_ .f32 0x358637BD#32))))))
    (broadcastInDim S16640x128 ![0, 1] bcast_S1x128_S16640x128_0_1 (broadcastInDim S1x128 ![1] bcast_S128_S1x128_1 (shapeCast S128 g shapeCasts_S1x128_S128)))

/-- The rotated key part. -/
def keyRot (t : FVec Ideal S16640x32 .f32) (a : FVec Ideal S16640x16 .f32) : FVec Ideal S16640x32 .f32 :=
  concatenate S16640x32 1
    [⟨S16640x16, subf (mulf (extractStridedSlice S16640x16 ![0, 0] t slices_S16640x32_S16640x16_0_0) (Host.cos a)) (mulf (extractStridedSlice S16640x16 ![0, 16] t slices_S16640x32_S16640x16_0_16) (Host.sin a))⟩,
     ⟨S16640x16, addf (mulf (extractStridedSlice S16640x16 ![0, 0] t slices_S16640x32_S16640x16_0_0) (Host.sin a)) (mulf (extractStridedSlice S16640x16 ![0, 16] t slices_S16640x32_S16640x16_0_16) (Host.cos a))⟩]
    concatenates_S16640x16_S16640x16_S16640x32_d1

def queries (l : FVec Ideal S16640x256 .f32) (a5 : FVec Ideal S1x256x1536 .f32) : FVec Ideal S16640x16x96 .f32 :=
  shapeCast S16640x16x96 (Host.dotGeneral dot_S16640x256_S256x1536_S16640x1536_1_0_0_1_n_n none l (shapeCast S256x1536 a5 shapeCasts_S1x256x1536_S256x1536)) shapeCasts_S16640x1536_S16640x16x96

/-- The rotated query parts. -/
def queryRot (t : FVec Ideal S16640x16x32 .f32) (a : FVec Ideal S16640x16 .f32) : FVec Ideal S16640x16x32 .f32 :=
  concatenate S16640x16x32 2
    [⟨S16640x16x16, subf
      (mulf (extractStridedSlice S16640x16x16 ![0, 0, 0] t slices_S16640x16x32_S16640x16x16_0_0_0) (broadcastInDim S16640x16x16 ![0, 1, 2] bcast_S16640x1x16_S16640x16x16_0_1_2 (Host.cos (broadcastInDim S16640x1x16 ![0, 2] bcast_S16640x16_S16640x1x16_0_2 a))))
      (mulf (extractStridedSlice S16640x16x16 ![0, 0, 16] t slices_S16640x16x32_S16640x16x16_0_0_16) (broadcastInDim S16640x16x16 ![0, 1, 2] bcast_S16640x1x16_S16640x16x16_0_1_2 (Host.sin (broadcastInDim S16640x1x16 ![0, 2] bcast_S16640x16_S16640x1x16_0_2 a))))⟩,
     ⟨S16640x16x16, addf
      (mulf (extractStridedSlice S16640x16x16 ![0, 0, 0] t slices_S16640x16x32_S16640x16x16_0_0_0) (broadcastInDim S16640x16x16 ![0, 1, 2] bcast_S16640x1x16_S16640x16x16_0_1_2 (Host.sin (broadcastInDim S16640x1x16 ![0, 2] bcast_S16640x16_S16640x1x16_0_2 a))))
      (mulf (extractStridedSlice S16640x16x16 ![0, 0, 16] t slices_S16640x16x32_S16640x16x16_0_0_16) (broadcastInDim S16640x16x16 ![0, 1, 2] bcast_S16640x1x16_S16640x16x16_0_1_2 (Host.cos (broadcastInDim S16640x1x16 ![0, 2] bcast_S16640x16_S16640x1x16_0_2 a))))⟩]
    concatenates_S16640x16x16_S16640x16x16_S16640x16x32_d2

def heads (l : FVec Ideal S16640x128 .f32) (w : FVec Ideal S1x128x16x64 .f32) : FVec Ideal S16640x16x64 .f32 :=
  Host.dotGeneral dot_S16640x128_S128x16x64_S16640x16x64_1_0_0_12_n_n none l (shapeCast S128x16x64 w shapeCasts_S1x128x16x64_S128x16x64)

def zeros32 : FVec Ideal S16640x16x32 .f32 := broadcastInDim S16640x16x32 ![] bcast_S_S16640x16x32 (constant S_ .f32 0x00000000#32)

/-- The slots, heads side by side. -/
def outQ (q : FVec Ideal S16640x16x96 .f32) (r : FVec Ideal S16640x16x32 .f32) : FVec Ideal S16640x2048 .bf16 :=
  truncf .bf16 (shapeCast S16640x2048 (mulf (concatenate S16640x16x128 2
    [⟨S16640x16x64, extractStridedSlice S16640x16x64 ![0, 0, 0] q slices_S16640x16x96_S16640x16x64_0_0_0⟩, ⟨S16640x16x32, r⟩, ⟨S16640x16x32, zeros32⟩]
      concatenates_S16640x16x64_S16640x16x32_S16640x16x32_S16640x16x128_d2)
    (broadcastInDim S16640x16x128 ![] bcast_S_S16640x16x128 (constant S_ .f32 0x3E16C740#32))) shapeCasts_S16640x16x128_S16640x2048) bitsLt_bf16_f32
def outK (h : FVec Ideal S16640x16x64 .f32) (r : FVec Ideal S16640x32 .f32) : FVec Ideal S16640x2048 .bf16 :=
  truncf .bf16 (shapeCast S16640x2048 (concatenate S16640x16x128 2
    [⟨S16640x16x64, h⟩, ⟨S16640x16x32, broadcastInDim S16640x16x32 ![0, 1, 2] bcast_S16640x1x32_S16640x16x32_0_1_2 (broadcastInDim S16640x1x32 ![0, 2] bcast_S16640x32_S16640x1x32_0_2 r)⟩,
     ⟨S16640x16x32, zeros32⟩] concatenates_S16640x16x64_S16640x16x32_S16640x16x32_S16640x16x128_d2) shapeCasts_S16640x16x128_S16640x2048) bitsLt_bf16_f32
def outV (h : FVec Ideal S16640x16x64 .f32) : FVec Ideal S16640x2048 .bf16 :=
  truncf .bf16 (shapeCast S16640x2048 (concatenate S16640x16x128 2
    [⟨S16640x16x64, h⟩, ⟨S16640x16x1, broadcastInDim S16640x16x1 ![] bcast_S_S16640x16x1 (constant S_ .f32 0x3F800000#32)⟩,
     ⟨S16640x16x63, broadcastInDim S16640x16x63 ![] bcast_S_S16640x16x63 (constant S_ .f32 0x00000000#32)⟩] concatenates_S16640x16x64_S16640x16x1_S16640x16x63_S16640x16x128_d2)
    shapeCasts_S16640x16x128_S16640x2048) bitsLt_bf16_f32

section
variable (a0 : FVec Ideal S1x16384x1024 .f32) (a1 : FVec Ideal S16x16x1024 .f32) (a2 : FVec Ideal S1x1024x416 .f32) (a3 : FVec Ideal S1x256 .f32)
  (a4 : FVec Ideal S1x128 .f32) (a5 : FVec Ideal S1x256x1536 .f32) (a6 a7 : FVec Ideal S1x128x16x64 .f32)
  (p : IVec S16640 32) (v : FVec Ideal S16 .f32) (R : Fin 16640)

def zOf : FVec Ideal S16640x416 .f32 := entry (rows a0 a1) a2
def lqOf : FVec Ideal S16640x256 .f32 := latentQ (extractStridedSlice S16640x256 ![0, 0] (zOf a0 a1 a2) slices_S16640x416_S16640x256_0_0) a3
def lkvOf : FVec Ideal S16640x128 .f32 := latentKV (extractStridedSlice S16640x128 ![0, 256] (zOf a0 a1 a2) slices_S16640x416_S16640x128_0_256) a4
def kpeOf : FVec Ideal S16640x32 .f32 := keyRot (extractStridedSlice S16640x32 ![0, 384] (zOf a0 a1 a2) slices_S16640x416_S16640x32_0_384) (angles p v)
def qOf : FVec Ideal S16640x16x96 .f32 := queries (lqOf a0 a1 a2 a3) a5
def qrotOf : FVec Ideal S16640x16x32 .f32 :=
  queryRot (extractStridedSlice S16640x16x32 ![0, 0, 64] (qOf a0 a1 a2 a3 a5) slices_S16640x16x96_S16640x16x32_0_0_64) (angles p v)

theorem rows_at (x : Fin 1024) : rows a0 a1 (ix2 R x) = Cert.Proj.row a0 a1 R x := by
  pointwise [rows]
  rfl
theorem angles_at (j : Fin 16) : angles p v (ix2 R j) = Cert.Proj.angle p v R j := by
  pointwise [angles]
  rfl
theorem zOf_at (j : Fin 416) : zOf a0 a1 a2 (ix2 R j) = Cert.Proj.zed a0 a1 a2 R j := by
  unfold zOf Cert.Proj.zed
  pointwise [entry]
  simp only [rows_at]
theorem latentQ_at (t : FVec Ideal S16640x256 .f32) (j : Fin 256) :
    latentQ t a3 (ix2 R j) = Cert.Proj.rms (FloatOps.ofBits (F := Ideal) .f32 0x43800000#32) (fun i => t (ix2 R i)) (fun i => a3 (ix2 0 i)) j := by
  pointwise [latentQ]
  rfl
theorem latentKV_at (t : FVec Ideal S16640x128 .f32) (j : Fin 128) :
    latentKV t a4 (ix2 R j) = Cert.Proj.rms (FloatOps.ofBits (F := Ideal) .f32 0x43000000#32) (fun i => t (ix2 R i)) (fun i => a4 (ix2 0 i)) j := by
  pointwise [latentKV]
  rfl
theorem keyRot_at (t : FVec Ideal S16640x32 .f32) (a : FVec Ideal S16640x16 .f32) (j : Fin 32) :
    keyRot t a (ix2 R j) = Cert.Proj.rot (fun j => t (ix2 R j)) (fun j => a (ix2 R j)) j := by
  pointwise [keyRot]
  unfold Cert.Proj.rot
  by_cases e : j.val < 16
  · rw [dif_pos e, dif_pos e]
    rfl
  · rw [dif_neg e, dif_neg e, show (⟨16 + (j.val - 16), by omega⟩ : Fin 32) = j from Fin.ext (by simp only []; omega)]
    rfl
theorem queryRot_at (t : FVec Ideal S16640x16x32 .f32) (a : FVec Ideal S16640x16 .f32) (h : Fin 16) (j : Fin 32) :
    queryRot t a (ix3 R h j) = Cert.Proj.rot (fun j => t (ix3 R h j)) (fun j => a (ix2 R j)) j := by
  pointwise [queryRot]
  unfold Cert.Proj.rot
  by_cases e : j.val < 16
  · rw [dif_pos e, dif_pos e]
    rfl
  · rw [dif_neg e, dif_neg e, show (⟨16 + (j.val - 16), by omega⟩ : Fin 32) = j from Fin.ext (by simp only []; omega)]
    rfl
theorem lqOf_at (j : Fin 256) : lqOf a0 a1 a2 a3 (ix2 R j) = Cert.Proj.lq a0 a1 a2 a3 R j := by
  unfold lqOf Cert.Proj.lq
  rw [latentQ_at]
  congr 1
  funext i
  pointwise []
  exact zOf_at a0 a1 a2 R _
theorem lkvOf_at (j : Fin 128) : lkvOf a0 a1 a2 a4 (ix2 R j) = Cert.Proj.lkv a0 a1 a2 a4 R j := by
  unfold lkvOf Cert.Proj.lkv
  rw [latentKV_at]
  congr 1
  funext i
  pointwise []
  exact zOf_at a0 a1 a2 R _
theorem kpeOf_at (j : Fin 32) : kpeOf a0 a1 a2 p v (ix2 R j) = Cert.Proj.kpe a0 a1 a2 p v R j := by
  unfold kpeOf Cert.Proj.kpe
  rw [keyRot_at]
  congr 1
  · funext i
    pointwise []
    exact zOf_at a0 a1 a2 R _
  · funext i
    exact angles_at p v R i
theorem qOf_at (h : Fin 16) (j : Fin 96) : qOf a0 a1 a2 a3 a5 (ix3 R h j) = Cert.Proj.query a0 a1 a2 a3 a5 R h j := by
  unfold qOf Cert.Proj.query
  pointwise [queries]
  simp only [lqOf_at]
theorem qrotOf_at (h : Fin 16) (j : Fin 32) : qrotOf a0 a1 a2 a3 a5 p v (ix3 R h j)
    = Cert.Proj.rot (fun j => Cert.Proj.query a0 a1 a2 a3 a5 R h ⟨64 + j.val, by omega⟩) (Cert.Proj.angle p v R) j := by
  unfold qrotOf
  rw [queryRot_at]
  congr 1
  · funext i
    pointwise []
    exact qOf_at a0 a1 a2 a3 a5 R h _
  · funext i
    exact angles_at p v R i
theorem heads_at (w : FVec Ideal S1x128x16x64 .f32) (h : Fin 16) (l : Fin 64) :
    heads (lkvOf a0 a1 a2 a4) w (ix3 R h l) = Cert.Proj.head a0 a1 a2 a4 w R h l := by
  unfold Cert.Proj.head
  pointwise [heads]
  simp only [lkvOf_at]

theorem outQ_at (d : Fin 2048) : outQ (qOf a0 a1 a2 a3 a5) (qrotOf a0 a1 a2 a3 a5 p v) (ix2 R d)
    = Cert.Proj.wide (Cert.Proj.slotQ a0 a1 a2 a3 a5 p v) (ix2 R d) := by
  pointwise [outQ, zeros32]
  simp only [qOf_at, qrotOf_at]
  rfl
theorem outK_at (d : Fin 2048) : outK (heads (lkvOf a0 a1 a2 a4) a6) (kpeOf a0 a1 a2 p v) (ix2 R d)
    = Cert.Proj.wide (Cert.Proj.slotK a0 a1 a2 a4 a6 p v) (ix2 R d) := by
  pointwise [outK, zeros32]
  simp only [heads_at, kpeOf_at]
  rfl
theorem outV_at (d : Fin 2048) : outV (heads (lkvOf a0 a1 a2 a4) a7) (ix2 R d)
    = Cert.Proj.wide (Cert.Proj.slotV a0 a1 a2 a4 a7) (ix2 R d) := by
  pointwise [outV]
  simp only [heads_at]
  rfl

/-- The five arrays as formulas. -/
theorem outQ_eq : outQ (qOf a0 a1 a2 a3 a5) (qrotOf a0 a1 a2 a3 a5 p v) = Cert.Proj.wide (Cert.Proj.slotQ a0 a1 a2 a3 a5 p v) := by
  funext i
  obtain ⟨r, d, rfl⟩ : ∃ r d, i = ix2 r d := ⟨_, _, eq_ix2 i⟩
  exact outQ_at a0 a1 a2 a3 a5 p v r d
theorem outK_eq : outK (heads (lkvOf a0 a1 a2 a4) a6) (kpeOf a0 a1 a2 p v) = Cert.Proj.wide (Cert.Proj.slotK a0 a1 a2 a4 a6 p v) := by
  funext i
  obtain ⟨r, d, rfl⟩ : ∃ r d, i = ix2 r d := ⟨_, _, eq_ix2 i⟩
  exact outK_at a0 a1 a2 a4 a6 p v r d
theorem outV_eq : outV (heads (lkvOf a0 a1 a2 a4) a7) = Cert.Proj.wide (Cert.Proj.slotV a0 a1 a2 a4 a7) := by
  funext i
  obtain ⟨r, d, rfl⟩ : ∃ r d, i = ix2 r d := ⟨_, _, eq_ix2 i⟩
  exact outV_at a0 a1 a2 a4 a7 r d
theorem lkvOf_eq : lkvOf a0 a1 a2 a4 = Cert.Proj.flat (Cert.Proj.lkv a0 a1 a2 a4) := by
  funext i
  obtain ⟨r, d, rfl⟩ : ∃ r d, i = ix2 r d := ⟨_, _, eq_ix2 i⟩
  exact lkvOf_at a0 a1 a2 a4 r d
theorem kpeOf_eq : kpeOf a0 a1 a2 p v = Cert.Proj.flat (Cert.Proj.kpe a0 a1 a2 p v) := by
  funext i
  obtain ⟨r, d, rfl⟩ : ∃ r d, i = ix2 r d := ⟨_, _, eq_ix2 i⟩
  exact kpeOf_at a0 a1 a2 p v r d
end

section
variable (m : (ℓ : Loc nD τ sig) → Buf (Elt Ideal) ℓ) (c : Dev nD)

/-- The eight arguments as launched. -/
abbrev B0 : FVec Ideal S1x16384x1024 .f32 := m ((c : Thread nD τ).loc main_arg0)
abbrev B1 : FVec Ideal S16x16x1024 .f32 := m ((c : Thread nD τ).loc main_arg1)
abbrev B2 : FVec Ideal S1x1024x416 .f32 := m ((c : Thread nD τ).loc main_arg2)
abbrev B3 : FVec Ideal S1x256 .f32 := m ((c : Thread nD τ).loc main_arg3)
abbrev B4 : FVec Ideal S1x128 .f32 := m ((c : Thread nD τ).loc main_arg4)
abbrev B5 : FVec Ideal S1x256x1536 .f32 := m ((c : Thread nD τ).loc main_arg5)
abbrev B6 : FVec Ideal S1x128x16x64 .f32 := m ((c : Thread nD τ).loc main_arg6)
abbrev B7 : FVec Ideal S1x128x16x64 .f32 := m ((c : Thread nD τ).loc main_arg7)

/-- The run's results. -/
theorem res0 : Value.res_main_v103 m c = outQ (qOf (B0 m c) (B1 m c) (B2 m c) (B3 m c) (B5 m c)) (qrotOf (B0 m c) (B1 m c) (B2 m c) (B3 m c) (B5 m c) positions inverse) := rfl
theorem res1 : Value.res_main_v105 m c = outK (heads (lkvOf (B0 m c) (B1 m c) (B2 m c) (B4 m c)) (B6 m c)) (kpeOf (B0 m c) (B1 m c) (B2 m c) positions inverse) := rfl

/-- The cached latents and rotated keys, for the prompt and for the samples, from all rows'. -/
def cacheL (t : FVec Ideal S16640x128 .f32) : FVec Ideal S1x1x16384x128 .f32 :=
  shapeCast S1x1x16384x128 (extractStridedSlice S16384x128 ![0, 0] t slices_S16640x128_S16384x128_0_0 : FVec Ideal S16384x128 .f32) shapeCasts_S16384x128_S1x1x16384x128
def cacheP (t : FVec Ideal S16640x32 .f32) : FVec Ideal S1x1x16384x32 .f32 :=
  shapeCast S1x1x16384x32 (extractStridedSlice S16384x32 ![0, 0] t slices_S16640x32_S16384x32_0_0 : FVec Ideal S16384x32 .f32) shapeCasts_S16384x32_S1x1x16384x32
def sampleL (t : FVec Ideal S16640x128 .f32) : FVec Ideal S1x16x16x128 .f32 :=
  shapeCast S1x16x16x128 (extractStridedSlice S256x128 ![16384, 0] t slices_S16640x128_S256x128_16384_0 : FVec Ideal S256x128 .f32) shapeCasts_S256x128_S1x16x16x128
def sampleP (t : FVec Ideal S16640x32 .f32) : FVec Ideal S1x16x16x32 .f32 :=
  shapeCast S1x16x16x32 (extractStridedSlice S256x32 ![16384, 0] t slices_S16640x32_S256x32_16384_0 : FVec Ideal S256x32 .f32) shapeCasts_S256x32_S1x16x16x32
theorem res4 : Value.res_main_v111 m c = cacheP (kpeOf (B0 m c) (B1 m c) (B2 m c) positions inverse) := rfl
theorem res6 : Value.res_main_v115 m c = sampleP (kpeOf (B0 m c) (B1 m c) (B2 m c) positions inverse) := rfl

/-- What the reference ends with. -/
theorem run_results (ρ : Dev nD → PrngReg) : θ_run defs (onTc (τ := τ) (main (F := Ideal))) ⟨m, fun _ => 0, ρ⟩ fun r => ∀ c : Dev nD,
    r.2.mem ((c.tc : Thread nD τ).loc main_v103) = Cert.Proj.wide (Cert.Proj.slotQ (B0 m c) (B1 m c) (B2 m c) (B3 m c) (B5 m c) positions inverse)
    ∧ r.2.mem ((c.tc : Thread nD τ).loc main_v105) = Cert.Proj.wide (Cert.Proj.slotK (B0 m c) (B1 m c) (B2 m c) (B4 m c) (B6 m c) positions inverse)
    ∧ r.2.mem ((c.tc : Thread nD τ).loc main_v107) = Cert.Proj.wide (Cert.Proj.slotV (B0 m c) (B1 m c) (B2 m c) (B4 m c) (B7 m c))
    ∧ r.2.mem ((c.tc : Thread nD τ).loc main_v109) = cacheL (Cert.Proj.flat (Cert.Proj.lkv (B0 m c) (B1 m c) (B2 m c) (B4 m c)))
    ∧ r.2.mem ((c.tc : Thread nD τ).loc main_v111) = cacheP (Cert.Proj.flat (Cert.Proj.kpe (B0 m c) (B1 m c) (B2 m c) positions inverse))
    ∧ r.2.mem ((c.tc : Thread nD τ).loc main_v113) = sampleL (Cert.Proj.flat (Cert.Proj.lkv (B0 m c) (B1 m c) (B2 m c) (B4 m c)))
    ∧ r.2.mem ((c.tc : Thread nD τ).loc main_v115) = sampleP (Cert.Proj.flat (Cert.Proj.kpe (B0 m c) (B1 m c) (B2 m c) positions inverse)) :=
  (θ_run defs _ _).mono (fun _ h c => ⟨(h c).1.trans ((res0 m c).trans (outQ_eq _ _ _ _ _ _ _)), (h c).2.1.trans ((res1 m c).trans (outK_eq _ _ _ _ _ _ _)),
    (h c).2.2.1.trans (outV_eq (B0 m c) (B1 m c) (B2 m c) (B4 m c) (B7 m c)),
    (h c).2.2.2.1.trans (congrArg cacheL (lkvOf_eq (B0 m c) (B1 m c) (B2 m c) (B4 m c))),
    (h c).2.2.2.2.1.trans ((res4 m c).trans (congrArg cacheP (kpeOf_eq (B0 m c) (B1 m c) (B2 m c) positions inverse))),
    (h c).2.2.2.2.2.1.trans (congrArg sampleL (lkvOf_eq (B0 m c) (B1 m c) (B2 m c) (B4 m c))),
    (h c).2.2.2.2.2.2.1.trans ((res6 m c).trans (congrArg sampleP (kpeOf_eq (B0 m c) (B1 m c) (B2 m c) positions inverse)))⟩) (Value.run m ρ)
end

end Cert.Reference3Ideal.Proj

end
-- ==== Proof.PleSpec.lean ====
/-
  The second layer norm and the per-layer embeddings as formulas: a row normalised, the gated embedding added, and the next layer's
  input projection of the sum.
-/
module

public import Idealize.ShloMosaic.Lib.Pointwise

@[expose] public section

noncomputable section

namespace Cert.Ple

open Idealize.ShloMosaic

abbrev Rows (n : ℕ) : Shape := ⟨2, ![16640, n]⟩
abbrev Prompt : Shape := ⟨4, ![2, 1, 16384, 256]⟩
abbrev Sample : Shape := ⟨4, ![2, 16, 16, 256]⟩
abbrev Gains : Shape := ⟨2, ![2, 1024]⟩
abbrev Stack (l n : ℕ) : Shape := ⟨3, ![l, n, 1024]⟩

/-- The mean of 1024 entries. -/
def mean (v : Fin 1024 → EReal) : EReal :=
  FloatOps.divf (F := Ideal) (φ := .f32) (∑ i : Fin 1024, v i) (FloatOps.ofBits (F := Ideal) .f32 0x44800000#32)

/-- The layer norm of 1024 entries, with its gains and offsets. -/
def norm (v g b : Fin 1024 → EReal) (d : Fin 1024) : EReal :=
  (v d - mean v) * FloatOps.rsqrt (F := Ideal) (φ := .f32) (mean (fun i => (v i - mean v) * (v i - mean v)) + FloatOps.ofBits (F := Ideal) .f32 0x3727C5AC#32)
    * g d + b d

/-- The residual row: the layer's input scaled by √2, and the layer's output. -/
def resid (h y : Fin 1024 → EReal) (d : Fin 1024) : EReal := FloatOps.ofBits (F := Ideal) .f32 0x3FB504F3#32 * h d + y d

/-- A row and its embedding against a matrix, gated by the logistic of the row against another. -/
def gated (v : Fin 1024 → EReal) (p : Fin 256 → EReal) (wp : Fin 256 → Fin 1024 → EReal) (wg : Fin 1024 → Fin 1024 → EReal) (d : Fin 1024) : EReal :=
  v d + (∑ k : Fin 256, p k * wp k d) * Ideal.logistic (∑ x : Fin 1024, v x * wg x d)

variable (h y : FVec Ideal (Rows 1024) .f32) (pp : FVec Ideal Prompt .f32) (ps : FVec Ideal Sample .f32) (g b : FVec Ideal Gains .f32)
  (wp : FVec Ideal (Stack 2 256) .f32) (wg : FVec Ideal (Stack 2 1024) .f32) (wn : FVec Ideal (Stack 1 1024) .f32)

/-- The embeddings' rows in the first layer: the prompt's, then the samples' row by row. -/
def side (R : Fin 16640) (k : Fin 256) : EReal :=
  if hR : R.val < 16384 then pp (ix4 0 0 ⟨R.val, hR⟩ k) else ps (ix4 0 ⟨(R.val - 16384) / 16, by omega⟩ ⟨(R.val - 16384) % 16, by omega⟩ k)

/-- The normalised row, the layer's result, and the next layer's projection of it. -/
def normed (R : Fin 16640) : Fin 1024 → EReal :=
  norm (resid (fun x => h (ix2 R x)) fun x => y (ix2 R x)) (fun d => g (ix2 0 d)) fun d => b (ix2 0 d)
def result (R : Fin 16640) : Fin 1024 → EReal :=
  gated (normed h y g b R) (side pp ps R) (fun k d => wp (ix3 0 k d)) fun x d => wg (ix3 0 x d)
def next (R : Fin 16640) (d : Fin 1024) : EReal := ∑ x : Fin 1024, result h y pp ps g b wp wg R x * wn (ix3 0 x d)

/-- A table of rows as an array. -/
def rows (f : Fin 16640 → Fin 1024 → EReal) : FVec Ideal (Rows 1024) .f32 := fun i => f (i 0) (i 1)

end Cert.Ple

end
-- ==== Proof.PleIdeal.lean ====
/-
  What one grid point of the second layer norm and the per-layer embeddings stores, at an entry.
-/
module

public import proofs.«01_k».proof.Proof.PleSpec
public import proofs.«01_k».proof.Proof.Gen.Kernel4Ideal
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Ple

open Idealize.ShloMosaic Idealize.ShloMosaic.TcCoe Idealize.SL.Sem
open Cert.Kernel4Ideal Cert.Kernel4Ideal.Gen
open Cert.Ple (norm resid gated mean)

/-- The embeddings' rows a point works on: the prompt's before point 64, the samples' at it. -/
def sel (i : grid0.Coords) (x2 x3 : FVec Ideal S256x256 .f32) (r k : Fin 256) : EReal := if (i 0).val < 64 then x2 (ix2 r k) else x3 (ix2 r k)

theorem pay3_at (v0 v3 : FVec Ideal S256x1024 .f32) (v5 v7 : FVec Ideal S1x1024 .f32) (r : Fin 256) (d : Fin 1024) :
    k0_pay3 (F := Ideal) v0 v3 v5 v7 (ix2 r d)
      = norm (resid (fun x => v0 (ix2 r x)) fun x => v3 (ix2 r x)) (fun x => v5 (ix2 0 x)) (fun x => v7 (ix2 0 x)) d := by
  unfold k0_pay3
  pointwise
  rfl

theorem pay1_at (v28 : FVec Ideal S256x1024 .f32) (v35 : FVec Ideal S256x256 .bf16) (v37 : FVec Ideal S256x1024 .bf16) (v40 : FVec Ideal S1024x1024 .bf16)
    (r : Fin 256) (d : Fin 1024) : k0_pay1 (F := Ideal) v28 v35 v37 v40 (ix2 r d)
      = gated (fun x => v28 (ix2 r x)) (fun k => v35 (ix2 r k)) (fun k x => v37 (ix2 k x)) (fun k x => v40 (ix2 k x)) d := by
  unfold k0_pay1
  pointwise
  rfl

theorem pay2_at (v28 : FVec Ideal S256x1024 .f32) (v35 : FVec Ideal S256x256 .bf16) (v37 : FVec Ideal S256x1024 .bf16) (v40 v48 : FVec Ideal S1024x1024 .bf16)
    (r : Fin 256) (d : Fin 1024) : k0_pay2 (F := Ideal) v28 v35 v37 v40 v48 (ix2 r d)
      = ∑ x : Fin 1024, k0_pay1 (F := Ideal) v28 v35 v37 v40 (ix2 r x) * v48 (ix2 x d) := by
  unfold k0_pay2
  generalize k0_pay1 (F := Ideal) v28 v35 v37 v40 = w
  pointwise

theorem pay4_at (i : grid0.Coords) (x2 x3 : FVec Ideal S256x256 .f32) (r k : Fin 256) : k0_pay4 (F := Ideal) i x2 x3 (ix2 r k) = sel i x2 x3 r k := by
  unfold k0_pay4 sel
  have h65 : (i 0).val < 65 := (i 0).isLt
  have e : Scalar.cmpi .slt (BitVec.ofNat 32 (i 0).val) 64#32 = if (i 0).val < 64 then 1#1 else 0#1 := by
    generalize (i 0).val = n at h65
    interval_cases n <;> decide
  by_cases h : (i 0).val < 64
  · rw [if_pos h] at e ⊢
    simp only [e]
    show (shapeCast S256x256 x2 shapeCasts_S256x256_S256x256 : FVec Ideal S256x256 .f32) (ix2 r k) = _
    pointwise
  · rw [if_neg h] at e ⊢
    simp only [e]
    show (shapeCast S256x256 x3 shapeCasts_S256x256_S256x256 : FVec Ideal S256x256 .f32) (ix2 r k) = _
    pointwise

section
variable (i : grid0.Coords) (x0 x1 : FVec Ideal S256x1024 .f32) (x2 x3 : FVec Ideal S256x256 .f32) (x4 x5 : FVec Ideal S1x1024 .f32)
  (x6 : FVec Ideal S256x1024 .bf16) (x7 x8 : FVec Ideal S1024x1024 .bf16) (r : Fin 256) (d : Fin 1024)

/-- The row a point stores. -/
def rowF (r : Fin 256) : Fin 1024 → EReal :=
  gated (norm (resid (fun x => x0 (ix2 r x)) fun x => x1 (ix2 r x)) (fun x => x4 (ix2 0 x)) fun x => x5 (ix2 0 x)) (sel i x2 x3 r)
    (fun k x => x6 (ix2 k x)) fun k x => x7 (ix2 k x)

theorem first : k0_pay1 (F := Ideal) (k0_pay3 x0 x1 x4 x5) (k0_pay4 i x2 x3) (k0_pay5 x6) x7 (ix2 r d) = rowF i x0 x1 x2 x3 x4 x5 x6 x7 r d := by
  rw [pay1_at]
  unfold rowF
  have e3 : (fun x => k0_pay3 (F := Ideal) x0 x1 x4 x5 (ix2 r x)) = norm (resid (fun x => x0 (ix2 r x)) fun x => x1 (ix2 r x)) (fun x => x4 (ix2 0 x)) fun x => x5 (ix2 0 x) :=
    funext fun x => pay3_at x0 x1 x4 x5 r x
  have e4 : (fun k => k0_pay4 (F := Ideal) i x2 x3 (ix2 r k)) = sel i x2 x3 r := funext fun k => pay4_at i x2 x3 r k
  have e5 : (fun (k : Fin 256) (x : Fin 1024) => k0_pay5 (F := Ideal) x6 (ix2 k x)) = fun k x => x6 (ix2 k x) :=
    funext fun k => funext fun x => by unfold k0_pay5; pointwise
  rw [e3, e4, e5]

theorem outX : out0_9 (F := Ideal) i x0 x1 x2 x3 x4 x5 x6 x7 x8 (ix2 r d) = rowF i x0 x1 x2 x3 x4 x5 x6 x7 r d := by
  unfold out0_9 k0_pay6 k0_pay7 k0_pay8
  frame_out
  exact first i x0 x1 x2 x3 x4 x5 x6 x7 r d

theorem outU : out0_10 (F := Ideal) i x0 x1 x2 x3 x4 x5 x6 x7 x8 (ix2 r d) = ∑ x : Fin 1024, rowF i x0 x1 x2 x3 x4 x5 x6 x7 r x * x8 (ix2 x d) := by
  unfold out0_10 k0_pay6 k0_pay7 k0_pay8
  frame_out
  refine (pay2_at _ _ _ _ _ r d).trans (Finset.sum_congr rfl fun x _ => ?_)
  rw [first]
end

end Cert.Kernel4Ideal.Ple

end
-- ==== Proof.PleHost.lean ====
/-
  The arrays the host prepares for the second layer norm and the per-layer embeddings, and the two arrays the grid leaves.
-/
module

public import proofs.«01_k».proof.Proof.PleIdeal
public import Idealize.ShloMosaic.Lib.Pipeline.ValueKit

@[expose] public section

set_option maxRecDepth 16384

noncomputable section

namespace Cert.Kernel4Ideal.Ple

open Idealize.ShloMosaic Idealize.ShloMosaic.TcCoe Idealize.SL.Sem
open Cert.Kernel4Ideal Cert.Kernel4Ideal.Gen
open Idealize.ShloMosaic.Pipeline (Dat Cfg Window BodyObligation cellOf)
open Cert.Ple (side normed result next rows)

def promptK (pp : FVec Ideal S2x1x16384x256 .f32) : FVec Ideal S16384x256 .f32 :=
  shapeCast S16384x256 (extractStridedSlice S1x16384x256 ![0, 0, 0] (shapeCast S2x16384x256 pp shapeCasts_S2x1x16384x256_S2x16384x256) slices_S2x16384x256_S1x16384x256_0_0_0)
    shapeCasts_S1x16384x256_S16384x256
def sampleK (ps : FVec Ideal S2x16x16x256 .f32) : FVec Ideal S256x256 .f32 :=
  shapeCast S256x256 (extractStridedSlice S1x256x256 ![0, 0, 0] (shapeCast S2x256x256 ps shapeCasts_S2x16x16x256_S2x256x256) slices_S2x256x256_S1x256x256_0_0_0)
    shapeCasts_S1x256x256_S256x256
def gainK (g : FVec Ideal S2x1024 .f32) : FVec Ideal S1x1024 .f32 :=
  shapeCast S1x1024 (shapeCast S1024 (extractStridedSlice S1x1024 ![0, 0] g slices_S2x1024_S1x1024_0_0) shapeCasts_S1x1024_S1024) shapeCasts_S1024_S1x1024
def projK (w : FVec Ideal S2x256x1024 .f32) : FVec Ideal S256x1024 .bf16 :=
  truncf .bf16 (shapeCast S256x1024 (extractStridedSlice S1x256x1024 ![0, 0, 0] w slices_S2x256x1024_S1x256x1024_0_0_0) shapeCasts_S1x256x1024_S256x1024 : FVec Ideal S256x1024 .f32) bitsLt_bf16_f32
def gateK (w : FVec Ideal S2x1024x1024 .f32) : FVec Ideal S1024x1024 .bf16 :=
  truncf .bf16 (shapeCast S1024x1024 (extractStridedSlice S1x1024x1024 ![0, 0, 0] w slices_S2x1024x1024_S1x1024x1024_0_0_0) shapeCasts_S1x1024x1024_S1024x1024 : FVec Ideal S1024x1024 .f32) bitsLt_bf16_f32
def nextK (w : FVec Ideal S1x1024x1024 .f32) : FVec Ideal S1024x1024 .bf16 :=
  truncf .bf16 (shapeCast S1024x1024 w shapeCasts_S1x1024x1024_S1024x1024 : FVec Ideal S1024x1024 .f32) bitsLt_bf16_f32

theorem promptK_at (pp : FVec Ideal S2x1x16384x256 .f32) (r : Fin 16384) (k : Fin 256) : promptK pp (ix2 r k) = pp (ix4 0 0 r k) := by
  pointwise [promptK]
theorem sampleK_at (ps : FVec Ideal S2x16x16x256 .f32) (r k : Fin 256) :
    sampleK ps (ix2 r k) = ps (ix4 0 ⟨r.val / 16, by omega⟩ ⟨r.val % 16, by omega⟩ k) := by
  pointwise [sampleK]
theorem gainK_at (g : FVec Ideal S2x1024 .f32) (d : Fin 1024) : gainK g (ix2 0 d) = g (ix2 0 d) := by
  pointwise [gainK]
theorem projK_at (w : FVec Ideal S2x256x1024 .f32) (k : Fin 256) (d : Fin 1024) : projK w (ix2 k d) = w (ix3 0 k d) := by
  pointwise [projK]
theorem gateK_at (w : FVec Ideal S2x1024x1024 .f32) (k d : Fin 1024) : gateK w (ix2 k d) = w (ix3 0 k d) := by
  pointwise [gateK]
theorem nextK_at (w : FVec Ideal S1x1024x1024 .f32) (k d : Fin 1024) : nextK w (ix2 k d) = w (ix3 0 k d) := by
  pointwise [nextK]

variable (m : (ℓ : Loc nD τ sig) → Buf (Elt Ideal) ℓ) (c : Dev nD)

/-- The nine arguments as launched. -/
abbrev A0 : FVec Ideal S16640x1024 .f32 := m ((c : Thread nD τ).loc main_arg0)
abbrev A1 : FVec Ideal S16640x1024 .f32 := m ((c : Thread nD τ).loc main_arg1)
abbrev A2 : FVec Ideal S2x1x16384x256 .f32 := m ((c : Thread nD τ).loc main_arg2)
abbrev A3 : FVec Ideal S2x16x16x256 .f32 := m ((c : Thread nD τ).loc main_arg3)
abbrev A4 : FVec Ideal S2x1024 .f32 := m ((c : Thread nD τ).loc main_arg4)
abbrev A5 : FVec Ideal S2x1024 .f32 := m ((c : Thread nD τ).loc main_arg5)
abbrev A6 : FVec Ideal S2x256x1024 .f32 := m ((c : Thread nD τ).loc main_arg6)
abbrev A7 : FVec Ideal S2x1024x1024 .f32 := m ((c : Thread nD τ).loc main_arg7)
abbrev A8 : FVec Ideal S1x1024x1024 .f32 := m ((c : Thread nD τ).loc main_arg8)

theorem V_v15 : V m c main_v15 = promptK (A2 m c) := by
  unfold V hostOps0
  after_results
  rfl
theorem V_v17 : V m c main_v17 = sampleK (A3 m c) := by
  unfold V hostOps0
  after_results
  rfl
theorem V_v4 : V m c main_v4 = gainK (A4 m c) := by
  unfold V hostOps0
  after_results
  rfl
theorem V_v7 : V m c main_v7 = gainK (A5 m c) := by
  unfold V hostOps0
  after_results
  rfl
theorem V_v10 : V m c main_v10 = projK (A6 m c) := by
  unfold V hostOps0
  after_results
  rfl
theorem V_v13 : V m c main_v13 = gateK (A7 m c) := by
  unfold V hostOps0
  after_results
  rfl
theorem V_v19 : V m c main_v19 = nextK (A8 m c) := by
  unfold V hostOps0
  after_results
  rfl

/-- Where each window's block lies at point `t`. -/
theorem idxIn : ∀ t : Fin cfg0.N, win0_0.index t = ![t.val, 0] ∧ win0_1.index t = ![t.val, 0]
    ∧ win0_2.index t = ![min t.val 63, 0] ∧ win0_3.index t = ![t.val - 64, 0] ∧ (grid0.coords t 0).val = t.val :=
  (by decide +kernel : ∀ t : Fin grid0.N, _)
theorem idxW : ∀ t : Fin cfg0.N, win0_4.index t = ![0, 0] ∧ win0_5.index t = ![0, 0] ∧ win0_6.index t = ![0, 0] ∧ win0_7.index t = ![0, 0]
    ∧ win0_8.index t = ![0, 0] :=
  (by decide +kernel : ∀ t : Fin grid0.N, _)
theorem idxOut : ∀ t : Fin cfg0.N, win0_9.index t = ![t.val, 0] ∧ win0_10.index t = ![t.val, 0] :=
  (by decide +kernel : ∀ t : Fin grid0.N, _)

theorem lt65 (t : Fin cfg0.N) : t.val < 65 := t.isLt

abbrev at_ (t : Fin cfg0.N) (r : Fin 256) : Fin 16640 := ⟨256 * t.val + r.val, by have := lt65 t; omega⟩

theorem iblk0 (t : Fin cfg0.N) (r : Fin 256) (x : Fin 1024) : iblk m c 0 t (ix2 r x) = V m c main_arg0 (ix2 (at_ t r) x) := by
  blk_ext [iblk, idxIn t]
theorem iblk1 (t : Fin cfg0.N) (r : Fin 256) (x : Fin 1024) : iblk m c 1 t (ix2 r x) = V m c main_arg1 (ix2 (at_ t r) x) := by
  blk_ext [iblk, idxIn t]
theorem iblk2 (t : Fin cfg0.N) (r : Fin 256) (x : Fin 256) :
    iblk m c 2 t (ix2 r x) = V m c main_v15 (ix2 ⟨256 * min t.val 63 + r.val, by omega⟩ x) := by
  blk_ext [iblk, idxIn t]
theorem iblk3 (t : Fin cfg0.N) (r : Fin 256) (x : Fin 256) : iblk m c 3 t (ix2 r x) = V m c main_v17 (ix2 r x) := by
  have := lt65 t
  blk_ext [iblk, idxIn t]
theorem iblk4 (t : Fin cfg0.N) (r : Fin 1) (x : Fin 1024) : iblk m c 4 t (ix2 r x) = V m c main_v4 (ix2 r x) := by
  blk_ext [iblk, idxW t]
theorem iblk5 (t : Fin cfg0.N) (r : Fin 1) (x : Fin 1024) : iblk m c 5 t (ix2 r x) = V m c main_v7 (ix2 r x) := by
  blk_ext [iblk, idxW t]
theorem iblk6 (t : Fin cfg0.N) (r : Fin 256) (x : Fin 1024) : iblk m c 6 t (ix2 r x) = V m c main_v10 (ix2 r x) := by
  blk_ext [iblk, idxW t]
theorem iblk7 (t : Fin cfg0.N) (r : Fin 1024) (x : Fin 1024) : iblk m c 7 t (ix2 r x) = V m c main_v13 (ix2 r x) := by
  blk_ext [iblk, idxW t]
theorem iblk8 (t : Fin cfg0.N) (r : Fin 1024) (x : Fin 1024) : iblk m c 8 t (ix2 r x) = V m c main_v19 (ix2 r x) := by
  blk_ext [iblk, idxW t]

/-- The embeddings' rows a point works on. -/
theorem sel_eq (t : Fin cfg0.N) (r : Fin 256) : sel (grid0.coords t) (iblk m c 2 t) (iblk m c 3 t) r = side (A2 m c) (A3 m c) (at_ t r) := by
  funext x
  unfold sel side
  rw [(idxIn t).2.2.2.2]
  have h65 := lt65 t
  by_cases h : t.val < 64
  · rw [if_pos h, dif_pos (by show 256 * t.val + r.val < 16384; omega), iblk2, V_v15, promptK_at]
    refine congrArg (fun q => A2 m c (ix4 0 0 q x)) (Fin.ext ?_)
    show 256 * min t.val 63 + r.val = 256 * t.val + r.val
    omega
  · rw [if_neg h, dif_neg (by show ¬ 256 * t.val + r.val < 16384; omega), iblk3, V_v17, sampleK_at]
    have e : (⟨r.val / 16, by omega⟩ : Fin 16) = ⟨((at_ t r).val - 16384) / 16, by have := (at_ t r).isLt; omega⟩ :=
      Fin.ext (by show r.val / 16 = (256 * t.val + r.val - 16384) / 16; omega)
    have e' : (⟨r.val % 16, by omega⟩ : Fin 16) = ⟨((at_ t r).val - 16384) % 16, by omega⟩ :=
      Fin.ext (by show r.val % 16 = (256 * t.val + r.val - 16384) % 16; omega)
    rw [e, e']

/-- The row a point stores is the result's row. -/
theorem row_eq (t : Fin cfg0.N) (r : Fin 256) :
    rowF (grid0.coords t) (iblk m c 0 t) (iblk m c 1 t) (iblk m c 2 t) (iblk m c 3 t) (iblk m c 4 t) (iblk m c 5 t) (iblk m c 6 t) (iblk m c 7 t) r
      = result (A0 m c) (A1 m c) (A2 m c) (A3 m c) (A4 m c) (A5 m c) (A6 m c) (A7 m c) (at_ t r) := by
  unfold rowF result normed
  have e0 : (fun x : Fin 1024 => iblk m c 0 t (ix2 r x)) = fun x => A0 m c (ix2 (at_ t r) x) := funext fun x => by rw [iblk0, V_main_arg0]
  have e1 : (fun x : Fin 1024 => iblk m c 1 t (ix2 r x)) = fun x => A1 m c (ix2 (at_ t r) x) := funext fun x => by rw [iblk1, V_main_arg1]
  have e4 : (fun x : Fin 1024 => iblk m c 4 t (ix2 0 x)) = fun x => A4 m c (ix2 0 x) := funext fun x => by rw [iblk4, V_v4, gainK_at]
  have e5 : (fun x : Fin 1024 => iblk m c 5 t (ix2 0 x)) = fun x => A5 m c (ix2 0 x) := funext fun x => by rw [iblk5, V_v7, gainK_at]
  have e6 : (fun (k : Fin 256) (x : Fin 1024) => iblk m c 6 t (ix2 k x)) = fun k x => A6 m c (ix3 0 k x) :=
    funext fun k => funext fun x => by rw [iblk6, V_v10, projK_at]
  have e7 : (fun (k : Fin 1024) (x : Fin 1024) => iblk m c 7 t (ix2 k x)) = fun k x => A7 m c (ix3 0 k x) :=
    funext fun k => funext fun x => by rw [iblk7, V_v13, gateK_at]
  rw [sel_eq, e0, e1, e4, e5, e6, e7]

/-- The two arrays. -/
theorem final9 : (dats m 0 c).arrAt 9 cfg0.N = rows (result (A0 m c) (A1 m c) (A2 m c) (A3 m c) (A4 m c) (A5 m c) (A6 m c) (A7 m c)) := by
  refine (dats m 0 c).arrAt_eq_of_covers 9 _ (by decide +kernel) fun t hf y => ?_
  blk_simp
  rw [after0_9]
  obtain ⟨r, d, rfl⟩ : ∃ (r : Fin 256) (d : Fin 1024), y = (ix2 r d : S256x1024.Idx) := ⟨y 0, y 1, eq_ix2 y⟩
  refine (outX _ _ _ _ _ _ _ _ _ _ r d).trans ?_
  rw [row_eq]
  refine Eq.trans (b := rows (result (A0 m c) (A1 m c) (A2 m c) (A3 m c) (A4 m c) (A5 m c) (A6 m c) (A7 m c)) (ix2 (at_ t r) d)) rfl ?_
  generalize rows (result (A0 m c) (A1 m c) (A2 m c) (A3 m c) (A4 m c) (A5 m c) (A6 m c) (A7 m c)) = G
  refine congrArg G ?_
  blk_ext [idxOut t]
theorem final10 : (dats m 0 c).arrAt 10 cfg0.N
    = rows (next (A0 m c) (A1 m c) (A2 m c) (A3 m c) (A4 m c) (A5 m c) (A6 m c) (A7 m c) (A8 m c)) := by
  refine (dats m 0 c).arrAt_eq_of_covers 10 _ (by decide +kernel) fun t hf y => ?_
  blk_simp
  rw [after0_10]
  obtain ⟨r, d, rfl⟩ : ∃ (r : Fin 256) (d : Fin 1024), y = (ix2 r d : S256x1024.Idx) := ⟨y 0, y 1, eq_ix2 y⟩
  refine (outU _ _ _ _ _ _ _ _ _ _ r d).trans ?_
  have e8 : ∀ x : Fin 1024, iblk m c 8 t (ix2 x d) = A8 m c (ix3 0 x d) := fun x => by rw [iblk8, V_v19, nextK_at]
  rw [row_eq, Finset.sum_congr rfl fun x _ => congrArg _ (e8 x)]
  refine Eq.trans (b := rows (next (A0 m c) (A1 m c) (A2 m c) (A3 m c) (A4 m c) (A5 m c) (A6 m c) (A7 m c) (A8 m c)) (ix2 (at_ t r) d)) rfl ?_
  generalize rows (next (A0 m c) (A1 m c) (A2 m c) (A3 m c) (A4 m c) (A5 m c) (A6 m c) (A7 m c) (A8 m c)) = G
  refine congrArg G ?_
  blk_ext [idxOut t]

end Cert.Kernel4Ideal.Ple

end
-- ==== Proof.PleRef.lean ====
/-
  The reference's two results of the second layer norm and the per-layer embeddings, at an entry.
-/
module

public import proofs.«01_k».proof.Proof.PleSpec
public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Reference4Ideal.Ple

open Idealize.ShloMosaic Idealize.ShloMosaic.TcCoe Idealize.SL.Sem
open Cert.Reference4Ideal Cert.Reference4Ideal.Gen
open Cert.Ple (resid gated side normed result next rows)

abbrev Big : Type := FVec Ideal S16640x1024 .f32

/-- A number for every row, from a sum over the row: its mean. -/
def meanT (v : Big) : FVec Ideal S16640x1 .f32 :=
  Host.divf (broadcastInDim S16640x1 ![0] bcast_S16640_S16640x1_0 (Host.reduceAdd v (constant S_ .f32 0x00000000#32) reducesTo_S16640x1024_S16640_d1 h_S_))
    (broadcastInDim S16640x1 ![] bcast_S_S16640x1 (constant S_ .f32 0x44800000#32))
/-- The entries less their row's mean. -/
def centred (v : Big) : Big := subf v (broadcastInDim S16640x1024 ![0, 1] bcast_S16640x1_S16640x1024_0_1 (meanT v))
def gain (g : FVec Ideal S2x1024 .f32) : Big :=
  broadcastInDim S16640x1024 ![0, 1] bcast_S1x1024_S16640x1024_0_1 (broadcastInDim S1x1024 ![1] bcast_S1024_S1x1024_1
    (shapeCast S1024 (extractStridedSlice S1x1024 ![0, 0] g slices_S2x1024_S1x1024_0_0) shapeCasts_S1x1024_S1024))
def normT (v : Big) (g b : FVec Ideal S2x1024 .f32) : Big :=
  addf (mulf (mulf (centred v) (broadcastInDim S16640x1024 ![0, 1] bcast_S16640x1_S16640x1024_0_1
    (Host.rsqrt (addf (meanT (mulf (centred v) (centred v))) (broadcastInDim S16640x1 ![] bcast_S_S16640x1 (constant S_ .f32 0x3727C5AC#32)))))) (gain g)) (gain b)
def residT (h y : Big) : Big := addf (mulf (broadcastInDim S16640x1024 ![] bcast_S_S16640x1024 (constant S_ .f32 0x3FB504F3#32)) h) y
def promptT (pp : FVec Ideal S2x1x16384x256 .f32) : FVec Ideal S16384x256 .f32 :=
  shapeCast S16384x256 (extractStridedSlice S1x1x16384x256 ![0, 0, 0, 0] pp slices_S2x1x16384x256_S1x1x16384x256_0_0_0_0) shapeCasts_S1x1x16384x256_S16384x256
def sampleT (ps : FVec Ideal S2x16x16x256 .f32) : FVec Ideal S256x256 .f32 :=
  shapeCast S256x256 (shapeCast S16x16x256 (extractStridedSlice S1x16x16x256 ![0, 0, 0, 0] ps slices_S2x16x16x256_S1x16x16x256_0_0_0_0) shapeCasts_S1x16x16x256_S16x16x256)
    shapeCasts_S16x16x256_S256x256
def joined (a : FVec Ideal S16384x256 .f32) (b : FVec Ideal S256x256 .f32) : FVec Ideal S16640x256 .f32 :=
  concatenate S16640x256 0 [⟨S16384x256, a⟩, ⟨S256x256, b⟩] concatenates_S16384x256_S256x256_S16640x256_d0
def sideT (pp : FVec Ideal S2x1x16384x256 .f32) (ps : FVec Ideal S2x16x16x256 .f32) : FVec Ideal S16640x256 .f32 := joined (promptT pp) (sampleT ps)
def gatedT (v : Big) (p : FVec Ideal S16640x256 .f32) (wp : FVec Ideal S2x256x1024 .f32) (wg : FVec Ideal S2x1024x1024 .f32) : Big :=
  addf v (mulf (Host.dotGeneral dot_S16640x256_S256x1024_S16640x1024_1_0_0_1_n_n none p
      (shapeCast S256x1024 (extractStridedSlice S1x256x1024 ![0, 0, 0] wp slices_S2x256x1024_S1x256x1024_0_0_0) shapeCasts_S1x256x1024_S256x1024))
    (Host.divf (broadcastInDim S16640x1024 ![] bcast_S_S16640x1024 (constant S_ .f32 0x3F800000#32))
      (addf (broadcastInDim S16640x1024 ![] bcast_S_S16640x1024 (constant S_ .f32 0x3F800000#32)) (Host.exp (Host.negf
        (Host.dotGeneral dot_S16640x1024_S1024x1024_S16640x1024_1_0_0_1_n_n none v
          (shapeCast S1024x1024 (extractStridedSlice S1x1024x1024 ![0, 0, 0] wg slices_S2x1024x1024_S1x1024x1024_0_0_0) shapeCasts_S1x1024x1024_S1024x1024)))))))
def nextT (v : Big) (wn : FVec Ideal S1x1024x1024 .f32) : Big :=
  Host.dotGeneral dot_S16640x1024_S1024x1024_S16640x1024_1_0_0_1_n_n none v (shapeCast S1024x1024 wn shapeCasts_S1x1024x1024_S1024x1024)

section
variable (R : Fin 16640) (D : Fin 1024)

theorem meanT_at (v : Big) : meanT v (ix2 R 0) = Cert.Ple.mean fun x => v (ix2 R x) := by
  pointwise [meanT]
  rfl
theorem centred_at (v : Big) : centred v (ix2 R D) = v (ix2 R D) - Cert.Ple.mean fun x => v (ix2 R x) := by
  rw [← meanT_at]
  unfold centred
  generalize meanT v = w
  pointwise
theorem gain_at (g : FVec Ideal S2x1024 .f32) : gain g (ix2 R D) = g (ix2 0 D) := by
  pointwise [gain]
theorem normT_at (v : Big) (g b : FVec Ideal S2x1024 .f32) :
    normT v g b (ix2 R D) = Cert.Ple.norm (fun x => v (ix2 R x)) (fun d => g (ix2 0 d)) (fun d => b (ix2 0 d)) D := by
  have e : meanT (mulf (centred v) (centred v)) (ix2 R 0) = Cert.Ple.mean fun i => (v (ix2 R i) - Cert.Ple.mean fun x => v (ix2 R x)) * (v (ix2 R i) - Cert.Ple.mean fun x => v (ix2 R x)) := by
    rw [meanT_at]
    refine congrArg Cert.Ple.mean (funext fun x => ?_)
    show centred v (ix2 R x) * centred v (ix2 R x) = _
    rw [centred_at]
  unfold Cert.Ple.norm
  rw [← e, ← centred_at]
  beta_reduce
  rw [← gain_at R D g, ← gain_at R D b]
  unfold normT
  generalize meanT (mulf (centred v) (centred v)) = w
  generalize centred v = u
  generalize gain g = s
  generalize gain b = t
  pointwise
theorem residT_at (h y : Big) : residT h y (ix2 R D) = resid (fun x => h (ix2 R x)) (fun x => y (ix2 R x)) D := by
  pointwise [residT]
  rfl
theorem promptT_at (pp : FVec Ideal S2x1x16384x256 .f32) (r : Fin 16384) (k : Fin 256) : promptT pp (ix2 r k) = pp (ix4 0 0 r k) := by
  pointwise [promptT]
theorem sampleT_at (ps : FVec Ideal S2x16x16x256 .f32) (r k : Fin 256) :
    sampleT ps (ix2 r k) = ps (ix4 0 ⟨r.val / 16, by omega⟩ ⟨r.val % 16, by omega⟩ k) := by
  pointwise [sampleT]
theorem joined_at (a : FVec Ideal S16384x256 .f32) (b : FVec Ideal S256x256 .f32) (k : Fin 256) :
    joined a b (ix2 R k) = if h : R.val < 16384 then a (ix2 ⟨R.val, h⟩ k) else b (ix2 ⟨R.val - 16384, by omega⟩ k) := by
  pointwise [joined]
theorem sideT_at (pp : FVec Ideal S2x1x16384x256 .f32) (ps : FVec Ideal S2x16x16x256 .f32) (k : Fin 256) : sideT pp ps (ix2 R k) = side pp ps R k := by
  unfold sideT side
  rw [joined_at]
  by_cases h : R.val < 16384
  · rw [dif_pos h, dif_pos h, promptT_at]
  · rw [dif_neg h, dif_neg h, sampleT_at]
theorem gatedT_at (v : Big) (p : FVec Ideal S16640x256 .f32) (wp : FVec Ideal S2x256x1024 .f32) (wg : FVec Ideal S2x1024x1024 .f32) :
    gatedT v p wp wg (ix2 R D) = gated (fun x => v (ix2 R x)) (fun k => p (ix2 R k)) (fun k d => wp (ix3 0 k d)) (fun x d => wg (ix3 0 x d)) D := by
  pointwise [gatedT]
  rfl
theorem nextT_at (v : Big) (wn : FVec Ideal S1x1024x1024 .f32) : nextT v wn (ix2 R D) = ∑ x : Fin 1024, v (ix2 R x) * wn (ix3 0 x D) := by
  pointwise [nextT]
end

section
variable (m : (ℓ : Loc nD τ sig) → Buf (Elt Ideal) ℓ) (c : Dev nD)

abbrev B0 : FVec Ideal S16640x1024 .f32 := m ((c : Thread nD τ).loc main_arg0)
abbrev B1 : FVec Ideal S16640x1024 .f32 := m ((c : Thread nD τ).loc main_arg1)
abbrev B2 : FVec Ideal S2x1x16384x256 .f32 := m ((c : Thread nD τ).loc main_arg2)
abbrev B3 : FVec Ideal S2x16x16x256 .f32 := m ((c : Thread nD τ).loc main_arg3)
abbrev B4 : FVec Ideal S2x1024 .f32 := m ((c : Thread nD τ).loc main_arg4)
abbrev B5 : FVec Ideal S2x1024 .f32 := m ((c : Thread nD τ).loc main_arg5)
abbrev B6 : FVec Ideal S2x256x1024 .f32 := m ((c : Thread nD τ).loc main_arg6)
abbrev B7 : FVec Ideal S2x1024x1024 .f32 := m ((c : Thread nD τ).loc main_arg7)
abbrev B8 : FVec Ideal S1x1024x1024 .f32 := m ((c : Thread nD τ).loc main_arg8)

/-- The first result as a term. -/
def resultT : Big := gatedT (normT (residT (B0 m c) (B1 m c)) (B4 m c) (B5 m c)) (sideT (B2 m c) (B3 m c)) (B6 m c) (B7 m c)

theorem resultT_at (R : Fin 16640) (D : Fin 1024) :
    resultT m c (ix2 R D) = result (B0 m c) (B1 m c) (B2 m c) (B3 m c) (B4 m c) (B5 m c) (B6 m c) (B7 m c) R D := by
  unfold resultT result
  rw [gatedT_at]
  have e1 : (fun x => normT (residT (B0 m c) (B1 m c)) (B4 m c) (B5 m c) (ix2 R x)) = normed (B0 m c) (B1 m c) (B4 m c) (B5 m c) R := by
    funext x
    rw [normT_at]
    unfold normed
    rw [show (fun x => residT (B0 m c) (B1 m c) (ix2 R x)) = resid (fun x => B0 m c (ix2 R x)) (fun x => B1 m c (ix2 R x)) from funext fun x => residT_at R x _ _]
  have e2 : (fun k => sideT (B2 m c) (B3 m c) (ix2 R k)) = side (B2 m c) (B3 m c) R := funext fun k => sideT_at R _ _ k
  rw [e1, e2]

theorem final0 : Value.res_out0 m c = rows (result (B0 m c) (B1 m c) (B2 m c) (B3 m c) (B4 m c) (B5 m c) (B6 m c) (B7 m c)) := by
  have e : Value.res_out0 m c = resultT m c := rfl
  rw [e]
  funext y
  obtain ⟨r, d, rfl⟩ : ∃ (r : Fin 16640) (d : Fin 1024), y = (ix2 r d : S16640x1024.Idx) := ⟨y 0, y 1, eq_ix2 y⟩
  exact resultT_at m c r d
theorem final1 : Value.res_out1 m c = rows (next (B0 m c) (B1 m c) (B2 m c) (B3 m c) (B4 m c) (B5 m c) (B6 m c) (B7 m c) (B8 m c)) := by
  have e : Value.res_out1 m c = nextT (resultT m c) (B8 m c) := rfl
  rw [e]
  funext y
  obtain ⟨r, d, rfl⟩ : ∃ (r : Fin 16640) (d : Fin 1024), y = (ix2 r d : S16640x1024.Idx) := ⟨y 0, y 1, eq_ix2 y⟩
  rw [nextT_at]
  exact Finset.sum_congr rfl fun x _ => congrArg (· * B8 m c (ix3 0 x d)) (resultT_at m c r x)
end

end Cert.Reference4Ideal.Ple

end
-- ==== Proof.SampIdeal.lean ====
/-
  What one grid point of the running streams' attention stores, at an entry: one stream's sixteen queries for each of
  the sixteen heads, the queries taken into the latents' space first.
-/
module

public import proofs.«01_k».proof.Proof.Gen.Kernel5Ideal
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Kernel5Ideal.Samp

open Idealize.ShloMosaic Idealize.ShloMosaic.TcCoe Idealize.SL.Sem
open Cert.Kernel5Ideal Cert.Kernel5Ideal.Gen

/-- Row `16 h + q` of the sixteen heads' stacked queries, and column `64 h + l` of the heads side by side. -/
abbrev at16 (h q : Fin 16) : Fin 256 := ⟨16 * h.val + q.val, by omega⟩
abbrev col (h : Fin 16) (l : Fin 64) : Fin 1024 := ⟨64 * h.val + l.val, by omega⟩

theorem stack_ofFn {n : ℕ} (p : Fin 16 → (⟨2, ![16, n]⟩ : Shape).Idx → EReal) (hc) (h q : Fin 16) (l : Fin n) :
    concatenate (⟨2, ![256, n]⟩ : Shape) 0 (List.ofFn fun k => ⟨⟨2, ![16, n]⟩, p k⟩) hc (ix2 (at16 h q) l) = p h (ix2 q l) := by
  refine concatenate_ofFn_apply 0 p hc rfl 16 rfl _ h ?_ _ ?_ ?_
  · show (16 * h.val + q.val) / 16 = h.val
    omega
  · show q.val = (16 * h.val + q.val) % 16
    omega
  · intro b hb
    obtain ⟨b, hb'⟩ := b
    have : b = 1 := by
      have : b ≠ 0 := fun e => hb (Fin.ext e)
      have : b < 2 := hb'
      omega
    subst this
    rfl

theorem stack_at {n : ℕ} (p : Fin 16 → (⟨2, ![16, n]⟩ : Shape).Idx → EReal) (hc) (h q : Fin 16) (l : Fin n) :
    concatenate (⟨2, ![256, n]⟩ : Shape) 0 [⟨⟨2, ![16, n]⟩, p 0⟩, ⟨⟨2, ![16, n]⟩, p 1⟩, ⟨⟨2, ![16, n]⟩, p 2⟩, ⟨⟨2, ![16, n]⟩, p 3⟩, ⟨⟨2, ![16, n]⟩, p 4⟩, ⟨⟨2, ![16, n]⟩, p 5⟩, ⟨⟨2, ![16, n]⟩, p 6⟩, ⟨⟨2, ![16, n]⟩, p 7⟩, ⟨⟨2, ![16, n]⟩, p 8⟩, ⟨⟨2, ![16, n]⟩, p 9⟩, ⟨⟨2, ![16, n]⟩, p 10⟩, ⟨⟨2, ![16, n]⟩, p 11⟩, ⟨⟨2, ![16, n]⟩, p 12⟩, ⟨⟨2, ![16, n]⟩, p 13⟩, ⟨⟨2, ![16, n]⟩, p 14⟩, ⟨⟨2, ![16, n]⟩, p 15⟩] hc (ix2 (at16 h q) l) = p h (ix2 q l) :=
  stack_ofFn p hc h q l

theorem beside_ofFn (p : Fin 16 → S16x64.Idx → EReal) (hc) (h q : Fin 16) (l : Fin 64) :
    concatenate S16x1024 1 (List.ofFn fun k => ⟨S16x64, p k⟩) hc (ix2 q (col h l)) = p h (ix2 q l) := by
  refine concatenate_ofFn_apply 1 p hc rfl 64 rfl _ h ?_ _ ?_ ?_
  · show (64 * h.val + l.val) / 64 = h.val
    omega
  · show l.val = (64 * h.val + l.val) % 64
    omega
  · intro b hb
    obtain ⟨b, hb'⟩ := b
    have : b = 0 := by
      have : b ≠ 1 := fun e => hb (Fin.ext e)
      have : b < 2 := hb'
      omega
    subst this
    rfl

theorem beside_at (p : Fin 16 → S16x64.Idx → EReal) (hc) (h q : Fin 16) (l : Fin 64) :
    concatenate S16x1024 1 [⟨S16x64, p 0⟩, ⟨S16x64, p 1⟩, ⟨S16x64, p 2⟩, ⟨S16x64, p 3⟩, ⟨S16x64, p 4⟩, ⟨S16x64, p 5⟩, ⟨S16x64, p 6⟩, ⟨S16x64, p 7⟩, ⟨S16x64, p 8⟩, ⟨S16x64, p 9⟩, ⟨S16x64, p 10⟩, ⟨S16x64, p 11⟩, ⟨S16x64, p 12⟩, ⟨S16x64, p 13⟩, ⟨S16x64, p 14⟩, ⟨S16x64, p 15⟩] hc (ix2 q (col h l)) = p h (ix2 q l) :=
  beside_ofFn p hc h q l

theorem slicesQ : ∀ h : Fin 16, S16x2048.Slices ![0, 128 * h.val] S16x128 := by decide
theorem slicesO : ∀ h : Fin 16, S256x128.Slices ![16 * h.val, 0] S16x128 := by decide
theorem inbA : ∀ h : Fin 16, ∀ a, (![h.val, 0, 0] : Fin 3 → Nat) a + S1x128x128.size a ≤ S16x128x128.size a := by decide
theorem inbV : ∀ h : Fin 16, ∀ a, (![h.val, 0, 0] : Fin 3 → Nat) a + S1x128x64.size a ≤ S16x128x64.size a := by decide

/-- Head `h`'s page of the two matrices. -/
def pageA (X5 : Vec Ideal S16x128x128 .bf16) (h : Fin 16) : Vec Ideal S1x128x128 .bf16 :=
  View.ld X5 (Rect.unit (s := S16x128x128) ![h.val, 0, 0] S1x128x128.size (inbA h))
def pageV (X6 : Vec Ideal S16x128x64 .bf16) (h : Fin 16) : Vec Ideal S1x128x64 .bf16 :=
  View.ld X6 (Rect.unit (s := S16x128x64) ![h.val, 0, 0] S1x128x64.size (inbV h))

/-- Head `h`'s queries in the latents' space, their rotary lanes, and its values from the mixed latents. -/
def headQ (V : FVec Ideal S16x2048 .bf16) (X5 : FVec Ideal S16x128x128 .bf16) (h : Fin 16) : FVec Ideal S16x128 .f32 :=
  matmul dot_S16x128_S128x128_S16x128_1_0_0_1_n_n none (extractStridedSlice S16x128 ![0, 128 * h.val] V (slicesQ h))
    (shapeCast S128x128 (pageA X5 h) shapeCasts_S1x128x128_S128x128 : FVec Ideal S128x128 .bf16)
    (constant S16x128 .f32 0x00000000#32)
def headR (V : FVec Ideal S16x2048 .bf16) (h : Fin 16) : FVec Ideal S16x32 .bf16 :=
  extractStridedSlice S16x32 ![0, 64] (extractStridedSlice S16x128 ![0, 128 * h.val] V (slicesQ h)) slices_S16x128_o0_64_S16x32
def headO (O : FVec Ideal S256x128 .bf16) (X6 : FVec Ideal S16x128x64 .bf16) (h : Fin 16) : FVec Ideal S16x64 .f32 :=
  matmul dot_S16x128_S128x64_S16x64_1_0_0_1_n_n none (extractStridedSlice S16x128 ![16 * h.val, 0] O (slicesO h))
    (shapeCast S128x64 (pageV X6 h) shapeCasts_S1x128x64_S128x64 : FVec Ideal S128x64 .bf16)
    (constant S16x64 .f32 0x00000000#32)

theorem slabA (X5 : FVec Ideal S16x128x128 .bf16) (h : Fin 16) (x y : Fin 128) :
    (pageA X5 h) (ix3 0 x y) = X5 (ix3 h x y) := by
  unfold pageA View.ld
  refine congrArg X5 (funext fun a => ?_)
  fin_cases a <;> exact Fin.ext (by simp [Rect.unit])
theorem slabV (X6 : FVec Ideal S16x128x64 .bf16) (h : Fin 16) (x : Fin 128) (y : Fin 64) :
    (pageV X6 h) (ix3 0 x y) = X6 (ix3 h x y) := by
  unfold pageV View.ld
  refine congrArg X6 (funext fun a => ?_)
  fin_cases a <;> exact Fin.ext (by simp [Rect.unit])

abbrev col128 (h : Fin 16) (l : Fin 128) : Fin 2048 := ⟨128 * h.val + l.val, by omega⟩

theorem headQ_at (V : FVec Ideal S16x2048 .bf16) (X5 : FVec Ideal S16x128x128 .bf16) (h q : Fin 16) (y : Fin 128) :
    headQ V X5 h (ix2 q y) = ∑ x : Fin 128, V (ix2 q (col128 h x)) * X5 (ix3 h x y) := by
  pointwise [headQ]
  exact Finset.sum_congr rfl fun x _ => congrArg (V (ix2 q (col128 h x)) * ·) (slabA X5 h x y)
theorem headR_at (V : FVec Ideal S16x2048 .bf16) (h q : Fin 16) (l : Fin 32) :
    headR V h (ix2 q l) = V (ix2 q (col128 h ⟨64 + l.val, by omega⟩)) := by
  pointwise [headR]
theorem headO_at (O : FVec Ideal S256x128 .bf16) (X6 : FVec Ideal S16x128x64 .bf16) (h q : Fin 16) (y : Fin 64) :
    headO O X6 h (ix2 q y) = ∑ x : Fin 128, O (ix2 (at16 h q) x) * X6 (ix3 h x y) := by
  pointwise [headO]
  exact Finset.sum_congr rfl fun x _ => congrArg (O (ix2 (at16 h q) x) * ·) (slabV X6 h x y)

section
variable (x0 : FVec Ideal S16x2048 .bf16) (x1 : FVec Ideal S1x1024x128 .f32) (x2 : FVec Ideal S1x1024x32 .f32) (x3 x4 : FVec Ideal S16x128 .f32)
  (x5 : FVec Ideal S16x128x128 .bf16) (x6 : FVec Ideal S16x128x64 .bf16)

/-- The stacked queries: the latents' part and the rotary part. -/
def stackQ : FVec Ideal S256x128 .bf16 := truncf .bf16 (concatenate S256x128 0 [⟨S16x128, headQ (k0_pay69 x0 x1 x2 x3 x4 x5 x6) x5 0⟩, ⟨S16x128, headQ (k0_pay69 x0 x1 x2 x3 x4 x5 x6) x5 1⟩, ⟨S16x128, headQ (k0_pay69 x0 x1 x2 x3 x4 x5 x6) x5 2⟩, ⟨S16x128, headQ (k0_pay69 x0 x1 x2 x3 x4 x5 x6) x5 3⟩, ⟨S16x128, headQ (k0_pay69 x0 x1 x2 x3 x4 x5 x6) x5 4⟩, ⟨S16x128, headQ (k0_pay69 x0 x1 x2 x3 x4 x5 x6) x5 5⟩, ⟨S16x128, headQ (k0_pay69 x0 x1 x2 x3 x4 x5 x6) x5 6⟩, ⟨S16x128, headQ (k0_pay69 x0 x1 x2 x3 x4 x5 x6) x5 7⟩, ⟨S16x128, headQ (k0_pay69 x0 x1 x2 x3 x4 x5 x6) x5 8⟩, ⟨S16x128, headQ (k0_pay69 x0 x1 x2 x3 x4 x5 x6) x5 9⟩, ⟨S16x128, headQ (k0_pay69 x0 x1 x2 x3 x4 x5 x6) x5 10⟩, ⟨S16x128, headQ (k0_pay69 x0 x1 x2 x3 x4 x5 x6) x5 11⟩, ⟨S16x128, headQ (k0_pay69 x0 x1 x2 x3 x4 x5 x6) x5 12⟩, ⟨S16x128, headQ (k0_pay69 x0 x1 x2 x3 x4 x5 x6) x5 13⟩, ⟨S16x128, headQ (k0_pay69 x0 x1 x2 x3 x4 x5 x6) x5 14⟩, ⟨S16x128, headQ (k0_pay69 x0 x1 x2 x3 x4 x5 x6) x5 15⟩]
  concatenates_S16x128_S16x128_S16x128_S16x128_S16x128_S16x128_S16x128_S16x128_S16x128_S16x128_S16x128_S16x128_S16x128_S16x128_S16x128_S16x128_S256x128_d0) bitsLt_bf16_f32
def stackR : FVec Ideal S256x32 .bf16 := concatenate S256x32 0 [⟨S16x32, headR (k0_pay69 x0 x1 x2 x3 x4 x5 x6) 0⟩, ⟨S16x32, headR (k0_pay69 x0 x1 x2 x3 x4 x5 x6) 1⟩, ⟨S16x32, headR (k0_pay69 x0 x1 x2 x3 x4 x5 x6) 2⟩, ⟨S16x32, headR (k0_pay69 x0 x1 x2 x3 x4 x5 x6) 3⟩, ⟨S16x32, headR (k0_pay69 x0 x1 x2 x3 x4 x5 x6) 4⟩, ⟨S16x32, headR (k0_pay69 x0 x1 x2 x3 x4 x5 x6) 5⟩, ⟨S16x32, headR (k0_pay69 x0 x1 x2 x3 x4 x5 x6) 6⟩, ⟨S16x32, headR (k0_pay69 x0 x1 x2 x3 x4 x5 x6) 7⟩, ⟨S16x32, headR (k0_pay69 x0 x1 x2 x3 x4 x5 x6) 8⟩, ⟨S16x32, headR (k0_pay69 x0 x1 x2 x3 x4 x5 x6) 9⟩, ⟨S16x32, headR (k0_pay69 x0 x1 x2 x3 x4 x5 x6) 10⟩, ⟨S16x32, headR (k0_pay69 x0 x1 x2 x3 x4 x5 x6) 11⟩, ⟨S16x32, headR (k0_pay69 x0 x1 x2 x3 x4 x5 x6) 12⟩, ⟨S16x32, headR (k0_pay69 x0 x1 x2 x3 x4 x5 x6) 13⟩, ⟨S16x32, headR (k0_pay69 x0 x1 x2 x3 x4 x5 x6) 14⟩, ⟨S16x32, headR (k0_pay69 x0 x1 x2 x3 x4 x5 x6) 15⟩]
  concatenates_S16x32_S16x32_S16x32_S16x32_S16x32_S16x32_S16x32_S16x32_S16x32_S16x32_S16x32_S16x32_S16x32_S16x32_S16x32_S16x32_S256x32_d0

theorem pay99_eq : k0_pay99 (F := Ideal) x0 x1 x2 x3 x4 x5 x6 = stackQ x0 x1 x2 x3 x4 x5 x6 := by
  unfold stackQ
  rfl
theorem pay100_eq : k0_pay100 (F := Ideal) x0 x1 x2 x3 x4 x5 x6 = stackR x0 x1 x2 x3 x4 x5 x6 := by
  unfold stackR
  rfl
theorem out_eq : out0_7 (F := Ideal) x0 x1 x2 x3 x4 x5 x6 = View.canon [⟨r0_36, (truncf .bf16 (concatenate S16x1024 1
    [⟨S16x64, headO (k0_pay105 x0 x1 x2 x3 x4 x5 x6) x6 0⟩, ⟨S16x64, headO (k0_pay105 x0 x1 x2 x3 x4 x5 x6) x6 1⟩, ⟨S16x64, headO (k0_pay105 x0 x1 x2 x3 x4 x5 x6) x6 2⟩, ⟨S16x64, headO (k0_pay105 x0 x1 x2 x3 x4 x5 x6) x6 3⟩, ⟨S16x64, headO (k0_pay105 x0 x1 x2 x3 x4 x5 x6) x6 4⟩, ⟨S16x64, headO (k0_pay105 x0 x1 x2 x3 x4 x5 x6) x6 5⟩, ⟨S16x64, headO (k0_pay105 x0 x1 x2 x3 x4 x5 x6) x6 6⟩, ⟨S16x64, headO (k0_pay105 x0 x1 x2 x3 x4 x5 x6) x6 7⟩, ⟨S16x64, headO (k0_pay105 x0 x1 x2 x3 x4 x5 x6) x6 8⟩, ⟨S16x64, headO (k0_pay105 x0 x1 x2 x3 x4 x5 x6) x6 9⟩, ⟨S16x64, headO (k0_pay105 x0 x1 x2 x3 x4 x5 x6) x6 10⟩, ⟨S16x64, headO (k0_pay105 x0 x1 x2 x3 x4 x5 x6) x6 11⟩, ⟨S16x64, headO (k0_pay105 x0 x1 x2 x3 x4 x5 x6) x6 12⟩, ⟨S16x64, headO (k0_pay105 x0 x1 x2 x3 x4 x5 x6) x6 13⟩, ⟨S16x64, headO (k0_pay105 x0 x1 x2 x3 x4 x5 x6) x6 14⟩, ⟨S16x64, headO (k0_pay105 x0 x1 x2 x3 x4 x5 x6) x6 15⟩]
    concatenates_S16x64_S16x64_S16x64_S16x64_S16x64_S16x64_S16x64_S16x64_S16x64_S16x64_S16x64_S16x64_S16x64_S16x64_S16x64_S16x64_S16x1024_d1 : FVec Ideal S16x1024 .f32) bitsLt_bf16_f32 : FVec Ideal S16x1024 .bf16)⟩] := by
  rfl

theorem pay69_at (q : Fin 16) (d : Fin 2048) : k0_pay69 (F := Ideal) x0 x1 x2 x3 x4 x5 x6 (ix2 q d) = x0 (ix2 q d) := by
  unfold k0_pay69 k0_pay7
  frame_out
  pointwise

theorem stackQ_at (h q : Fin 16) (y : Fin 128) : stackQ x0 x1 x2 x3 x4 x5 x6 (ix2 (at16 h q) y)
    = ∑ x : Fin 128, x0 (ix2 q (col128 h x)) * x5 (ix3 h x y) := by
  refine (stack_at (fun k => headQ (k0_pay69 x0 x1 x2 x3 x4 x5 x6) x5 k) concatenates_S16x128_S16x128_S16x128_S16x128_S16x128_S16x128_S16x128_S16x128_S16x128_S16x128_S16x128_S16x128_S16x128_S16x128_S16x128_S16x128_S256x128_d0 h q y).trans ((headQ_at _ x5 h q y).trans ?_)
  exact Finset.sum_congr rfl fun x _ => congrArg (· * x5 (ix3 h x y)) (pay69_at x0 x1 x2 x3 x4 x5 x6 q _)
theorem stackR_at (h q : Fin 16) (l : Fin 32) : stackR x0 x1 x2 x3 x4 x5 x6 (ix2 (at16 h q) l) = x0 (ix2 q (col128 h ⟨64 + l.val, by omega⟩)) :=
  (stack_at (fun k => headR (k0_pay69 x0 x1 x2 x3 x4 x5 x6) k) concatenates_S16x32_S16x32_S16x32_S16x32_S16x32_S16x32_S16x32_S16x32_S16x32_S16x32_S16x32_S16x32_S16x32_S16x32_S16x32_S16x32_S256x32_d0 h q l).trans ((headR_at _ h q l).trans (pay69_at x0 x1 x2 x3 x4 x5 x6 q _))

theorem pay101_at (j : Fin 1024) (y : Fin 128) : k0_pay101 (F := Ideal) x0 x1 x2 x3 x4 x5 x6 (ix2 j y) = x1 (ix3 0 j y) := by
  unfold k0_pay101 k0_pay51
  frame_out
  pointwise
theorem pay102_at (j : Fin 16) (y : Fin 128) : k0_pay102 (F := Ideal) x0 x1 x2 x3 x4 x5 x6 (ix2 j y) = x3 (ix2 j y) := by
  unfold k0_pay102 k0_pay52
  frame_out
  pointwise
theorem pay103_at (j : Fin 16) (l : Fin 32) : k0_pay103 (F := Ideal) x0 x1 x2 x3 x4 x5 x6 (ix2 j l) = x4 (ix2 j ⟨64 + l.val, by omega⟩) := by
  unfold k0_pay103 k0_pay53
  frame_out
  pointwise

/-- The scores against the stored latents. -/
def scoreC (h q : Fin 16) (j : Fin 1024) : EReal :=
  (∑ y : Fin 128, (∑ x : Fin 128, x0 (ix2 q (col128 h x)) * x5 (ix3 h x y)) * x1 (ix3 0 j y))
    + ∑ l : Fin 32, x0 (ix2 q (col128 h ⟨64 + l.val, by omega⟩)) * x2 (ix3 0 j l)
/-- The scores against the new tokens' latents. -/
def scoreN (h q : Fin 16) (j : Fin 16) : EReal :=
  (∑ y : Fin 128, (∑ x : Fin 128, x0 (ix2 q (col128 h x)) * x5 (ix3 h x y)) * x3 (ix2 j y))
    + ∑ l : Fin 32, x0 (ix2 q (col128 h ⟨64 + l.val, by omega⟩)) * x4 (ix2 j ⟨64 + l.val, by omega⟩)

/-- The stored rotary keys, as loaded. -/
def rotary (x2 : Vec Ideal S1x1024x32 .f32) : Vec Ideal S1x1024x32 .f32 := View.ld x2 r0_18
theorem rotary_eq : rotary x2 = x2 := by
  unfold rotary
  frame_out

theorem pay104_at (h q : Fin 16) (j : Fin 1024) : k0_pay104 (F := Ideal) x0 x1 x2 x3 x4 x5 x6 (ix2 (at16 h q) j) = scoreC x0 x1 x2 x5 h q j := by
  have e : k0_pay104 (F := Ideal) x0 x1 x2 x3 x4 x5 x6 = addf
      (matmul dot_S256x128_S1024x128_S256x1024_1_1_0_0_n_n none (k0_pay99 x0 x1 x2 x3 x4 x5 x6) (k0_pay101 x0 x1 x2 x3 x4 x5 x6) (constant S256x1024 .f32 0x00000000#32))
      (matmul dot_S256x32_S1024x32_S256x1024_1_1_0_0_n_n none (k0_pay100 x0 x1 x2 x3 x4 x5 x6)
        (truncf .bf16 (shapeCast S1024x32 (rotary x2) shapeCasts_S1x1024x32_S1024x32 : FVec Ideal S1024x32 .f32) bitsLt_bf16_f32) (constant S256x1024 .f32 0x00000000#32)) := by
    unfold k0_pay104 k0_pay54 k0_pay99 k0_pay100 k0_pay101
    rfl
  rw [e, pay99_eq, pay100_eq, rotary_eq]
  have e1 : ∀ y, stackQ x0 x1 x2 x3 x4 x5 x6 (ix2 (at16 h q) y) = _ := stackQ_at x0 x1 x2 x3 x4 x5 x6 h q
  have e2 : ∀ l, stackR x0 x1 x2 x3 x4 x5 x6 (ix2 (at16 h q) l) = _ := stackR_at x0 x1 x2 x3 x4 x5 x6 h q
  have e3 : ∀ y, k0_pay101 (F := Ideal) x0 x1 x2 x3 x4 x5 x6 (ix2 j y) = _ := pay101_at x0 x1 x2 x3 x4 x5 x6 j
  generalize stackQ x0 x1 x2 x3 x4 x5 x6 = Q at *
  generalize stackR x0 x1 x2 x3 x4 x5 x6 = R at *
  generalize k0_pay101 (F := Ideal) x0 x1 x2 x3 x4 x5 x6 = C at *
  pointwise
  simp only [e1, e2, e3]
  rfl

/-- The mixed latents of a row of scores `s` against the stored latents `C` and `t` against the new ones `N`. -/
def mixed (s : Fin 1024 → EReal) (t : Fin 16 → EReal) (C : Fin 1024 → EReal) (N : Fin 16 → EReal) : EReal :=
  Ideal.div (∑ j, Ideal.exp2 (s j - max (Finset.univ.fold max ⊥ s) (Finset.univ.fold max ⊥ t)) * C j
      + ∑ j, Ideal.exp2 (t j - max (Finset.univ.fold max ⊥ s) (Finset.univ.fold max ⊥ t)) * N j)
    (∑ j, Ideal.exp2 (s j - max (Finset.univ.fold max ⊥ s) (Finset.univ.fold max ⊥ t))
      + ∑ j, Ideal.exp2 (t j - max (Finset.univ.fold max ⊥ s) (Finset.univ.fold max ⊥ t)))

theorem neg_inf : Ideal.ofBits .f32 0xFF800000#32 = (⊥ : EReal) := by simp [Ideal.ofBits, Ideal.ieee]

theorem pay55_at (v83 : FVec Ideal S256x128 .bf16) (v84 : FVec Ideal S256x32 .bf16) (v87 : FVec Ideal S1024x128 .bf16) (v92 : FVec Ideal S16x128 .bf16)
    (v96 : FVec Ideal S16x32 .bf16) (v99 : FVec Ideal S256x1024 .f32) (R : Fin 256) (y : Fin 128) :
    k0_pay55 (F := Ideal) v83 v84 v87 v92 v96 v99 (constant S256x16 .f32 0x00000000#32) (ix2 R y)
      = mixed (fun j => v99 (ix2 R j)) (fun j => (∑ x, v83 (ix2 R x) * v92 (ix2 j x)) + ∑ l, v84 (ix2 R l) * v96 (ix2 j l))
          (fun j => v87 (ix2 j y)) (fun j => v92 (ix2 j y)) := by
  unfold k0_pay55
  pointwise
  rw [neg_inf]
  rfl

theorem pay105_at (h q : Fin 16) (y : Fin 128) : k0_pay105 (F := Ideal) x0 x1 x2 x3 x4 x5 x6 (ix2 (at16 h q) y)
    = mixed (scoreC x0 x1 x2 x5 h q) (scoreN x0 x3 x4 x5 h q) (fun j => x1 (ix3 0 j y)) (fun j => x3 (ix2 j y)) := by
  refine (pay55_at _ _ _ _ _ _ _ y).trans ?_
  rw [pay99_eq, pay100_eq]
  have e1 : (fun j => k0_pay104 (F := Ideal) x0 x1 x2 x3 x4 x5 x6 (ix2 (at16 h q) j)) = scoreC x0 x1 x2 x5 h q :=
    funext fun j => pay104_at x0 x1 x2 x3 x4 x5 x6 h q j
  rw [e1]
  simp only [stackQ_at, stackR_at, pay101_at, pay102_at, pay103_at]
  rfl

theorem out_at (h q : Fin 16) (v : Fin 64) : out0_7 (F := Ideal) x0 x1 x2 x3 x4 x5 x6 (ix2 q (col h v))
    = ∑ y : Fin 128, mixed (scoreC x0 x1 x2 x5 h q) (scoreN x0 x3 x4 x5 h q) (fun j => x1 (ix3 0 j y)) (fun j => x3 (ix2 j y)) * x6 (ix3 h y v) := by
  rw [out_eq]
  have e : ∀ y, k0_pay105 (F := Ideal) x0 x1 x2 x3 x4 x5 x6 (ix2 (at16 h q) y) = _ := pay105_at x0 x1 x2 x3 x4 x5 x6 h q
  generalize k0_pay105 (F := Ideal) x0 x1 x2 x3 x4 x5 x6 = O at *
  frame_out
  refine (beside_at (fun k => headO O x6 k) concatenates_S16x64_S16x64_S16x64_S16x64_S16x64_S16x64_S16x64_S16x64_S16x64_S16x64_S16x64_S16x64_S16x64_S16x64_S16x64_S16x64_S16x1024_d1 h q v).trans ((headO_at O x6 h q v).trans (Finset.sum_congr rfl fun y _ => ?_))
  rw [e]
end

end Cert.Kernel5Ideal.Samp

end
-- ==== Proof.SampSpec.lean ====
/-
  What the running streams' attention computes, at an entry: each stream's sixteen new tokens attend to its stored tokens and to
  one another, keys and values taken from the tokens' latents.
-/
module

public import proofs.«01_k».proof.Proof.Spec

@[expose] public section

set_option maxRecDepth 16384

noncomputable section

namespace Cert.Streams

open Idealize.ShloMosaic Cert.Softmax

abbrev RowsH (n : ℕ) : Type := FVec Ideal ⟨3, ![16640, 16, n]⟩ .f32
abbrev Rows (n : ℕ) : Type := FVec Ideal ⟨2, ![16640, n]⟩ .f32
abbrev Store (n : ℕ) : Type := FVec Ideal ⟨4, ![1, 16, 1024, n]⟩ .f32
abbrev Mat : Type := FVec Ideal ⟨4, ![1, 128, 16, 64]⟩ .f32

/-- The row of stream `b`'s new token `q`. -/
abbrev tok (b q : Fin 16) : Fin 16640 := ⟨16384 + (b.val * 16 + q.val), by omega⟩

/-- Entry `x` of token `j` of stream `b`: stored, then new. -/
def entry {n : ℕ} (st : Store n) (new : Rows n) (b : Fin 16) (j : ℕ) (x : Fin n) : ℝ :=
  if h : j < 1024 then (st (ix4 0 b ⟨j, h⟩ x)).toReal
  else if h : j - 1024 < 16 then (new (ix2 (tok b ⟨j - 1024, h⟩) x)).toReal else 0

theorem entry_old {n : ℕ} (st : Store n) (new : Rows n) (b : Fin 16) (j : Fin 1024) (x : Fin n) :
    entry st new b j.val x = (st (ix4 0 b j x)).toReal := by
  rw [entry, dif_pos j.isLt]
theorem entry_new {n : ℕ} (st : Store n) (new : Rows n) (b : Fin 16) (j : Fin 16) (x : Fin n) :
    entry st new b (1024 + j.val) x = (new (ix2 (tok b j) x)).toReal := by
  have e : (⟨1024 + j.val - 1024, by omega⟩ : Fin 16) = j := Fin.ext (by simp)
  rw [entry, dif_neg (by omega), dif_pos (by omega), e]

/-- A token's key or value in lane `l` of head `h`, from its latents. -/
def lifted (st : Store 128) (new : Rows 128) (W : Mat) (b h : Fin 16) (l : Fin 64) (j : ℕ) : ℝ :=
  ∑ c : Fin 128, entry st new b j c * (W (ix4 0 c h l)).toReal

/-- The score of new token `q` of stream `b` and token `j`. -/
def score (a0 : RowsH 64) (a1 : RowsH 32) (a2 : Store 128) (a3 : Store 32) (a4 : Rows 128) (a5 : Rows 32) (a6 : Mat)
    (b h q : Fin 16) (j : ℕ) : ℝ :=
  ((∑ l : Fin 64, (a0 (ix3 (tok b q) h l)).toReal * lifted a2 a4 a6 b h l j)
    + ∑ l : Fin 32, (a1 (ix3 (tok b q) h l)).toReal * entry a3 a5 b j l) / Real.sqrt 96

/-- The attention's output for new token `q` of stream `b`, lane `v` of head `h`. -/
def attend (a0 : RowsH 64) (a1 : RowsH 32) (a2 : Store 128) (a3 : Store 32) (a4 : Rows 128) (a5 : Rows 32) (a6 a7 : Mat)
    (b h q : Fin 16) (v : Fin 64) : ℝ :=
  ∑ j ∈ Finset.range 1040, lifted a2 a4 a7 b h v j * share (score a0 a1 a2 a3 a4 a5 a6 b h q) (Finset.range 1040) j

/-- The whole output, streams' tokens in order and heads side by side. -/
def output (a0 : RowsH 64) (a1 : RowsH 32) (a2 : Store 128) (a3 : Store 32) (a4 : Rows 128) (a5 : Rows 32) (a6 a7 : Mat) :
    FVec Ideal ⟨2, ![256, 1024]⟩ .bf16 :=
  fun i => (attend a0 a1 a2 a3 a4 a5 a6 a7 ⟨(i 0).val / 16, by have : (i 0).val < 256 := (i 0).isLt; omega⟩
    ⟨(i 1).val / 64, by have : (i 1).val < 1024 := (i 1).isLt; omega⟩ ⟨(i 0).val % 16, by omega⟩ ⟨(i 1).val % 64, by omega⟩ : EReal)

/-- A sum of products of real numbers. -/
theorem sum_real {ι : Type*} [Fintype ι] (f g : ι → EReal) (F G : ι → ℝ) (hf : ∀ i, f i = (F i : EReal)) (hg : ∀ i, g i = (G i : EReal)) :
    ∑ i, f i * g i = ((∑ i, F i * G i : ℝ) : EReal) := by
  rw [coe_sum]
  exact Finset.sum_congr rfl fun i _ => by rw [hf, hg, EReal.coe_mul]

/-- A sum over the stored and the new tokens. -/
theorem sum_tokens {M : Type*} [AddCommMonoid M] (f : ℕ → M) :
    ∑ j ∈ Finset.range 1040, f j = ∑ j : Fin 1024, f j.val + ∑ j : Fin 16, f (1024 + j.val) := by
  rw [show 1040 = 1024 + 16 from rfl, Finset.sum_range_add, Finset.sum_range, Finset.sum_range]

end Cert.Streams

end
-- ==== Proof.SampHost.lean ====
/-
  What the region of the running streams' attention finds, and from it the array the region leaves: the softmax-weighted sum over a
  stream's tokens, the queries taken into the latents' space and the weighted latents back to values.
-/
module

public import proofs.«01_k».proof.Proof.SampIdeal
public import proofs.«01_k».proof.Proof.SampSpec

@[expose] public section

set_option maxRecDepth 16384

noncomputable section

namespace Cert.Kernel5Ideal.Samp

open Idealize.ShloMosaic Idealize.ShloMosaic.TcCoe Idealize.SL.Sem
open Cert.Kernel5Ideal Cert.Kernel5Ideal.Gen Cert.Streams
open Cert.Softmax (Real' sqrt96 log2 sqrt96_ne log2_ne litNinf coe_sum share fold_max_real exp2_real two_rpow sum_slot sum_mul_coe)
open Idealize.ShloMosaic.Pipeline (Dat Cfg Window BodyObligation cellOf)

/-- The weighted latents, over real numbers: the weights are the tokens' shares. -/
theorem mixed_real (τ C : ℕ → ℝ) (s : Fin 1024 → EReal) (t : Fin 16 → EReal) (X : Fin 1024 → EReal) (N : Fin 16 → EReal)
    (hs : ∀ j, s j = ((τ j.val / Real.log 2 : ℝ) : EReal)) (ht : ∀ j, t j = ((τ (1024 + j.val) / Real.log 2 : ℝ) : EReal))
    (hX : ∀ j, X j = (C j.val : EReal)) (hN : ∀ j, N j = (C (1024 + j.val) : EReal)) :
    mixed s t X N = ((∑ j ∈ Finset.range 1040, C j * share τ (Finset.range 1040) j : ℝ) : EReal) := by
  obtain ⟨μ, hμ⟩ : ∃ μ : ℝ, max (Finset.univ.fold max ⊥ s) (Finset.univ.fold max ⊥ t) = (μ : EReal) := by
    obtain ⟨ν, hν⟩ := fold_max_real ⊥ s bot_ne_top (fun j => by rw [hs]; exact EReal.coe_ne_top _) ⟨0, by rw [hs]; exact EReal.coe_ne_bot _⟩
    refine fold_max_real _ t ?_ (fun j => by rw [ht]; exact EReal.coe_ne_top _) ⟨0, by rw [ht]; exact EReal.coe_ne_bot _⟩
    rw [max_eq_right bot_le] at hν
    rw [hν]
    exact EReal.coe_ne_top _
  unfold mixed
  rw [hμ]
  have es : ∀ j, Ideal.exp2 (s j - (μ : EReal)) = ((Real.exp (τ j.val) * (2 : ℝ) ^ (-μ) : ℝ) : EReal) := fun j => by
    rw [hs, ← EReal.coe_sub, exp2_real, two_rpow]
  have et : ∀ j, Ideal.exp2 (t j - (μ : EReal)) = ((Real.exp (τ (1024 + j.val)) * (2 : ℝ) ^ (-μ) : ℝ) : EReal) := fun j => by
    rw [ht, ← EReal.coe_sub, exp2_real, two_rpow]
  have hE : 0 < ∑ j ∈ Finset.range 1040, Real.exp (τ j) := Finset.sum_pos (fun _ _ => Real.exp_pos _) ⟨0, by simp⟩
  have h2 : (0 : ℝ) < (2 : ℝ) ^ (-μ) := by positivity
  rw [sum_real _ _ _ _ es hX, sum_real _ _ _ _ et hN, Finset.sum_congr rfl fun j _ => es j, Finset.sum_congr rfl fun j _ => et j,
    ← coe_sum, ← coe_sum, ← EReal.coe_add, ← EReal.coe_add, ← sum_tokens fun j => Real.exp (τ j) * (2 : ℝ) ^ (-μ) * C j,
    ← sum_tokens fun j => Real.exp (τ j) * (2 : ℝ) ^ (-μ), ← Finset.sum_mul, Ideal.div_coe (mul_pos hE h2).ne', ← EReal.coe_mul]
  refine congrArg _ ?_
  rw [Finset.sum_mul]
  refine Finset.sum_congr rfl fun j _ => ?_
  rw [share]
  field_simp

/-- The score over real numbers: the queries may meet the keys' matrix or the tokens' latents first. -/
theorem score_swap (Q : Fin 64 → ℝ) (A : Fin 128 → Fin 64 → ℝ) (C : Fin 128 → ℝ) (P K : Fin 32 → ℝ) (κ : ℝ) :
    (∑ y, (∑ l, Q l * κ * A y l) * C y) + ∑ l, P l * κ * K l
      = ((∑ l, Q l * ∑ y, C y * A y l) + ∑ l, P l * K l) * κ := by
  rw [add_mul, Finset.sum_mul, Finset.sum_mul]
  congr 1
  · simp only [Finset.sum_mul, Finset.mul_sum]
    rw [Finset.sum_comm]
    exact Finset.sum_congr rfl fun l _ => Finset.sum_congr rfl fun y _ => by ring
  · exact Finset.sum_congr rfl fun l _ => by ring

/-- A row of a slot's lanes against a page whose lanes past 64 are zero. -/
theorem slot_dot (x : Fin 128 → EReal) (A : Fin 128 → EReal) (X B : Fin 64 → ℝ) (hx : ∀ e : Fin 64, x ⟨e.val, by omega⟩ = (X e : EReal))
    (hA : ∀ e : Fin 64, A ⟨e.val, by omega⟩ = (B e : EReal)) (hz : ∀ l : Fin 128, 64 ≤ l.val → A l = 0) :
    ∑ l, x l * A l = ((∑ e, X e * B e : ℝ) : EReal) := by
  rw [sum_slot, Finset.sum_congr rfl fun (e : Fin 32) _ => by rw [hz ⟨64 + e.val, by omega⟩ (by show 64 ≤ 64 + e.val; omega), mul_zero],
    Finset.sum_congr rfl fun (e : Fin 32) _ => show x ⟨96 + e.val, _⟩ * A ⟨96 + e.val, _⟩ = 0 by
      rw [hz ⟨96 + e.val, by omega⟩ (by show 64 ≤ 96 + e.val; omega), mul_zero]]
  rw [Finset.sum_const_zero, add_zero, add_zero]
  exact sum_real _ _ _ _ hx hA

variable (m : (ℓ : Loc nD τ sig) → Buf (Elt Ideal) ℓ) (c : Dev nD)

/-- The eight arguments as launched. -/
abbrev A0 : FVec Ideal S16640x16x64 .f32 := m ((c : Thread nD τ).loc main_arg0)
abbrev A1 : FVec Ideal S16640x16x32 .f32 := m ((c : Thread nD τ).loc main_arg1)
abbrev A2 : FVec Ideal S1x16x1024x128 .f32 := m ((c : Thread nD τ).loc main_arg2)
abbrev A3 : FVec Ideal S1x16x1024x32 .f32 := m ((c : Thread nD τ).loc main_arg3)
abbrev A4 : FVec Ideal S16640x128 .f32 := m ((c : Thread nD τ).loc main_arg4)
abbrev A5 : FVec Ideal S16640x32 .f32 := m ((c : Thread nD τ).loc main_arg5)
abbrev A6 : FVec Ideal S1x128x16x64 .f32 := m ((c : Thread nD τ).loc main_arg6)
abbrev A7 : FVec Ideal S1x128x16x64 .f32 := m ((c : Thread nD τ).loc main_arg7)

/-- A scalar literal. -/
abbrev lit (b : BitVec 32) : FVec Ideal S_ .f32 := constant S_ .f32 b

/-- The scale on the queries. -/
def qScale : FVec Ideal S_ .f32 := Host.divf (lit 0x3F800000#32) (mulf (Host.sqrt (lit 0x42C00000#32)) (Host.log (lit 0x40000000#32)))
abbrev κ : ℝ := 1 / (Real.sqrt 96 * Real.log 2)

/-- The queries in slots, the rotary keys in slots' lanes, and the two matrices by heads. -/
def slots (a0 : FVec Ideal S16640x16x64 .f32) (a1 : FVec Ideal S16640x16x32 .f32) : FVec Ideal S16640x16x128 .f32 :=
  mulf (concatenate S16640x16x128 2 [⟨S16640x16x64, a0⟩, ⟨S16640x16x32, a1⟩,
      ⟨S16640x16x32, broadcastInDim S16640x16x32 ![] bcast_S_S16640x16x32 (lit 0x00000000#32)⟩]
      concatenates_S16640x16x64_S16640x16x32_S16640x16x32_S16640x16x128_d2)
    (broadcastInDim S16640x16x128 ![] bcast_S_S16640x16x128 qScale)
def qRows (x : FVec Ideal S16640x16x128 .f32) : FVec Ideal S16640x2048 .bf16 :=
  truncf .bf16 (shapeCast S16640x2048 x shapeCasts_S16640x16x128_S16640x2048) bitsLt_bf16_f32
def pRows (a5 : FVec Ideal S16640x32 .f32) : FVec Ideal S16640x128 .f32 :=
  pad S16640x128 ![0, 64] ![0, 32] ![0, 0] a5 (sitofp .f32 (constantI S_ 32 0#32) : FVec Ideal S_ .f32) pads_S16640x32_S16640x128_000_64320 h_S_
def pagesK (a6 : FVec Ideal S1x128x16x64 .f32) : FVec Ideal S16x128x128 .bf16 :=
  truncf .bf16 (pad S16x128x128 ![0, 0, 0] ![0, 64, 0] ![0, 0, 0] (transpose S16x64x128 [1, 2, 0] (shapeCast S128x16x64 a6 shapeCasts_S1x128x16x64_S128x16x64) transposes_S128x16x64_S16x64x128_1_2_0)
    (sitofp .f32 (constantI S_ 32 0#32) : FVec Ideal S_ .f32) pads_S16x64x128_S16x128x128_000_0640_000 h_S_) bitsLt_bf16_f32
def pagesV (a7 : FVec Ideal S1x128x16x64 .f32) : FVec Ideal S16x128x64 .bf16 :=
  truncf .bf16 (transpose S16x128x64 [1, 0, 2] (shapeCast S128x16x64 a7 shapeCasts_S1x128x16x64_S128x16x64) transposes_S128x16x64_S16x128x64_1_0_2) bitsLt_bf16_f32
def storeL (a2 : FVec Ideal S1x16x1024x128 .f32) : FVec Ideal S16x1024x128 .f32 := shapeCast S16x1024x128 a2 shapeCasts_S1x16x1024x128_S16x1024x128
def storeP (a3 : FVec Ideal S1x16x1024x32 .f32) : FVec Ideal S16x1024x32 .f32 := shapeCast S16x1024x32 a3 shapeCasts_S1x16x1024x32_S16x1024x32

set_option maxHeartbeats 1000000 in
theorem V_v9 : V m c main_v9 = qRows (slots (A0 m c) (A1 m c)) := by
  unfold V hostOps0 hostOps0_1 hostOps0_2 hostOps0_3 hostOps0_4
  after_results
  rfl
set_option maxHeartbeats 1000000 in
theorem V_v10 : V m c main_v10 = pRows (A5 m c) := by
  unfold V hostOps0 hostOps0_1 hostOps0_2 hostOps0_3 hostOps0_4
  after_results
  rfl
set_option maxHeartbeats 1000000 in
theorem V_v18 : V m c main_v18 = pagesK (A6 m c) := by
  unfold V hostOps0 hostOps0_1 hostOps0_2 hostOps0_3 hostOps0_4
  after_results
  rfl
set_option maxHeartbeats 1000000 in
theorem V_v19 : V m c main_v19 = pagesV (A7 m c) := by
  unfold V hostOps0 hostOps0_1 hostOps0_2 hostOps0_3 hostOps0_4
  after_results
  rfl
set_option maxHeartbeats 1000000 in
theorem V_v16 : V m c main_v16 = storeL (A2 m c) := by
  unfold V hostOps0 hostOps0_1 hostOps0_2 hostOps0_3 hostOps0_4
  after_results
  rfl
set_option maxHeartbeats 1000000 in
theorem V_v17 : V m c main_v17 = storeP (A3 m c) := by
  unfold V hostOps0 hostOps0_1 hostOps0_2 hostOps0_3 hostOps0_4
  after_results
  rfl

theorem sitofp_zero : FloatOps.sitofp (F := Ideal) .f32 0#32 = 0 := by simp [FloatOps.sitofp]

theorem qScale_at (i : S_.Idx) : qScale i = (κ : EReal) := by
  pointwise [qScale]
  rw [sqrt96, log2, ← EReal.coe_mul, Ideal.div_coe (mul_ne_zero sqrt96_ne log2_ne), one_mul]

section
variable (a0 : FVec Ideal S16640x16x64 .f32) (a1 : FVec Ideal S16640x16x32 .f32) (a2 : FVec Ideal S1x16x1024x128 .f32)
  (a3 : FVec Ideal S1x16x1024x32 .f32) (a5 : FVec Ideal S16640x32 .f32) (a6 a7 : FVec Ideal S1x128x16x64 .f32)

theorem slots_at (R : Fin 16640) (h : Fin 16) (l : Fin 128) : slots a0 a1 (ix3 R h l)
    = (if e : l.val < 64 then a0 (ix3 R h ⟨l.val, e⟩)
        else if e : l.val - 64 < 32 then a1 (ix3 R h ⟨l.val - 64, e⟩) else 0) * (κ : EReal) := by
  pointwise [slots]
  rw [qScale_at]
theorem qRows_at (x : FVec Ideal S16640x16x128 .f32) (R : Fin 16640) (h : Fin 16) (l : Fin 128) : qRows x (ix2 R (col128 h l)) = x (ix3 R h l) := by
  have e1 : (⟨(128 * h.val + l.val) / 128, by omega⟩ : Fin 16) = h := Fin.ext (by show (128 * h.val + l.val) / 128 = h.val; omega)
  have e2 : (⟨(128 * h.val + l.val) % 128, by omega⟩ : Fin 128) = l := Fin.ext (by show (128 * h.val + l.val) % 128 = l.val; omega)
  have e : ∀ L : Fin 2048, qRows x (ix2 R L) = x (ix3 R ⟨L.val / 128, by omega⟩ ⟨L.val % 128, by omega⟩) := fun L => by
    pointwise [qRows]
  rw [e, e1, e2]
theorem pRows_at (R : Fin 16640) (l : Fin 32) : pRows a5 (ix2 R ⟨64 + l.val, by omega⟩) = a5 (ix2 R l) := by
  pointwise [pRows]
theorem pagesK_lo (h : Fin 16) (l : Fin 64) (y : Fin 128) : pagesK a6 (ix3 h ⟨l.val, by omega⟩ y) = a6 (ix4 0 y h l) := by
  pointwise [pagesK]
theorem pagesK_hi (h : Fin 16) (l : Fin 128) (y : Fin 128) (hl : 64 ≤ l.val) : pagesK a6 (ix3 h l y) = 0 := by
  pointwise [pagesK]
  rw [dif_neg (by omega)]
  exact sitofp_zero
theorem pagesV_at (h : Fin 16) (y : Fin 128) (l : Fin 64) : pagesV a7 (ix3 h y l) = a7 (ix4 0 y h l) := by
  pointwise [pagesV]
theorem storeL_at (b : Fin 16) (j : Fin 1024) (y : Fin 128) : storeL a2 (ix3 b j y) = a2 (ix4 0 b j y) := by
  pointwise [storeL]
theorem storeP_at (b : Fin 16) (j : Fin 1024) (y : Fin 32) : storeP a3 (ix3 b j y) = a3 (ix4 0 b j y) := by
  pointwise [storeP]
end

theorem idxA : ∀ t : Fin cfg0.N, win0_0.index t = ![1024 + t.val, 0] ∧ win0_1.index t = ![t.val, 0, 0]
    ∧ win0_2.index t = ![t.val, 0, 0] ∧ win0_3.index t = ![1024 + t.val, 0] ∧ win0_4.index t = ![1024 + t.val, 0]
    ∧ win0_5.index t = ![0, 0, 0] ∧ win0_6.index t = ![0, 0, 0] ∧ win0_7.index t = ![t.val, 0] :=
  (by decide +kernel : ∀ t : Fin grid0.N, _)

theorem lt16 (t : Fin cfg0.N) : t.val < 16 := t.isLt
abbrev str (t : Fin cfg0.N) : Fin 16 := ⟨t.val, lt16 t⟩

theorem iblk0 (t : Fin cfg0.N) (q : Fin 16) (x : Fin 2048) : iblk m c 0 t (ix2 q x) = V m c main_v9 (ix2 (tok (str t) q) x) := by
  have := lt16 t
  blk_ext [iblk, idxA t]
theorem iblk1 (t : Fin cfg0.N) (j : Fin 1024) (x : Fin 128) : iblk m c 1 t (ix3 0 j x) = V m c main_v16 (ix3 (str t) j x) := by
  blk_ext [iblk, idxA t]
theorem iblk2 (t : Fin cfg0.N) (j : Fin 1024) (x : Fin 32) : iblk m c 2 t (ix3 0 j x) = V m c main_v17 (ix3 (str t) j x) := by
  blk_ext [iblk, idxA t]
theorem iblk3 (t : Fin cfg0.N) (q : Fin 16) (x : Fin 128) : iblk m c 3 t (ix2 q x) = V m c main_arg4 (ix2 (tok (str t) q) x) := by
  have := lt16 t
  blk_ext [iblk, idxA t]
theorem iblk4 (t : Fin cfg0.N) (q : Fin 16) (x : Fin 128) : iblk m c 4 t (ix2 q x) = V m c main_v10 (ix2 (tok (str t) q) x) := by
  have := lt16 t
  blk_ext [iblk, idxA t]
theorem iblk5 (t : Fin cfg0.N) (h : Fin 16) (x y : Fin 128) : iblk m c 5 t (ix3 h x y) = V m c main_v18 (ix3 h x y) := by
  blk_ext [iblk, idxA t]
theorem iblk6 (t : Fin cfg0.N) (h : Fin 16) (x : Fin 128) (y : Fin 64) : iblk m c 6 t (ix3 h x y) = V m c main_v19 (ix3 h x y) := by
  blk_ext [iblk, idxA t]

/-- The blocks of the seven inputs. -/
abbrev X0 (t : Fin cfg0.N) : FVec Ideal S16x2048 .bf16 := iblk m c 0 t
abbrev X1 (t : Fin cfg0.N) : FVec Ideal S1x1024x128 .f32 := iblk m c 1 t
abbrev X2 (t : Fin cfg0.N) : FVec Ideal S1x1024x32 .f32 := iblk m c 2 t
abbrev X3 (t : Fin cfg0.N) : FVec Ideal S16x128 .f32 := iblk m c 3 t
abbrev X4 (t : Fin cfg0.N) : FVec Ideal S16x128 .f32 := iblk m c 4 t
abbrev X5 (t : Fin cfg0.N) : FVec Ideal S16x128x128 .bf16 := iblk m c 5 t
abbrev X6 (t : Fin cfg0.N) : FVec Ideal S16x128x64 .bf16 := iblk m c 6 t

theorem x0_at (t : Fin cfg0.N) (q : Fin 16) (x : Fin 2048) : X0 m c t (ix2 q x) = V m c main_v9 (ix2 (tok (str t) q) x) := iblk0 m c t q x
theorem x1_at (t : Fin cfg0.N) (j : Fin 1024) (x : Fin 128) : X1 m c t (ix3 0 j x) = V m c main_v16 (ix3 (str t) j x) := iblk1 m c t j x
theorem x2_at (t : Fin cfg0.N) (j : Fin 1024) (x : Fin 32) : X2 m c t (ix3 0 j x) = V m c main_v17 (ix3 (str t) j x) := iblk2 m c t j x
theorem x3_at (t : Fin cfg0.N) (q : Fin 16) (x : Fin 128) : X3 m c t (ix2 q x) = V m c main_arg4 (ix2 (tok (str t) q) x) := iblk3 m c t q x
theorem x4_at (t : Fin cfg0.N) (q : Fin 16) (x : Fin 128) : X4 m c t (ix2 q x) = V m c main_v10 (ix2 (tok (str t) q) x) := iblk4 m c t q x
theorem x5_at (t : Fin cfg0.N) (h : Fin 16) (x y : Fin 128) : X5 m c t (ix3 h x y) = V m c main_v18 (ix3 h x y) := iblk5 m c t h x y
theorem x6_at (t : Fin cfg0.N) (h : Fin 16) (x : Fin 128) (y : Fin 64) : X6 m c t (ix3 h x y) = V m c main_v19 (ix3 h x y) := iblk6 m c t h x y

section
variable (h0 : Real' (A0 m c)) (h1 : Real' (A1 m c)) (h2 : Real' (A2 m c)) (h3 : Real' (A3 m c)) (h4 : Real' (A4 m c)) (h5 : Real' (A5 m c))
  (h6 : Real' (A6 m c)) (h7 : Real' (A7 m c)) (t : Fin cfg0.N) (h q : Fin 16)

include h0 in
theorem q_lo (e : Fin 64) : X0 m c t (ix2 q (col128 h ⟨e.val, by omega⟩)) = (((A0 m c (ix3 (tok (str t) q) h e)).toReal * κ : ℝ) : EReal) := by
  rw [x0_at, V_v9, qRows_at, slots_at, dif_pos e.isLt, EReal.coe_mul, ← h0]
include h1 in
theorem q_hi (e : Fin 32) : X0 m c t (ix2 q (col128 h ⟨64 + e.val, by omega⟩)) = (((A1 m c (ix3 (tok (str t) q) h e)).toReal * κ : ℝ) : EReal) := by
  have he : (⟨64 + e.val - 64, by omega⟩ : Fin 32) = e := Fin.ext (by simp)
  rw [x0_at, V_v9, qRows_at, slots_at, dif_neg (show ¬ 64 + e.val < 64 by omega), dif_pos (show 64 + e.val - 64 < 32 by omega), EReal.coe_mul, ← h1]
  simp only [he]

include h0 h6 in
theorem taken (y : Fin 128) : ∑ x : Fin 128, X0 m c t (ix2 q (col128 h x)) * X5 m c t (ix3 h x y)
    = ((∑ e : Fin 64, (A0 m c (ix3 (tok (str t) q) h e)).toReal * κ * (A6 m c (ix4 0 y h e)).toReal : ℝ) : EReal) := by
  refine slot_dot (fun x => X0 m c t (ix2 q (col128 h x))) (fun x => X5 m c t (ix3 h x y)) (fun e => (A0 m c (ix3 (tok (str t) q) h e)).toReal * κ) (fun e => (A6 m c (ix4 0 y h e)).toReal) (q_lo m c h0 t h q) (fun e => ?_) (fun l hl => ?_)
  · show X5 m c t _ = _
    rw [x5_at, V_v18, pagesK_lo]
    exact h6 _
  · show X5 m c t _ = _
    rw [x5_at, V_v18, pagesK_hi _ _ _ _ hl]

theorem scaled (b h q : Fin 16) (j : ℕ) :
    (∑ y, (∑ e : Fin 64, (A0 m c (ix3 (tok b q) h e)).toReal * κ * (A6 m c (ix4 0 y h e)).toReal) * entry (A2 m c) (A4 m c) b j y)
      + ∑ l : Fin 32, (A1 m c (ix3 (tok b q) h l)).toReal * κ * entry (A3 m c) (A5 m c) b j l
    = score (A0 m c) (A1 m c) (A2 m c) (A3 m c) (A4 m c) (A5 m c) (A6 m c) b h q j / Real.log 2 := by
  rw [score_swap (fun e => (A0 m c (ix3 (tok b q) h e)).toReal) (fun y e => (A6 m c (ix4 0 y h e)).toReal) (fun y => entry (A2 m c) (A4 m c) b j y)
    (fun l => (A1 m c (ix3 (tok b q) h l)).toReal) (fun l => entry (A3 m c) (A5 m c) b j l) κ, score, div_div, mul_one_div]
  rfl

include h0 h1 h2 h3 h6 in
theorem scoreC_real (j : Fin 1024) : scoreC (X0 m c t) (X1 m c t) (X2 m c t) (X5 m c t) h q j
    = ((score (A0 m c) (A1 m c) (A2 m c) (A3 m c) (A4 m c) (A5 m c) (A6 m c) (str t) h q j.val / Real.log 2 : ℝ) : EReal) := by
  rw [← scaled, EReal.coe_add]
  refine congrArg₂ (· + ·) (sum_real _ (fun y => X1 m c t (ix3 0 j y)) _ _ (taken m c h0 h6 t h q) fun y => ?_)
    (sum_real _ (fun l => X2 m c t (ix3 0 j l)) _ _ (q_hi m c h1 t h q) fun l => ?_)
  · rw [x1_at, V_v16, storeL_at, entry_old]
    exact h2 _
  · rw [x2_at, V_v17, storeP_at, entry_old]
    exact h3 _

include h0 h1 h4 h5 h6 in
theorem scoreN_real (j : Fin 16) : scoreN (X0 m c t) (X3 m c t) (X4 m c t) (X5 m c t) h q j
    = ((score (A0 m c) (A1 m c) (A2 m c) (A3 m c) (A4 m c) (A5 m c) (A6 m c) (str t) h q (1024 + j.val) / Real.log 2 : ℝ) : EReal) := by
  rw [← scaled, EReal.coe_add]
  refine congrArg₂ (· + ·) (sum_real _ (fun y => X3 m c t (ix2 j y)) _ _ (taken m c h0 h6 t h q) fun y => ?_)
    (sum_real _ (fun l : Fin 32 => X4 m c t (ix2 j ⟨64 + l.val, by omega⟩)) _ _ (q_hi m c h1 t h q) fun l => ?_)
  · rw [x3_at, V_main_arg4, entry_new]
    exact h4 _
  · rw [x4_at, V_v10, pRows_at, entry_new]
    exact h5 _

include h0 h1 h2 h3 h4 h5 h6 h7 in
/-- The block stored at a point, at an entry. -/
theorem point (v : Fin 64) : out0_7 (F := Ideal) (X0 m c t) (X1 m c t) (X2 m c t) (X3 m c t) (X4 m c t) (X5 m c t) (X6 m c t)
      (ix2 q (col h v))
    = (attend (A0 m c) (A1 m c) (A2 m c) (A3 m c) (A4 m c) (A5 m c) (A6 m c) (A7 m c) (str t) h q v : EReal) := by
  rw [out_at]
  have e : ∀ y : Fin 128, mixed (scoreC (X0 m c t) (X1 m c t) (X2 m c t) (X5 m c t) h q)
      (scoreN (X0 m c t) (X3 m c t) (X4 m c t) (X5 m c t) h q) (fun j => X1 m c t (ix3 0 j y)) (fun j => X3 m c t (ix2 j y)) = _ :=
    fun y => mixed_real (score (A0 m c) (A1 m c) (A2 m c) (A3 m c) (A4 m c) (A5 m c) (A6 m c) (str t) h q) (fun j => entry (A2 m c) (A4 m c) (str t) j y)
      _ _ _ _ (scoreC_real m c h0 h1 h2 h3 h6 t h q) (scoreN_real m c h0 h1 h4 h5 h6 t h q)
      (fun j => by rw [x1_at, V_v16, storeL_at, entry_old]; exact h2 _)
      (fun j => by rw [x3_at, V_main_arg4, entry_new]; exact h4 _)
  refine (sum_real _ (fun y => X6 m c t (ix3 h y v)) _ (fun y => (A7 m c (ix4 0 y h v)).toReal) e fun y => ?_).trans ?_
  · rw [x6_at, V_v19, pagesV_at]
    exact h7 _
  refine congrArg _ ?_
  unfold attend lifted
  simp only [Finset.sum_mul]
  rw [Finset.sum_comm]
  exact Finset.sum_congr rfl fun j _ => Finset.sum_congr rfl fun y _ => by ring
end

/-- The array the run leaves. -/
theorem final (h0 : Real' (A0 m c)) (h1 : Real' (A1 m c)) (h2 : Real' (A2 m c)) (h3 : Real' (A3 m c)) (h4 : Real' (A4 m c)) (h5 : Real' (A5 m c))
    (h6 : Real' (A6 m c)) (h7 : Real' (A7 m c)) : (dats m 0 c).arrAt 7 cfg0.N
      = output (A0 m c) (A1 m c) (A2 m c) (A3 m c) (A4 m c) (A5 m c) (A6 m c) (A7 m c) := by
  refine (dats m 0 c).arrAt_eq_of_covers 7 _ (by decide +kernel) fun t hf y => ?_
  blk_simp
  rw [after0_7]
  obtain ⟨q, d, rfl⟩ : ∃ (q : Fin 16) (d : Fin 1024), y = (ix2 q d : S16x1024.Idx) := ⟨y 0, y 1, eq_ix2 y⟩
  have hd : d = col ⟨d.val / 64, by omega⟩ ⟨d.val % 64, by omega⟩ := Fin.ext (by show d.val = 64 * (d.val / 64) + d.val % 64; omega)
  have hp := point m c h0 h1 h2 h3 h4 h5 h6 h7 t ⟨d.val / 64, by omega⟩ q ⟨d.val % 64, by omega⟩
  rw [← hd] at hp
  have ht := lt16 t
  refine hp.trans ?_
  have eb : (⟨(16 * t.val + q.val) / 16, by omega⟩ : Fin 16) = str t := Fin.ext (by show (16 * t.val + q.val) / 16 = t.val; omega)
  have eq : (⟨(16 * t.val + q.val) % 16, by omega⟩ : Fin 16) = q := Fin.ext (by show (16 * t.val + q.val) % 16 = q.val; omega)
  refine Eq.trans (b := output (A0 m c) (A1 m c) (A2 m c) (A3 m c) (A4 m c) (A5 m c) (A6 m c) (A7 m c) (ix2 ⟨16 * t.val + q.val, by omega⟩ d)) ?_ ?_
  · show _ = (attend (A0 m c) (A1 m c) (A2 m c) (A3 m c) (A4 m c) (A5 m c) (A6 m c) (A7 m c) ⟨(16 * t.val + q.val) / 16, by omega⟩ ⟨d.val / 64, by omega⟩
      ⟨(16 * t.val + q.val) % 16, by omega⟩ ⟨d.val % 64, by omega⟩ : EReal)
    rw [eb, eq]
  · generalize output (A0 m c) (A1 m c) (A2 m c) (A3 m c) (A4 m c) (A5 m c) (A6 m c) (A7 m c) = G
    refine congrArg G ?_
    blk_ext [idxA t]

end Cert.Kernel5Ideal.Samp

end
-- ==== Proof.SampRef.lean ====
/-
  The reference's result at an entry: the same softmax-weighted sum over a stream's tokens.
-/
module

public import proofs.«01_k».proof.Proof.SampSpec
public import proofs.«01_k».proof.Proof.Gen.Reference5Ideal
public import proofs.«01_k».proof.Proof.Gen.Reference5Ideal.Run
public import Idealize.ShloMosaic.Lib.Pointwise

@[expose] public section

set_option maxRecDepth 16384

noncomputable section

namespace Cert.Reference5Ideal.Streams

open Idealize.ShloMosaic Idealize.ShloMosaic.TcCoe Idealize.SL.Sem
open Cert.Reference5Ideal Cert.Reference5Ideal.Gen Cert.Streams
open Cert.Softmax (Real' sqrt96 sqrt96_ne litNinf coe_sum share softmax_sum)

/-- The chunk of each token, and of each new token. -/
def chunksK : IVec S1040 32 :=
  select (andi (cmpi .ne (signi (iotaInDim S1040 32 0)) (broadcastInDim S1040 ![] bcast_S_S1040 (signi (id (constantI S_ 32 64#32)))))
      (cmpi .ne (Host.remsi (iotaInDim S1040 32 0) (broadcastInDim S1040 ![] bcast_S_S1040 (id (constantI S_ 32 64#32))))
        (broadcastInDim S1040 ![] bcast_S_S1040 (constantI S_ 32 0#32))))
    (subi (Host.divsi (iotaInDim S1040 32 0) (broadcastInDim S1040 ![] bcast_S_S1040 (id (constantI S_ 32 64#32))))
      (broadcastInDim S1040 ![] bcast_S_S1040 (constantI S_ 32 1#32)))
    (Host.divsi (iotaInDim S1040 32 0) (broadcastInDim S1040 ![] bcast_S_S1040 (id (constantI S_ 32 64#32))))
def placesQ : IVec S16 32 := addi (broadcastInDim S16 ![] bcast_S_S16 (constantI S_ 32 1024#32)) (iotaInDim S16 32 0)
def chunksQ : IVec S16 32 :=
  select (andi (cmpi .ne (signi placesQ) (broadcastInDim S16 ![] bcast_S_S16 (signi (id (constantI S_ 32 64#32)))))
      (cmpi .ne (Host.remsi placesQ (broadcastInDim S16 ![] bcast_S_S16 (id (constantI S_ 32 64#32))))
        (broadcastInDim S16 ![] bcast_S_S16 (constantI S_ 32 0#32))))
    (subi (Host.divsi placesQ (broadcastInDim S16 ![] bcast_S_S16 (id (constantI S_ 32 64#32))))
      (broadcastInDim S16 ![] bcast_S_S16 (constantI S_ 32 1#32)))
    (Host.divsi placesQ (broadcastInDim S16 ![] bcast_S_S16 (id (constantI S_ 32 64#32))))

/-- Which token each new one may attend to. -/
def allowed (ck : IVec S1040 32) (cq : IVec S16 32) : IVec S16x1040 1 :=
  cmpi .sle (broadcastInDim S16x1040 ![0, 1] bcast_S1x1040_S16x1040_0_1 (broadcastInDim S1x1040 ![1] bcast_S1040_S1x1040_1 ck))
    (broadcastInDim S16x1040 ![0, 1] bcast_S16x1_S16x1040_0_1 (broadcastInDim S16x1 ![0] bcast_S16_S16x1_0 cq))

/-- A stream's latents and rotary keys, stored and new. -/
def lat (a2 : FVec Ideal S1x16x1024x128 .f32) (a4 : FVec Ideal S16640x128 .f32) : FVec Ideal S16x1040x128 .f32 :=
  concatenate S16x1040x128 1 [⟨S16x1024x128, (shapeCast S16x1024x128 a2 shapeCasts_S1x16x1024x128_S16x1024x128)⟩,
    ⟨S16x16x128, (shapeCast S16x16x128 (extractStridedSlice S256x128 ![16384, 0] a4 slices_S16640x128_S256x128_16384_0) shapeCasts_S256x128_S16x16x128)⟩]
    concatenates_S16x1024x128_S16x16x128_S16x1040x128_d1
def rot (a3 : FVec Ideal S1x16x1024x32 .f32) (a5 : FVec Ideal S16640x32 .f32) : FVec Ideal S16x1040x32 .f32 :=
  concatenate S16x1040x32 1 [⟨S16x1024x32, (shapeCast S16x1024x32 a3 shapeCasts_S1x16x1024x32_S16x1024x32)⟩,
    ⟨S16x16x32, (shapeCast S16x16x32 (extractStridedSlice S256x32 ![16384, 0] a5 slices_S16640x32_S256x32_16384_0) shapeCasts_S256x32_S16x16x32)⟩]
    concatenates_S16x1024x32_S16x16x32_S16x1040x32_d1

/-- Keys or values of every token. -/
def lift (L : FVec Ideal S16x1040x128 .f32) (w : FVec Ideal S1x128x16x64 .f32) : FVec Ideal S16x1040x16x64 .f32 :=
  Host.dotGeneral dot_S16x1040x128_S128x16x64_S16x1040x16x64_2_0_01_12_n_n none L (shapeCast S128x16x64 w shapeCasts_S1x128x16x64_S128x16x64)

/-- The scores. -/
def raw (a0 : FVec Ideal S16640x16x64 .f32) (a1 : FVec Ideal S16640x16x32 .f32) (K : FVec Ideal S16x1040x16x64 .f32)
    (P : FVec Ideal S16x1040x32 .f32) : FVec Ideal S16x16x16x1040 .f32 :=
  Host.divf (addf (Host.dotGeneral dot_S16x16x16x64_S16x1040x16x64_S16x16x16x1040_3_3_1_1_02_02 none
      (shapeCast S16x16x16x64 (extractStridedSlice S256x16x64 ![16384, 0, 0] a0 slices_S16640x16x64_S256x16x64_16384_0_0) shapeCasts_S256x16x64_S16x16x16x64) K)
    (transpose S16x16x16x1040 [0, 3, 2, 1] (Host.dotGeneral dot_S16x1040x32_S16x16x16x32_S16x1040x16x16_2_3_1_12_0_0 none P
      (shapeCast S16x16x16x32 (extractStridedSlice S256x16x32 ![16384, 0, 0] a1 slices_S16640x16x32_S256x16x32_16384_0_0) shapeCasts_S256x16x32_S16x16x16x32))
      transposes_S16x1040x16x16_S16x16x16x1040_0_3_2_1))
    (broadcastInDim S16x16x16x1040 ![] bcast_S_S16x16x16x1040 (Host.sqrt (constant S_ .f32 0x42C00000#32)))
def masked (al : IVec S16x1040 1) (s : FVec Ideal S16x16x16x1040 .f32) : FVec Ideal S16x16x16x1040 .f32 :=
  select (broadcastInDim S16x16x16x1040 ![0, 1, 2, 3] bcast_S1x1x16x1040_S16x16x16x1040_0_1_2_3
      (broadcastInDim S1x1x16x1040 ![2, 3] bcast_S16x1040_S1x1x16x1040_2_3 al)) s
    (broadcastInDim S16x16x16x1040 ![] bcast_S_S16x16x16x1040 (id (constant S_ .f32 0xF149F2CA#32)))

def tops (s : FVec Ideal S16x16x16x1040 .f32) : FVec Ideal S16x16x16 .f32 :=
  Host.reduce FloatOps.maximumf s (constant S_ .f32 0xFF800000#32) reducesTo_S16x16x16x1040_S16x16x16_d3 h_S_
def expo (s : FVec Ideal S16x16x16x1040 .f32) (t : FVec Ideal S16x16x16 .f32) : FVec Ideal S16x16x16x1040 .f32 :=
  Host.exp (subf s (broadcastInDim S16x16x16x1040 ![0, 1, 2, 3] bcast_S16x16x16x1_S16x16x16x1040_0_1_2_3
    (broadcastInDim S16x16x16x1 ![0, 1, 2] bcast_S16x16x16_S16x16x16x1_0_1_2
      (maximumf (broadcastInDim S16x16x16 ![] bcast_S_S16x16x16 (constant S_ .f32 0xFF800000#32)) t))))
def shares (p : FVec Ideal S16x16x16x1040 .f32) : FVec Ideal S16x16x16x1040 .f32 :=
  Host.divf p (broadcastInDim S16x16x16x1040 ![0, 1, 2, 3] bcast_S16x16x16x1_S16x16x16x1040_0_1_2_3
    (broadcastInDim S16x16x16x1 ![0, 1, 2] bcast_S16x16x16_S16x16x16x1_0_1_2
      (Host.reduceAdd p (constant S_ .f32 0x00000000#32) reducesTo_S16x16x16x1040_S16x16x16_d3 h_S_)))
def mix (V : FVec Ideal S16x1040x16x64 .f32) (w : FVec Ideal S16x16x16x1040 .f32) : FVec Ideal S256x1024 .bf16 :=
  truncf .bf16 (shapeCast S256x1024 (transpose S16x16x16x64 [0, 3, 1, 2]
    (Host.dotGeneral dot_S16x1040x16x64_S16x16x16x1040_S16x16x64x16_1_3_3_2_02_01 none V w)
    transposes_S16x16x64x16_S16x16x16x64_0_3_1_2) shapeCasts_S16x16x16x64_S256x1024) bitsLt_bf16_f32

variable (a0 : FVec Ideal S16640x16x64 .f32) (a1 : FVec Ideal S16640x16x32 .f32) (a2 : FVec Ideal S1x16x1024x128 .f32)
  (a3 : FVec Ideal S1x16x1024x32 .f32) (a4 : FVec Ideal S16640x128 .f32) (a5 : FVec Ideal S16640x32 .f32) (a6 a7 : FVec Ideal S1x128x16x64 .f32)

/-- The reference's whole result. -/
def result : FVec Ideal S256x1024 .bf16 :=
  mix (lift (lat a2 a4) a7) (shares (expo (masked (allowed chunksK chunksQ) (raw a0 a1 (lift (lat a2 a4) a6) (rot a3 a5)))
    (tops (masked (allowed chunksK chunksQ) (raw a0 a1 (lift (lat a2 a4) a6) (rot a3 a5))))))

theorem res_eq (m : (ℓ : Loc nD τ sig) → Buf (Elt Ideal) ℓ) (c : Dev nD) :
    Cert.Reference5Ideal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

theorem wordK : ∀ (a : Fin 16) (j : Fin 65),
    IntOp.cmpi .sle (Scalar.select
      (IntOp.andi
        (IntOp.cmpi CmpIPredicate.ne
          (if BitVec.ofNat 32 (16 * j.val + a.val) = 0 then (0#32) else if (BitVec.ofNat 32 (16 * j.val + a.val)).msb = true then -1 else 1)
          (if 64#32 = 0 then (0#32) else if (64#32).msb = true then -1 else 1))
        (IntOp.cmpi CmpIPredicate.ne (IntOp.remsi ArithUnit.host (BitVec.ofNat 32 (16 * j.val + a.val)) 64#32) 0#32))
      (IntOp.subi (IntOp.divsi ArithUnit.host (BitVec.ofNat 32 (16 * j.val + a.val)) 64#32) 1#32)
      (IntOp.divsi ArithUnit.host (BitVec.ofNat 32 (16 * j.val + a.val)) 64#32)) 16#32 = 1#1 := by decide +kernel

theorem chunksK_at (j : Fin 1040) : IntOp.cmpi .sle (chunksK (ix1 j)) 16#32 = 1#1 := by
  pointwise [chunksK]
  have h := wordK ⟨j.val % 16, by omega⟩ ⟨j.val / 16, by omega⟩
  dsimp only at h
  rw [Nat.div_add_mod] at h
  exact h
theorem chunksQ_at : ∀ q : Fin 16, chunksQ (ix1 q) = 16#32 := by
  decide +kernel
theorem allowed_at (q : Fin 16) (j : Fin 1040) : allowed chunksK chunksQ (ix2 q j) = 1#1 := by
  have h : ∀ ck cq, allowed ck cq (ix2 q j) = IntOp.cmpi .sle (ck (ix1 j)) (cq (ix1 q)) := by
    intro ck cq
    pointwise [allowed]
  rw [h, chunksQ_at]
  exact chunksK_at j

theorem lat_at (b : Fin 16) (j : Fin 1040) (x : Fin 128) : lat a2 a4 (ix3 b j x)
    = if h : j.val < 1024 then a2 (ix4 0 b ⟨j.val, h⟩ x) else if h : j.val - 1024 < 16 then a4 (ix2 (tok b ⟨j.val - 1024, h⟩) x) else 0 := by
  have hj := j.isLt
  pointwise [lat]
  by_cases h : j.val < 1024
  · rw [dif_pos h, dif_pos h]
  · rw [dif_neg h, dif_neg h, dif_pos (by omega)]
theorem rot_at (b : Fin 16) (j : Fin 1040) (x : Fin 32) : rot a3 a5 (ix3 b j x)
    = if h : j.val < 1024 then a3 (ix4 0 b ⟨j.val, h⟩ x) else if h : j.val - 1024 < 16 then a5 (ix2 (tok b ⟨j.val - 1024, h⟩) x) else 0 := by
  have hj := j.isLt
  pointwise [rot]
  by_cases h : j.val < 1024
  · rw [dif_pos h, dif_pos h]
  · rw [dif_neg h, dif_neg h, dif_pos (by omega)]
theorem lift_at (L : FVec Ideal S16x1040x128 .f32) (w : FVec Ideal S1x128x16x64 .f32) (b : Fin 16) (j : Fin 1040) (h : Fin 16) (l : Fin 64) :
    lift L w (ix4 b j h l) = ∑ c, L (ix3 b j c) * w (ix4 0 c h l) := by
  pointwise [lift]
theorem raw_at (K : FVec Ideal S16x1040x16x64 .f32) (P : FVec Ideal S16x1040x32 .f32) (b h q : Fin 16) (j : Fin 1040) :
    raw a0 a1 K P (ix4 b h q j) = Ideal.div (∑ x, a0 (ix3 (tok b q) h x) * K (ix4 b j h x) + ∑ x, P (ix3 b j x) * a1 (ix3 (tok b q) h x)) ((Real.sqrt 96 : ℝ) : EReal) := by
  pointwise [raw]
  rw [sqrt96]
theorem masked_at (al : IVec S16x1040 1) (s : FVec Ideal S16x16x16x1040 .f32) (b h q : Fin 16) (j : Fin 1040) (e : al (ix2 q j) = 1#1) :
    masked al s (ix4 b h q j) = s (ix4 b h q j) := by
  have h : masked al s (ix4 b h q j) = Scalar.select (al (ix2 q j)) (s (ix4 b h q j)) (Ideal.ofBits .f32 0xF149F2CA#32) := by
    pointwise [masked]
    rfl
  rw [h, e]
  rfl
theorem tops_at (s : FVec Ideal S16x16x16x1040 .f32) (b h q : Fin 16) :
    tops s (ix3 b h q) = Finset.univ.fold max ⊥ (fun x : Fin 1040 => s (ix4 b h q x)) := by
  have hr : S16x16x16x1040.Reduces [3] S16x16x16 := by decide
  have hl : ∀ x : Fin 1040, hr.lift (ix3 b h q) x = ix4 b h q x := by
    intro x
    refine funext fun d => ?_
    fin_cases d <;> rfl
  unfold tops
  rw [Host.reduce_eq_fold_single _ _ _ _ hr]
  rw [show (s ∘ hr.lift (ix3 b h q)) = (fun x : Fin 1040 => s (ix4 b h q x)) from funext fun x => congrArg s (hl x)]
  exact congrArg (fun z => Finset.univ.fold max z fun x : Fin 1040 => s (ix4 b h q x)) litNinf
theorem expo_at (s : FVec Ideal S16x16x16x1040 .f32) (t : FVec Ideal S16x16x16 .f32) (b h q : Fin 16) (j : Fin 1040) :
    expo s t (ix4 b h q j) = Ideal.exp (s (ix4 b h q j) - max ⊥ (t (ix3 b h q))) := by
  pointwise [expo]
  rw [litNinf]
theorem shares_at (s : FVec Ideal S16x16x16x1040 .f32) (b h q : Fin 16) (j : Fin 1040) :
    shares s (ix4 b h q j) = Ideal.div (s (ix4 b h q j)) (∑ x, s (ix4 b h q x)) := by
  pointwise [shares]
theorem mix_at (V : FVec Ideal S16x1040x16x64 .f32) (w : FVec Ideal S16x16x16x1040 .f32) (R : Fin 256) (C : Fin 1024) :
    mix V w (ix2 R C) = ∑ x, V (ix4 ⟨R.val / 16, by omega⟩ x ⟨C.val / 64, by omega⟩ ⟨C.val % 64, by omega⟩)
      * w (ix4 ⟨R.val / 16, by omega⟩ ⟨C.val / 64, by omega⟩ ⟨R.val % 16, by omega⟩ x) := by
  pointwise [mix]

section
variable (h0 : Real' a0) (h1 : Real' a1) (h2 : Real' a2) (h3 : Real' a3) (h4 : Real' a4) (h5 : Real' a5) (h6 : Real' a6) (h7 : Real' a7)

include h2 h4 in
theorem lat_real (b : Fin 16) (j : Fin 1040) (x : Fin 128) : lat a2 a4 (ix3 b j x) = (entry a2 a4 b j.val x : EReal) := by
  rw [lat_at, entry]
  split_ifs
  · exact h2 _
  · exact h4 _
  · rfl
include h3 h5 in
theorem rot_real (b : Fin 16) (j : Fin 1040) (x : Fin 32) : rot a3 a5 (ix3 b j x) = (entry a3 a5 b j.val x : EReal) := by
  rw [rot_at, entry]
  split_ifs
  · exact h3 _
  · exact h5 _
  · rfl
include h2 h4 in
theorem lift_real (w : FVec Ideal S1x128x16x64 .f32) (hw : Real' w) (b : Fin 16) (j : Fin 1040) (h : Fin 16) (l : Fin 64) :
    lift (lat a2 a4) w (ix4 b j h l) = (lifted a2 a4 w b h l j.val : EReal) := by
  rw [lift_at]
  exact sum_real _ _ _ _ (fun c => lat_real a2 a4 h2 h4 b j c) (fun c => hw _)

include h0 h1 h2 h3 h4 h5 h6 in
theorem raw_real (b h q : Fin 16) (j : Fin 1040) : raw a0 a1 (lift (lat a2 a4) a6) (rot a3 a5) (ix4 b h q j)
    = (score a0 a1 a2 a3 a4 a5 a6 b h q j.val : EReal) := by
  rw [raw_at, Ideal.div_coe sqrt96_ne, sum_real _ _ _ _ (fun l => h0 _) (fun l => lift_real a2 a4 h2 h4 a6 h6 b j h l),
    sum_real _ _ _ _ (fun l => rot_real a3 a5 h3 h5 b j l) (fun l => h1 _), ← EReal.coe_add, ← EReal.coe_mul, score, mul_one_div]
  simp only [mul_comm]

include h0 h1 h2 h3 h4 h5 h6 h7 in
theorem result_eq : result a0 a1 a2 a3 a4 a5 a6 a7 = output a0 a1 a2 a3 a4 a5 a6 a7 := by
  refine funext fun i => ?_
  obtain ⟨R, C, rfl⟩ : ∃ (R : Fin 256) (C : Fin 1024), i = ix2 R C := ⟨i 0, i 1, eq_ix2 i⟩
  have hC : C.val < 1024 := C.isLt
  have hR : R.val < 256 := R.isLt
  change result a0 a1 a2 a3 a4 a5 a6 a7 (ix2 R C)
    = (attend a0 a1 a2 a3 a4 a5 a6 a7 ⟨R.val / 16, by omega⟩ ⟨C.val / 64, by omega⟩ ⟨R.val % 16, by omega⟩ ⟨C.val % 64, by omega⟩ : EReal)
  unfold result
  rw [mix_at]
  generalize (⟨R.val / 16, by omega⟩ : Fin 16) = b
  generalize (⟨C.val / 64, by omega⟩ : Fin 16) = h
  generalize (⟨R.val % 16, by omega⟩ : Fin 16) = q
  generalize (⟨C.val % 64, by omega⟩ : Fin 64) = v
  have hin : ∀ j, masked (allowed chunksK chunksQ) (raw a0 a1 (lift (lat a2 a4) a6) (rot a3 a5)) (ix4 b h q j)
      = (score a0 a1 a2 a3 a4 a5 a6 b h q j.val : EReal) := fun j => by
    rw [masked_at _ _ _ _ _ _ (allowed_at q j), raw_real a0 a1 a2 a3 a4 a5 a6 h0 h1 h2 h3 h4 h5 h6]
  generalize masked (allowed chunksK chunksQ) (raw a0 a1 (lift (lat a2 a4) a6) (rot a3 a5)) = S at *
  have hsum := softmax_sum (n := 1040) (τ := score a0 a1 a2 a3 a4 a5 a6 b h q) (S := Finset.range 1040) (fun t => S (ix4 b h q t))
    (fun t => lift (lat a2 a4) a7 (ix4 b t h v)) (fun j => (lifted a2 a4 a7 b h v j : EReal))
    (fun t => lift_real a2 a4 h2 h4 a7 h7 b t h v)
    (fun t _ => hin t) (fun t g => absurd (Finset.mem_range.2 t.isLt) g) (fun j g => Finset.mem_range.1 g) ⟨0, by simp⟩
  refine Eq.trans (Finset.sum_congr rfl fun x _ => ?_) (hsum.trans ?_)
  · rw [shares_at]
    simp only [expo_at, tops_at]
  · rw [attend, coe_sum]
    exact Finset.sum_congr rfl fun j _ => (EReal.coe_mul _ _).symm
end

end Cert.Reference5Ideal.Streams

end
-- ==== Proof.SampFinite.lean ====
/-
  What the precondition of the running streams' attention says: every entry is a real number.
-/
module

public import proofs.«01_k».proof.Proof.Finite

@[expose] public section

noncomputable section

namespace Cert.Streams

open Idealize.ShloMosaic Cert.Pre_finite5
open Cert.Softmax (Real' real_of_lt)

instance : Subsingleton Cert.Pre_finite5.S_.Idx := ⟨fun a b => funext fun k => k.elim0⟩

variable [Cert.Pre_finite5.Facts]

theorem real_of_finite (a0 : FVec Ideal S16640x16x64 .f32) (a1 : FVec Ideal S16640x16x32 .f32) (a2 : FVec Ideal S1x16x1024x128 .f32)
    (a3 : FVec Ideal S1x16x1024x32 .f32) (a4 : FVec Ideal S16640x128 .f32) (a5 : FVec Ideal S16640x32 .f32) (a6 a7 : FVec Ideal S1x128x16x64 .f32)
    (h : Cert.Pre_finite5.fn a0 a1 a2 a3 a4 a5 a6 a7 (Shape.Idx.first Facts.h_S_) = 1#1) :
    Real' a0 ∧ Real' a1 ∧ Real' a2 ∧ Real' a3 ∧ Real' a4 ∧ Real' a5 ∧ Real' a6 ∧ Real' a7 := by
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i), fun i => real_of_lt _ (Host.reduce_andi_all _ _ _ _ _ h7 i)⟩

end Cert.Streams

end
-- ==== Proof.RouteSpec.lean ====
/-
  The choice of experts, in mathematics: the greatest entry of a list with the least index, the sort that finds it, the search over
  masked lanes that finds it, and the weights of the two experts chosen.
-/
module

public import proofs.«01_k».proof.Proof.Math
public import Idealize.ShloMosaic.Lib.SortFacts

@[expose] public section

noncomputable section

open Idealize.ShloMosaic

namespace Cert.Route

/-- Entry `i` is a greatest one, and the first of them. -/
def Top {n : Nat} (f : Fin n → EReal) (i : Fin n) : Prop :=
  (∀ j, f j ≤ f i) ∧ ∀ j, f j = f i → i ≤ j

theorem Top.unique {n : Nat} {f : Fin n → EReal} {i j : Fin n} (hi : Top f i) (hj : Top f j) : i = j :=
  le_antisymm (hi.2 j (le_antisymm (hi.1 j) (hj.1 i))) (hj.2 i (le_antisymm (hj.1 i) (hi.1 j)))

theorem Top.exists {n : Nat} (f : Fin (n + 1) → EReal) : ∃ i, Top f i := by
  obtain ⟨k, -, hk⟩ := Finset.exists_max_image Finset.univ f ⟨0, Finset.mem_univ _⟩
  let T : Finset (Fin (n + 1)) := Finset.univ.filter fun j => f j = f k
  have hT : T.Nonempty := ⟨k, by simp [T]⟩
  have hmem := T.min'_mem hT
  have he : f (T.min' hT) = f k := (Finset.mem_filter.mp hmem).2
  refine ⟨T.min' hT, fun j => by rw [he]; exact hk j (Finset.mem_univ _), fun j hj => ?_⟩
  exact Finset.min'_le T _ (Finset.mem_filter.mpr ⟨Finset.mem_univ _, hj.trans he⟩)

/-- The first greatest entry. -/
def top {n : Nat} (f : Fin (n + 1) → EReal) : Fin (n + 1) := (Top.exists f).choose

theorem top_spec {n : Nat} (f : Fin (n + 1) → EReal) : Top f (top f) := (Top.exists f).choose_spec

theorem top_eq {n : Nat} {f : Fin (n + 1) → EReal} {i : Fin (n + 1)} (h : Top f i) : top f = i :=
  (top_spec f).unique h

/-- The list with entry `i` taken out. -/
def without {n : Nat} (f : Fin n → EReal) (i : Fin n) : Fin n → EReal := fun j => if j = i then ⊥ else f j

/-! ## The sort that puts the greatest first -/

/-- Position `k` is strictly greater than position `k'`. -/
def above {n : Nat} (f : Fin n → EReal) : Fin n → Fin n → Bool :=
  fun k k' => FloatOps.cmpfTotal (F := Ideal) (φ := .f32) .gt (f k) (f k') == 1#1

theorem above_iff {n : Nat} (f : Fin n → EReal) (a b : Fin n) : above f a b = true ↔ f b < f a := by
  show ((Ideal.cmp .ogt (f a) (f b)) == 1#1) = true ↔ _
  unfold Ideal.cmp
  by_cases h : f b < f a
  · simp [h]
  · simp [h]

/-- In order: the greater first, and of equal ones the one that stood first. -/
def Before {n : Nat} (f : Fin n → EReal) (a b : Fin n) : Prop := f b ≤ f a ∧ (f b = f a → a < b)

theorem pairwise_insert {n : Nat} (f : Fin n → EReal) (a : Fin n) (l : List (Fin n)) (ha : ∀ c ∈ l, a < c)
    (hl : l.Pairwise (Before f)) : (insertBefore (above f) a l).Pairwise (Before f) := by
  induction l with
  | nil => exact List.pairwise_singleton _ _
  | cons b l ih =>
    rw [List.pairwise_cons] at hl
    unfold insertBefore
    split
    · rename_i h
      have hb := (above_iff f b a).mp h
      refine List.pairwise_cons.mpr ⟨fun c hc => ?_, ih (fun c hc => ha c (List.mem_cons_of_mem b hc)) hl.2⟩
      rcases List.mem_cons.mp ((perm_insertBefore (above f) a l).mem_iff.mp hc) with rfl | hc'
      · exact ⟨hb.le, fun e => absurd e hb.ne⟩
      · exact hl.1 c hc'
    · rename_i h
      have hb : f b ≤ f a := not_lt.mp fun hlt => h ((above_iff f b a).mpr hlt)
      refine List.pairwise_cons.mpr ⟨fun c hc => ⟨?_, fun _ => ha c hc⟩, List.pairwise_cons.mpr hl⟩
      rcases List.mem_cons.mp hc with rfl | hc'
      · exact hb
      · exact (hl.1 c hc').1.trans hb

theorem pairwise_sort {n : Nat} (f : Fin n → EReal) (l : List (Fin n)) (hl : l.Pairwise (· < ·)) :
    (stableSort (above f) l).Pairwise (Before f) := by
  induction l with
  | nil => exact List.Pairwise.nil
  | cons a l ih =>
    rw [List.pairwise_cons] at hl
    unfold stableSort
    exact pairwise_insert f a _ (fun c hc => hl.1 c ((perm_stableSort (above f) l).mem_iff.mp hc)) (ih hl.2)

theorem before_of_lt {n : Nat} (f : Fin n → EReal) (i j : Fin n) (hij : i < j) :
    Before f (sortedFrom (above f) i) (sortedFrom (above f) j) := by
  have hp := List.pairwise_iff_get.mp (pairwise_sort f (List.finRange n) (List.pairwise_lt_finRange n))
  unfold sortedFrom
  exact hp _ _ hij

theorem sorted_surj {n : Nat} (R : Fin n → Fin n → Bool) (j : Fin n) : ∃ k, sortedFrom R k = j := by
  have hm : j ∈ stableSort R (List.finRange n) := (perm_stableSort R _).mem_iff.mpr (List.mem_finRange j)
  obtain ⟨k, hk⟩ := List.mem_iff_get.mp hm
  exact ⟨⟨k.val, lt_of_lt_of_eq k.isLt (length_sortPositions n R)⟩, hk⟩

theorem sorted_first {n : Nat} (f : Fin (n + 1) → EReal) : sortedFrom (above f) 0 = top f := by
  refine (top_eq ⟨fun j => ?_, fun j hj => ?_⟩).symm
  · obtain ⟨k, rfl⟩ := sorted_surj (above f) j
    rcases (Fin.zero_le k).eq_or_lt with h | h
    · rw [← h]
    · exact (before_of_lt f 0 k h).1
  · obtain ⟨k, rfl⟩ := sorted_surj (above f) j
    rcases (Fin.zero_le k).eq_or_lt with h | h
    · rw [← h]
    · exact ((before_of_lt f 0 k h).2 hj).le

theorem sorted_second {n : Nat} (f : Fin (n + 2) → EReal) (hf : ∀ j, f j ≠ ⊥) :
    sortedFrom (above f) 1 = top (without f (top f)) := by
  have h01 : sortedFrom (above f) 1 ≠ top f := by
    rw [← sorted_first f]
    intro e
    have h := before_of_lt f 0 1 (by simp)
    rw [e] at h
    exact absurd (h.2 rfl) (lt_irrefl _)
  have hval : without f (top f) (sortedFrom (above f) 1) = f (sortedFrom (above f) 1) := if_neg h01
  have key : ∀ j, j ≠ top f → f j ≤ f (sortedFrom (above f) 1) ∧ (f j = f (sortedFrom (above f) 1) → sortedFrom (above f) 1 ≤ j) := by
    intro j hj
    obtain ⟨k, rfl⟩ := sorted_surj (above f) j
    have hk0 : k ≠ 0 := fun e => hj (by rw [e, sorted_first f])
    have hk1 : (1 : Fin (n + 2)) ≤ k := by
      rw [Fin.le_def]
      have : k.val ≠ 0 := fun e => hk0 (Fin.ext e)
      have h1 : (1 : Fin (n + 2)).val = 1 := rfl
      omega
    rcases hk1.eq_or_lt with h | h
    · rw [← h]; exact ⟨le_rfl, fun _ => le_rfl⟩
    · exact ⟨(before_of_lt f 1 k h).1, fun e => ((before_of_lt f 1 k h).2 e).le⟩
  refine (top_eq ⟨fun j => ?_, fun j hj => ?_⟩).symm
  · rw [hval]
    by_cases hj : j = top f
    · rw [without, if_pos hj]; exact bot_le
    · rw [without, if_neg hj]; exact (key j hj).1
  · rw [hval] at hj
    by_cases hj' : j = top f
    · rw [without, if_pos hj'] at hj; exact absurd hj.symm (hf _)
    · rw [without, if_neg hj'] at hj; exact (key j hj').2 hj

/-! ## The search over masked lanes -/

theorem fold_max_eq {ι : Type*} [Fintype ι] (f : ι → EReal) (i : ι) (h : ∀ j, f j ≤ f i) :
    Finset.fold max ⊥ f Finset.univ = f i := by
  refine le_antisymm (Finset.fold_max_le _ |>.mpr ⟨bot_le, fun j _ => h j⟩) ?_
  exact (Finset.le_fold_max _).mpr (Or.inr ⟨i, Finset.mem_univ _, le_rfl⟩)

theorem fold_min_eq {ι : Type*} [Fintype ι] (f : ι → EReal) (i : ι) (h : ∀ j, f i ≤ f j) :
    Finset.fold min ⊤ f Finset.univ = f i := by
  refine le_antisymm ?_ (Finset.le_fold_min _ |>.mpr ⟨le_top, fun j _ => h j⟩)
  exact (Finset.fold_min_le _).mpr (Or.inr ⟨i, Finset.mem_univ _, le_rfl⟩)

/-- A lane's number. -/
def num (l : Fin 128) : EReal := ((l.val : ℝ) : EReal)

/-- The least number of a lane where the greatest entry stands. -/
theorem first_lane (f : Fin 128 → EReal) (i : Fin 128) (h : Top f i) :
    Finset.fold min ⊤ (fun l : Fin 128 => if f l = Finset.fold max ⊥ f Finset.univ then num l else ((128 : ℝ) : EReal)) Finset.univ = num i := by
  rw [fold_max_eq f i h.1]
  rw [fold_min_eq _ i]
  · exact if_pos rfl
  · intro j
    rw [if_pos rfl]
    by_cases hj : f j = f i
    · rw [if_pos hj]
      exact EReal.coe_le_coe_iff.mpr (Nat.cast_le.mpr (h.2 j hj))
    · rw [if_neg hj]
      exact EReal.coe_le_coe_iff.mpr (by have := i.isLt; exact_mod_cast this.le)

/-- A list laid in lanes from `o` on, `-∞` elsewhere, has its first greatest entry where the list has. -/
theorem top_lanes {n : Nat} (φ : Fin (n + 1) → EReal) (f : Fin 128 → EReal) (o : Nat) (ho : o + (n + 1) ≤ 128)
    (hin : ∀ j : Fin (n + 1), f ⟨o + j.val, by omega⟩ = φ j) (hout : ∀ l : Fin 128, (l.val < o ∨ o + (n + 1) ≤ l.val) → f l = ⊥)
    (hφ : φ (top φ) ≠ ⊥) : Top f ⟨o + (top φ).val, by omega⟩ := by
  have ht := top_spec φ
  have cases : ∀ l : Fin 128, f l = ⊥ ∨ ∃ j : Fin (n + 1), l = ⟨o + j.val, by omega⟩ := by
    intro l
    by_cases h : l.val < o ∨ o + (n + 1) ≤ l.val
    · exact Or.inl (hout l h)
    · exact Or.inr ⟨⟨l.val - o, by omega⟩, Fin.ext (by simp only []; omega)⟩
  refine ⟨fun l => ?_, fun l hl => ?_⟩
  · rw [hin]
    rcases cases l with h | ⟨j, rfl⟩
    · rw [h]; exact bot_le
    · rw [hin]; exact ht.1 j
  · rw [hin] at hl
    rcases cases l with h | ⟨j, rfl⟩
    · exact absurd (hl.symm.trans h) hφ
    · rw [hin] at hl
      have := ht.2 j hl
      rw [Fin.le_def] at this ⊢
      simp only []
      omega

/-! ## The weights -/

section weights
variable (l : Fin 4 → EReal) (x : Fin 4 → Fin 8 → EReal)

/-- The group chosen. -/
def grp : Fin 4 := top l
/-- The first expert chosen of it, and the second. -/
def fst : Fin 8 := top (x (grp l))
def snd : Fin 8 := top (without (x (grp l)) (fst l x))
/-- The share of the group chosen among the groups. -/
def gate : EReal := Ideal.div 1 (∑ j, Ideal.exp (l j - l (grp l)))
/-- The second expert's weight against the first's. -/
def ratio : EReal := Ideal.exp (x (grp l) (snd l x) - x (grp l) (fst l x))

/-- The row of 128 lanes: two experts, their two weights, and nothing. -/
def row (k : Fin 128) : EReal :=
  if k.val = 0 then (((8 * (grp l).val + (fst l x).val : ℕ) : ℝ) : EReal)
  else if k.val = 1 then (((8 * (grp l).val + (snd l x).val : ℕ) : ℝ) : EReal)
  else if k.val = 2 then gate l * Ideal.div 1 (1 + ratio l x)
  else if k.val = 3 then gate l * Ideal.div (ratio l x) (1 + ratio l x)
  else 0

end weights

theorem snd_ne {n : Nat} (f : Fin (n + 2) → EReal) (hf : ∀ j, f j ≠ ⊥) :
    top (without f (top f)) ≠ top f := by
  intro e
  have h := (top_spec (without f (top f))).1
  obtain ⟨j, hj⟩ : ∃ j : Fin (n + 2), j ≠ top f := exists_ne _
  have hb := h j
  rw [e, without, without, if_neg hj, if_pos rfl] at hb
  exact hf j (le_bot_iff.mp hb)

theorem without_snd {n : Nat} (f : Fin (n + 2) → EReal) (hf : ∀ j, f j ≠ ⊥) :
    without f (top f) (top (without f (top f))) = f (top (without f (top f))) := if_neg (snd_ne f hf)

end Cert.Route

end
-- ==== Proof.RouteTerms.lean ====
/-
  The attention's output, the first layer norm and the router as formulas over the arrays, and that they stay real numbers.
-/
module

public import proofs.«01_k».proof.Proof.RouteSpec
public import proofs.«01_k».proof.Proof.PleSpec

@[expose] public section

noncomputable section

namespace Cert.Route

open Idealize.ShloMosaic
open Cert.Ple (norm resid mean Rows Gains)

abbrev OPrompt : Shape := ⟨2, ![16384, 1024]⟩
abbrev OSample : Shape := ⟨2, ![256, 1024]⟩
abbrev XPrompt : Shape := ⟨3, ![1, 16384, 1024]⟩
abbrev XSample : Shape := ⟨3, ![16, 16, 1024]⟩
abbrev WOut : Shape := ⟨3, ![1, 1024, 1024]⟩
abbrev WGroup : Shape := ⟨3, ![2, 1024, 4]⟩
abbrev BGroup : Shape := ⟨2, ![2, 4]⟩
abbrev WExpert : Shape := ⟨4, ![2, 4, 1024, 8]⟩
abbrev BExpert : Shape := ⟨3, ![2, 4, 8]⟩
abbrev Lanes : Shape := ⟨2, ![16640, 128]⟩

variable (op : FVec Ideal OPrompt .f32) (os : FVec Ideal OSample .f32) (xp : FVec Ideal XPrompt .f32) (xs : FVec Ideal XSample .f32)
  (wo : FVec Ideal WOut .f32) (g b : FVec Ideal Gains .f32) (wg : FVec Ideal WGroup .f32) (bg : FVec Ideal BGroup .f32)
  (we : FVec Ideal WExpert .f32) (be : FVec Ideal BExpert .f32)

/-- A row of the attention's heads, and of the layer's input: the prompt's, then the samples'. -/
def heads (R : Fin 16640) (k : Fin 1024) : EReal :=
  if hR : R.val < 16384 then op (ix2 ⟨R.val, hR⟩ k) else os (ix2 ⟨R.val - 16384, by omega⟩ k)
def input (R : Fin 16640) (d : Fin 1024) : EReal :=
  if hR : R.val < 16384 then xp (ix3 0 ⟨R.val, hR⟩ d) else xs (ix3 ⟨(R.val - 16384) / 16, by omega⟩ ⟨(R.val - 16384) % 16, by omega⟩ d)

/-- The normalised row, its scores of the groups and of the groups' experts, and the row of choices. -/
def hidden (R : Fin 16640) : Fin 1024 → EReal :=
  norm (resid (input xp xs R) fun d => ∑ k : Fin 1024, heads op os R k * wo (ix3 0 k d)) (fun d => g (ix2 0 d)) fun d => b (ix2 0 d)
def groups (R : Fin 16640) (j : Fin 4) : EReal := (∑ x : Fin 1024, hidden op os xp xs wo g b R x * wg (ix3 0 x j)) + bg (ix2 0 j)
def experts (R : Fin 16640) (q : Fin 4) (j : Fin 8) : EReal :=
  (∑ x : Fin 1024, hidden op os xp xs wo g b R x * we (ix4 0 q x j)) + be (ix3 0 q j)
def choice (R : Fin 16640) : Fin 128 → EReal :=
  row (groups op os xp xs wo g b wg bg R) (experts op os xp xs wo g b we be R)

/-- A table of rows of 128 lanes as an array. -/
def lanes (f : Fin 16640 → Fin 128 → EReal) : FVec Ideal Lanes .f32 := fun i => f (i 0) (i 1)

/-! ## Real numbers stay real numbers -/

/-- A real number, neither `∞` nor `-∞`. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add _ _).symm⟩
theorem IsReal.sub {x y : EReal} : IsReal x → IsReal y → IsReal (x - y) := by
  rintro ⟨a, rfl⟩ ⟨b, rfl⟩; exact ⟨a - b, (EReal.coe_sub _ _).symm⟩
theorem IsReal.mul {x y : EReal} : IsReal x → IsReal y → IsReal (x * y) := by
  rintro ⟨a, rfl⟩ ⟨b, rfl⟩; exact ⟨a * b, (EReal.coe_mul _ _).symm⟩
theorem IsReal.sum {ι : Type*} [Fintype ι] {f : ι → EReal} (h : ∀ i, IsReal (f i)) : IsReal (∑ i, f i) := by
  choose r hr using h
  exact ⟨∑ i, r i, by rw [Cert.Softmax.coe_sum]; exact Finset.sum_congr rfl fun i _ => hr i⟩
theorem IsReal.ne_bot {x : EReal} : IsReal x → x ≠ ⊥ := by rintro ⟨a, rfl⟩; exact EReal.coe_ne_bot a
theorem IsReal.sub_self {x : EReal} : IsReal x → x - x = 0 := by
  rintro ⟨a, rfl⟩; rw [← EReal.coe_sub, _root_.sub_self]; rfl

theorem lit1024 : Ideal.ofBits .f32 0x44800000#32 = ((1024 : ℝ) : EReal) := by
  simp [Ideal.ofBits, Ideal.ieee, -EReal.coe_mul]; norm_num
theorem litEps : ∃ e : ℝ, 0 < e ∧ Ideal.ofBits .f32 0x3727C5AC#32 = (e : EReal) := by
  refine ⟨_, ?_, by simp [Ideal.ofBits, Ideal.ieee, -EReal.coe_mul]; rfl⟩
  norm_num
theorem litRoot : IsReal (Ideal.ofBits .f32 0x3FB504F3#32) := by
  refine ⟨_, by simp [Ideal.ofBits, Ideal.ieee, -EReal.coe_mul]; rfl⟩

theorem mean_coe (f : Fin 1024 → ℝ) : mean (fun i => (f i : EReal)) = (((∑ i, f i) * (1 / 1024) : ℝ) : EReal) := by
  show Ideal.div (∑ i, (f i : EReal)) (Ideal.ofBits .f32 0x44800000#32) = _
  rw [lit1024, Ideal.div_coe (by norm_num), ← Cert.Softmax.coe_sum, ← EReal.coe_mul]

theorem norm_real {v g b : Fin 1024 → EReal} (hv : ∀ d, IsReal (v d)) (hg : ∀ d, IsReal (g d)) (hb : ∀ d, IsReal (b d)) (d : Fin 1024) :
    IsReal (norm v g b d) := by
  choose f hf using hv
  obtain rfl : v = fun d => (f d : EReal) := funext hf
  unfold Cert.Ple.norm
  refine ((IsReal.mul ?_ ?_).mul (hg d)).add (hb d)
  · rw [mean_coe]; exact IsReal.sub ⟨_, rfl⟩ ⟨_, rfl⟩
  · obtain ⟨e, he, hE⟩ := litEps
    show IsReal (Ideal.rsqrt (_ + Ideal.ofBits .f32 0x3727C5AC#32))
    rw [hE, mean_coe]
    simp only [← EReal.coe_sub, ← EReal.coe_mul]
    rw [mean_coe, ← EReal.coe_add]
    have hp : 0 < (∑ i, (f i - (∑ i, f i) * (1 / 1024)) * (f i - (∑ i, f i) * (1 / 1024))) * (1 / 1024) + e := by
      have : 0 ≤ ∑ i, (f i - (∑ i, f i) * (1 / 1024)) * (f i - (∑ i, f i) * (1 / 1024)) :=
        Finset.sum_nonneg fun i _ => mul_self_nonneg _
      positivity
    rw [Ideal.rsqrt_coe, if_neg (not_lt.mpr hp.le), if_neg hp.ne']
    exact ⟨_, rfl⟩

section
variable {op os xp xs wo g b wg bg we be}
variable (h0 : ∀ i, IsReal (op i)) (h1 : ∀ i, IsReal (os i)) (h2 : ∀ i, IsReal (xp i)) (h3 : ∀ i, IsReal (xs i)) (h4 : ∀ i, IsReal (wo i))
  (h5 : ∀ i, IsReal (g i)) (h6 : ∀ i, IsReal (b i)) (h7 : ∀ i, IsReal (wg i)) (h8 : ∀ i, IsReal (bg i)) (h9 : ∀ i, IsReal (we i)) (h10 : ∀ i, IsReal (be i))
include h0 h1 h2 h3 h4 h5 h6

theorem hidden_real (R : Fin 16640) (d : Fin 1024) : IsReal (hidden op os xp xs wo g b R d) := by
  refine norm_real (fun d => ?_) (fun d => h5 _) (fun d => h6 _) d
  refine (litRoot.mul ?_).add (IsReal.sum fun k => IsReal.mul ?_ (h4 _))
  · unfold input
    by_cases hR : R.val < 16384
    · rw [dif_pos hR]; exact h2 _
    · rw [dif_neg hR]; exact h3 _
  · unfold heads
    by_cases hR : R.val < 16384
    · rw [dif_pos hR]; exact h0 _
    · rw [dif_neg hR]; exact h1 _
include h7 h8 in
theorem groups_real (R : Fin 16640) (j : Fin 4) : IsReal (groups op os xp xs wo g b wg bg R j) :=
  (IsReal.sum fun x => (hidden_real h0 h1 h2 h3 h4 h5 h6 R x).mul (h7 _)).add (h8 _)
include h9 h10 in
theorem experts_real (R : Fin 16640) (q : Fin 4) (j : Fin 8) : IsReal (experts op os xp xs wo g b we be R q j) :=
  (IsReal.sum fun x => (hidden_real h0 h1 h2 h3 h4 h5 h6 R x).mul (h9 _)).add (h10 _)
end

end Cert.Route

end
-- ==== Proof.RouteIdeal.lean ====
/-
  What one grid point of the attention's output, the first layer norm and the router stores, at an entry.
-/
module

public import proofs.«01_k».proof.Proof.RouteTerms
public import proofs.«01_k».proof.Proof.Gen.Kernel6Ideal
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Kernel6Ideal.Route

open Idealize.ShloMosaic Idealize.ShloMosaic.TcCoe Idealize.SL.Sem
open Cert.Kernel6Ideal Cert.Kernel6Ideal.Gen
open Cert.Ple (norm resid mean)
open Cert.Route

theorem mask_val : (Named.named κ "mask6" 4048155338#32 : Ideal .f32) = (⊥ : EReal) :=
  IdealRules.named_const.ideal_named_scalar _ _ _ _ rfl
theorem litNinf : Ideal.ofBits .f32 4286578688#32 = (⊥ : EReal) := by simp [Ideal.ofBits, Ideal.ieee]
theorem litPinf : Ideal.ofBits .f32 2139095040#32 = (⊤ : EReal) := by simp [Ideal.ofBits, Ideal.ieee]
theorem lit128 : Ideal.ofBits .f32 1124073472#32 = ((128 : ℝ) : EReal) := by
  simp [Ideal.ofBits, Ideal.ieee]
  rw [← EReal.coe_mul]
  norm_num
theorem lit4 : Ideal.ofBits .f32 1082130432#32 = ((4 : ℝ) : EReal) := by
  simp [Ideal.ofBits, Ideal.ieee]
  rw [← EReal.coe_mul]
  norm_num
theorem lit8 : Ideal.ofBits .f32 1090519040#32 = ((8 : ℝ) : EReal) := by
  simp [Ideal.ofBits, Ideal.ieee]
  rw [← EReal.coe_mul]
  norm_num

theorem lane_lt4 (l : Fin 128) : IntOp.cmpi .slt (BitVec.ofNat 32 l.val) 4#32 = if l.val < 4 then 1#1 else 0#1 := by
  revert l; decide +kernel

theorem pay12_at (r : Fin 256) (l : Fin 128) : k0_pay12 (F := Ideal) (ix2 r l) = num l := by
  unfold k0_pay12
  pointwise
  show (((BitVec.ofNat 32 l.val).toInt : ℝ) : EReal) = ((l.val : ℝ) : EReal)
  have h : (BitVec.ofNat 32 l.val).toInt = (l.val : ℤ) := by
    revert l; decide +kernel
  rw [h]
  rfl

section
variable (v16 v18 : FVec Ideal S1x1024 .f32) (v20 v22 : FVec Ideal S1024x128 .bf16) (v24 : FVec Ideal S1x128 .f32) (v27 v32 : FVec Ideal S256x1024 .f32)

theorem pay14_at (r : Fin 256) (l : Fin 128) : k0_pay14 (F := Ideal) v16 v18 v20 v22 v24 v27 v32 (ix2 r l)
    = if l.val < 4 then k0_pay11 (F := Ideal) v16 v18 v20 v22 v24 v27 v32 (ix2 r l) else ⊥ := by
  unfold k0_pay14 k0_pay13
  generalize k0_pay11 (F := Ideal) v16 v18 v20 v22 v24 v27 v32 = w
  pointwise
  rw [lane_lt4, mask_val]
  by_cases h : l.val < 4
  · rw [if_pos h, if_pos h]; rfl
  · rw [if_neg h, if_neg h]; rfl

theorem pay15_at (r : Fin 256) : k0_pay15 (F := Ideal) v16 v18 v20 v22 v24 v27 v32 (ix2 r 0)
    = Finset.fold max ⊥ (fun l : Fin 128 => k0_pay14 (F := Ideal) v16 v18 v20 v22 v24 v27 v32 (ix2 r l)) Finset.univ := by
  unfold k0_pay15
  generalize k0_pay14 (F := Ideal) v16 v18 v20 v22 v24 v27 v32 = w
  pointwise
  rw [litNinf]

theorem pay17_at (r : Fin 256) (l : Fin 128) : k0_pay17 (F := Ideal) v16 v18 v20 v22 v24 v27 v32 (ix2 r l)
    = k0_pay15 (F := Ideal) v16 v18 v20 v22 v24 v27 v32 (ix2 r 0) := by
  unfold k0_pay17
  generalize k0_pay15 (F := Ideal) v16 v18 v20 v22 v24 v27 v32 = w
  pointwise

theorem pay16_at (r : Fin 256) : k0_pay16 (F := Ideal) v16 v18 v20 v22 v24 v27 v32 (ix2 r 0)
    = Finset.fold min ⊤ (fun l : Fin 128 => if k0_pay14 (F := Ideal) v16 v18 v20 v22 v24 v27 v32 (ix2 r l) = k0_pay15 (F := Ideal) v16 v18 v20 v22 v24 v27 v32 (ix2 r 0)
        then num l else ((128 : ℝ) : EReal)) Finset.univ := by
  unfold k0_pay16
  generalize k0_pay14 (F := Ideal) v16 v18 v20 v22 v24 v27 v32 = w
  generalize k0_pay15 (F := Ideal) v16 v18 v20 v22 v24 v27 v32 = u
  pointwise
  rw [litPinf, lit128]
  refine congrArg (fun f => Finset.fold min ⊤ f Finset.univ) (funext fun l => ?_)
  rw [pay12_at]

end

theorem pay18_at (w u : FVec Ideal S256x128 .f32) (r : Fin 256) (f : Fin 128 → EReal)
    (hf : ∀ l : Fin 128, f l = if l.val < 4 then Ideal.exp (w (ix2 r l) - u (ix2 r l)) else 0) :
    k0_pay18 (F := Ideal) k0_pay13 w u (ix2 r 0) = Ideal.div 1 (∑ l, f l) := by
  unfold k0_pay18 k0_pay13
  pointwise
  refine congrArg (Ideal.div 1) (Finset.sum_congr rfl fun l _ => ?_)
  rw [hf, lane_lt4]
  by_cases h : l.val < 4
  · rw [if_pos h, if_pos h]; rfl
  · rw [if_neg h, if_neg h]; rfl

section
variable (w : FVec Ideal S256x128 .f32) (z : FVec Ideal S256x1 .f32) (r : Fin 256)

theorem pay19_at (l : Fin 128) (g : Fin 4) (hz : z (ix2 r 0) = ((g.val : ℝ) : EReal)) : k0_pay19 (F := Ideal) w k0_pay12 z (ix2 r l)
    = if 4 + 8 * g.val ≤ l.val ∧ l.val < 4 + 8 * g.val + 8 then w (ix2 r l) else ⊥ := by
  unfold k0_pay19
  have e := pay12_at r l
  generalize k0_pay12 (F := Ideal) = t at *
  pointwise
  rw [e, hz, mask_val, lit4, lit8]
  have h1 : (((4 : ℝ) : EReal) + ((8 : ℝ) : EReal) * ((g.val : ℝ) : EReal) ≤ num l) ↔ 4 + 8 * g.val ≤ l.val := by
    rw [← EReal.coe_mul, ← EReal.coe_add, num, EReal.coe_le_coe_iff]
    exact_mod_cast Iff.rfl
  have h2 : (num l < ((4 : ℝ) : EReal) + ((8 : ℝ) : EReal) * ((g.val : ℝ) : EReal) + ((8 : ℝ) : EReal)) ↔ l.val < 4 + 8 * g.val + 8 := by
    rw [← EReal.coe_mul, ← EReal.coe_add, ← EReal.coe_add, num, EReal.coe_lt_coe_iff]
    exact_mod_cast Iff.rfl
  rw [decide_eq_decide.mpr h1, decide_eq_decide.mpr h2]
  by_cases a : 4 + 8 * g.val ≤ l.val
  · by_cases b : l.val < 4 + 8 * g.val + 8
    · rw [if_pos ⟨a, b⟩, decide_eq_true a, decide_eq_true b]; rfl
    · rw [if_neg fun h => b h.2, decide_eq_true a, decide_eq_false b]; rfl
  · rw [if_neg fun h => a h.1, decide_eq_false a]
    by_cases b : l.val < 4 + 8 * g.val + 8
    · rw [decide_eq_true b]; rfl
    · rw [decide_eq_false b]; rfl

theorem pay20_at : k0_pay20 (F := Ideal) w k0_pay12 z (ix2 r 0)
    = Finset.fold max ⊥ (fun l : Fin 128 => k0_pay19 (F := Ideal) w k0_pay12 z (ix2 r l)) Finset.univ := by
  unfold k0_pay20
  generalize k0_pay19 (F := Ideal) w k0_pay12 z = w
  pointwise
  rw [litNinf]

theorem pay21_at : k0_pay21 (F := Ideal) w k0_pay12 z (ix2 r 0)
    = Finset.fold min ⊤ (fun l : Fin 128 => if k0_pay19 (F := Ideal) w k0_pay12 z (ix2 r l) = k0_pay20 (F := Ideal) w k0_pay12 z (ix2 r 0)
        then num l else ((128 : ℝ) : EReal)) Finset.univ := by
  unfold k0_pay21
  generalize k0_pay19 (F := Ideal) w k0_pay12 z = x
  generalize k0_pay20 (F := Ideal) w k0_pay12 z = u
  pointwise
  rw [litPinf, lit128]
  refine congrArg (fun f => Finset.fold min ⊤ f Finset.univ) (funext fun l => ?_)
  rw [pay12_at]

theorem pay22_at (l i : Fin 128) (hi : k0_pay21 (F := Ideal) w k0_pay12 z (ix2 r 0) = num i) : k0_pay22 (F := Ideal) w k0_pay12 z (ix2 r l)
    = if l = i then ⊥ else k0_pay19 (F := Ideal) w k0_pay12 z (ix2 r l) := by
  unfold k0_pay22
  generalize k0_pay19 (F := Ideal) w k0_pay12 z = x
  generalize k0_pay21 (F := Ideal) w k0_pay12 z = u at *
  have e := pay12_at r l
  generalize k0_pay12 (F := Ideal) = t at *
  pointwise
  rw [e, hi, mask_val]
  by_cases h : l = i
  · rw [if_pos h, if_pos (by rw [h])]
  · rw [if_neg h, if_neg]
    intro he
    exact h (Fin.ext (by unfold num at he; exact_mod_cast EReal.coe_eq_coe_iff.mp he))

theorem pay23_at : k0_pay23 (F := Ideal) w k0_pay12 z (ix2 r 0)
    = Finset.fold max ⊥ (fun l : Fin 128 => k0_pay22 (F := Ideal) w k0_pay12 z (ix2 r l)) Finset.univ := by
  unfold k0_pay23
  generalize k0_pay22 (F := Ideal) w k0_pay12 z = w
  pointwise
  rw [litNinf]

theorem pay24_at : k0_pay24 (F := Ideal) w k0_pay12 z (ix2 r 0)
    = Finset.fold min ⊤ (fun l : Fin 128 => if k0_pay22 (F := Ideal) w k0_pay12 z (ix2 r l) = k0_pay23 (F := Ideal) w k0_pay12 z (ix2 r 0)
        then num l else ((128 : ℝ) : EReal)) Finset.univ := by
  unfold k0_pay24
  generalize k0_pay22 (F := Ideal) w k0_pay12 z = x
  generalize k0_pay23 (F := Ideal) w k0_pay12 z = u
  pointwise
  rw [litPinf, lit128]
  refine congrArg (fun f => Finset.fold min ⊤ f Finset.univ) (funext fun l => ?_)
  rw [pay12_at]

theorem pay25_at : k0_pay25 (F := Ideal) w k0_pay12 z (ix2 r 0)
    = Ideal.exp (k0_pay23 (F := Ideal) w k0_pay12 z (ix2 r 0) - k0_pay20 (F := Ideal) w k0_pay12 z (ix2 r 0)) := by
  unfold k0_pay25
  pointwise

theorem pay26_at : k0_pay26 (F := Ideal) w k0_pay12 z (ix2 r 0) = 1 + k0_pay25 (F := Ideal) w k0_pay12 z (ix2 r 0) := by
  unfold k0_pay26
  generalize k0_pay25 (F := Ideal) w k0_pay12 z = u
  pointwise

end

theorem lane_eq (n : Fin 4) (l : Fin 128) : IntOp.cmpi .eq (BitVec.ofNat 32 l.val) (BitVec.ofNat 32 n.val) = if l.val = n.val then 1#1 else 0#1 := by
  revert n l; decide +kernel

theorem pay1_at (v83 v104 v116 v118 v120 : FVec Ideal S256x1 .f32) (r : Fin 256) (l : Fin 128) :
    k0_pay1 (F := Ideal) (iota .tc S256x128 32 [1] iota_S256x128_d1_w32) v83 v104 v116 v118 v120 (ix2 r l)
      = if l.val = 0 then v104 (ix2 r 0) - ((4 : ℝ) : EReal)
        else if l.val = 1 then v116 (ix2 r 0) - ((4 : ℝ) : EReal)
        else if l.val = 2 then v83 (ix2 r 0) * Ideal.div 1 (v120 (ix2 r 0))
        else if l.val = 3 then v83 (ix2 r 0) * Ideal.div (v118 (ix2 r 0)) (1 + v118 (ix2 r 0))
        else 0 := by
  unfold k0_pay1
  pointwise
  rw [lit4]
  have e0 := lane_eq 0 l
  have e1 := lane_eq 1 l
  have e2 := lane_eq 2 l
  have e3 := lane_eq 3 l
  simp only [Fin.val_zero, Fin.val_one, show (2 : Fin 4).val = 2 from rfl, show (3 : Fin 4).val = 3 from rfl] at e0 e1 e2 e3
  rw [e0, e1, e2, e3]
  by_cases h0 : l.val = 0
  · rw [if_pos h0, if_pos h0, if_neg (by omega), if_neg (by omega), if_neg (by omega)]; rfl
  rw [if_neg h0, if_neg h0]
  by_cases h1 : l.val = 1
  · rw [if_pos h1, if_pos h1, if_neg (by omega), if_neg (by omega)]; rfl
  rw [if_neg h1, if_neg h1]
  by_cases h2 : l.val = 2
  · rw [if_pos h2, if_pos h2, if_neg (by omega)]; rfl
  rw [if_neg h2, if_neg h2]
  by_cases h3 : l.val = 3
  · rw [if_pos h3, if_pos h3]; rfl
  rw [if_neg h3, if_neg h3]; rfl

/-! ## The row of choices -/

section
variable (v16 v18 : FVec Ideal S1x1024 .f32) (v20 v22 : FVec Ideal S1024x128 .bf16) (v24 : FVec Ideal S1x128 .f32) (v27 v32 : FVec Ideal S256x1024 .f32)
  (r : Fin 256) (G : Fin 4 → EReal) (X : Fin 4 → Fin 8 → EReal)

theorem route_at (hG : ∀ j : Fin 4, k0_pay11 (F := Ideal) v16 v18 v20 v22 v24 v27 v32 (ix2 r ⟨j.val, by omega⟩) = G j)
    (hX : ∀ (g : Fin 4) (j : Fin 8), k0_pay11 (F := Ideal) v16 v18 v20 v22 v24 v27 v32 (ix2 r ⟨4 + 8 * g.val + j.val, by omega⟩) = X g j)
    (nG : ∀ j, G j ≠ ⊥) (nX : ∀ g j, X g j ≠ ⊥) (k : Fin 128) :
    k0_pay1 (F := Ideal) (iota .tc S256x128 32 [1] iota_S256x128_d1_w32)
      (k0_pay18 k0_pay13 (k0_pay14 v16 v18 v20 v22 v24 v27 v32) (k0_pay17 v16 v18 v20 v22 v24 v27 v32))
      (k0_pay21 (k0_pay11 v16 v18 v20 v22 v24 v27 v32) k0_pay12 (k0_pay16 v16 v18 v20 v22 v24 v27 v32))
      (k0_pay24 (k0_pay11 v16 v18 v20 v22 v24 v27 v32) k0_pay12 (k0_pay16 v16 v18 v20 v22 v24 v27 v32))
      (k0_pay25 (k0_pay11 v16 v18 v20 v22 v24 v27 v32) k0_pay12 (k0_pay16 v16 v18 v20 v22 v24 v27 v32))
      (k0_pay26 (k0_pay11 v16 v18 v20 v22 v24 v27 v32) k0_pay12 (k0_pay16 v16 v18 v20 v22 v24 v27 v32)) (ix2 r k) = row G X k := by
  -- the group
  have t14 := top_lanes G (fun l => k0_pay14 (F := Ideal) v16 v18 v20 v22 v24 v27 v32 (ix2 r l)) 0 (by omega)
    (fun j => by
      rw [pay14_at, if_pos (by show 0 + j.val < 4; omega), ← hG j]
      exact congrArg (fun q => k0_pay11 (F := Ideal) v16 v18 v20 v22 v24 v27 v32 (ix2 r q)) (Fin.ext (by show 0 + j.val = j.val; omega)))
    (fun l hl => by rw [pay14_at, if_neg (by omega)]) (nG _)
  have e15 : k0_pay15 (F := Ideal) v16 v18 v20 v22 v24 v27 v32 (ix2 r 0) = G (grp G) := by
    rw [pay15_at, fold_max_eq _ _ t14.1, pay14_at, if_pos (by show 0 + (top G).val < 4; omega), ← hG]
    exact congrArg (fun q => k0_pay11 (F := Ideal) v16 v18 v20 v22 v24 v27 v32 (ix2 r q)) (Fin.ext (by show 0 + (top G).val = (top G).val; omega))
  have e16 : k0_pay16 (F := Ideal) v16 v18 v20 v22 v24 v27 v32 (ix2 r 0) = (((grp G).val : ℝ) : EReal) := by
    rw [pay16_at, pay15_at, first_lane _ _ t14]
    show (((0 + (top G).val : ℕ) : ℝ) : EReal) = (((top G).val : ℝ) : EReal)
    rw [Nat.zero_add]
  have e18 : k0_pay18 (F := Ideal) k0_pay13 (k0_pay14 v16 v18 v20 v22 v24 v27 v32) (k0_pay17 v16 v18 v20 v22 v24 v27 v32) (ix2 r 0) = gate G := by
    rw [pay18_at _ _ r (fun l => if h : l.val < 4 then Ideal.exp (G ⟨l.val, h⟩ - G (grp G)) else 0)]
    · unfold gate
      refine congrArg (Ideal.div 1) ?_
      rw [Fin.sum_univ_eq_sum_range (fun n => if h : n < 4 then Ideal.exp (G ⟨n, h⟩ - G (grp G)) else 0) 128,
        ← Finset.sum_subset (s₁ := Finset.range 4) (by intro a; simp only [Finset.mem_range]; omega)
          (fun a _ h => dif_neg (by simpa using h)), ← Fin.sum_univ_eq_sum_range (fun n => if h : n < 4 then Ideal.exp (G ⟨n, h⟩ - G (grp G)) else 0) 4]
      exact Finset.sum_congr rfl fun j _ => dif_pos j.isLt
    · intro l
      by_cases h : l.val < 4
      · rw [dif_pos h, if_pos h, pay17_at, e15, pay14_at, if_pos h, ← hG ⟨l.val, h⟩]
      · rw [dif_neg h, if_neg h]
  clear t14 e15
  generalize k0_pay18 (F := Ideal) k0_pay13 (k0_pay14 v16 v18 v20 v22 v24 v27 v32) (k0_pay17 v16 v18 v20 v22 v24 v27 v32) = v83 at *
  generalize k0_pay16 (F := Ideal) v16 v18 v20 v22 v24 v27 v32 = z at *
  generalize k0_pay11 (F := Ideal) v16 v18 v20 v22 v24 v27 v32 = w at *
  -- the two experts
  have hg := (grp G).isLt
  have t19 := top_lanes (X (grp G)) (fun l => k0_pay19 (F := Ideal) w k0_pay12 z (ix2 r l)) (4 + 8 * (grp G).val) (by omega)
    (fun j => by
      rw [pay19_at w z r _ _ e16, if_pos (by constructor <;> simp only [] <;> omega), ← hX])
    (fun l hl => by rw [pay19_at w z r _ _ e16, if_neg (by omega)]) (nX _ _)
  have e20 : k0_pay20 (F := Ideal) w k0_pay12 z (ix2 r 0) = X (grp G) (fst G X) := by
    rw [pay20_at, fold_max_eq _ _ t19.1, pay19_at w z r _ _ e16, if_pos (by constructor <;> simp only [] <;> omega), ← hX]
    rfl
  have e21 : k0_pay21 (F := Ideal) w k0_pay12 z (ix2 r 0) = num ⟨4 + 8 * (grp G).val + (fst G X).val, by omega⟩ := by
    rw [pay21_at, pay20_at]
    exact first_lane _ _ t19
  have t22 := top_lanes (without (X (grp G)) (fst G X)) (fun l => k0_pay22 (F := Ideal) w k0_pay12 z (ix2 r l)) (4 + 8 * (grp G).val) (by omega)
    (fun j => by
      rw [pay22_at w z r _ _ e21, pay19_at w z r _ _ e16, if_pos (c := _ ∧ _) (by constructor <;> simp only [] <;> omega), hX]
      unfold without
      by_cases h : j = fst G X
      · rw [if_pos h, if_pos (by rw [h])]
      · rw [if_neg h, if_neg]
        intro he
        exact h (Fin.ext (by have := congrArg Fin.val he; simp only [] at this; omega)))
    (fun l hl => by
      rw [pay22_at w z r _ _ e21, pay19_at w z r _ _ e16, if_neg (c := _ ∧ _) (by omega)]
      exact ite_self _)
    (by
      unfold fst
      rw [without_snd _ (nX _)]
      exact nX _ _)
  have e23 : k0_pay23 (F := Ideal) w k0_pay12 z (ix2 r 0) = X (grp G) (snd G X) := by
    have hs : snd G X ≠ fst G X := snd_ne _ (nX _)
    rw [pay23_at, fold_max_eq _ _ t22.1, pay22_at w z r _ _ e21, pay19_at w z r _ _ e16, if_pos (c := _ ∧ _) (by constructor <;> simp only [] <;> omega), hX,
      if_neg]
    · rfl
    · intro he
      exact hs (Fin.ext (by have := congrArg Fin.val he; simp only [] at this; unfold snd; omega))
  have e24 : k0_pay24 (F := Ideal) w k0_pay12 z (ix2 r 0) = num ⟨4 + 8 * (grp G).val + (snd G X).val, by omega⟩ := by
    rw [pay24_at, pay23_at]
    exact first_lane _ _ t22
  have e25 : k0_pay25 (F := Ideal) w k0_pay12 z (ix2 r 0) = ratio G X := by
    rw [pay25_at, e23, e20]; rfl
  have e26 : k0_pay26 (F := Ideal) w k0_pay12 z (ix2 r 0) = 1 + ratio G X := by
    rw [pay26_at, e25]
  rw [pay1_at, e18, e21, e24, e25, e26]
  have sub4 : ∀ (n : ℕ) (h : 4 + 8 * (grp G).val + n < 128), num ⟨4 + 8 * (grp G).val + n, h⟩ - ((4 : ℝ) : EReal) = (((8 * (grp G).val + n : ℕ) : ℝ) : EReal) := by
    intro n h
    unfold num
    rw [← EReal.coe_sub]
    refine congrArg _ ?_
    push_cast
    ring
  rw [sub4, sub4]
  rfl

end

/-! ## The normalised row and its scores -/

/-- The prompt's entry before point 64, the samples' at it. -/
def sel (i : grid0.Coords) (x y : Fin 256 → Fin 1024 → EReal) (r : Fin 256) (k : Fin 1024) : EReal := if (i 0).val < 64 then x r k else y r k

theorem pay7_at (i : grid0.Coords) (x0 x1 : FVec Ideal S256x1024 .bf16) (x4 : FVec Ideal S1024x1024 .bf16) (x2 x3 : FVec Ideal S256x1024 .f32) (r : Fin 256) (d : Fin 1024) :
    k0_pay7 (F := Ideal) i x0 x1 x4 x2 x3 (ix2 r d)
      = resid (sel i (fun r k => x2 (ix2 r k)) (fun r k => x3 (ix2 r k)) r)
          (fun d => ∑ k : Fin 1024, sel i (fun r k => x0 (ix2 r k)) (fun r k => x1 (ix2 r k)) r k * x4 (ix2 k d)) d := by
  unfold k0_pay7 sel
  have h65 : (i 0).val < 65 := (i 0).isLt
  have e : Scalar.cmpi .slt (BitVec.ofNat 32 (i 0).val) 64#32 = if (i 0).val < 64 then 1#1 else 0#1 := by
    generalize (i 0).val = n at h65
    interval_cases n <;> decide
  by_cases h : (i 0).val < 64
  · rw [if_pos h] at e
    simp only [e, if_pos h]
    simp only [Scalar.select, if_true]
    pointwise
    rfl
  · rw [if_neg h] at e
    simp only [e, if_neg h]
    simp only [Scalar.select, show (0#1 : BitVec 1) = 1#1 ↔ False by decide, if_false]
    pointwise
    rfl

theorem pay8_at (i : grid0.Coords) (x0 x1 : FVec Ideal S256x1024 .bf16) (x4 : FVec Ideal S1024x1024 .bf16) (x2 x3 : FVec Ideal S256x1024 .f32) (r : Fin 256) (d : Fin 1024) :
    k0_pay8 (F := Ideal) i x0 x1 x4 x2 x3 (ix2 r d) = mean fun d => k0_pay7 (F := Ideal) i x0 x1 x4 x2 x3 (ix2 r d) := by
  unfold k0_pay8
  generalize k0_pay7 (F := Ideal) i x0 x1 x4 x2 x3 = w
  pointwise
  rfl

section
variable (v16 v18 : FVec Ideal S1x1024 .f32) (v20 v22 : FVec Ideal S1024x128 .bf16) (v24 : FVec Ideal S1x128 .f32) (v27 v32 : FVec Ideal S256x1024 .f32)
  (r : Fin 256)

theorem pay9_at (hm : ∀ d, v32 (ix2 r d) = mean fun d => v27 (ix2 r d)) (d : Fin 1024) :
    k0_pay9 (F := Ideal) v16 v18 v27 v32 (ix2 r d) = norm (fun d => v27 (ix2 r d)) (fun d => v16 (ix2 0 d)) (fun d => v18 (ix2 0 d)) d := by
  unfold k0_pay9
  pointwise
  simp only [hm]
  rfl

theorem pay11_at (l : Fin 128) : k0_pay11 (F := Ideal) v16 v18 v20 v22 v24 v27 v32 (ix2 r l)
    = (∑ x : Fin 1024, k0_pay9 (F := Ideal) v16 v18 v27 v32 (ix2 r x) * v20 (ix2 x l))
      + ((∑ x : Fin 1024, k0_pay9 (F := Ideal) v16 v18 v27 v32 (ix2 r x) * v22 (ix2 x l))
        + ∑ x : Fin 1024, (k0_pay9 (F := Ideal) v16 v18 v27 v32 (ix2 r x) - k0_pay9 (F := Ideal) v16 v18 v27 v32 (ix2 r x)) * v20 (ix2 x l))
      + v24 (ix2 0 l) := by
  unfold k0_pay11 k0_pay10
  generalize k0_pay9 (F := Ideal) v16 v18 v27 v32 = h
  pointwise

/-- The scores, where the row is real and the weights' second half is nothing. -/
theorem score_at (l : Fin 128) (hr : ∀ x, IsReal (k0_pay9 (F := Ideal) v16 v18 v27 v32 (ix2 r x))) (h0 : ∀ x : Fin 1024, v22 (ix2 x l) = 0) :
    k0_pay11 (F := Ideal) v16 v18 v20 v22 v24 v27 v32 (ix2 r l)
      = (∑ x : Fin 1024, k0_pay9 (F := Ideal) v16 v18 v27 v32 (ix2 r x) * v20 (ix2 x l)) + v24 (ix2 0 l) := by
  rw [pay11_at, Finset.sum_eq_zero (f := fun x : Fin 1024 => k0_pay9 (F := Ideal) v16 v18 v27 v32 (ix2 r x) * v22 (ix2 x l))
    fun x _ => by rw [h0, mul_zero],
    Finset.sum_eq_zero (f := fun x : Fin 1024 => (k0_pay9 (F := Ideal) v16 v18 v27 v32 (ix2 r x) - k0_pay9 (F := Ideal) v16 v18 v27 v32 (ix2 r x)) * v20 (ix2 x l))
    fun x _ => by rw [(hr x).sub_self, zero_mul], add_zero, add_zero]
end

section
variable (i : grid0.Coords) (x0 x1 : FVec Ideal S256x1024 .bf16) (x2 x3 : FVec Ideal S256x1024 .f32) (x4 : FVec Ideal S1024x1024 .bf16)
  (x5 x6 : FVec Ideal S1x1024 .f32) (x7 x8 : FVec Ideal S1024x128 .bf16) (x9 : FVec Ideal S1x128 .f32) (r : Fin 256)

/-- The normalised row of a point. -/
def hiddenF (r : Fin 256) : Fin 1024 → EReal :=
  norm (resid (sel i (fun r k => x2 (ix2 r k)) (fun r k => x3 (ix2 r k)) r)
      fun d => ∑ k : Fin 1024, sel i (fun r k => x0 (ix2 r k)) (fun r k => x1 (ix2 r k)) r k * x4 (ix2 k d))
    (fun d => x5 (ix2 0 d)) fun d => x6 (ix2 0 d)

theorem pay2_eq (v : FVec Ideal S1x1024 .f32) (d : Fin 1024) : k0_pay2 (F := Ideal) v (ix2 0 d) = v (ix2 0 d) := by
  unfold k0_pay2; pointwise
theorem pay3_eq (v : FVec Ideal S1x1024 .f32) (d : Fin 1024) : k0_pay3 (F := Ideal) v (ix2 0 d) = v (ix2 0 d) := by
  unfold k0_pay3; pointwise
theorem pay4_eq (v : FVec Ideal S1024x128 .bf16) (x : Fin 1024) (l : Fin 128) : k0_pay4 (F := Ideal) v (ix2 x l) = v (ix2 x l) := by
  unfold k0_pay4; pointwise
theorem pay5_eq (v : FVec Ideal S1024x128 .bf16) (x : Fin 1024) (l : Fin 128) : k0_pay5 (F := Ideal) v (ix2 x l) = v (ix2 x l) := by
  unfold k0_pay5; pointwise
theorem pay6_eq (v : FVec Ideal S1x128 .f32) (l : Fin 128) : k0_pay6 (F := Ideal) v (ix2 0 l) = v (ix2 0 l) := by
  unfold k0_pay6; pointwise

theorem hidden_at (d : Fin 1024) : k0_pay9 (F := Ideal) (k0_pay2 x5) (k0_pay3 x6) (k0_pay7 i x0 x1 x4 x2 x3) (k0_pay8 i x0 x1 x4 x2 x3) (ix2 r d)
    = hiddenF i x0 x1 x2 x3 x4 x5 x6 r d := by
  rw [pay9_at _ _ _ _ r (pay8_at i x0 x1 x4 x2 x3 r)]
  have e7 : (fun d => k0_pay7 (F := Ideal) i x0 x1 x4 x2 x3 (ix2 r d)) = _ := funext fun d => pay7_at i x0 x1 x4 x2 x3 r d
  have e2 : (fun d => k0_pay2 (F := Ideal) x5 (ix2 0 d)) = fun d => x5 (ix2 0 d) := funext fun d => pay2_eq x5 d
  have e3 : (fun d => k0_pay3 (F := Ideal) x6 (ix2 0 d)) = fun d => x6 (ix2 0 d) := funext fun d => pay3_eq x6 d
  rw [e7, e2, e3]
  rfl

theorem outH (d : Fin 1024) : out0_10 (F := Ideal) i x0 x1 x2 x3 x4 x5 x6 x7 x8 x9 (ix2 r d) = hiddenF i x0 x1 x2 x3 x4 x5 x6 r d := by
  unfold out0_10 k0_pay33 k0_pay32 k0_pay28 k0_pay27
  frame_out
  exact hidden_at i x0 x1 x2 x3 x4 x5 x6 r d

theorem outHb (d : Fin 1024) : out0_11 (F := Ideal) i x0 x1 x2 x3 x4 x5 x6 x7 x8 x9 (ix2 r d) = hiddenF i x0 x1 x2 x3 x4 x5 x6 r d := by
  unfold out0_11 k0_pay33 k0_pay32 k0_pay28 k0_pay27 k0_pay10
  frame_out
  exact hidden_at i x0 x1 x2 x3 x4 x5 x6 r d

theorem outRoute (G : Fin 4 → EReal) (X : Fin 4 → Fin 8 → EReal)
    (hr : ∀ x, IsReal (hiddenF i x0 x1 x2 x3 x4 x5 x6 r x)) (h8 : ∀ (x : Fin 1024) (l : Fin 128), x8 (ix2 x l) = 0)
    (hG : ∀ j : Fin 4, (∑ x : Fin 1024, hiddenF i x0 x1 x2 x3 x4 x5 x6 r x * x7 (ix2 x ⟨j.val, by omega⟩)) + x9 (ix2 0 ⟨j.val, by omega⟩) = G j)
    (hX : ∀ (q : Fin 4) (j : Fin 8), (∑ x : Fin 1024, hiddenF i x0 x1 x2 x3 x4 x5 x6 r x * x7 (ix2 x ⟨4 + 8 * q.val + j.val, by omega⟩))
      + x9 (ix2 0 ⟨4 + 8 * q.val + j.val, by omega⟩) = X q j)
    (nG : ∀ j, G j ≠ ⊥) (nX : ∀ q j, X q j ≠ ⊥) (k : Fin 128) :
    out0_12 (F := Ideal) i x0 x1 x2 x3 x4 x5 x6 x7 x8 x9 (ix2 r k) = row G X k := by
  unfold out0_12 k0_pay36 k0_pay35 k0_pay34 k0_pay33 k0_pay32 k0_pay31 k0_pay30 k0_pay29 k0_pay28 k0_pay27
  frame_out
  have score : ∀ l : Fin 128, k0_pay11 (F := Ideal) (k0_pay2 x5) (k0_pay3 x6) (k0_pay4 x7) (k0_pay5 x8) (k0_pay6 x9) (k0_pay7 i x0 x1 x4 x2 x3) (k0_pay8 i x0 x1 x4 x2 x3) (ix2 r l)
      = (∑ x : Fin 1024, hiddenF i x0 x1 x2 x3 x4 x5 x6 r x * x7 (ix2 x l)) + x9 (ix2 0 l) := by
    intro l
    rw [score_at _ _ _ _ _ _ _ r l (fun x => by rw [hidden_at]; exact hr x) (fun x => by rw [pay5_eq]; exact h8 x l), pay6_eq]
    refine congrArg (· + _) (Finset.sum_congr rfl fun x _ => ?_)
    rw [hidden_at, pay4_eq]
  exact route_at _ _ _ _ _ _ _ r G X (fun j => (score _).trans (hG j)) (fun q j => (score _).trans (hX q j)) nG nX k
end

end Cert.Kernel6Ideal.Route

end
-- ==== Proof.RouteHost.lean ====
/-
  The arrays the host prepares for the attention's output, the first layer norm and the router, and the three arrays the grid leaves.
-/
module

public import proofs.«01_k».proof.Proof.RouteIdeal
public import Idealize.ShloMosaic.Lib.Pipeline.ValueKit

@[expose] public section

set_option maxRecDepth 16384

noncomputable section

namespace Cert.Kernel6Ideal.Route

open Idealize.ShloMosaic Idealize.ShloMosaic.TcCoe Idealize.SL.Sem
open Cert.Kernel6Ideal Cert.Kernel6Ideal.Gen
open Idealize.ShloMosaic.Pipeline (Dat Cfg Window BodyObligation cellOf)
open Cert.Ple (rows)
open Cert.Route

def gainK (g : FVec Ideal S2x1024 .f32) : FVec Ideal S1x1024 .f32 :=
  shapeCast S1x1024 (shapeCast S1024 (extractStridedSlice S1x1024 ![0, 0] g slices_S2x1024_S1x1024_0_0) shapeCasts_S1x1024_S1024) shapeCasts_S1024_S1x1024
def promptK (x : FVec Ideal S1x16384x1024 .f32) : FVec Ideal S16384x1024 .f32 := shapeCast S16384x1024 x shapeCasts_S1x16384x1024_S16384x1024
def sampleK (x : FVec Ideal S16x16x1024 .f32) : FVec Ideal S256x1024 .f32 := shapeCast S256x1024 x shapeCasts_S16x16x1024_S256x1024
def outK (w : FVec Ideal S1x1024x1024 .f32) : FVec Ideal S1024x1024 .bf16 :=
  truncf .bf16 (shapeCast S1024x1024 w shapeCasts_S1x1024x1024_S1024x1024 : FVec Ideal S1024x1024 .f32) bitsLt_bf16_f32
/-- The router's matrix: the groups' columns, then the experts', then nothing. -/
def groupK (w : FVec Ideal S2x1024x4 .f32) : FVec Ideal S1024x4 .f32 :=
  shapeCast S1024x4 (extractStridedSlice S1x1024x4 ![0, 0, 0] w slices_S2x1024x4_S1x1024x4_0_0_0) shapeCasts_S1x1024x4_S1024x4
def expertK (w : FVec Ideal S2x4x1024x8 .f32) : FVec Ideal S1024x32 .f32 :=
  shapeCast S1024x32 (transpose S1024x4x8 [1, 0, 2] (shapeCast S4x1024x8 (extractStridedSlice S1x4x1024x8 ![0, 0, 0, 0] w slices_S2x4x1024x8_S1x4x1024x8_0_0_0_0)
    shapeCasts_S1x4x1024x8_S4x1024x8) transposes_S4x1024x8_S1024x4x8_1_0_2) shapeCasts_S1024x4x8_S1024x32
def joinK (a : FVec Ideal S1024x4 .f32) (b : FVec Ideal S1024x32 .f32) : FVec Ideal S1024x36 .f32 :=
  concatenate S1024x36 1 [⟨S1024x4, a⟩, ⟨S1024x32, b⟩] concatenates_S1024x4_S1024x32_S1024x36_d1
def padK (a : FVec Ideal S1024x36 .f32) : FVec Ideal S1024x128 .f32 :=
  pad S1024x128 ![0, 0] ![0, 92] ![0, 0] a (sitofp .f32 (constantI S_ 32 0#32) : FVec Ideal S_ .f32) pads_S1024x36_S1024x128_000_0920 h_S_
def routerK (wg : FVec Ideal S2x1024x4 .f32) (we : FVec Ideal S2x4x1024x8 .f32) : FVec Ideal S1024x128 .f32 := padK (joinK (groupK wg) (expertK we))
def highK (w : FVec Ideal S1024x128 .f32) : FVec Ideal S1024x128 .bf16 := truncf .bf16 w bitsLt_bf16_f32
def lowK (w : FVec Ideal S1024x128 .f32) : FVec Ideal S1024x128 .bf16 :=
  truncf .bf16 (subf w (extf .f32 (truncf .bf16 w bitsLt_bf16_f32) bitsLt_bf16_f32) : FVec Ideal S1024x128 .f32) bitsLt_bf16_f32
def groupBK (w : FVec Ideal S2x4 .f32) : FVec Ideal S4 .f32 := shapeCast S4 (extractStridedSlice S1x4 ![0, 0] w slices_S2x4_S1x4_0_0) shapeCasts_S1x4_S4
def expertBK (w : FVec Ideal S2x4x8 .f32) : FVec Ideal S32 .f32 :=
  shapeCast S32 (shapeCast S4x8 (extractStridedSlice S1x4x8 ![0, 0, 0] w slices_S2x4x8_S1x4x8_0_0_0) shapeCasts_S1x4x8_S4x8) shapeCasts_S4x8_S32
def joinBK (a : FVec Ideal S4 .f32) (b : FVec Ideal S32 .f32) : FVec Ideal S36 .f32 := concatenate S36 0 [⟨S4, a⟩, ⟨S32, b⟩] concatenates_S4_S32_S36_d0
def padBK (a : FVec Ideal S36 .f32) : FVec Ideal S1x128 .f32 :=
  shapeCast S1x128 (pad S128 ![0] ![92] ![0] a (sitofp .f32 (constantI S_ 32 0#32) : FVec Ideal S_ .f32) pads_S36_S128_0920 h_S_) shapeCasts_S128_S1x128

theorem gainK_at (g : FVec Ideal S2x1024 .f32) (d : Fin 1024) : gainK g (ix2 0 d) = g (ix2 0 d) := by
  pointwise [gainK]
theorem promptK_at (x : FVec Ideal S1x16384x1024 .f32) (r : Fin 16384) (d : Fin 1024) : promptK x (ix2 r d) = x (ix3 0 r d) := by
  pointwise [promptK]
theorem sampleK_at (x : FVec Ideal S16x16x1024 .f32) (r : Fin 256) (d : Fin 1024) :
    sampleK x (ix2 r d) = x (ix3 ⟨r.val / 16, by omega⟩ ⟨r.val % 16, by omega⟩ d) := by
  pointwise [sampleK]
theorem outK_at (w : FVec Ideal S1x1024x1024 .f32) (k d : Fin 1024) : outK w (ix2 k d) = w (ix3 0 k d) := by
  pointwise [outK]
theorem groupK_at (w : FVec Ideal S2x1024x4 .f32) (x : Fin 1024) (j : Fin 4) : groupK w (ix2 x j) = w (ix3 0 x j) := by
  pointwise [groupK]
theorem expertK_at (w : FVec Ideal S2x4x1024x8 .f32) (x : Fin 1024) (l : Fin 32) :
    expertK w (ix2 x l) = w (ix4 0 ⟨l.val / 8, by omega⟩ x ⟨l.val % 8, by omega⟩) := by
  pointwise [expertK]
theorem joinK_at (a : FVec Ideal S1024x4 .f32) (b : FVec Ideal S1024x32 .f32) (x : Fin 1024) (l : Fin 36) :
    joinK a b (ix2 x l) = if h : l.val < 4 then a (ix2 x ⟨l.val, h⟩) else b (ix2 x ⟨l.val - 4, by omega⟩) := by
  pointwise [joinK]
theorem padK_at (a : FVec Ideal S1024x36 .f32) (x : Fin 1024) (l : Fin 128) :
    padK a (ix2 x l) = if h : l.val < 36 then a (ix2 x ⟨l.val, h⟩) else (FloatOps.sitofp .f32 0#32 : Ideal .f32) := by
  pointwise [padK]
theorem groupBK_at (w : FVec Ideal S2x4 .f32) (j : Fin 4) : groupBK w (ix1 j) = w (ix2 0 j) := by
  pointwise [groupBK]
theorem expertBK_at (w : FVec Ideal S2x4x8 .f32) (l : Fin 32) :
    expertBK w (ix1 l) = w (ix3 0 ⟨l.val / 8, by omega⟩ ⟨l.val % 8, by omega⟩) := by
  pointwise [expertBK]
theorem joinBK_at (a : FVec Ideal S4 .f32) (b : FVec Ideal S32 .f32) (l : Fin 36) :
    joinBK a b (ix1 l) = if h : l.val < 4 then a (ix1 ⟨l.val, h⟩) else b (ix1 ⟨l.val - 4, by omega⟩) := by
  pointwise [joinBK]
theorem padBK_at (a : FVec Ideal S36 .f32) (l : Fin 128) :
    padBK a (ix2 0 l) = if h : l.val < 36 then a (ix1 ⟨l.val, h⟩) else (FloatOps.sitofp .f32 0#32 : Ideal .f32) := by
  pointwise [padBK]

section
variable (wg : FVec Ideal S2x1024x4 .f32) (we : FVec Ideal S2x4x1024x8 .f32) (bg : FVec Ideal S2x4 .f32) (be : FVec Ideal S2x4x8 .f32)

theorem router_group (x : Fin 1024) (j : Fin 4) : routerK wg we (ix2 x ⟨j.val, by omega⟩) = wg (ix3 0 x j) := by
  unfold routerK
  rw [padK_at, dif_pos (by show j.val < 36; omega), joinK_at, dif_pos (show j.val < 4 from j.isLt), groupK_at]
theorem router_expert (x : Fin 1024) (q : Fin 4) (j : Fin 8) :
    routerK wg we (ix2 x ⟨4 + 8 * q.val + j.val, by omega⟩) = we (ix4 0 q x j) := by
  unfold routerK
  rw [padK_at, dif_pos (by show 4 + 8 * q.val + j.val < 36; omega), joinK_at, dif_neg (by show ¬ 4 + 8 * q.val + j.val < 4; omega), expertK_at]
  have e : (⟨(4 + 8 * q.val + j.val - 4) / 8, by omega⟩ : Fin 4) = q := Fin.ext (by show (4 + 8 * q.val + j.val - 4) / 8 = q.val; omega)
  have e' : (⟨(4 + 8 * q.val + j.val - 4) % 8, by omega⟩ : Fin 8) = j := Fin.ext (by show (4 + 8 * q.val + j.val - 4) % 8 = j.val; omega)
  exact congrArg₂ (fun a b => we (ix4 0 a x b)) e e'
theorem bias_group (j : Fin 4) : padBK (joinBK (groupBK bg) (expertBK be)) (ix2 0 ⟨j.val, by omega⟩) = bg (ix2 0 j) := by
  rw [padBK_at, dif_pos (by show j.val < 36; omega), joinBK_at, dif_pos (show j.val < 4 from j.isLt), groupBK_at]
theorem bias_expert (q : Fin 4) (j : Fin 8) :
    padBK (joinBK (groupBK bg) (expertBK be)) (ix2 0 ⟨4 + 8 * q.val + j.val, by omega⟩) = be (ix3 0 q j) := by
  rw [padBK_at, dif_pos (by show 4 + 8 * q.val + j.val < 36; omega), joinBK_at, dif_neg (by show ¬ 4 + 8 * q.val + j.val < 4; omega), expertBK_at]
  have e : (⟨(4 + 8 * q.val + j.val - 4) / 8, by omega⟩ : Fin 4) = q := Fin.ext (by show (4 + 8 * q.val + j.val - 4) / 8 = q.val; omega)
  have e' : (⟨(4 + 8 * q.val + j.val - 4) % 8, by omega⟩ : Fin 8) = j := Fin.ext (by show (4 + 8 * q.val + j.val - 4) % 8 = j.val; omega)
  exact congrArg₂ (fun a b => be (ix3 0 a b)) e e'
theorem router_real (hg : ∀ i, IsReal (wg i)) (he : ∀ i, IsReal (we i)) (x : Fin 1024) (l : Fin 128) : IsReal (routerK wg we (ix2 x l)) := by
  unfold routerK
  rw [padK_at]
  by_cases h : l.val < 36
  · rw [dif_pos h, joinK_at]
    by_cases h' : l.val < 4
    · rw [dif_pos (show (⟨l.val, h⟩ : Fin 36).val < 4 from h'), groupK_at]; exact hg _
    · rw [dif_neg (show ¬ (⟨l.val, h⟩ : Fin 36).val < 4 from h'), expertK_at]; exact he _
  · rw [dif_neg h]
    exact ⟨_, rfl⟩
theorem low_zero (hg : ∀ i, IsReal (wg i)) (he : ∀ i, IsReal (we i)) (x : Fin 1024) (l : Fin 128) : lowK (routerK wg we) (ix2 x l) = 0 := by
  have h : lowK (routerK wg we) (ix2 x l) = routerK wg we (ix2 x l) - routerK wg we (ix2 x l) := by
    generalize routerK wg we = w
    pointwise [lowK]
  rw [h]
  exact (router_real wg we hg he x l).sub_self
end

variable (m : (ℓ : Loc nD τ sig) → Buf (Elt Ideal) ℓ) (c : Dev nD)

/-- The eleven arguments as launched. -/
abbrev A0 : FVec Ideal S16384x1024 .f32 := m ((c : Thread nD τ).loc main_arg0)
abbrev A1 : FVec Ideal S256x1024 .f32 := m ((c : Thread nD τ).loc main_arg1)
abbrev A2 : FVec Ideal S1x16384x1024 .f32 := m ((c : Thread nD τ).loc main_arg2)
abbrev A3 : FVec Ideal S16x16x1024 .f32 := m ((c : Thread nD τ).loc main_arg3)
abbrev A4 : FVec Ideal S1x1024x1024 .f32 := m ((c : Thread nD τ).loc main_arg4)
abbrev A5 : FVec Ideal S2x1024 .f32 := m ((c : Thread nD τ).loc main_arg5)
abbrev A6 : FVec Ideal S2x1024 .f32 := m ((c : Thread nD τ).loc main_arg6)
abbrev A7 : FVec Ideal S2x1024x4 .f32 := m ((c : Thread nD τ).loc main_arg7)
abbrev A8 : FVec Ideal S2x4 .f32 := m ((c : Thread nD τ).loc main_arg8)
abbrev A9 : FVec Ideal S2x4x1024x8 .f32 := m ((c : Thread nD τ).loc main_arg9)
abbrev A10 : FVec Ideal S2x4x8 .f32 := m ((c : Thread nD τ).loc main_arg10)

theorem V_v26 : V m c main_v26 = (truncf .bf16 (A0 m c) bitsLt_bf16_f32 : FVec Ideal S16384x1024 .bf16) := by
  unfold V hostOps0 hostOps0_1 hostOps0_2 hostOps0_3 hostOps0_4
  after_results
  rfl
theorem V_v27 : V m c main_v27 = (truncf .bf16 (A1 m c) bitsLt_bf16_f32 : FVec Ideal S256x1024 .bf16) := by
  unfold V hostOps0 hostOps0_1 hostOps0_2 hostOps0_3 hostOps0_4
  after_results
  rfl
theorem V_v28 : V m c main_v28 = promptK (A2 m c) := by
  unfold V hostOps0 hostOps0_1 hostOps0_2 hostOps0_3 hostOps0_4
  after_results
  rfl
theorem V_v29 : V m c main_v29 = sampleK (A3 m c) := by
  unfold V hostOps0 hostOps0_1 hostOps0_2 hostOps0_3 hostOps0_4
  after_results
  rfl
theorem V_v31 : V m c main_v31 = outK (A4 m c) := by
  unfold V hostOps0 hostOps0_1 hostOps0_2 hostOps0_3 hostOps0_4
  after_results
  rfl
theorem V_v21 : V m c main_v21 = gainK (A5 m c) := by
  unfold V hostOps0 hostOps0_1 hostOps0_2 hostOps0_3 hostOps0_4
  after_results
  rfl
theorem V_v24 : V m c main_v24 = gainK (A6 m c) := by
  unfold V hostOps0 hostOps0_1 hostOps0_2 hostOps0_3 hostOps0_4
  after_results
  rfl
theorem V_v8 : V m c main_v8 = highK (routerK (A7 m c) (A9 m c)) := by
  unfold V hostOps0 hostOps0_1 hostOps0_2 hostOps0_3 hostOps0_4
  after_results
  rfl
theorem V_v11 : V m c main_v11 = lowK (routerK (A7 m c) (A9 m c)) := by
  unfold V hostOps0 hostOps0_1 hostOps0_2 hostOps0_3 hostOps0_4
  after_results
  rfl
theorem V_v25 : V m c main_v25 = padBK (joinBK (groupBK (A8 m c)) (expertBK (A10 m c))) := by
  unfold V hostOps0 hostOps0_1 hostOps0_2 hostOps0_3 hostOps0_4
  after_results
  rfl

/-- Where each window's block lies at point `t`. -/
theorem idxIn : ∀ t : Fin cfg0.N, win0_0.index t = ![min t.val 63, 0] ∧ win0_1.index t = ![t.val - 64, 0]
    ∧ win0_2.index t = ![min t.val 63, 0] ∧ win0_3.index t = ![t.val - 64, 0] ∧ (grid0.coords t 0).val = t.val :=
  (by decide +kernel : ∀ t : Fin grid0.N, _)
theorem idxW : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)
theorem idxOut : ∀ t : Fin cfg0.N, win0_10.index t = ![t.val, 0] ∧ win0_11.index t = ![t.val, 0] ∧ win0_12.index t = ![t.val, 0] :=
  (by decide +kernel : ∀ t : Fin grid0.N, _)

theorem lt65 (t : Fin cfg0.N) : t.val < 65 := t.isLt

abbrev at_ (t : Fin cfg0.N) (r : Fin 256) : Fin 16640 := ⟨256 * t.val + r.val, by have := lt65 t; omega⟩

theorem iblk0 (t : Fin cfg0.N) (r : Fin 256) (x : Fin 1024) :
    iblk m c 0 t (ix2 r x) = V m c main_v26 (ix2 ⟨256 * min t.val 63 + r.val, by omega⟩ x) := by
  blk_ext [iblk, idxIn t]
theorem iblk1 (t : Fin cfg0.N) (r : Fin 256) (x : Fin 1024) : iblk m c 1 t (ix2 r x) = V m c main_v27 (ix2 r x) := by
  have := lt65 t
  blk_ext [iblk, idxIn t]
theorem iblk2 (t : Fin cfg0.N) (r : Fin 256) (x : Fin 1024) :
    iblk m c 2 t (ix2 r x) = V m c main_v28 (ix2 ⟨256 * min t.val 63 + r.val, by omega⟩ x) := by
  blk_ext [iblk, idxIn t]
theorem iblk3 (t : Fin cfg0.N) (r : Fin 256) (x : Fin 1024) : iblk m c 3 t (ix2 r x) = V m c main_v29 (ix2 r x) := by
  have := lt65 t
  blk_ext [iblk, idxIn t]
theorem iblk4 (t : Fin cfg0.N) (r : Fin 1024) (x : Fin 1024) : iblk m c 4 t (ix2 r x) = V m c main_v31 (ix2 r x) := by
  blk_ext [iblk, idxW t]
theorem iblk5 (t : Fin cfg0.N) (r : Fin 1) (x : Fin 1024) : iblk m c 5 t (ix2 r x) = V m c main_v21 (ix2 r x) := by
  blk_ext [iblk, idxW t]
theorem iblk6 (t : Fin cfg0.N) (r : Fin 1) (x : Fin 1024) : iblk m c 6 t (ix2 r x) = V m c main_v24 (ix2 r x) := by
  blk_ext [iblk, idxW t]
theorem iblk7 (t : Fin cfg0.N) (r : Fin 1024) (x : Fin 128) : iblk m c 7 t (ix2 r x) = V m c main_v8 (ix2 r x) := by
  blk_ext [iblk, idxW t]
theorem iblk8 (t : Fin cfg0.N) (r : Fin 1024) (x : Fin 128) : iblk m c 8 t (ix2 r x) = V m c main_v11 (ix2 r x) := by
  blk_ext [iblk, idxW t]
theorem iblk9 (t : Fin cfg0.N) (r : Fin 1) (x : Fin 128) : iblk m c 9 t (ix2 r x) = V m c main_v25 (ix2 r x) := by
  blk_ext [iblk, idxW t]

/-- The rows of heads and of input a point works on. -/
theorem heads_eq (t : Fin cfg0.N) (r : Fin 256) (k : Fin 1024) :
    sel (grid0.coords t) (fun r k => iblk m c 0 t (ix2 r k)) (fun r k => iblk m c 1 t (ix2 r k)) r k = heads (A0 m c) (A1 m c) (at_ t r) k := by
  unfold sel heads
  beta_reduce
  rw [(idxIn t).2.2.2.2]
  have h65 := lt65 t
  by_cases h : t.val < 64
  · rw [if_pos h, dif_pos (by show 256 * t.val + r.val < 16384; omega), iblk0, V_v26]
    refine congrArg (fun q => A0 m c (ix2 q k)) (Fin.ext ?_)
    show 256 * min t.val 63 + r.val = 256 * t.val + r.val
    omega
  · rw [if_neg h, dif_neg (by show ¬ 256 * t.val + r.val < 16384; omega), iblk1, V_v27]
    refine congrArg (fun q => A1 m c (ix2 q k)) (Fin.ext ?_)
    show r.val = 256 * t.val + r.val - 16384
    omega
theorem input_eq (t : Fin cfg0.N) (r : Fin 256) (k : Fin 1024) :
    sel (grid0.coords t) (fun r k => iblk m c 2 t (ix2 r k)) (fun r k => iblk m c 3 t (ix2 r k)) r k = input (A2 m c) (A3 m c) (at_ t r) k := by
  unfold sel input
  beta_reduce
  rw [(idxIn t).2.2.2.2]
  have h65 := lt65 t
  by_cases h : t.val < 64
  · rw [if_pos h, dif_pos (by show 256 * t.val + r.val < 16384; omega), iblk2, V_v28, promptK_at]
    refine congrArg (fun q => A2 m c (ix3 0 q k)) (Fin.ext ?_)
    show 256 * min t.val 63 + r.val = 256 * t.val + r.val
    omega
  · rw [if_neg h, dif_neg (by show ¬ 256 * t.val + r.val < 16384; omega), iblk3, V_v29, sampleK_at]
    have e : (⟨r.val / 16, by omega⟩ : Fin 16) = ⟨((at_ t r).val - 16384) / 16, by have := (at_ t r).isLt; omega⟩ :=
      Fin.ext (by show r.val / 16 = (256 * t.val + r.val - 16384) / 16; omega)
    have e' : (⟨r.val % 16, by omega⟩ : Fin 16) = ⟨((at_ t r).val - 16384) % 16, by omega⟩ :=
      Fin.ext (by show r.val % 16 = (256 * t.val + r.val - 16384) % 16; omega)
    rw [e, e']

abbrev hiddenM : Fin 16640 → Fin 1024 → EReal := Cert.Route.hidden (A0 m c) (A1 m c) (A2 m c) (A3 m c) (A4 m c) (A5 m c) (A6 m c)
abbrev choiceM : Fin 16640 → Fin 128 → EReal :=
  choice (A0 m c) (A1 m c) (A2 m c) (A3 m c) (A4 m c) (A5 m c) (A6 m c) (A7 m c) (A8 m c) (A9 m c) (A10 m c)

/-- The row a point normalises is the result's row. -/
theorem row_eq (t : Fin cfg0.N) (r : Fin 256) :
    hiddenF (grid0.coords t) (iblk m c 0 t) (iblk m c 1 t) (iblk m c 2 t) (iblk m c 3 t) (iblk m c 4 t) (iblk m c 5 t) (iblk m c 6 t) r
      = hiddenM m c (at_ t r) := by
  unfold hiddenF hiddenM Cert.Route.hidden
  have e2 : sel (grid0.coords t) (fun r k => iblk m c 2 t (ix2 r k)) (fun r k => iblk m c 3 t (ix2 r k)) r = input (A2 m c) (A3 m c) (at_ t r) :=
    funext fun k => input_eq m c t r k
  have e0 : (fun d : Fin 1024 => ∑ k : Fin 1024, sel (grid0.coords t) (fun r k => iblk m c 0 t (ix2 r k)) (fun r k => iblk m c 1 t (ix2 r k)) r k * iblk m c 4 t (ix2 k d))
      = fun d => ∑ k : Fin 1024, heads (A0 m c) (A1 m c) (at_ t r) k * A4 m c (ix3 0 k d) :=
    funext fun d => Finset.sum_congr rfl fun k _ => by rw [heads_eq, iblk4, V_v31, outK_at]
  have e5 : (fun x : Fin 1024 => iblk m c 5 t (ix2 0 x)) = fun x => A5 m c (ix2 0 x) := funext fun x => by rw [iblk5, V_v21, gainK_at]
  have e6 : (fun x : Fin 1024 => iblk m c 6 t (ix2 0 x)) = fun x => A6 m c (ix2 0 x) := funext fun x => by rw [iblk6, V_v24, gainK_at]
  rw [e2, e0, e5, e6]

/-- The three arrays. -/
theorem final10 : (dats m 0 c).arrAt 10 cfg0.N = rows (hiddenM m c) := by
  refine (dats m 0 c).arrAt_eq_of_covers 10 _ (by decide +kernel) fun t hf y => ?_
  blk_simp
  rw [after0_10]
  obtain ⟨r, d, rfl⟩ : ∃ (r : Fin 256) (d : Fin 1024), y = (ix2 r d : S256x1024.Idx) := ⟨y 0, y 1, eq_ix2 y⟩
  refine (outH _ _ _ _ _ _ _ _ _ _ _ r d).trans ?_
  rw [row_eq]
  refine Eq.trans (b := rows (hiddenM m c) (ix2 (at_ t r) d)) rfl ?_
  generalize rows (hiddenM m c) = G
  refine congrArg G ?_
  blk_ext [idxOut t]
theorem final11 : (dats m 0 c).arrAt 11 cfg0.N = (rows (hiddenM m c) : S16640x1024.Idx → EReal) := by
  refine (dats m 0 c).arrAt_eq_of_covers 11 _ (by decide +kernel) fun t hf y => ?_
  blk_simp
  rw [after0_11]
  obtain ⟨r, d, rfl⟩ : ∃ (r : Fin 256) (d : Fin 1024), y = (ix2 r d : S256x1024.Idx) := ⟨y 0, y 1, eq_ix2 y⟩
  refine (outHb _ _ _ _ _ _ _ _ _ _ _ r d).trans ?_
  rw [row_eq]
  refine Eq.trans (b := rows (hiddenM m c) (ix2 (at_ t r) d)) rfl ?_
  generalize rows (hiddenM m c) = G
  refine congrArg G ?_
  blk_ext [idxOut t]

section
variable (h0 : ∀ i, IsReal (A0 m c i)) (h1 : ∀ i, IsReal (A1 m c i)) (h2 : ∀ i, IsReal (A2 m c i)) (h3 : ∀ i, IsReal (A3 m c i)) (h4 : ∀ i, IsReal (A4 m c i))
  (h5 : ∀ i, IsReal (A5 m c i)) (h6 : ∀ i, IsReal (A6 m c i)) (h7 : ∀ i, IsReal (A7 m c i)) (h8 : ∀ i, IsReal (A8 m c i)) (h9 : ∀ i, IsReal (A9 m c i))
  (h10 : ∀ i, IsReal (A10 m c i))
include h0 h1 h2 h3 h4 h5 h6 h7 h8 h9 h10

theorem final12 : (dats m 0 c).arrAt 12 cfg0.N = lanes (choiceM m c) := by
  refine (dats m 0 c).arrAt_eq_of_covers 12 _ (by decide +kernel) fun t hf y => ?_
  blk_simp
  rw [after0_12]
  obtain ⟨r, l, rfl⟩ : ∃ (r : Fin 256) (l : Fin 128), y = (ix2 r l : S256x128.Idx) := ⟨y 0, y 1, eq_ix2 y⟩
  refine (outRoute _ _ _ _ _ _ _ _ _ _ _ r
    (groups (A0 m c) (A1 m c) (A2 m c) (A3 m c) (A4 m c) (A5 m c) (A6 m c) (A7 m c) (A8 m c) (at_ t r))
    (experts (A0 m c) (A1 m c) (A2 m c) (A3 m c) (A4 m c) (A5 m c) (A6 m c) (A9 m c) (A10 m c) (at_ t r)) ?_ ?_ ?_ ?_ ?_ ?_ l).trans ?_
  · intro x
    rw [row_eq]
    exact hidden_real h0 h1 h2 h3 h4 h5 h6 _ x
  · intro x l
    exact (iblk8 m c t x l).trans (by rw [V_v11]; exact low_zero _ _ h7 h9 x l)
  · intro j
    rw [row_eq]
    have e7 : ∀ x : Fin 1024, iblk m c 7 t (ix2 x (⟨j.val, by omega⟩ : Fin 128)) = A7 m c (ix3 0 x j) :=
      fun x => (iblk7 m c t x _).trans (by rw [V_v8]; exact router_group _ _ x j)
    have e9 : iblk m c 9 t (ix2 0 (⟨j.val, by omega⟩ : Fin 128)) = A8 m c (ix2 0 j) :=
      (iblk9 m c t 0 _).trans (by rw [V_v25]; exact bias_group _ _ j)
    exact congrArg₂ (· + ·) (Finset.sum_congr rfl fun x _ => congrArg _ (e7 x)) e9
  · intro q j
    rw [row_eq]
    have e7 : ∀ x : Fin 1024, iblk m c 7 t (ix2 x (⟨4 + 8 * q.val + j.val, by omega⟩ : Fin 128)) = A9 m c (ix4 0 q x j) :=
      fun x => (iblk7 m c t x _).trans (by rw [V_v8]; exact router_expert _ _ x q j)
    have e9 : iblk m c 9 t (ix2 0 (⟨4 + 8 * q.val + j.val, by omega⟩ : Fin 128)) = A10 m c (ix3 0 q j) :=
      (iblk9 m c t 0 _).trans (by rw [V_v25]; exact bias_expert _ _ q j)
    exact congrArg₂ (· + ·) (Finset.sum_congr rfl fun x _ => congrArg _ (e7 x)) e9
  · exact fun j => (groups_real h0 h1 h2 h3 h4 h5 h6 h7 h8 _ j).ne_bot
  · exact fun q j => (experts_real h0 h1 h2 h3 h4 h5 h6 h9 h10 _ q j).ne_bot
  refine Eq.trans (b := lanes (choiceM m c) (ix2 (at_ t r) l)) rfl ?_
  generalize lanes (choiceM m c) = G
  refine congrArg G ?_
  blk_ext [idxOut t]
end

end Cert.Kernel6Ideal.Route

end
-- ==== Proof.RouteShare.lean ====
/-
  The reference's shares: a softmax keeps the order of its scores, so the entries chosen by share are those chosen by score, and the
  shares of the chosen ones are the weights.
-/
module

public import proofs.«01_k».proof.Proof.RouteTerms

@[expose] public section

noncomputable section

namespace Cert.Route

open Idealize.ShloMosaic

/-- The softmax of a list, as the reference takes it. -/
def share {n : Nat} (f : Fin n → EReal) (j : Fin n) : EReal :=
  Ideal.div (Ideal.exp (f j - max ⊥ (Finset.univ.fold max ⊥ f))) (∑ i, Ideal.exp (f i - max ⊥ (Finset.univ.fold max ⊥ f)))

section
variable {n : Nat} (f : Fin (n + 1) → EReal) (hf : ∀ j, IsReal (f j))

/-- The sum of the exponentials of a list of real numbers less its greatest. -/
def total (f : Fin (n + 1) → EReal) : ℝ := ∑ i, Real.exp ((f i).toReal - (f (top f)).toReal)

theorem total_pos : 0 < total f := Finset.sum_pos (fun i _ => Real.exp_pos _) Finset.univ_nonempty

include hf in
theorem exp_sub (i k : Fin (n + 1)) : Ideal.exp (f i - f k) = ((Real.exp ((f i).toReal - (f k).toReal) : ℝ) : EReal) := by
  obtain ⟨a, ha⟩ := hf i
  obtain ⟨b, hb⟩ := hf k
  rw [ha, hb, ← EReal.coe_sub, Ideal.exp_coe, EReal.toReal_coe, EReal.toReal_coe]

include hf in
theorem sum_exp : (∑ i, Ideal.exp (f i - f (top f))) = (total f : EReal) := by
  unfold total
  rw [Cert.Softmax.coe_sum]
  exact Finset.sum_congr rfl fun i _ => exp_sub f hf i _

include hf in
theorem share_eq (j : Fin (n + 1)) : share f j = ((Real.exp ((f j).toReal - (f (top f)).toReal) / total f : ℝ) : EReal) := by
  unfold share
  rw [fold_max_eq f (top f) (top_spec f).1, max_eq_right bot_le, sum_exp f hf, exp_sub f hf, Ideal.div_coe (total_pos f).ne', ← EReal.coe_mul,
    mul_one_div]

include hf in
theorem share_le (a b : Fin (n + 1)) : share f a ≤ share f b ↔ f a ≤ f b := by
  rw [share_eq f hf, share_eq f hf, EReal.coe_le_coe_iff, div_le_div_iff_of_pos_right (total_pos f), Real.exp_le_exp, sub_le_sub_iff_right]
  obtain ⟨r, hr⟩ := hf a
  obtain ⟨s, hs⟩ := hf b
  rw [hr, hs, EReal.toReal_coe, EReal.toReal_coe, EReal.coe_le_coe_iff]

include hf in
theorem share_inj (a b : Fin (n + 1)) : share f a = share f b ↔ f a = f b := by
  rw [le_antisymm_iff, le_antisymm_iff, share_le f hf, share_le f hf]

include hf in
theorem share_real (j : Fin (n + 1)) : IsReal (share f j) := ⟨_, share_eq f hf j⟩

include hf in
theorem top_share : top (share f) = top f :=
  top_eq ⟨fun j => (share_le f hf _ _).mpr ((top_spec f).1 j), fun j hj => (top_spec f).2 j ((share_inj f hf _ _).mp hj)⟩

include hf in
theorem share_top : share f (top f) = Ideal.div 1 (∑ j, Ideal.exp (f j - f (top f))) := by
  rw [share_eq f hf, sum_exp f hf, Ideal.div_coe (total_pos f).ne', sub_self, Real.exp_zero, one_mul]

include hf in
theorem fold_share : Finset.univ.fold max ⊥ (share f) = share f (top f) :=
  fold_max_eq _ _ fun j => (share_le f hf _ _).mpr ((top_spec f).1 j)
end

section
variable {n : Nat} (f : Fin (n + 2) → EReal) (hf : ∀ j, IsReal (f j))
include hf

theorem second_share : top (without (share f) (top f)) = top (without f (top f)) := by
  have hb : ∀ j, f j ≠ ⊥ := fun j => (hf j).ne_bot
  have hs := top_spec (without f (top f))
  have hne := snd_ne f hb
  have hval := without_snd f hb
  generalize top (without f (top f)) = s at hs hne hval
  have hv : without (share f) (top f) s = share f s := if_neg hne
  refine top_eq ⟨fun j => ?_, fun j hj => ?_⟩
  · rw [hv]
    by_cases hj : j = top f
    · rw [without, if_pos hj]; exact bot_le
    · rw [without, if_neg hj]
      refine (share_le f hf _ _).mpr ?_
      have := hs.1 j
      rwa [hval, without, if_neg hj] at this
  · rw [hv] at hj
    by_cases hj' : j = top f
    · rw [without, if_pos hj'] at hj
      exact absurd hj.symm (share_real f hf s).ne_bot
    · rw [without, if_neg hj'] at hj
      refine hs.2 j ?_
      rw [hval, without, if_neg hj']
      exact (share_inj f hf _ _).mp hj

/-- The two greatest shares, divided by their sum. -/
theorem share_pair (s : Fin (n + 2)) :
    Ideal.div (share f (top f)) (share f (top f) + share f s) = Ideal.div 1 (1 + Ideal.exp (f s - f (top f)))
      ∧ Ideal.div (share f s) (share f (top f) + share f s) = Ideal.div (Ideal.exp (f s - f (top f))) (1 + Ideal.exp (f s - f (top f))) := by
  rw [share_eq f hf, share_eq f hf, exp_sub f hf, sub_self, Real.exp_zero, ← EReal.coe_add, show (1 : EReal) = ((1 : ℝ) : EReal) from rfl, ← EReal.coe_add]
  have hS := total_pos f
  have hr := Real.exp_pos ((f s).toReal - (f (top f)).toReal)
  generalize total f = S at hS
  generalize Real.exp ((f s).toReal - (f (top f)).toReal) = r at hr
  have h1 : 1 / S + r / S ≠ 0 := by positivity
  have h2 : 1 + r ≠ 0 := by positivity
  rw [Ideal.div_coe h1, Ideal.div_coe h1, Ideal.div_coe h2, Ideal.div_coe h2, ← EReal.coe_mul, ← EReal.coe_mul, ← EReal.coe_mul, ← EReal.coe_mul,
    EReal.coe_eq_coe_iff, EReal.coe_eq_coe_iff]
  constructor
  · field_simp
  · field_simp
end

end Cert.Route

end
-- ==== Proof.RouteRef.lean ====
/-
  The reference's three results at an entry: the normalised row, and the row of choices.
-/
module

public import proofs.«01_k».proof.Proof.RouteShare
public import proofs.«01_k».proof.Proof.Gen.Reference6Ideal
public import proofs.«01_k».proof.Proof.Gen.Reference6Ideal.Run
public import Idealize.ShloMosaic.Lib.Pointwise
public import Idealize.ShloMosaic.Lib.ReduceAll

@[expose] public section

set_option maxRecDepth 16384

noncomputable section

namespace Cert.Reference6Ideal.Route

open Idealize.ShloMosaic Idealize.ShloMosaic.TcCoe Idealize.SL.Sem
open Cert.Reference6Ideal Cert.Reference6Ideal.Gen
open Cert.Ple (resid rows)
open Cert.Route

abbrev Big : Type := FVec Ideal S16640x1024 .f32

/-- A number for every row, from a sum over the row: its mean. -/
def meanT (v : Big) : FVec Ideal S16640x1 .f32 :=
  Host.divf (broadcastInDim S16640x1 ![0] bcast_S16640_S16640x1_0 (Host.reduceAdd v (constant S_ .f32 0x00000000#32) reducesTo_S16640x1024_S16640_d1 h_S_))
    (broadcastInDim S16640x1 ![] bcast_S_S16640x1 (constant S_ .f32 0x44800000#32))
/-- The entries less their row's mean. -/
def centred (v : Big) : Big := subf v (broadcastInDim S16640x1024 ![0, 1] bcast_S16640x1_S16640x1024_0_1 (meanT v))
def gain (g : FVec Ideal S2x1024 .f32) : Big :=
  broadcastInDim S16640x1024 ![0, 1] bcast_S1x1024_S16640x1024_0_1 (broadcastInDim S1x1024 ![1] bcast_S1024_S1x1024_1
    (shapeCast S1024 (extractStridedSlice S1x1024 ![0, 0] g slices_S2x1024_S1x1024_0_0) shapeCasts_S1x1024_S1024))
def normT (v : Big) (g b : FVec Ideal S2x1024 .f32) : Big :=
  addf (mulf (mulf (centred v) (broadcastInDim S16640x1024 ![0, 1] bcast_S16640x1_S16640x1024_0_1
    (Host.rsqrt (addf (meanT (mulf (centred v) (centred v))) (broadcastInDim S16640x1 ![] bcast_S_S16640x1 (constant S_ .f32 0x3727C5AC#32)))))) (gain g)) (gain b)
def residT (h y : Big) : Big := addf (mulf (broadcastInDim S16640x1024 ![] bcast_S_S16640x1024 (constant S_ .f32 0x3FB504F3#32)) h) y
def joined (a : FVec Ideal S16384x1024 .f32) (b : FVec Ideal S256x1024 .f32) : Big :=
  concatenate S16640x1024 0 [⟨S16384x1024, a⟩, ⟨S256x1024, b⟩] concatenates_S16384x1024_S256x1024_S16640x1024_d0
def promptT (x : FVec Ideal S1x16384x1024 .f32) : FVec Ideal S16384x1024 .f32 := shapeCast S16384x1024 x shapeCasts_S1x16384x1024_S16384x1024
def sampleT (x : FVec Ideal S16x16x1024 .f32) : FVec Ideal S256x1024 .f32 := shapeCast S256x1024 x shapeCasts_S16x16x1024_S256x1024
def outT (o : Big) (w : FVec Ideal S1x1024x1024 .f32) : Big :=
  Host.dotGeneral dot_S16640x1024_S1024x1024_S16640x1024_1_0_0_1_n_n none o (shapeCast S1024x1024 w shapeCasts_S1x1024x1024_S1024x1024)
/-- The groups' scores, and the experts' scores of every group. -/
def groupT (h : Big) (w : FVec Ideal S2x1024x4 .f32) (b : FVec Ideal S2x4 .f32) : FVec Ideal S16640x4 .f32 :=
  addf (Host.dotGeneral dot_S16640x1024_S1024x4_S16640x4_1_0_0_1_n_n none h
      (shapeCast S1024x4 (extractStridedSlice S1x1024x4 ![0, 0, 0] w slices_S2x1024x4_S1x1024x4_0_0_0) shapeCasts_S1x1024x4_S1024x4))
    (broadcastInDim S16640x4 ![0, 1] bcast_S1x4_S16640x4_0_1 (broadcastInDim S1x4 ![1] bcast_S4_S1x4_1
      (shapeCast S4 (extractStridedSlice S1x4 ![0, 0] b slices_S2x4_S1x4_0_0) shapeCasts_S1x4_S4)))
def expertT (h : Big) (w : FVec Ideal S2x4x1024x8 .f32) (b : FVec Ideal S2x4x8 .f32) : FVec Ideal S16640x4x8 .f32 :=
  addf (Host.dotGeneral dot_S16640x1024_S4x1024x8_S16640x4x8_1_1_0_02_n_n none h
      (shapeCast S4x1024x8 (extractStridedSlice S1x4x1024x8 ![0, 0, 0, 0] w slices_S2x4x1024x8_S1x4x1024x8_0_0_0_0) shapeCasts_S1x4x1024x8_S4x1024x8))
    (broadcastInDim S16640x4x8 ![0, 1, 2] bcast_S1x4x8_S16640x4x8_0_1_2 (broadcastInDim S1x4x8 ![1, 2] bcast_S4x8_S1x4x8_1_2
      (shapeCast S4x8 (extractStridedSlice S1x4x8 ![0, 0, 0] b slices_S2x4x8_S1x4x8_0_0_0) shapeCasts_S1x4x8_S4x8)))
/-- The softmax over the groups. -/
def tops4 (s : FVec Ideal S16640x4 .f32) : FVec Ideal S16640 .f32 :=
  Host.reduce FloatOps.maximumf s (constant S_ .f32 0xFF800000#32) reducesTo_S16640x4_S16640_d1 h_S_
def expo4 (s : FVec Ideal S16640x4 .f32) (t : FVec Ideal S16640 .f32) : FVec Ideal S16640x4 .f32 :=
  Host.exp (subf s (broadcastInDim S16640x4 ![0, 1] bcast_S16640x1_S16640x4_0_1 (broadcastInDim S16640x1 ![0] bcast_S16640_S16640x1_0
    (maximumf (broadcastInDim S16640 ![] bcast_S_S16640 (constant S_ .f32 0xFF800000#32)) t))))
def shares4 (e : FVec Ideal S16640x4 .f32) : FVec Ideal S16640x4 .f32 :=
  Host.divf e (broadcastInDim S16640x4 ![0, 1] bcast_S16640x1_S16640x4_0_1 (broadcastInDim S16640x1 ![0] bcast_S16640_S16640x1_0
    (Host.reduceAdd e (constant S_ .f32 0x00000000#32) reducesTo_S16640x4_S16640_d1 h_S_)))
/-- The softmax over a group's experts. -/
def tops8 (s : FVec Ideal S16640x8 .f32) : FVec Ideal S16640 .f32 :=
  Host.reduce FloatOps.maximumf s (constant S_ .f32 0xFF800000#32) reducesTo_S16640x8_S16640_d1 h_S_
def expo8 (s : FVec Ideal S16640x8 .f32) (t : FVec Ideal S16640 .f32) : FVec Ideal S16640x8 .f32 :=
  Host.exp (subf s (broadcastInDim S16640x8 ![0, 1] bcast_S16640x1_S16640x8_0_1 (broadcastInDim S16640x1 ![0] bcast_S16640_S16640x1_0
    (maximumf (broadcastInDim S16640 ![] bcast_S_S16640 (constant S_ .f32 0xFF800000#32)) t))))
def shares8 (e : FVec Ideal S16640x8 .f32) : FVec Ideal S16640x8 .f32 :=
  Host.divf e (broadcastInDim S16640x8 ![0, 1] bcast_S16640x1_S16640x8_0_1 (broadcastInDim S16640x1 ![0] bcast_S16640_S16640x1_0
    (Host.reduceAdd e (constant S_ .f32 0x00000000#32) reducesTo_S16640x8_S16640_d1 h_S_)))
/-- The group chosen. -/
def first4 (s : FVec Ideal S16640x4 .f32) : IVec S16640x1 32 := (Host.topK S16640x1 1 (FloatOps.cmpfTotal .gt) s sliceFits_S16640x4_S16640x1).2
def groupOf (s : FVec Ideal S16640x4 .f32) : IVec S16640 32 := shapeCast S16640 (first4 s) shapeCasts_S16640x1_S16640
/-- The group's number as the place to read, and whether it is one. -/
def placeT (g : IVec S16640 32) : IVec S16640x1x1 32 := broadcastInDim S16640x1x1 ![0] bcast_S16640_S16640x1x1_0 g
def wrapT (p : IVec S16640x1x1 32) : IVec S16640x1x1 32 :=
  select (cmpi .slt p (broadcastInDim S16640x1x1 ![] bcast_S_S16640x1x1 (constantI S_ 32 0#32)))
    (addi p (broadcastInDim S16640x1x1 ![] bcast_S_S16640x1x1 (constantI S_ 32 4#32))) p
def inT (p : IVec S16640x1x1 32) : IVec S16640x1x1 1 :=
  andi (cmpi .sge p (broadcastInDim S16640x1x1 ![] bcast_S_S16640x1x1 (constantI S_ 32 0#32)))
    (cmpi .sle p (broadcastInDim S16640x1x1 ![0, 1, 2] bcast_S1x1x1_S16640x1x1_0_1_2 (broadcastInDim S1x1x1 ![2] bcast_S1_S1x1x1_2 (constantI S1 32 3#32))))
def okT (b : IVec S16640x1x1 1) : IVec S16640x1 1 := Host.reduce IntOp.andi b (constantI S_ 1 1#1) reducesTo_S16640x1x1_S16640x1_d2 h_S_
def readT (x : FVec Ideal S16640x4x8 .f32) (p : IVec S16640x1x1 32) : FVec Ideal S16640x1x8 .f32 :=
  Host.gather gather_S16640x4x8_S16640x1x1_S16640x1x8_2_1_0_0_1_2_118 x p
def keepT (b : IVec S16640x1 1) (x : FVec Ideal S16640x1x8 .f32) : FVec Ideal S16640x8 .f32 :=
  shapeCast S16640x8 (select (broadcastInDim S16640x1x8 ![0, 1] bcast_S16640x1_S16640x1x8_0_1 b) x
    (broadcastInDim S16640x1x8 ![] bcast_S_S16640x1x8 (constant S_ .f32 0x7FC00000#32))) shapeCasts_S16640x1x8_S16640x8
def takenT (x : FVec Ideal S16640x4x8 .f32) (g : IVec S16640 32) : FVec Ideal S16640x8 .f32 :=
  keepT (okT (inT (wrapT (placeT g)))) (readT x (wrapT (placeT g)))
/-- The two experts chosen, and their shares. -/
def values8 (s : FVec Ideal S16640x8 .f32) : FVec Ideal S16640x2 .f32 := (Host.topK S16640x2 1 (FloatOps.cmpfTotal .gt) s sliceFits_S16640x8_S16640x2).1
def words8 (s : FVec Ideal S16640x8 .f32) : IVec S16640x2 32 := (Host.topK S16640x2 1 (FloatOps.cmpfTotal .gt) s sliceFits_S16640x8_S16640x2).2
def numbersT (g : IVec S16640 32) (w : IVec S16640x2 32) : FVec Ideal S16640x2 .f32 :=
  sitofp .f32 (addi (broadcastInDim S16640x2 ![0, 1] bcast_S16640x1_S16640x2_0_1 (muli (broadcastInDim S16640x1 ![] bcast_S_S16640x1 (constantI S_ 32 8#32))
    (broadcastInDim S16640x1 ![0] bcast_S16640_S16640x1_0 g))) w)
def weightsT (s : FVec Ideal S16640x4 .f32) (v : FVec Ideal S16640x2 .f32) : FVec Ideal S16640x2 .f32 :=
  mulf (broadcastInDim S16640x2 ![0, 1] bcast_S16640x1_S16640x2_0_1 (broadcastInDim S16640x1 ![0] bcast_S16640_S16640x1_0 (tops4 s)))
    (Host.divf v (broadcastInDim S16640x2 ![0, 1] bcast_S16640x1_S16640x2_0_1 (broadcastInDim S16640x1 ![0] bcast_S16640_S16640x1_0
      (Host.reduceAdd v (constant S_ .f32 0x00000000#32) reducesTo_S16640x2_S16640_d1 h_S_))))
def joinT (a b : FVec Ideal S16640x2 .f32) : FVec Ideal S16640x128 .f32 :=
  concatenate S16640x128 1 [⟨S16640x2, a⟩, ⟨S16640x2, b⟩, ⟨S16640x124, (broadcastInDim S16640x124 ![] bcast_S_S16640x124 (constant S_ .f32 0x00000000#32) : FVec Ideal S16640x124 .f32)⟩]
    concatenates_S16640x2_S16640x2_S16640x124_S16640x128_d1
def softmax4 (s : FVec Ideal S16640x4 .f32) : FVec Ideal S16640x4 .f32 := shares4 (expo4 s (tops4 s))
def softmax8 (s : FVec Ideal S16640x8 .f32) : FVec Ideal S16640x8 .f32 := shares8 (expo8 s (tops8 s))
def routeT (l : FVec Ideal S16640x4 .f32) (x : FVec Ideal S16640x4x8 .f32) : FVec Ideal S16640x128 .f32 :=
  joinT (numbersT (groupOf l) (words8 (softmax8 (takenT x (groupOf l))))) (weightsT (softmax4 l) (values8 (softmax8 (takenT x (groupOf l)))))

section
variable (m : (ℓ : Loc nD τ sig) → Buf (Elt Ideal) ℓ) (c : Dev nD)
abbrev B0 : FVec Ideal S16384x1024 .f32 := m ((c : Thread nD τ).loc main_arg0)
abbrev B1 : FVec Ideal S256x1024 .f32 := m ((c : Thread nD τ).loc main_arg1)
abbrev B2 : FVec Ideal S1x16384x1024 .f32 := m ((c : Thread nD τ).loc main_arg2)
abbrev B3 : FVec Ideal S16x16x1024 .f32 := m ((c : Thread nD τ).loc main_arg3)
abbrev B4 : FVec Ideal S1x1024x1024 .f32 := m ((c : Thread nD τ).loc main_arg4)
abbrev B5 : FVec Ideal S2x1024 .f32 := m ((c : Thread nD τ).loc main_arg5)
abbrev B6 : FVec Ideal S2x1024 .f32 := m ((c : Thread nD τ).loc main_arg6)
abbrev B7 : FVec Ideal S2x1024x4 .f32 := m ((c : Thread nD τ).loc main_arg7)
abbrev B8 : FVec Ideal S2x4 .f32 := m ((c : Thread nD τ).loc main_arg8)
abbrev B9 : FVec Ideal S2x4x1024x8 .f32 := m ((c : Thread nD τ).loc main_arg9)
abbrev B10 : FVec Ideal S2x4x8 .f32 := m ((c : Thread nD τ).loc main_arg10)

/-- The normalised rows as a term. -/
def hiddenT : Big :=
  normT (residT (joined (promptT (B2 m c)) (sampleT (B3 m c))) (outT (joined (B0 m c) (B1 m c)) (B4 m c))) (B5 m c) (B6 m c)

theorem out0_eq : Value.res_main_v36 (F := Ideal) (StableHlo.launchContents m c) = hiddenT m c := rfl
/-- The second result as a term, and the third. -/
theorem out1_eq : (truncf .bf16 (Value.res_main_v36 (F := Ideal) (StableHlo.launchContents m c)) bitsLt_bf16_f32 : FVec Ideal S16640x1024 .bf16)
    = truncf .bf16 (hiddenT m c) bitsLt_bf16_f32 := rfl
theorem out2_eq : (concatenate S16640x128 1 [⟨S16640x2, ((sitofp (F := Ideal) .f32 (addi (broadcastInDim S16640x2 ![0, 1] bcast_S16640x1_S16640x2_0_1 (muli (broadcastInDim S16640x1 ![] bcast_S_S16640x1 (constantI S_ 32 8#32)) (broadcastInDim S16640x1 ![0] bcast_S16640_S16640x1_0 (Value.res_main_v49 (F := Ideal) (StableHlo.launchContents m c))))) ((Host.topK S16640x2 1 (FloatOps.cmpfTotal (F := Ideal) (φ := .f32) .gt) (Value.res_main_v79 (F := Ideal) (StableHlo.launchContents m c)) sliceFits_S16640x8_S16640x2).2))) : (⟨S16640x2, .f32⟩ : BufTy).Contents (Elt Ideal))⟩, ⟨S16640x2, ((mulf (broadcastInDim S16640x2 ![0, 1] bcast_S16640x1_S16640x2_0_1 (broadcastInDim S16640x1 ![0] bcast_S16640_S16640x1_0 (Host.reduce (FloatOps.maximumf (F := Ideal) (φ := .f32)) (Host.divf (Value.res_main_v56 (F := Ideal) (StableHlo.launchContents m c)) (broadcastInDim S16640x4 ![0, 1] bcast_S16640x1_S16640x4_0_1 (broadcastInDim S16640x1 ![0] bcast_S16640_S16640x1_0 (Host.reduceAdd (Value.res_main_v56 (F := Ideal) (StableHlo.launchContents m c)) (constant (F := Ideal) S_ .f32 0x00000000#32) reducesTo_S16640x4_S16640_d1 h_S_)))) (constant (F := Ideal) S_ .f32 0xFF800000#32) reducesTo_S16640x4_S16640_d1 h_S_))) (Host.divf (Value.res_main_values_12 (F := Ideal) (StableHlo.launchContents m c)) (broadcastInDim S16640x2 ![0, 1] bcast_S16640x1_S16640x2_0_1 (broadcastInDim S16640x1 ![0] bcast_S16640_S16640x1_0 (Host.reduceAdd (Value.res_main_values_12 (F := Ideal) (StableHlo.launchContents m c)) (constant (F := Ideal) S_ .f32 0x00000000#32) reducesTo_S16640x2_S16640_d1 h_S_))))) : (⟨S16640x2, .f32⟩ : BufTy).Contents (Elt Ideal))⟩, ⟨S16640x124, ((broadcastInDim S16640x124 ![] bcast_S_S16640x124 (constant (F := Ideal) S_ .f32 0x00000000#32)) : (⟨S16640x124, .f32⟩ : BufTy).Contents (Elt Ideal))⟩] concatenates_S16640x2_S16640x2_S16640x124_S16640x128_d1 : (⟨S16640x128, .f32⟩ : BufTy).Contents (Elt Ideal))
    = routeT (groupT (hiddenT m c) (B7 m c) (B8 m c)) (expertT (hiddenT m c) (B9 m c) (B10 m c)) := rfl
end

section
variable (R : Fin 16640) (D : Fin 1024)

theorem meanT_at (v : Big) : meanT v (ix2 R 0) = Cert.Ple.mean fun x => v (ix2 R x) := by
  pointwise [meanT]
  rfl
theorem centred_at (v : Big) : centred v (ix2 R D) = v (ix2 R D) - Cert.Ple.mean fun x => v (ix2 R x) := by
  rw [← meanT_at]
  unfold centred
  generalize meanT v = w
  pointwise
theorem gain_at (g : FVec Ideal S2x1024 .f32) : gain g (ix2 R D) = g (ix2 0 D) := by
  pointwise [gain]
theorem normT_at (v : Big) (g b : FVec Ideal S2x1024 .f32) :
    normT v g b (ix2 R D) = Cert.Ple.norm (fun x => v (ix2 R x)) (fun d => g (ix2 0 d)) (fun d => b (ix2 0 d)) D := by
  have e : meanT (mulf (centred v) (centred v)) (ix2 R 0) = Cert.Ple.mean fun i => (v (ix2 R i) - Cert.Ple.mean fun x => v (ix2 R x)) * (v (ix2 R i) - Cert.Ple.mean fun x => v (ix2 R x)) := by
    rw [meanT_at]
    refine congrArg Cert.Ple.mean (funext fun x => ?_)
    show centred v (ix2 R x) * centred v (ix2 R x) = _
    rw [centred_at]
  unfold Cert.Ple.norm
  rw [← e, ← centred_at]
  beta_reduce
  rw [← gain_at R D g, ← gain_at R D b]
  unfold normT
  generalize meanT (mulf (centred v) (centred v)) = w
  generalize centred v = u
  generalize gain g = s
  generalize gain b = t
  pointwise
theorem residT_at (h y : Big) : residT h y (ix2 R D) = resid (fun x => h (ix2 R x)) (fun x => y (ix2 R x)) D := by
  pointwise [residT]
  rfl
theorem promptT_at (x : FVec Ideal S1x16384x1024 .f32) (r : Fin 16384) (k : Fin 1024) : promptT x (ix2 r k) = x (ix3 0 r k) := by
  pointwise [promptT]
theorem sampleT_at (x : FVec Ideal S16x16x1024 .f32) (r : Fin 256) (k : Fin 1024) :
    sampleT x (ix2 r k) = x (ix3 ⟨r.val / 16, by omega⟩ ⟨r.val % 16, by omega⟩ k) := by
  pointwise [sampleT]
theorem joined_at (a : FVec Ideal S16384x1024 .f32) (b : FVec Ideal S256x1024 .f32) (k : Fin 1024) :
    joined a b (ix2 R k) = if h : R.val < 16384 then a (ix2 ⟨R.val, h⟩ k) else b (ix2 ⟨R.val - 16384, by omega⟩ k) := by
  pointwise [joined]
theorem outT_at (o : Big) (w : FVec Ideal S1x1024x1024 .f32) : outT o w (ix2 R D) = ∑ k : Fin 1024, o (ix2 R k) * w (ix3 0 k D) := by
  pointwise [outT]
theorem groupT_at (h : Big) (w : FVec Ideal S2x1024x4 .f32) (b : FVec Ideal S2x4 .f32) (j : Fin 4) :
    groupT h w b (ix2 R j) = (∑ x : Fin 1024, h (ix2 R x) * w (ix3 0 x j)) + b (ix2 0 j) := by
  pointwise [groupT]
theorem expertT_at (h : Big) (w : FVec Ideal S2x4x1024x8 .f32) (b : FVec Ideal S2x4x8 .f32) (q : Fin 4) (j : Fin 8) :
    expertT h w b (ix3 R q j) = (∑ x : Fin 1024, h (ix2 R x) * w (ix4 0 q x j)) + b (ix3 0 q j) := by
  pointwise [expertT]

theorem litNinf : Ideal.ofBits .f32 0xFF800000#32 = (⊥ : EReal) := by simp [Ideal.ofBits, Ideal.ieee]

theorem tops4_at (s : FVec Ideal S16640x4 .f32) : tops4 s (ix1 R) = Finset.univ.fold max ⊥ (fun x : Fin 4 => s (ix2 R x)) := by
  have hr : S16640x4.Reduces [1] S16640 := by decide
  have hl : ∀ x : Fin 4, hr.lift (ix1 R) x = ix2 R x := by
    intro x
    refine funext fun d => ?_
    fin_cases d <;> rfl
  unfold tops4
  rw [Host.reduce_eq_fold_single _ _ _ _ hr]
  rw [show (s ∘ hr.lift (ix1 R)) = (fun x : Fin 4 => s (ix2 R x)) from funext fun x => congrArg s (hl x)]
  exact congrArg (fun z => Finset.univ.fold max z fun x : Fin 4 => s (ix2 R x)) litNinf
theorem expo4_at (s : FVec Ideal S16640x4 .f32) (t : FVec Ideal S16640 .f32) (j : Fin 4) :
    expo4 s t (ix2 R j) = Ideal.exp (s (ix2 R j) - max ⊥ (t (ix1 R))) := by
  pointwise [expo4]
  rw [litNinf]
theorem shares4_at (e : FVec Ideal S16640x4 .f32) (j : Fin 4) : shares4 e (ix2 R j) = Ideal.div (e (ix2 R j)) (∑ x, e (ix2 R x)) := by
  pointwise [shares4]
theorem softmax4_at (s : FVec Ideal S16640x4 .f32) (j : Fin 4) : softmax4 s (ix2 R j) = share (fun j => s (ix2 R j)) j := by
  unfold softmax4 share
  rw [shares4_at]
  simp only [expo4_at, tops4_at]
theorem tops8_at (s : FVec Ideal S16640x8 .f32) : tops8 s (ix1 R) = Finset.univ.fold max ⊥ (fun x : Fin 8 => s (ix2 R x)) := by
  have hr : S16640x8.Reduces [1] S16640 := by decide
  have hl : ∀ x : Fin 8, hr.lift (ix1 R) x = ix2 R x := by
    intro x
    refine funext fun d => ?_
    fin_cases d <;> rfl
  unfold tops8
  rw [Host.reduce_eq_fold_single _ _ _ _ hr]
  rw [show (s ∘ hr.lift (ix1 R)) = (fun x : Fin 8 => s (ix2 R x)) from funext fun x => congrArg s (hl x)]
  exact congrArg (fun z => Finset.univ.fold max z fun x : Fin 8 => s (ix2 R x)) litNinf
theorem expo8_at (s : FVec Ideal S16640x8 .f32) (t : FVec Ideal S16640 .f32) (j : Fin 8) :
    expo8 s t (ix2 R j) = Ideal.exp (s (ix2 R j) - max ⊥ (t (ix1 R))) := by
  pointwise [expo8]
  rw [litNinf]
theorem shares8_at (e : FVec Ideal S16640x8 .f32) (j : Fin 8) : shares8 e (ix2 R j) = Ideal.div (e (ix2 R j)) (∑ x, e (ix2 R x)) := by
  pointwise [shares8]
theorem softmax8_at (s : FVec Ideal S16640x8 .f32) (j : Fin 8) : softmax8 s (ix2 R j) = share (fun j => s (ix2 R j)) j := by
  unfold softmax8 share
  rw [shares8_at]
  simp only [expo8_at, tops8_at]

/-- The places in the order of their entries, the greatest first. -/
def order4 (s : FVec Ideal S16640x4 .f32) : IVec S16640x4 32 :=
  (Host.sort2 S16640x4 1 (fun l r : Ideal .f32 × BitVec 32 => FloatOps.cmpfTotal .gt l.1 r.1) s (iotaInDim S16640x4 32 1)).2
def order8 (s : FVec Ideal S16640x8 .f32) : IVec S16640x8 32 :=
  (Host.sort2 S16640x8 1 (fun l r : Ideal .f32 × BitVec 32 => FloatOps.cmpfTotal .gt l.1 r.1) s (iotaInDim S16640x8 32 1)).2
def sorted8 (s : FVec Ideal S16640x8 .f32) : FVec Ideal S16640x8 .f32 :=
  (Host.sort2 S16640x8 1 (fun l r : Ideal .f32 × BitVec 32 => FloatOps.cmpfTotal .gt l.1 r.1) s (iotaInDim S16640x8 32 1)).1
theorem along4 (i k : Fin 4) : Shape.Idx.along (s := S16640x4) (ix2 R i) 1 k = (ix2 R k : S16640x4.Idx) := by
  refine funext fun d => ?_
  fin_cases d <;> rfl
theorem along8 (i k : Fin 8) : Shape.Idx.along (s := S16640x8) (ix2 R i) 1 k = (ix2 R k : S16640x8.Idx) := by
  refine funext fun d => ?_
  fin_cases d <;> rfl
theorem order4_at (s : FVec Ideal S16640x4 .f32) (k : Fin 4) :
    order4 s (ix2 R k) = BitVec.ofNat 32 (sortedFrom (above fun j : Fin 4 => s (ix2 R j)) k).val := by
  have h : (fun j : Fin 4 => s (Shape.Idx.along (s := S16640x4) (ix2 R k) 1 j)) = fun j => s (ix2 R j) := funext fun j => congrArg s (along4 R k j)
  rw [← h]
  rfl
theorem order8_at (s : FVec Ideal S16640x8 .f32) (k : Fin 8) :
    order8 s (ix2 R k) = BitVec.ofNat 32 (sortedFrom (above fun j : Fin 8 => s (ix2 R j)) k).val := by
  have h : (fun j : Fin 8 => s (Shape.Idx.along (s := S16640x8) (ix2 R k) 1 j)) = fun j => s (ix2 R j) := funext fun j => congrArg s (along8 R k j)
  rw [← h]
  rfl
theorem sorted8_at (s : FVec Ideal S16640x8 .f32) (k : Fin 8) :
    sorted8 s (ix2 R k) = s (ix2 R (sortedFrom (above fun j : Fin 8 => s (ix2 R j)) k)) := by
  have h : (fun j : Fin 8 => s (Shape.Idx.along (s := S16640x8) (ix2 R k) 1 j)) = fun j => s (ix2 R j) := funext fun j => congrArg s (along8 R k j)
  rw [← h]
  exact congrArg s (along8 R k (sortedFrom (above fun j : Fin 8 => s (Shape.Idx.along (s := S16640x8) (ix2 R k) 1 j)) k))
theorem first4_cut (s : FVec Ideal S16640x4 .f32) : first4 s = extractStridedSlice S16640x1 (fun _ => 0) (order4 s) sliceFits_S16640x4_S16640x1 := rfl
theorem words8_cut (s : FVec Ideal S16640x8 .f32) : words8 s = extractStridedSlice S16640x2 (fun _ => 0) (order8 s) sliceFits_S16640x8_S16640x2 := rfl
theorem values8_cut (s : FVec Ideal S16640x8 .f32) : values8 s = extractStridedSlice S16640x2 (fun _ => 0) (sorted8 s) sliceFits_S16640x8_S16640x2 := rfl
theorem first4_at (s : FVec Ideal S16640x4 .f32) : first4 s (ix2 R 0) = BitVec.ofNat 32 (top fun j => s (ix2 R j)).val := by
  have e : first4 s (ix2 R 0) = order4 s (ix2 R 0) := by
    rw [first4_cut]
    generalize order4 s = w
    refine congrArg w (funext fun d => ?_)
    fin_cases d
    · exact Fin.ext (Nat.zero_add _)
    · rfl
  rw [e, order4_at]
  rw [sorted_first]
theorem words8_at (s : FVec Ideal S16640x8 .f32) (i : Fin 2) : words8 s (ix2 R i) = order8 s (ix2 R ⟨i.val, by omega⟩) := by
  rw [words8_cut]
  generalize order8 s = w
  refine congrArg w (funext fun d => ?_)
  fin_cases d
  · exact Fin.ext (Nat.zero_add _)
  · exact Fin.ext (Nat.zero_add _)
theorem values8_at (s : FVec Ideal S16640x8 .f32) (i : Fin 2) : values8 s (ix2 R i) = sorted8 s (ix2 R ⟨i.val, by omega⟩) := by
  rw [values8_cut]
  generalize sorted8 s = w
  refine congrArg w (funext fun d => ?_)
  fin_cases d
  · exact Fin.ext (Nat.zero_add _)
  · exact Fin.ext (Nat.zero_add _)
theorem words8_at0 (s : FVec Ideal S16640x8 .f32) : words8 s (ix2 R 0) = BitVec.ofNat 32 (top fun j => s (ix2 R j)).val := by
  rw [words8_at]
  show order8 s (ix2 R (0 : Fin 8)) = _
  rw [order8_at]
  exact congrArg (fun k : Fin 8 => BitVec.ofNat 32 k.val) (sorted_first _)
theorem values8_at0 (s : FVec Ideal S16640x8 .f32) : values8 s (ix2 R 0) = s (ix2 R (top fun j => s (ix2 R j))) := by
  rw [values8_at]
  show sorted8 s (ix2 R (0 : Fin 8)) = _
  rw [sorted8_at]
  exact congrArg (fun k : Fin 8 => s (ix2 R k)) (sorted_first _)
section
variable (s : FVec Ideal S16640x8 .f32) (hs : ∀ j : Fin 8, s (ix2 R j) ≠ ⊥)
include hs
theorem words8_at1 : words8 s (ix2 R 1) = BitVec.ofNat 32 (top (without (fun j => s (ix2 R j)) (top fun j => s (ix2 R j)))).val := by
  rw [words8_at]
  show order8 s (ix2 R (1 : Fin 8)) = _
  rw [order8_at]
  exact congrArg (fun k : Fin 8 => BitVec.ofNat 32 k.val) (sorted_second _ hs)
theorem values8_at1 : values8 s (ix2 R 1) = s (ix2 R (top (without (fun j => s (ix2 R j)) (top fun j => s (ix2 R j))))) := by
  rw [values8_at]
  show sorted8 s (ix2 R (1 : Fin 8)) = _
  rw [sorted8_at]
  exact congrArg (fun k : Fin 8 => s (ix2 R k)) (sorted_second _ hs)
end

theorem groupOf_at (s : FVec Ideal S16640x4 .f32) : groupOf s (ix1 R) = BitVec.ofNat 32 (top fun j => s (ix2 R j)).val := by
  rw [← first4_at]
  unfold groupOf
  generalize first4 s = w
  pointwise
theorem placeT_at (g : IVec S16640 32) : placeT g (ix3 R 0 0) = g (ix1 R) := by
  pointwise [placeT]
theorem wrap_word : ∀ q : Fin 4, Scalar.select (IntOp.cmpi .slt (BitVec.ofNat 32 q.val) 0#32) (IntOp.addi (BitVec.ofNat 32 q.val) 4#32) (BitVec.ofNat 32 q.val)
    = BitVec.ofNat 32 q.val := by decide
theorem wrapT_at (p : IVec S16640x1x1 32) (q : Fin 4) (h : p (ix3 R 0 0) = BitVec.ofNat 32 q.val) : wrapT p (ix3 R 0 0) = BitVec.ofNat 32 q.val := by
  have e : wrapT p (ix3 R 0 0) = Scalar.select (IntOp.cmpi .slt (p (ix3 R 0 0)) 0#32) (IntOp.addi (p (ix3 R 0 0)) 4#32) (p (ix3 R 0 0)) := by
    pointwise [wrapT]
  rw [e, h, wrap_word]
theorem in_word : ∀ q : Fin 4, IntOp.andi (IntOp.cmpi .sge (BitVec.ofNat 32 q.val) 0#32) (IntOp.cmpi .sle (BitVec.ofNat 32 q.val) 3#32) = 1#1 := by decide
theorem inT_at (p : IVec S16640x1x1 32) (q : Fin 4) (h : p (ix3 R 0 0) = BitVec.ofNat 32 q.val) : inT p (ix3 R 0 0) = 1#1 := by
  have e : inT p (ix3 R 0 0) = IntOp.andi (IntOp.cmpi .sge (p (ix3 R 0 0)) 0#32) (IntOp.cmpi .sle (p (ix3 R 0 0)) 3#32) := by
    pointwise [inT]
  rw [e, h, in_word]
theorem okT_at (b : IVec S16640x1x1 1) (h : ∀ R : Fin 16640, b (ix3 R 0 0) = 1#1) : okT b (ix2 R 0) = 1#1 := by
  refine Host.reduce_andi_one _ _ _ _ _ rfl fun i => ?_
  have e : i = ix3 (i 0) 0 0 := by
    refine (eq_ix3 i).trans ?_
    have h1 : i 1 = (0 : Fin 1) := Subsingleton.elim (α := Fin 1) _ _
    have h2 : i 2 = (0 : Fin 1) := Subsingleton.elim (α := Fin 1) _ _
    rw [h1, h2]
    rfl
  rw [e]
  exact h (i 0)
theorem keepT_at (b : IVec S16640x1 1) (x : FVec Ideal S16640x1x8 .f32) (j : Fin 8) (h : b (ix2 R 0) = 1#1) : keepT b x (ix2 R j) = x (ix3 R 0 j) := by
  have e : keepT b x (ix2 R j) = Scalar.select (b (ix2 R 0)) (x (ix3 R 0 j)) (Ideal.ofBits .f32 0x7FC00000#32) := by
    pointwise [keepT]
  rw [e, h]
  rfl

theorem read_word : ∀ q : Fin 4, min (BitVec.ofNat 32 q.val).toInt.toNat (4 - 1) = q.val := by decide
theorem readT_at (x : FVec Ideal S16640x4x8 .f32) (p : IVec S16640x1x1 32) (j : Fin 8) (q : Fin 4) (h : p (ix3 R 0 0) = BitVec.ofNat 32 q.val) :
    readT x p (ix3 R 0 j) = x (ix3 R q j) := by
  unfold readT Host.gather
  refine congrArg x (funext fun a => Fin.ext ?_)
  let D := gather_S16640x4x8_S16640x1x1_S16640x1x8_2_1_0_0_1_2_118
  show D.start (ix3 R 0 j) p a + D.batchCoord (ix3 R 0 j) a + D.offCoord (ix3 R 0 j) a = _
  have ha : a = (0 : Fin 3) ∨ a = (1 : Fin 3) ∨ a = (2 : Fin 3) := by
    fin_cases a
    · exact Or.inl rfl
    · exact Or.inr (Or.inl rfl)
    · exact Or.inr (Or.inr rfl)
  rcases ha with rfl | rfl | rfl
  · have h1 : D.start (ix3 R 0 j) p (0 : Fin 3) = 0 := GatherDims.start_batching _ _ _ _ (List.mem_singleton.mpr rfl)
    have h2 : D.offCoord (ix3 R 0 j) (0 : Fin 3) = 0 :=
      GatherDims.offCoord_eq_zero _ _ _ (fun h => ((GatherDims.mem_sKept _ _).mp h).2 (List.mem_singleton.mpr rfl))
    have h3 : D.batchCoord (ix3 R 0 j) (0 : Fin 3) = R.val := by
      unfold GatherDims.batchCoord
      refine (dif_pos ?h).trans ?_
      case h => exact List.mem_singleton.mpr rfl
      rfl
    rw [h1, h2, h3, Nat.zero_add, Nat.add_zero]
    rfl
  · have h1 : D.batchCoord (ix3 R 0 j) (1 : Fin 3) = 0 := GatherDims.batchCoord_eq_zero _ _ _ (by decide)
    have h2 : D.offCoord (ix3 R 0 j) (1 : Fin 3) = 0 :=
      GatherDims.offCoord_eq_zero _ _ _ (fun h => ((GatherDims.mem_sKept _ _).mp h).1 (List.mem_singleton.mpr rfl))
    have h3 : D.start (ix3 R 0 j) p (1 : Fin 3) = q.val := by
      unfold GatherDims.start
      refine (dif_pos ?h).trans ?_
      case h => exact List.mem_singleton.mpr rfl
      refine Eq.trans (b := min (p (ix3 R 0 0)).toInt.toNat (4 - 1)) ?_ (by rw [h]; exact read_word q)
      refine congrArg (fun z => min (p z).toInt.toNat (4 - 1)) (funext fun b => Fin.ext ?_)
      fin_cases b <;> rfl
    rw [h1, h2, h3]
    rfl
  · have h1 : D.batchCoord (ix3 R 0 j) (2 : Fin 3) = 0 := GatherDims.batchCoord_eq_zero _ _ _ (by decide)
    have h2 : D.start (ix3 R 0 j) p (2 : Fin 3) = 0 := by
      unfold GatherDims.start
      exact dif_neg (by decide)
    have h3 : D.offCoord (ix3 R 0 j) (2 : Fin 3) = j.val := rfl
    rw [h1, h2, h3, Nat.add_zero, Nat.zero_add]
    rfl

theorem takenT_at (x : FVec Ideal S16640x4x8 .f32) (g : IVec S16640 32) (q : Fin 16640 → Fin 4) (h : ∀ R, g (ix1 R) = BitVec.ofNat 32 (q R).val) (j : Fin 8) :
    takenT x g (ix2 R j) = x (ix3 R (q R) j) := by
  have hw : ∀ R, wrapT (placeT g) (ix3 R 0 0) = BitVec.ofNat 32 (q R).val := fun R => wrapT_at R _ _ ((placeT_at R g).trans (h R))
  unfold takenT
  rw [keepT_at R _ _ j (okT_at R _ fun R => inT_at R _ (q R) (hw R)), readT_at R _ _ _ (q R) (hw R)]

theorem numbersT_at (g : IVec S16640 32) (w : IVec S16640x2 32) (i : Fin 2) :
    numbersT g w (ix2 R i) = FloatOps.sitofp (F := Ideal) .f32 (IntOp.addi (IntOp.muli 8#32 (g (ix1 R))) (w (ix2 R i))) := by
  pointwise [numbersT]
theorem number_word : ∀ (q : Fin 4) (e : Fin 8), (IntOp.addi (IntOp.muli 8#32 (BitVec.ofNat 32 q.val)) (BitVec.ofNat 32 e.val)).toInt = ((8 * q.val + e.val : ℕ) : ℤ) := by
  decide
theorem number (q : Fin 4) (e : Fin 8) : FloatOps.sitofp (F := Ideal) .f32 (IntOp.addi (IntOp.muli 8#32 (BitVec.ofNat 32 q.val)) (BitVec.ofNat 32 e.val))
    = (((8 * q.val + e.val : ℕ) : ℝ) : EReal) := by
  show ((((IntOp.addi (IntOp.muli 8#32 (BitVec.ofNat 32 q.val)) (BitVec.ofNat 32 e.val)).toInt : ℤ) : ℝ) : EReal) = _
  rw [number_word]
  rfl
theorem weightsT_at (s : FVec Ideal S16640x4 .f32) (v : FVec Ideal S16640x2 .f32) (i : Fin 2) :
    weightsT s v (ix2 R i) = (Finset.univ.fold max ⊥ fun x : Fin 4 => s (ix2 R x)) * Ideal.div (v (ix2 R i)) (v (ix2 R 0) + v (ix2 R 1)) := by
  rw [← tops4_at, ← Fin.sum_univ_two (fun k : Fin 2 => v (ix2 R k))]
  unfold weightsT
  generalize tops4 s = t
  pointwise
theorem joinT_at (a b : FVec Ideal S16640x2 .f32) (l : Fin 128) :
    joinT a b (ix2 R l) = if h : l.val < 2 then a (ix2 R ⟨l.val, h⟩) else if h' : l.val - 2 < 2 then b (ix2 R ⟨l.val - 2, h'⟩) else 0 := by
  pointwise [joinT]

section
variable (l : FVec Ideal S16640x4 .f32) (x : FVec Ideal S16640x4x8 .f32) (G : Fin 16640 → Fin 4 → EReal) (X : Fin 16640 → Fin 4 → Fin 8 → EReal)
  (hl : ∀ R j, l (ix2 R j) = G R j) (hx : ∀ R q j, x (ix3 R q j) = X R q j) (nG : ∀ R j, IsReal (G R j)) (nX : ∀ R q j, IsReal (X R q j))
include hl hx nG nX

theorem routeT_at (k : Fin 128) : routeT l x (ix2 R k) = row (G R) (X R) k := by
  have hg : ∀ R, groupOf l (ix1 R) = BitVec.ofNat 32 (grp (G R)).val := fun R => by
    rw [groupOf_at]
    simp only [hl]
    rfl
  have ht : ∀ j, takenT x (groupOf l) (ix2 R j) = X R (grp (G R)) j := fun j => (takenT_at R x _ _ hg j).trans (hx _ _ _)
  have h8 : ∀ j, softmax8 (takenT x (groupOf l)) (ix2 R j) = share (X R (grp (G R))) j := fun j => by
    rw [softmax8_at]
    simp only [ht]
  have h4 : ∀ j, softmax4 l (ix2 R j) = share (G R) j := fun j => by
    rw [softmax4_at]
    simp only [hl]
  unfold routeT
  have e8 : (fun j => softmax8 (takenT x (groupOf l)) (ix2 R j)) = share (X R (grp (G R))) := funext h8
  have nb : ∀ j : Fin 8, softmax8 (takenT x (groupOf l)) (ix2 R j) ≠ ⊥ := fun j => by
    rw [h8]
    exact (share_real _ (nX R _) j).ne_bot
  have w0 := words8_at0 R (softmax8 (takenT x (groupOf l)))
  have w1 := words8_at1 R (softmax8 (takenT x (groupOf l))) nb
  have v0 := values8_at0 R (softmax8 (takenT x (groupOf l)))
  have v1 := values8_at1 R (softmax8 (takenT x (groupOf l))) nb
  rw [e8, top_share _ (nX R _)] at w0 v0
  rw [e8, top_share _ (nX R _), second_share _ (nX R _)] at w1 v1
  rw [h8] at v0 v1
  have hf : (Finset.univ.fold max ⊥ fun j : Fin 4 => softmax4 l (ix2 R j)) = gate (G R) := by
    rw [show (fun j : Fin 4 => softmax4 l (ix2 R j)) = share (G R) from funext h4, fold_share _ (nG R), share_top _ (nG R)]
    rfl
  have hp := share_pair (X R (grp (G R))) (nX R _) (top (without (X R (grp (G R))) (top (X R (grp (G R))))))
  generalize softmax8 (takenT x (groupOf l)) = S at w0 w1 v0 v1
  generalize hT : softmax4 l = T at hf
  have hg' := hg R
  generalize groupOf l = g at hg'
  rw [joinT_at]
  unfold row
  by_cases k0 : k.val = 0
  · rw [if_pos k0, dif_pos (by omega)]
    rw [show (⟨k.val, by omega⟩ : Fin 2) = 0 from Fin.ext k0, numbersT_at, hg', w0]
    exact number _ _
  by_cases k1 : k.val = 1
  · rw [if_neg k0, if_pos k1, dif_pos (by omega)]
    rw [show (⟨k.val, by omega⟩ : Fin 2) = 1 from Fin.ext k1, numbersT_at, hg', w1]
    exact number _ _
  by_cases k2 : k.val = 2
  · rw [if_neg k0, if_neg k1, if_pos k2, dif_neg (by omega), dif_pos (by omega)]
    rw [show (⟨k.val - 2, by omega⟩ : Fin 2) = 0 from Fin.ext (by show k.val - 2 = 0; omega), weightsT_at, hf, v0, v1, hp.1]
    rfl
  by_cases k3 : k.val = 3
  · rw [if_neg k0, if_neg k1, if_neg k2, if_pos k3, dif_neg (by omega), dif_pos (by omega)]
    rw [show (⟨k.val - 2, by omega⟩ : Fin 2) = 1 from Fin.ext (by show k.val - 2 = 1; omega), weightsT_at, hf, v0, v1, hp.2]
    rfl
  · rw [if_neg k0, if_neg k1, if_neg k2, if_neg k3, dif_neg (by omega), dif_neg (by omega)]
end
end

section
variable (m : (ℓ : Loc nD τ sig) → Buf (Elt Ideal) ℓ) (c : Dev nD)

theorem hiddenT_at (R : Fin 16640) (D : Fin 1024) :
    hiddenT m c (ix2 R D) = Cert.Route.hidden (B0 m c) (B1 m c) (B2 m c) (B3 m c) (B4 m c) (B5 m c) (B6 m c) R D := by
  have e1 : (fun d => joined (promptT (B2 m c)) (sampleT (B3 m c)) (ix2 R d)) = input (B2 m c) (B3 m c) R := by
    funext d
    unfold input
    rw [joined_at]
    by_cases h : R.val < 16384
    · rw [dif_pos h, dif_pos h, promptT_at]
    · rw [dif_neg h, dif_neg h, sampleT_at]
  have e2 : (fun d => outT (joined (B0 m c) (B1 m c)) (B4 m c) (ix2 R d)) = fun d => ∑ k : Fin 1024, heads (B0 m c) (B1 m c) R k * B4 m c (ix3 0 k d) := by
    funext d
    rw [outT_at]
    exact Finset.sum_congr rfl fun k _ => congrArg (· * B4 m c (ix3 0 k d)) (joined_at R _ _ k)
  unfold hiddenT Cert.Route.hidden
  rw [normT_at]
  rw [show (fun x => residT (joined (promptT (B2 m c)) (sampleT (B3 m c))) (outT (joined (B0 m c) (B1 m c)) (B4 m c)) (ix2 R x))
    = resid (input (B2 m c) (B3 m c) R) (fun d => ∑ k : Fin 1024, heads (B0 m c) (B1 m c) R k * B4 m c (ix3 0 k d)) from
      funext fun x => (residT_at R x _ _).trans (by rw [e1, e2])]

theorem final0 : hiddenT m c = rows (Cert.Route.hidden (B0 m c) (B1 m c) (B2 m c) (B3 m c) (B4 m c) (B5 m c) (B6 m c)) := by
  funext y
  obtain ⟨r, d, rfl⟩ : ∃ (r : Fin 16640) (d : Fin 1024), y = (ix2 r d : S16640x1024.Idx) := ⟨y 0, y 1, eq_ix2 y⟩
  exact hiddenT_at m c r d

theorem final1 : (truncf .bf16 (hiddenT m c) bitsLt_bf16_f32 : FVec Ideal S16640x1024 .bf16)
    = (rows (Cert.Route.hidden (B0 m c) (B1 m c) (B2 m c) (B3 m c) (B4 m c) (B5 m c) (B6 m c)) : S16640x1024.Idx → EReal) := by
  rw [final0]
  rfl

section
variable (h0 : ∀ i, IsReal (B0 m c i)) (h1 : ∀ i, IsReal (B1 m c i)) (h2 : ∀ i, IsReal (B2 m c i)) (h3 : ∀ i, IsReal (B3 m c i)) (h4 : ∀ i, IsReal (B4 m c i))
  (h5 : ∀ i, IsReal (B5 m c i)) (h6 : ∀ i, IsReal (B6 m c i)) (h7 : ∀ i, IsReal (B7 m c i)) (h8 : ∀ i, IsReal (B8 m c i)) (h9 : ∀ i, IsReal (B9 m c i))
  (h10 : ∀ i, IsReal (B10 m c i))
include h0 h1 h2 h3 h4 h5 h6 h7 h8 h9 h10

theorem final2 : routeT (groupT (hiddenT m c) (B7 m c) (B8 m c)) (expertT (hiddenT m c) (B9 m c) (B10 m c))
    = lanes (choice (B0 m c) (B1 m c) (B2 m c) (B3 m c) (B4 m c) (B5 m c) (B6 m c) (B7 m c) (B8 m c) (B9 m c) (B10 m c)) := by
  funext y
  obtain ⟨r, k, rfl⟩ : ∃ (r : Fin 16640) (k : Fin 128), y = (ix2 r k : S16640x128.Idx) := ⟨y 0, y 1, eq_ix2 y⟩
  exact routeT_at r _ _ (groups (B0 m c) (B1 m c) (B2 m c) (B3 m c) (B4 m c) (B5 m c) (B6 m c) (B7 m c) (B8 m c))
    (experts (B0 m c) (B1 m c) (B2 m c) (B3 m c) (B4 m c) (B5 m c) (B6 m c) (B9 m c) (B10 m c))
    (fun R j => (groupT_at R _ _ _ j).trans (congrArg (· + B8 m c (ix2 0 j)) (Finset.sum_congr rfl fun x _ => congrArg (· * B7 m c (ix3 0 x j)) (hiddenT_at m c R x))))
    (fun R q j => (expertT_at R _ _ _ q j).trans (congrArg (· + B10 m c (ix3 0 q j)) (Finset.sum_congr rfl fun x _ => congrArg (· * B9 m c (ix4 0 q x j)) (hiddenT_at m c R x))))
    (fun R j => groups_real h0 h1 h2 h3 h4 h5 h6 h7 h8 R j) (fun R q j => experts_real h0 h1 h2 h3 h4 h5 h6 h9 h10 R q j) k
end
end

end Cert.Reference6Ideal.Route

end
-- ==== Proof.RouteFinite.lean ====
/-
  What the precondition of the first layer norm and the router says: every entry is a real number.
-/
module

public import proofs.«01_k».proof.Proof.Finite
public import proofs.«01_k».proof.Proof.RouteTerms

@[expose] public section

noncomputable section

namespace Cert.Route

open Idealize.ShloMosaic Cert.Pre_finite6
open Cert.Softmax (Real' real_of_lt)

instance : Subsingleton Cert.Pre_finite6.S_.Idx := ⟨fun a b => funext fun k => k.elim0⟩

variable [Cert.Pre_finite6.Facts]

theorem real_of_finite (a0 : FVec Ideal S16384x1024 .f32)
    (a1 : FVec Ideal S256x1024 .f32)
    (a2 : FVec Ideal S1x16384x1024 .f32)
    (a3 : FVec Ideal S16x16x1024 .f32)
    (a4 : FVec Ideal S1x1024x1024 .f32)
    (a5 : FVec Ideal S2x1024 .f32)
    (a6 : FVec Ideal S2x1024 .f32)
    (a7 : FVec Ideal S2x1024x4 .f32)
    (a8 : FVec Ideal S2x4 .f32)
    (a9 : FVec Ideal S2x4x1024x8 .f32)
    (a10 : FVec Ideal S2x4x8 .f32)
    (h : Cert.Pre_finite6.fn a0 a1 a2 a3 a4 a5 a6 a7 a8 a9 a10 (Shape.Idx.first Facts.h_S_) = 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => ⟨_, real_of_lt _ (Host.reduce_andi_all _ _ _ _ _ h0 i)⟩,
    fun i => ⟨_, real_of_lt _ (Host.reduce_andi_all _ _ _ _ _ h1 i)⟩,
    fun i => ⟨_, real_of_lt _ (Host.reduce_andi_all _ _ _ _ _ h2 i)⟩,
    fun i => ⟨_, real_of_lt _ (Host.reduce_andi_all _ _ _ _ _ h3 i)⟩,
    fun i => ⟨_, real_of_lt _ (Host.reduce_andi_all _ _ _ _ _ h4 i)⟩,
    fun i => ⟨_, real_of_lt _ (Host.reduce_andi_all _ _ _ _ _ h5 i)⟩,
    fun i => ⟨_, real_of_lt _ (Host.reduce_andi_all _ _ _ _ _ h6 i)⟩,
    fun i => ⟨_, real_of_lt _ (Host.reduce_andi_all _ _ _ _ _ h7 i)⟩,
    fun i => ⟨_, real_of_lt _ (Host.reduce_andi_all _ _ _ _ _ h8 i)⟩,
    fun i => ⟨_, real_of_lt _ (Host.reduce_andi_all _ _ _ _ _ h9 i)⟩,
    fun i => ⟨_, real_of_lt _ (Host.reduce_andi_all _ _ _ _ _ h10 i)⟩⟩

end Cert.Route

end
-- ==== Proof.lean ====
/-
  The proof of `Cert.Claim`: the frames of the programs, what naming the mask constant says, and the value claims of the
  prompt's attention, of the mixture of experts, of the latent attention's projections, of the per-layer embeddings, of the
  running streams' attention, and of the first layer norm with the router.
-/
module

public import proofs.«01_k».proof.Defs
public import proofs.«01_k».proof.Proof.RunBits
public import proofs.«01_k».proof.Proof.RunIdeal
public import proofs.«01_k».proof.Proof.HostIdeal
public import proofs.«01_k».proof.Proof.RefIdeal
public import proofs.«01_k».proof.Proof.Finite
public import proofs.«01_k».proof.Proof.MoeHost
public import proofs.«01_k».proof.Proof.MoeRef
public import proofs.«01_k».proof.Proof.ProjArrays
public import proofs.«01_k».proof.Proof.ProjRef
public import proofs.«01_k».proof.Proof.PleHost
public import proofs.«01_k».proof.Proof.PleRef
public import proofs.«01_k».proof.Proof.SampHost
public import proofs.«01_k».proof.Proof.SampRef
public import proofs.«01_k».proof.Proof.SampFinite
public import proofs.«01_k».proof.Proof.RouteHost
public import proofs.«01_k».proof.Proof.RouteRef
public import proofs.«01_k».proof.Proof.RouteFinite
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m g _ => Cert.Kernel.Att.frame_main m g

theorem frame_kernelIdeal : Cert.quiescent_KernelIdeal := fun m g _ => Cert.KernelIdeal.Att.frame_main m g

theorem frame_referenceIdeal : Cert.quiescent_ReferenceIdeal := fun m g _ =>
  (θ_run _ _ _).mono (fun r h => ⟨fun c => (h c).2, sem_eq_zero_of_no_sems (by decide) r.2⟩) (Cert.ReferenceIdeal.Value.run m g)

theorem frame_kernelIdeal_finite : Cert.quiescent_KernelIdeal_pre_finite := fun m g _ => Cert.KernelIdeal.Att.frame_main m g

theorem frame_referenceIdeal_finite : Cert.quiescent_ReferenceIdeal_pre_finite := fun m g _ =>
  (θ_run _ _ _).mono (fun r h => ⟨fun c => (h c).2, sem_eq_zero_of_no_sems (by decide) r.2⟩) (Cert.ReferenceIdeal.Value.run m g)

theorem mask_named : Cert.preserves_Kernel_KernelIdeal := IdealRules.named_const.statement _ _ _ _ _ rfl

/-- Both programs end with the attention's output. -/
theorem value : Cert.algebraic_KernelIdeal_ReferenceIdeal_pre_finite := by
  intro m g m' g' hpre hag
  refine ⟨fun c => Cert.Softmax.output (Cert.KernelIdeal.Att.A0 m c) (Cert.KernelIdeal.Att.A1 m c) (Cert.KernelIdeal.Att.A2 m c)
    (Cert.KernelIdeal.Att.A3 m c) (Cert.KernelIdeal.Att.A4 m c), ?_, ?_⟩
  · refine (θ_run _ _ _).mono (fun r h c => ?_) (θ_run_and (Cert.KernelIdeal.Att.run_main m g) (Cert.KernelIdeal.Att.frame_main m g))
    obtain ⟨h0, h1, h2, h3⟩ := Cert.Softmax.real_of_finite _ _ _ _ _ (congrFun (hpre c) _)
    refine ⟨((h.1.1 c).1 3).trans (Cert.KernelIdeal.Att.final m c h0 h1 h2 h3), h.2.1 c⟩
  · refine (θ_run _ _ _).mono (fun r h c => ?_) (Cert.ReferenceIdeal.Value.run m' g')
    obtain ⟨h0, h1, h2, h3⟩ := Cert.Softmax.real_of_finite _ _ _ _ _ (congrFun (hpre c) _)
    obtain ⟨e0, e1, e2, e3, e4⟩ := hag c
    refine ⟨(h c).1.trans ((Cert.ReferenceIdeal.Att.res_eq m' c).trans ?_), (h c).2⟩
    rw [e0, e1, e2, e3, e4]
    exact Cert.ReferenceIdeal.Att.result_eq _ _ _ _ _ h0 h1 h2 h3

theorem frame_kernel2 : Cert.quiescent_Kernel2 := fun m g _ => Cert.Kernel2.Gen.frame m g

theorem frame_kernel2Ideal : Cert.quiescent_Kernel2Ideal := fun m g _ => Cert.Kernel2Ideal.Gen.frame m g

theorem frame_reference2Ideal : Cert.quiescent_Reference2Ideal := fun m g _ =>
  (θ_run _ _ _).mono (fun r h => ⟨fun c => (h c).2, sem_eq_zero_of_no_sems (by decide) r.2⟩) (Cert.Reference2Ideal.Value.run m g)

/-- Both programs end with the mixture. -/
theorem value2 : Cert.algebraic_Kernel2Ideal_Reference2Ideal := by
  intro m g m' g' hpre hag
  refine ⟨fun c => Cert.Moe.output (Cert.Kernel2Ideal.Moe.A0 m c) (Cert.Kernel2Ideal.Moe.A1 m c) (Cert.Kernel2Ideal.Moe.A2 m c)
    (Cert.Kernel2Ideal.Moe.A3 m c) (Cert.Kernel2Ideal.Moe.A4 m c) (Cert.Kernel2Ideal.Moe.A5 m c), ?_, ?_⟩
  · refine (θ_run _ _ _).mono (fun r h c => ?_) (Cert.Kernel2Ideal.Value.run_blocks m g)
    exact ⟨(h c).1.trans (Cert.Kernel2Ideal.Moe.final m c), (h c).2⟩
  · refine (θ_run _ _ _).mono (fun r h c => ?_) (Cert.Reference2Ideal.Value.run m' g')
    obtain ⟨e0, e1, e2, e3, e4, e5⟩ := hag c
    refine ⟨(h c).1.trans ((Cert.Reference2Ideal.Moe.final m' c).trans ?_), (h c).2⟩
    rw [e0, e1, e2, e3, e4, e5]

theorem frame_kernel3 : Cert.quiescent_Kernel3 := fun m g _ => Cert.Kernel3.Gen.frame m g

theorem frame_kernel3Ideal : Cert.quiescent_Kernel3Ideal := fun m g _ => Cert.Kernel3Ideal.Gen.frame m g

theorem frame_reference3Ideal : Cert.quiescent_Reference3Ideal := fun m g _ =>
  (θ_run _ _ _).mono (fun r h => ⟨fun c => (h c).2.2.2.2.2.2.2, sem_eq_zero_of_no_sems (by decide) r.2⟩) (Cert.Reference3Ideal.Value.run m g)

/-- Both programs end with the projections. -/
theorem value3 : Cert.algebraic_Kernel3Ideal_Reference3Ideal := by
  intro m g m' g' hpre hag
  refine ⟨fun c => Cert.Proj.wide (Cert.Proj.slotQ (Cert.Kernel3Ideal.Proj.A0 m c) (Cert.Kernel3Ideal.Proj.A1 m c) (Cert.Kernel3Ideal.Proj.A2 m c)
      (Cert.Kernel3Ideal.Proj.A3 m c) (Cert.Kernel3Ideal.Proj.A5 m c) Cert.Kernel3Ideal.Proj.positions Cert.Kernel3Ideal.Proj.inverse),
    fun c => Cert.Proj.wide (Cert.Proj.slotK (Cert.Kernel3Ideal.Proj.A0 m c) (Cert.Kernel3Ideal.Proj.A1 m c) (Cert.Kernel3Ideal.Proj.A2 m c)
      (Cert.Kernel3Ideal.Proj.A4 m c) (Cert.Kernel3Ideal.Proj.A6 m c) Cert.Kernel3Ideal.Proj.positions Cert.Kernel3Ideal.Proj.inverse),
    fun c => Cert.Proj.wide (Cert.Proj.slotV (Cert.Kernel3Ideal.Proj.A0 m c) (Cert.Kernel3Ideal.Proj.A1 m c) (Cert.Kernel3Ideal.Proj.A2 m c)
      (Cert.Kernel3Ideal.Proj.A4 m c) (Cert.Kernel3Ideal.Proj.A7 m c)),
    fun c => Cert.Kernel3Ideal.Proj.cacheL (Cert.Kernel3Ideal.Proj.A0 m c) (Cert.Kernel3Ideal.Proj.A1 m c) (Cert.Kernel3Ideal.Proj.A2 m c) (Cert.Kernel3Ideal.Proj.A4 m c),
    fun c => Cert.Kernel3Ideal.Proj.cacheP (Cert.Kernel3Ideal.Proj.A0 m c) (Cert.Kernel3Ideal.Proj.A1 m c) (Cert.Kernel3Ideal.Proj.A2 m c),
    fun c => Cert.Kernel3Ideal.Proj.sampleL (Cert.Kernel3Ideal.Proj.A0 m c) (Cert.Kernel3Ideal.Proj.A1 m c) (Cert.Kernel3Ideal.Proj.A2 m c) (Cert.Kernel3Ideal.Proj.A4 m c),
    fun c => Cert.Kernel3Ideal.Proj.sampleP (Cert.Kernel3Ideal.Proj.A0 m c) (Cert.Kernel3Ideal.Proj.A1 m c) (Cert.Kernel3Ideal.Proj.A2 m c), ?_, ?_⟩
  · refine (θ_run _ _ _).mono (fun r h c => ?_) (θ_run_and (Cert.Kernel3Ideal.Proj.run_results m g) (Cert.Kernel3Ideal.Gen.unchanged m g))
    obtain ⟨r0, r1, r2, r3, r4, r5, r6⟩ := h.1 c
    exact ⟨r0, r1, r2, r3, r4, r5, r6, h.2 c⟩
  · refine (θ_run _ _ _).mono (fun r h c => ?_) (θ_run_and (Cert.Reference3Ideal.Proj.run_results m' g') (Cert.Reference3Ideal.Value.run m' g'))
    obtain ⟨r0, r1, r2, r3, r4, r5, r6⟩ := h.1 c
    obtain ⟨e0, e1, e2, e3, e4, e5, e6, e7⟩ := hag c
    have f0 : Cert.Reference3Ideal.Proj.B0 m' c = Cert.Kernel3Ideal.Proj.A0 m c := e0
    have f1 : Cert.Reference3Ideal.Proj.B1 m' c = Cert.Kernel3Ideal.Proj.A1 m c := e1
    have f2 : Cert.Reference3Ideal.Proj.B2 m' c = Cert.Kernel3Ideal.Proj.A2 m c := e2
    have f3 : Cert.Reference3Ideal.Proj.B3 m' c = Cert.Kernel3Ideal.Proj.A3 m c := e3
    have f4 : Cert.Reference3Ideal.Proj.B4 m' c = Cert.Kernel3Ideal.Proj.A4 m c := e4
    have f5 : Cert.Reference3Ideal.Proj.B5 m' c = Cert.Kernel3Ideal.Proj.A5 m c := e5
    have f6 : Cert.Reference3Ideal.Proj.B6 m' c = Cert.Kernel3Ideal.Proj.A6 m c := e6
    have f7 : Cert.Reference3Ideal.Proj.B7 m' c = Cert.Kernel3Ideal.Proj.A7 m c := e7
    rw [f0, f1, f2, f3, f5] at r0
    rw [f0, f1, f2, f4, f6] at r1
    rw [f0, f1, f2, f4, f7] at r2
    rw [f0, f1, f2, f4] at r3 r5
    rw [f0, f1, f2] at r4 r6
    exact ⟨r0, r1, r2, r3, r4, r5, r6, (h.2 c).2.2.2.2.2.2.2⟩

theorem frame_kernel4 : Cert.quiescent_Kernel4 := fun m g _ => Cert.Kernel4.Gen.frame m g

theorem frame_kernel4Ideal : Cert.quiescent_Kernel4Ideal := fun m g _ => Cert.Kernel4Ideal.Gen.frame m g

theorem frame_reference4Ideal : Cert.quiescent_Reference4Ideal := fun m g _ =>
  (θ_run _ _ _).mono (fun r h => ⟨fun c => (h c).2.2, sem_eq_zero_of_no_sems (by decide) r.2⟩) (Cert.Reference4Ideal.Value.run m g)

/-- Both programs end with the normalised rows and their gated embeddings, and the next layer's projection of them. -/
theorem value4 : Cert.algebraic_Kernel4Ideal_Reference4Ideal := by
  intro m g m' g' hpre hag
  refine ⟨fun c => Cert.Ple.rows (Cert.Ple.result (Cert.Kernel4Ideal.Ple.A0 m c) (Cert.Kernel4Ideal.Ple.A1 m c) (Cert.Kernel4Ideal.Ple.A2 m c) (Cert.Kernel4Ideal.Ple.A3 m c) (Cert.Kernel4Ideal.Ple.A4 m c) (Cert.Kernel4Ideal.Ple.A5 m c) (Cert.Kernel4Ideal.Ple.A6 m c) (Cert.Kernel4Ideal.Ple.A7 m c)),
    fun c => Cert.Ple.rows (Cert.Ple.next (Cert.Kernel4Ideal.Ple.A0 m c) (Cert.Kernel4Ideal.Ple.A1 m c) (Cert.Kernel4Ideal.Ple.A2 m c) (Cert.Kernel4Ideal.Ple.A3 m c) (Cert.Kernel4Ideal.Ple.A4 m c) (Cert.Kernel4Ideal.Ple.A5 m c) (Cert.Kernel4Ideal.Ple.A6 m c) (Cert.Kernel4Ideal.Ple.A7 m c) (Cert.Kernel4Ideal.Ple.A8 m c)), ?_, ?_⟩
  · refine (θ_run _ _ _).mono (fun r h c => ?_) (Cert.Kernel4Ideal.Value.run_blocks m g)
    exact ⟨(h c).1.trans (Cert.Kernel4Ideal.Ple.final9 m c), (h c).2.1.trans (Cert.Kernel4Ideal.Ple.final10 m c), (h c).2.2⟩
  · refine (θ_run _ _ _).mono (fun r h c => ?_) (Cert.Reference4Ideal.Value.run m' g')
    obtain ⟨e0, e1, e2, e3, e4, e5, e6, e7, e8⟩ := hag c
    have f0 : Cert.Reference4Ideal.Ple.B0 m' c = Cert.Kernel4Ideal.Ple.A0 m c := e0
    have f1 : Cert.Reference4Ideal.Ple.B1 m' c = Cert.Kernel4Ideal.Ple.A1 m c := e1
    have f2 : Cert.Reference4Ideal.Ple.B2 m' c = Cert.Kernel4Ideal.Ple.A2 m c := e2
    have f3 : Cert.Reference4Ideal.Ple.B3 m' c = Cert.Kernel4Ideal.Ple.A3 m c := e3
    have f4 : Cert.Reference4Ideal.Ple.B4 m' c = Cert.Kernel4Ideal.Ple.A4 m c := e4
    have f5 : Cert.Reference4Ideal.Ple.B5 m' c = Cert.Kernel4Ideal.Ple.A5 m c := e5
    have f6 : Cert.Reference4Ideal.Ple.B6 m' c = Cert.Kernel4Ideal.Ple.A6 m c := e6
    have f7 : Cert.Reference4Ideal.Ple.B7 m' c = Cert.Kernel4Ideal.Ple.A7 m c := e7
    have f8 : Cert.Reference4Ideal.Ple.B8 m' c = Cert.Kernel4Ideal.Ple.A8 m c := e8
    refine ⟨(h c).1.trans ((Cert.Reference4Ideal.Ple.final0 m' c).trans ?_), (h c).2.1.trans ((Cert.Reference4Ideal.Ple.final1 m' c).trans ?_), (h c).2.2⟩
    · rw [f0, f1, f2, f3, f4, f5, f6, f7]
    · rw [f0, f1, f2, f3, f4, f5, f6, f7, f8]

theorem frame_kernel5 : Cert.quiescent_Kernel5 := fun m g _ => Cert.Kernel5.Gen.frame m g

theorem frame_kernel5Ideal : Cert.quiescent_Kernel5Ideal := fun m g _ => Cert.Kernel5Ideal.Gen.frame m g

theorem frame_kernel5Ideal_finite : Cert.quiescent_Kernel5Ideal_pre_finite5 := fun m g _ => Cert.Kernel5Ideal.Gen.frame m g

theorem frame_reference5Ideal : Cert.quiescent_Reference5Ideal := fun m g _ =>
  (θ_run _ _ _).mono (fun r h => ⟨fun c => (h c).2, sem_eq_zero_of_no_sems (by decide) r.2⟩) (Cert.Reference5Ideal.Value.run m g)

theorem frame_reference5Ideal_finite : Cert.quiescent_Reference5Ideal_pre_finite5 := fun m g _ =>
  (θ_run _ _ _).mono (fun r h => ⟨fun c => (h c).2, sem_eq_zero_of_no_sems (by decide) r.2⟩) (Cert.Reference5Ideal.Value.run m g)

/-- Both programs end with the attention of the running streams. -/
theorem value5 : Cert.algebraic_Kernel5Ideal_Reference5Ideal_pre_finite5 := by
  intro m g m' g' hpre hag
  refine ⟨fun c => Cert.Streams.output (Cert.Kernel5Ideal.Samp.A0 m c) (Cert.Kernel5Ideal.Samp.A1 m c) (Cert.Kernel5Ideal.Samp.A2 m c) (Cert.Kernel5Ideal.Samp.A3 m c) (Cert.Kernel5Ideal.Samp.A4 m c) (Cert.Kernel5Ideal.Samp.A5 m c) (Cert.Kernel5Ideal.Samp.A6 m c) (Cert.Kernel5Ideal.Samp.A7 m c), ?_, ?_⟩
  · refine (θ_run _ _ _).mono (fun r h c => ?_) (Cert.Kernel5Ideal.Value.run_blocks m g)
    obtain ⟨h0, h1, h2, h3, h4, h5, h6, h7⟩ := Cert.Streams.real_of_finite _ _ _ _ _ _ _ _ (congrFun (hpre c) _)
    exact ⟨(h c).1.trans (Cert.Kernel5Ideal.Samp.final m c h0 h1 h2 h3 h4 h5 h6 h7), (h c).2⟩
  · refine (θ_run _ _ _).mono (fun r h c => ?_) (Cert.Reference5Ideal.Value.run m' g')
    obtain ⟨h0, h1, h2, h3, h4, h5, h6, h7⟩ := Cert.Streams.real_of_finite _ _ _ _ _ _ _ _ (congrFun (hpre c) _)
    obtain ⟨e0, e1, e2, e3, e4, e5, e6, e7⟩ := hag c
    refine ⟨(h c).1.trans ((Cert.Reference5Ideal.Streams.res_eq m' c).trans ?_), (h c).2⟩
    rw [e0, e1, e2, e3, e4, e5, e6, e7]
    exact Cert.Reference5Ideal.Streams.result_eq _ _ _ _ _ _ _ _ h0 h1 h2 h3 h4 h5 h6 h7

theorem frame_kernel6 : Cert.quiescent_Kernel6 := fun m g _ => Cert.Kernel6.Gen.frame m g

theorem frame_kernel6Ideal : Cert.quiescent_Kernel6Ideal := fun m g _ => Cert.Kernel6Ideal.Gen.frame m g

theorem frame_kernel6Ideal_finite : Cert.quiescent_Kernel6Ideal_pre_finite6 := fun m g _ => Cert.Kernel6Ideal.Gen.frame m g

theorem frame_reference6Ideal : Cert.quiescent_Reference6Ideal := fun m g _ =>
  (θ_run _ _ _).mono (fun r h => ⟨fun c => (h c).2.2.2, sem_eq_zero_of_no_sems (by decide) r.2⟩) (Cert.Reference6Ideal.Value.run m g)

theorem frame_reference6Ideal_finite : Cert.quiescent_Reference6Ideal_pre_finite6 := fun m g _ =>
  (θ_run _ _ _).mono (fun r h => ⟨fun c => (h c).2.2.2, sem_eq_zero_of_no_sems (by decide) r.2⟩) (Cert.Reference6Ideal.Value.run m g)

theorem mask_named6 : Cert.preserves_Kernel6_Kernel6Ideal := IdealRules.named_const.statement _ _ _ _ _ rfl

/-- Both programs end with the normalised rows, the same rows cast, and the rows of choices. -/
theorem value6 : Cert.algebraic_Kernel6Ideal_Reference6Ideal_pre_finite6 := by
  intro m g m' g' hpre hag
  refine ⟨fun c => Cert.Ple.rows (Cert.Kernel6Ideal.Route.hiddenM m c), fun c => Cert.Ple.rows (Cert.Kernel6Ideal.Route.hiddenM m c),
    fun c => Cert.Route.lanes (Cert.Kernel6Ideal.Route.choiceM m c), ?_, ?_⟩
  · refine (θ_run _ _ _).mono (fun r h c => ?_) (Cert.Kernel6Ideal.Value.run_blocks m g)
    obtain ⟨h0, h1, h2, h3, h4, h5, h6, h7, h8, h9, h10⟩ := Cert.Route.real_of_finite _ _ _ _ _ _ _ _ _ _ _ (congrFun (hpre c) _)
    exact ⟨(h c).1.trans (Cert.Kernel6Ideal.Route.final10 m c), (h c).2.1.trans (Cert.Kernel6Ideal.Route.final11 m c),
      (h c).2.2.1.trans (Cert.Kernel6Ideal.Route.final12 m c h0 h1 h2 h3 h4 h5 h6 h7 h8 h9 h10), (h c).2.2.2⟩
  · refine (θ_run _ _ _).mono (fun r h c => ?_) (Cert.Reference6Ideal.Value.run m' g')
    obtain ⟨h0, h1, h2, h3, h4, h5, h6, h7, h8, h9, h10⟩ := Cert.Route.real_of_finite _ _ _ _ _ _ _ _ _ _ _ (congrFun (hpre c) _)
    obtain ⟨e0, e1, e2, e3, e4, e5, e6, e7, e8, e9, e10⟩ := hag c
    have f0 : Cert.Reference6Ideal.Route.B0 m' c = Cert.Kernel6Ideal.Route.A0 m c := e0
    have f1 : Cert.Reference6Ideal.Route.B1 m' c = Cert.Kernel6Ideal.Route.A1 m c := e1
    have f2 : Cert.Reference6Ideal.Route.B2 m' c = Cert.Kernel6Ideal.Route.A2 m c := e2
    have f3 : Cert.Reference6Ideal.Route.B3 m' c = Cert.Kernel6Ideal.Route.A3 m c := e3
    have f4 : Cert.Reference6Ideal.Route.B4 m' c = Cert.Kernel6Ideal.Route.A4 m c := e4
    have f5 : Cert.Reference6Ideal.Route.B5 m' c = Cert.Kernel6Ideal.Route.A5 m c := e5
    have f6 : Cert.Reference6Ideal.Route.B6 m' c = Cert.Kernel6Ideal.Route.A6 m c := e6
    have f7 : Cert.Reference6Ideal.Route.B7 m' c = Cert.Kernel6Ideal.Route.A7 m c := e7
    have f8 : Cert.Reference6Ideal.Route.B8 m' c = Cert.Kernel6Ideal.Route.A8 m c := e8
    have f9 : Cert.Reference6Ideal.Route.B9 m' c = Cert.Kernel6Ideal.Route.A9 m c := e9
    have f10 : Cert.Reference6Ideal.Route.B10 m' c = Cert.Kernel6Ideal.Route.A10 m c := e10
    have k0 := (Cert.Reference6Ideal.Route.out0_eq m' c).trans (Cert.Reference6Ideal.Route.final0 m' c)
    have k1 := (Cert.Reference6Ideal.Route.out1_eq m' c).trans (Cert.Reference6Ideal.Route.final1 m' c)
    have k2 := (Cert.Reference6Ideal.Route.out2_eq m' c).trans (Cert.Reference6Ideal.Route.final2 m' c (by rw [f0]; exact h0) (by rw [f1]; exact h1) (by rw [f2]; exact h2) (by rw [f3]; exact h3) (by rw [f4]; exact h4) (by rw [f5]; exact h5) (by rw [f6]; exact h6) (by rw [f7]; exact h7) (by rw [f8]; exact h8) (by rw [f9]; exact h9) (by rw [f10]; exact h10))
    rw [f0, f1, f2, f3, f4, f5, f6] at k0 k1
    rw [f0, f1, f2, f3, f4, f5, f6, f7, f8, f9, f10] at k2
    exact ⟨(h c).1.trans k0, (h c).2.1.trans k1, (h c).2.2.1.trans k2, (h c).2.2.2⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts,
    Cert.Reference6Ideal.Gen.facts, Cert.Pre_finite.Gen.facts, Cert.Pre_finite5.Gen.facts, Cert.Pre_finite6.Gen.facts,
    frame_kernel, frame_kernelIdeal, frame_kernelIdeal_finite, frame_referenceIdeal, frame_referenceIdeal_finite,
    frame_kernel2, frame_kernel2Ideal, frame_reference2Ideal, frame_kernel3, frame_kernel3Ideal, frame_reference3Ideal,
    frame_kernel4, frame_kernel4Ideal, frame_reference4Ideal, frame_kernel5, frame_kernel5Ideal, frame_kernel5Ideal_finite,
    frame_reference5Ideal, frame_reference5Ideal_finite, frame_kernel6, frame_kernel6Ideal, frame_kernel6Ideal_finite,
    frame_reference6Ideal, frame_reference6Ideal_finite,
    mask_named, value, trivial, value2, trivial, value3, trivial, value4, trivial, value5,
    mask_named6, value6⟩

end Cert.Proof

end
